-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_FfnHead (m : (ℓ : Loc Cert.FfnHead.nD Cert.FfnHead.τ Cert.FfnHead.sig) → Buf (Elt Bits) ℓ) : Prop :=
  True

def Pre_FfnHeadIdeal (m : (ℓ : Loc Cert.FfnHeadIdeal.nD Cert.FfnHeadIdeal.τ Cert.FfnHeadIdeal.sig) → Buf (Elt Ideal) ℓ) : Prop :=
  True

def Pre_FfnHeadReferenceIdeal (m : (ℓ : Loc Cert.FfnHeadReferenceIdeal.nD Cert.FfnHeadReferenceIdeal.τ Cert.FfnHeadReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3)
      ∧ r.2.mem ((c.tc : Thread Cert.MemoryReferenceIdeal.nD Cert.MemoryReferenceIdeal.τ).loc Cert.MemoryReferenceIdeal.main_arg4) = m ((c.tc : Thread Cert.MemoryReferenceIdeal.nD Cert.MemoryReferenceIdeal.τ).loc Cert.MemoryReferenceIdeal.main_arg4))
      ∧ r.2.sem = fun _ => 0)

def quiescent_FfnHead [hFfnHead : Cert.FfnHead.Facts] : Prop :=
  ∀ (m : (ℓ : Loc Cert.FfnHead.nD Cert.FfnHead.τ Cert.FfnHead.sig) → Buf (Elt Bits) ℓ) (g : Dev Cert.FfnHead.nD → PrngReg), Pre_FfnHead m →
    θ_run (Cert.FfnHead.defs (F := Bits)) (onTc (τ := Cert.FfnHead.τ) (Cert.FfnHead.main (F := Bits))) ⟨m, fun _ => 0, g⟩ (fun r => (∀ c : Dev Cert.FfnHead.nD,
      r.2.mem ((c.tc : Thread Cert.FfnHead.nD Cert.FfnHead.τ).loc Cert.FfnHead.main_arg0) = m ((c.tc : Thread Cert.FfnHead.nD Cert.FfnHead.τ).loc Cert.FfnHead.main_arg0)
      ∧ r.2.mem ((c.tc : Thread Cert.FfnHead.nD Cert.FfnHead.τ).loc Cert.FfnHead.main_arg1) = m ((c.tc : Thread Cert.FfnHead.nD Cert.FfnHead.τ).loc Cert.FfnHead.main_arg1)
      ∧ r.2.mem ((c.tc : Thread Cert.FfnHead.nD Cert.FfnHead.τ).loc Cert.FfnHead.main_arg2) = m ((c.tc : Thread Cert.FfnHead.nD Cert.FfnHead.τ).loc Cert.FfnHead.main_arg2)
      ∧ r.2.mem ((c.tc : Thread Cert.FfnHead.nD Cert.FfnHead.τ).loc Cert.FfnHead.main_arg3) = m ((c.tc : Thread Cert.FfnHead.nD Cert.FfnHead.τ).loc Cert.FfnHead.main_arg3)
      ∧ r.2.mem ((c.tc : Thread Cert.FfnHead.nD Cert.FfnHead.τ).loc Cert.FfnHead.main_arg4) = m ((c.tc : Thread Cert.FfnHead.nD Cert.FfnHead.τ).loc Cert.FfnHead.main_arg4))
      ∧ r.2.sem = fun _ => 0)

def quiescent_FfnHeadIdeal [hFfnHeadIdeal : Cert.FfnHeadIdeal.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg), Pre_FfnHeadIdeal m →
    θ_run (Cert.FfnHeadIdeal.defs (F := Ideal)) (onTc (τ := Cert.FfnHeadIdeal.τ) (Cert.FfnHeadIdeal.main (F := Ideal))) ⟨m, fun _ => 0, g⟩ (fun r => (∀ c : Dev Cert.FfnHeadIdeal.nD,
      r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
      ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
      ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
      ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
      ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4))
      ∧ r.2.sem = fun _ => 0)

def quiescent_FfnHeadReferenceIdeal [hFfnHeadReferenceIdeal : Cert.FfnHeadReferenceIdeal.Facts] : Prop :=
  ∀ (m : (ℓ : Loc Cert.FfnHeadReferenceIdeal.nD Cert.FfnHeadReferenceIdeal.τ Cert.FfnHeadReferenceIdeal.sig) → Buf (Elt Ideal) ℓ) (g : Dev Cert.FfnHeadReferenceIdeal.nD → PrngReg), Pre_FfnHeadReferenceIdeal m →
    θ_run (Cert.FfnHeadReferenceIdeal.defs (F := Ideal)) (onTc (τ := Cert.FfnHeadReferenceIdeal.τ) (Cert.FfnHeadReferenceIdeal.main (F := Ideal))) ⟨m, fun _ => 0, g⟩ (fun r => (∀ c : Dev Cert.FfnHeadReferenceIdeal.nD,
      r.2.mem ((c.tc : Thread Cert.FfnHeadReferenceIdeal.nD Cert.FfnHeadReferenceIdeal.τ).loc Cert.FfnHeadReferenceIdeal.main_arg0) = m ((c.tc : Thread Cert.FfnHeadReferenceIdeal.nD Cert.FfnHeadReferenceIdeal.τ).loc Cert.FfnHeadReferenceIdeal.main_arg0)
      ∧ r.2.mem ((c.tc : Thread Cert.FfnHeadReferenceIdeal.nD Cert.FfnHeadReferenceIdeal.τ).loc Cert.FfnHeadReferenceIdeal.main_arg1) = m ((c.tc : Thread Cert.FfnHeadReferenceIdeal.nD Cert.FfnHeadReferenceIdeal.τ).loc Cert.FfnHeadReferenceIdeal.main_arg1)
      ∧ r.2.mem ((c.tc : Thread Cert.FfnHeadReferenceIdeal.nD Cert.FfnHeadReferenceIdeal.τ).loc Cert.FfnHeadReferenceIdeal.main_arg2) = m ((c.tc : Thread Cert.FfnHeadReferenceIdeal.nD Cert.FfnHeadReferenceIdeal.τ).loc Cert.FfnHeadReferenceIdeal.main_arg2)
      ∧ r.2.mem ((c.tc : Thread Cert.FfnHeadReferenceIdeal.nD Cert.FfnHeadReferenceIdeal.τ).loc Cert.FfnHeadReferenceIdeal.main_arg3) = m ((c.tc : Thread Cert.FfnHeadReferenceIdeal.nD Cert.FfnHeadReferenceIdeal.τ).loc Cert.FfnHeadReferenceIdeal.main_arg3)
      ∧ r.2.mem ((c.tc : Thread Cert.FfnHeadReferenceIdeal.nD Cert.FfnHeadReferenceIdeal.τ).loc Cert.FfnHeadReferenceIdeal.main_arg4) = m ((c.tc : Thread Cert.FfnHeadReferenceIdeal.nD Cert.FfnHeadReferenceIdeal.τ).loc Cert.FfnHeadReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3))
      ∧ r.2.sem = fun _ => 0)

def preserves_Kernel_KernelIdeal : Prop :=
  IdealRules.named_const.Statement Cert.KernelIdeal.κ "weight_zero_below" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)
      ∧ m' ((c.tc : Thread Cert.MemoryReferenceIdeal.nD Cert.MemoryReferenceIdeal.τ).loc Cert.MemoryReferenceIdeal.main_arg4) = m ((c.tc : Thread Cert.MemoryIdeal.nD Cert.MemoryIdeal.τ).loc Cert.MemoryIdeal.main_arg4)) →
    ∃ (v0 : (c : Dev Cert.MemoryIdeal.nD) → Buf (Elt Ideal) ((c.tc : Thread Cert.MemoryIdeal.nD Cert.MemoryIdeal.τ).loc Cert.MemoryIdeal.main_v3_0)) (v1 : (c : Dev Cert.MemoryIdeal.nD) → Buf (Elt Ideal) ((c.tc : Thread Cert.MemoryIdeal.nD Cert.MemoryIdeal.τ).loc Cert.MemoryIdeal.main_v3_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3_0) = v0 c
          ∧ r.2.mem ((c.tc : Thread Cert.MemoryIdeal.nD Cert.MemoryIdeal.τ).loc Cert.MemoryIdeal.main_v3_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v33) = v0 c
          ∧ r.2.mem ((c.tc : Thread Cert.MemoryReferenceIdeal.nD Cert.MemoryReferenceIdeal.τ).loc Cert.MemoryReferenceIdeal.main_v35) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3)
          ∧ r.2.mem ((c.tc : Thread Cert.MemoryReferenceIdeal.nD Cert.MemoryReferenceIdeal.τ).loc Cert.MemoryReferenceIdeal.main_arg4) = m' ((c.tc : Thread Cert.MemoryReferenceIdeal.nD Cert.MemoryReferenceIdeal.τ).loc Cert.MemoryReferenceIdeal.main_arg4))

def preserves_FfnHead_FfnHeadIdeal : Prop :=
  True

def algebraic_FfnHeadIdeal_FfnHeadReferenceIdeal [hFfnHeadIdeal : Cert.FfnHeadIdeal.Facts] [hFfnHeadReferenceIdeal : Cert.FfnHeadReferenceIdeal.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg)
    (m' : (ℓ : Loc Cert.FfnHeadReferenceIdeal.nD Cert.FfnHeadReferenceIdeal.τ Cert.FfnHeadReferenceIdeal.sig) → Buf (Elt Ideal) ℓ) (g' : Dev Cert.FfnHeadReferenceIdeal.nD → PrngReg), Pre_FfnHeadIdeal m →
    (∀ c : Dev Cert.FfnHeadIdeal.nD,
      m' ((c.tc : Thread Cert.FfnHeadReferenceIdeal.nD Cert.FfnHeadReferenceIdeal.τ).loc Cert.FfnHeadReferenceIdeal.main_arg0) = m ((c.tc : Thread Cert.FfnHeadIdeal.nD Cert.FfnHeadIdeal.τ).loc Cert.FfnHeadIdeal.main_arg0)
      ∧ m' ((c.tc : Thread Cert.FfnHeadReferenceIdeal.nD Cert.FfnHeadReferenceIdeal.τ).loc Cert.FfnHeadReferenceIdeal.main_arg1) = m ((c.tc : Thread Cert.FfnHeadIdeal.nD Cert.FfnHeadIdeal.τ).loc Cert.FfnHeadIdeal.main_arg1)
      ∧ m' ((c.tc : Thread Cert.FfnHeadReferenceIdeal.nD Cert.FfnHeadReferenceIdeal.τ).loc Cert.FfnHeadReferenceIdeal.main_arg2) = m ((c.tc : Thread Cert.FfnHeadIdeal.nD Cert.FfnHeadIdeal.τ).loc Cert.FfnHeadIdeal.main_arg2)
      ∧ m' ((c.tc : Thread Cert.FfnHeadReferenceIdeal.nD Cert.FfnHeadReferenceIdeal.τ).loc Cert.FfnHeadReferenceIdeal.main_arg3) = m ((c.tc : Thread Cert.FfnHeadIdeal.nD Cert.FfnHeadIdeal.τ).loc Cert.FfnHeadIdeal.main_arg3)
      ∧ m' ((c.tc : Thread Cert.FfnHeadReferenceIdeal.nD Cert.FfnHeadReferenceIdeal.τ).loc Cert.FfnHeadReferenceIdeal.main_arg4) = m ((c.tc : Thread Cert.FfnHeadIdeal.nD Cert.FfnHeadIdeal.τ).loc Cert.FfnHeadIdeal.main_arg4)) →
    ∃ (v0 : (c : Dev Cert.FfnHeadIdeal.nD) → Buf (Elt Ideal) ((c.tc : Thread Cert.FfnHeadIdeal.nD Cert.FfnHeadIdeal.τ).loc Cert.FfnHeadIdeal.main_v0_0)) (v1 : (c : Dev Cert.FfnHeadIdeal.nD) → Buf (Elt Ideal) ((c.tc : Thread Cert.FfnHeadIdeal.nD Cert.FfnHeadIdeal.τ).loc Cert.FfnHeadIdeal.main_v0_1)) (v2 : (c : Dev Cert.FfnHeadIdeal.nD) → Buf (Elt Ideal) ((c.tc : Thread Cert.FfnHeadIdeal.nD Cert.FfnHeadIdeal.τ).loc Cert.FfnHeadIdeal.main_v0_2)) (v3 : (c : Dev Cert.FfnHeadIdeal.nD) → Buf (Elt Ideal) ((c.tc : Thread Cert.FfnHeadIdeal.nD Cert.FfnHeadIdeal.τ).loc Cert.FfnHeadIdeal.main_v0_3)),
      θ_run (Cert.FfnHeadIdeal.defs (F := Ideal)) (onTc (τ := Cert.FfnHeadIdeal.τ) (Cert.FfnHeadIdeal.main (F := Ideal))) ⟨m, fun _ => 0, g⟩ (fun r => ∀ c : Dev Cert.FfnHeadIdeal.nD,
          r.2.mem ((c.tc : Thread Cert.FfnHeadIdeal.nD Cert.FfnHeadIdeal.τ).loc Cert.FfnHeadIdeal.main_v0_0) = v0 c
          ∧ r.2.mem ((c.tc : Thread Cert.FfnHeadIdeal.nD Cert.FfnHeadIdeal.τ).loc Cert.FfnHeadIdeal.main_v0_1) = v1 c
          ∧ r.2.mem ((c.tc : Thread Cert.FfnHeadIdeal.nD Cert.FfnHeadIdeal.τ).loc Cert.FfnHeadIdeal.main_v0_2) = v2 c
          ∧ r.2.mem ((c.tc : Thread Cert.FfnHeadIdeal.nD Cert.FfnHeadIdeal.τ).loc Cert.FfnHeadIdeal.main_v0_3) = v3 c
          ∧ r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
          ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
          ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
          ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
          ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4))
      ∧ θ_run (Cert.FfnHeadReferenceIdeal.defs (F := Ideal)) (onTc (τ := Cert.FfnHeadReferenceIdeal.τ) (Cert.FfnHeadReferenceIdeal.main (F := Ideal))) ⟨m', fun _ => 0, g'⟩ (fun r => ∀ c : Dev Cert.FfnHeadReferenceIdeal.nD,
          r.2.mem ((c.tc : Thread Cert.FfnHeadReferenceIdeal.nD Cert.FfnHeadReferenceIdeal.τ).loc Cert.FfnHeadReferenceIdeal.main_v31) = v0 c
          ∧ r.2.mem ((c.tc : Thread Cert.FfnHeadReferenceIdeal.nD Cert.FfnHeadReferenceIdeal.τ).loc Cert.FfnHeadReferenceIdeal.main_v36) = v1 c
          ∧ r.2.mem ((c.tc : Thread Cert.FfnHeadReferenceIdeal.nD Cert.FfnHeadReferenceIdeal.τ).loc Cert.FfnHeadReferenceIdeal.main_v41) = v2 c
          ∧ r.2.mem ((c.tc : Thread Cert.FfnHeadReferenceIdeal.nD Cert.FfnHeadReferenceIdeal.τ).loc Cert.FfnHeadReferenceIdeal.main_v44) = v3 c
          ∧ r.2.mem ((c.tc : Thread Cert.FfnHeadReferenceIdeal.nD Cert.FfnHeadReferenceIdeal.τ).loc Cert.FfnHeadReferenceIdeal.main_arg0) = m' ((c.tc : Thread Cert.FfnHeadReferenceIdeal.nD Cert.FfnHeadReferenceIdeal.τ).loc Cert.FfnHeadReferenceIdeal.main_arg0)
          ∧ r.2.mem ((c.tc : Thread Cert.FfnHeadReferenceIdeal.nD Cert.FfnHeadReferenceIdeal.τ).loc Cert.FfnHeadReferenceIdeal.main_arg1) = m' ((c.tc : Thread Cert.FfnHeadReferenceIdeal.nD Cert.FfnHeadReferenceIdeal.τ).loc Cert.FfnHeadReferenceIdeal.main_arg1)
          ∧ r.2.mem ((c.tc : Thread Cert.FfnHeadReferenceIdeal.nD Cert.FfnHeadReferenceIdeal.τ).loc Cert.FfnHeadReferenceIdeal.main_arg2) = m' ((c.tc : Thread Cert.FfnHeadReferenceIdeal.nD Cert.FfnHeadReferenceIdeal.τ).loc Cert.FfnHeadReferenceIdeal.main_arg2)
          ∧ r.2.mem ((c.tc : Thread Cert.FfnHeadReferenceIdeal.nD Cert.FfnHeadReferenceIdeal.τ).loc Cert.FfnHeadReferenceIdeal.main_arg3) = m' ((c.tc : Thread Cert.FfnHeadReferenceIdeal.nD Cert.FfnHeadReferenceIdeal.τ).loc Cert.FfnHeadReferenceIdeal.main_arg3)
          ∧ r.2.mem ((c.tc : Thread Cert.FfnHeadReferenceIdeal.nD Cert.FfnHeadReferenceIdeal.τ).loc Cert.FfnHeadReferenceIdeal.main_arg4) = m' ((c.tc : Thread Cert.FfnHeadReferenceIdeal.nD Cert.FfnHeadReferenceIdeal.τ).loc Cert.FfnHeadReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v8) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v17) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v10_0)) (v1 : (c : Dev Cert.GatesIdeal.nD) → Buf (Elt Ideal) ((c.tc : Thread Cert.GatesIdeal.nD Cert.GatesIdeal.τ).loc Cert.GatesIdeal.main_v10_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v10_0) = v0 c
          ∧ r.2.mem ((c.tc : Thread Cert.GatesIdeal.nD Cert.GatesIdeal.τ).loc Cert.GatesIdeal.main_v10_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v22) = v0 c
          ∧ r.2.mem ((c.tc : Thread Cert.GatesReferenceIdeal.nD Cert.GatesReferenceIdeal.τ).loc Cert.GatesReferenceIdeal.main_v25) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v5_0)) (v1 : (c : Dev Cert.SharedIdeal.nD) → Buf (Elt Ideal) ((c.tc : Thread Cert.SharedIdeal.nD Cert.SharedIdeal.τ).loc Cert.SharedIdeal.main_v5_1)) (v2 : (c : Dev Cert.SharedIdeal.nD) → Buf (Elt Ideal) ((c.tc : Thread Cert.SharedIdeal.nD Cert.SharedIdeal.τ).loc Cert.SharedIdeal.main_v5_2)) (v3 : (c : Dev Cert.SharedIdeal.nD) → Buf (Elt Ideal) ((c.tc : Thread Cert.SharedIdeal.nD Cert.SharedIdeal.τ).loc Cert.SharedIdeal.main_v5_3)) (v4 : (c : Dev Cert.SharedIdeal.nD) → Buf (Elt Ideal) ((c.tc : Thread Cert.SharedIdeal.nD Cert.SharedIdeal.τ).loc Cert.SharedIdeal.main_v5_4)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v5_0) = v0 c
          ∧ r.2.mem ((c.tc : Thread Cert.SharedIdeal.nD Cert.SharedIdeal.τ).loc Cert.SharedIdeal.main_v5_1) = v1 c
          ∧ r.2.mem ((c.tc : Thread Cert.SharedIdeal.nD Cert.SharedIdeal.τ).loc Cert.SharedIdeal.main_v5_2) = v2 c
          ∧ r.2.mem ((c.tc : Thread Cert.SharedIdeal.nD Cert.SharedIdeal.τ).loc Cert.SharedIdeal.main_v5_3) = v3 c
          ∧ r.2.mem ((c.tc : Thread Cert.SharedIdeal.nD Cert.SharedIdeal.τ).loc Cert.SharedIdeal.main_v5_4) = v4 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v65) = v0 c
          ∧ r.2.mem ((c.tc : Thread Cert.SharedReferenceIdeal.nD Cert.SharedReferenceIdeal.τ).loc Cert.SharedReferenceIdeal.main_v67) = v1 c
          ∧ r.2.mem ((c.tc : Thread Cert.SharedReferenceIdeal.nD Cert.SharedReferenceIdeal.τ).loc Cert.SharedReferenceIdeal.main_v68) = v2 c
          ∧ r.2.mem ((c.tc : Thread Cert.SharedReferenceIdeal.nD Cert.SharedReferenceIdeal.τ).loc Cert.SharedReferenceIdeal.main_v69) = v3 c
          ∧ r.2.mem ((c.tc : Thread Cert.SharedReferenceIdeal.nD Cert.SharedReferenceIdeal.τ).loc Cert.SharedReferenceIdeal.main_v81) = v4 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMemory : Cert.Memory.Facts) (hMemoryIdeal : Cert.MemoryIdeal.Facts) (hMemoryReferenceIdeal : Cert.MemoryReferenceIdeal.Facts) (hFfnHead : Cert.FfnHead.Facts) (hFfnHeadIdeal : Cert.FfnHeadIdeal.Facts) (hFfnHeadReferenceIdeal : Cert.FfnHeadReferenceIdeal.Facts) (hOut : Cert.Out.Facts) (hOutIdeal : Cert.OutIdeal.Facts) (hOutReferenceIdeal : Cert.OutReferenceIdeal.Facts) (hProj : Cert.Proj.Facts) (hProjIdeal : Cert.ProjIdeal.Facts) (hProjReferenceIdeal : Cert.ProjReferenceIdeal.Facts) (hGates : Cert.Gates.Facts) (hGatesIdeal : Cert.GatesIdeal.Facts) (hGatesReferenceIdeal : Cert.GatesReferenceIdeal.Facts) (hShared : Cert.Shared.Facts) (hSharedIdeal : Cert.SharedIdeal.Facts) (hSharedReferenceIdeal : Cert.SharedReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_FfnHead (hFfnHead := hFfnHead)
    ∧ quiescent_FfnHeadIdeal (hFfnHeadIdeal := hFfnHeadIdeal)
    ∧ quiescent_FfnHeadReferenceIdeal (hFfnHeadReferenceIdeal := hFfnHeadReferenceIdeal)
    ∧ quiescent_Out (hOut := hOut)
    ∧ quiescent_OutIdeal (hOutIdeal := hOutIdeal)
    ∧ quiescent_OutReferenceIdeal (hOutReferenceIdeal := hOutReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Shared (hShared := hShared)
    ∧ quiescent_SharedIdeal (hSharedIdeal := hSharedIdeal)
    ∧ quiescent_SharedReferenceIdeal (hSharedReferenceIdeal := hSharedReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Memory_MemoryIdeal
    ∧ algebraic_MemoryIdeal_MemoryReferenceIdeal (hMemoryIdeal := hMemoryIdeal) (hMemoryReferenceIdeal := hMemoryReferenceIdeal)
    ∧ preserves_FfnHead_FfnHeadIdeal
    ∧ algebraic_FfnHeadIdeal_FfnHeadReferenceIdeal (hFfnHeadIdeal := hFfnHeadIdeal) (hFfnHeadReferenceIdeal := hFfnHeadReferenceIdeal)
    ∧ preserves_Out_OutIdeal
    ∧ algebraic_OutIdeal_OutReferenceIdeal (hOutIdeal := hOutIdeal) (hOutReferenceIdeal := hOutReferenceIdeal)
    ∧ preserves_Proj_ProjIdeal
    ∧ algebraic_ProjIdeal_ProjReferenceIdeal (hProjIdeal := hProjIdeal) (hProjReferenceIdeal := hProjReferenceIdeal)
    ∧ preserves_Gates_GatesIdeal
    ∧ algebraic_GatesIdeal_GatesReferenceIdeal (hGatesIdeal := hGatesIdeal) (hGatesReferenceIdeal := hGatesReferenceIdeal)
    ∧ preserves_Shared_SharedIdeal
    ∧ algebraic_SharedIdeal_SharedReferenceIdeal (hSharedIdeal := hSharedIdeal) (hSharedReferenceIdeal := hSharedReferenceIdeal)
-- ==== Pre_finite.lean ====
abbrev S8448x2048 : Shape := ⟨2, ![8448, 2048]⟩
abbrev S2x8448x1536 : Shape := ⟨3, ![2, 8448, 1536]⟩
abbrev S_ : Shape := ⟨0, ![]⟩

class Facts : Prop where
  bcast_S_S8448x2048 : S_.BroadcastsInDim S8448x2048 (![] : Fin 0 → Fin S8448x2048.rank)
  reducesTo_S8448x2048_S_d0_1 : S8448x2048.ReducesTo [0, 1] S_
  h_S_ : 0 < S_.numel
  bitsLt_bf16_f32 : FTy.bits .bf16 < FTy.bits .f32
  bcast_S_S2x8448x1536 : S_.BroadcastsInDim S2x8448x1536 (![] : Fin 0 → Fin S2x8448x1536.rank)
  reducesTo_S2x8448x1536_S_d0_1_2 : S2x8448x1536.ReducesTo [0, 1, 2] S_

variable [Facts]

def fn {F : FTy → Type} [FloatOps F] (main_arg0 : FVec F S8448x2048 .f32) (main_arg1 : FVec F S2x8448x1536 .bf16) : IVec S_ 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_c : IVec S_ 1 := constantI S_ 1 1#1
  let main_v3 : IVec S_ 1 := (fun x v => Host.reduce IntOp.andi x v reducesTo_S8448x2048_S_d0_1 h_S_) main_v2 main_c
  let main_v4 : FVec F S2x8448x1536 .f32 := (extf .f32 · bitsLt_bf16_f32) main_arg1
  let main_v5 : FVec F S2x8448x1536 .f32 := Host.absf main_v4
  let main_cst_0 : FVec F S_ .f32 := constant S_ .f32 0x7F800000#32
  let main_v6 : FVec F S2x8448x1536 .f32 := broadcastInDim S2x8448x1536 ![] bcast_S_S2x8448x1536 main_cst_0
  let main_v7 : IVec S2x8448x1536 1 := cmpf .olt main_v5 main_v6
  let main_c_1 : IVec S_ 1 := constantI S_ 1 1#1
  let main_v8 : IVec S_ 1 := (fun x v => Host.reduce IntOp.andi x v reducesTo_S2x8448x1536_S_d0_1_2 h_S_) main_v7 main_c_1
  let main_v9 : IVec S_ 1 := andi main_v3 main_v8
  main_v9
-- ==== Kernel.lean ====
abbrev S8448x2048 : Shape := ⟨2, ![8448, 2048]⟩
abbrev S2x8448x1536 : Shape := ⟨3, ![2, 8448, 1536]⟩
abbrev S_ : Shape := ⟨0, ![]⟩
abbrev S2x1792x1536 : Shape := ⟨3, ![2, 1792, 1536]⟩
abbrev S2x10240x1536 : Shape := ⟨3, ![2, 10240, 1536]⟩
abbrev S8192x1536 : Shape := ⟨2, ![8192, 1536]⟩
abbrev S2048x128 : Shape := ⟨2, ![2048, 128]⟩
abbrev S1x9984x128 : Shape := ⟨3, ![1, 9984, 128]⟩
abbrev S2048x1 : Shape := ⟨2, ![2048, 1]⟩
abbrev S256x256 : Shape := ⟨2, ![256, 256]⟩
abbrev S256x128 : Shape := ⟨2, ![256, 128]⟩
abbrev S1x256x128 : Shape := ⟨3, ![1, 256, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 6
  | .vmem => 11
  | .smem => 0
  | _ => 0

abbrev bufTy : (tb : Table) → Fin (tcTables nBuf tb) → BufTy
  | .hbm, ⟨0, _⟩ => ⟨S8448x2048, .f32⟩
  | .hbm, ⟨1, _⟩ => ⟨S2x8448x1536, .bf16⟩
  | .hbm, ⟨2, _⟩ => ⟨S_, .bf16⟩
  | .hbm, ⟨3, _⟩ => ⟨S2x1792x1536, .bf16⟩
  | .hbm, ⟨4, _⟩ => ⟨S2x10240x1536, .bf16⟩
  | .hbm, ⟨5, _⟩ => ⟨S8192x1536, .bf16⟩
  | .local _ .vmem, ⟨0, _⟩ => ⟨S2048x128, .f32⟩
  | .local _ .vmem, ⟨1, _⟩ => ⟨S2048x128, .f32⟩
  | .local _ .vmem, ⟨2, _⟩ => ⟨S1x9984x128, .bf16⟩
  | .local _ .vmem, ⟨3, _⟩ => ⟨S1x9984x128, .bf16⟩
  | .local _ .vmem, ⟨4, _⟩ => ⟨S1x9984x128, .bf16⟩
  | .local _ .vmem, ⟨5, _⟩ => ⟨S1x9984x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .f32⟩
  | .local _ .vmem, ⟨10, _⟩ => ⟨S2048x1, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let v16 : BitVec 32 := Scalar.addi v1 c0_i32
  let c0_i32_4 : BitVec 32 := 0#32
  let v17 : BitVec 32 := Scalar.subi v16 c0_i32_4
  let c256_i32 : BitVec 32 := 256#32
  let v18 : BitVec 32 := Scalar.muli v17 c256_i32
  v18
def k0_mult2 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c1_i32 : BitVec 32 := 1#32
  let v20 : BitVec 32 := Scalar.addi v1 c1_i32
  let c0_i32_5 : BitVec 32 := 0#32
  let v21 : BitVec 32 := Scalar.subi v20 c0_i32_5
  let c256_i32_6 : BitVec 32 := 256#32
  let v22 : BitVec 32 := Scalar.muli v21 c256_i32_6
  v22
def k0_mult3 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c2_i32 : BitVec 32 := 2#32
  let v24 : BitVec 32 := Scalar.addi v1 c2_i32
  let c0_i32_7 : BitVec 32 := 0#32
  let v25 : BitVec 32 := Scalar.subi v24 c0_i32_7
  let c256_i32_8 : BitVec 32 := 256#32
  let v26 : BitVec 32 := Scalar.muli v25 c256_i32_8
  v26
def k0_mult4 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c3_i32 : BitVec 32 := 3#32
  let v28 : BitVec 32 := Scalar.addi v1 c3_i32
  let c0_i32_9 : BitVec 32 := 0#32
  let v29 : BitVec 32 := Scalar.subi v28 c0_i32_9
  let c256_i32_10 : BitVec 32 := 256#32
  let v30 : BitVec 32 := Scalar.muli v29 c256_i32_10
  v30
def k0_mult5 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c4_i32 : BitVec 32 := 4#32
  let v32 : BitVec 32 := Scalar.addi v1 c4_i32
  let c0_i32_11 : BitVec 32 := 0#32
  let v33 : BitVec 32 := Scalar.subi v32 c0_i32_11
  let c256_i32_12 : BitVec 32 := 256#32
  let v34 : BitVec 32 := Scalar.muli v33 c256_i32_12
  v34
def k0_mult6 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c5_i32 : BitVec 32 := 5#32
  let v36 : BitVec 32 := Scalar.addi v1 c5_i32
  let c0_i32_13 : BitVec 32 := 0#32
  let v37 : BitVec 32 := Scalar.subi v36 c0_i32_13
  let c256_i32_14 : BitVec 32 := 256#32
  let v38 : BitVec 32 := Scalar.muli v37 c256_i32_14
  v38
def k0_mult7 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c6_i32 : BitVec 32 := 6#32
  let v40 : BitVec 32 := Scalar.addi v1 c6_i32
  let c0_i32_15 : BitVec 32 := 0#32
  let v41 : BitVec 32 := Scalar.subi v40 c0_i32_15
  let c256_i32_16 : BitVec 32 := 256#32
  let v42 : BitVec 32 := Scalar.muli v41 c256_i32_16
  v42
def k0_mult8 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c7_i32_17 : BitVec 32 := 7#32
  let v44 : BitVec 32 := Scalar.addi v1 c7_i32_17
  let c0_i32_18 : BitVec 32 := 0#32
  let v45 : BitVec 32 := Scalar.subi v44 c0_i32_18
  let c256_i32_19 : BitVec 32 := 256#32
  let v46 : BitVec 32 := Scalar.muli v45 c256_i32_19
  v46
def k0_off1 (i : grid0.Coords) (c0_i32 : BitVec 32) : Fin 3 → Nat :=
  let c0_29 : Index := 0#32
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v16 : BitVec 32 := Scalar.addi v1 c0_i32
  let c0_i32_4 : BitVec 32 := 0#32
  let v17 : BitVec 32 := Scalar.subi v16 c0_i32_4
  let c256_i32 : BitVec 32 := 256#32
  let v18 : BitVec 32 := Scalar.muli v17 c256_i32
  let v19 : BitVec 32 := v18
  let v56 : Index := Scalar.indexCast v19
  let c0_30 : Index := 0#32
  ![0, v56.toNat, 0]
def k0_mult9 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c0_i32_203 : BitVec 32 := 0#32
  let v477 : BitVec 32 := Scalar.addi v1 c0_i32_203
  let v478 : BitVec 32 := Scalar.subi v477 arg9
  let c256_i32_204 : BitVec 32 := 256#32
  let v479 : BitVec 32 := Scalar.muli v478 c256_i32_204
  v479

def k0_mult10 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c1_i32_205 : BitVec 32 := 1#32
  let v481 : BitVec 32 := Scalar.addi v1 c1_i32_205
  let v482 : BitVec 32 := Scalar.subi v481 arg9
  let c256_i32_206 : BitVec 32 := 256#32
  let v483 : BitVec 32 := Scalar.muli v482 c256_i32_206
  v483
def k0_mult11 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c2_i32_207 : BitVec 32 := 2#32
  let v485 : BitVec 32 := Scalar.addi v1 c2_i32_207
  let v486 : BitVec 32 := Scalar.subi v485 arg9
  let c256_i32_208 : BitVec 32 := 256#32
  let v487 : BitVec 32 := Scalar.muli v486 c256_i32_208
  v487
def k0_mult12 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c3_i32_209 : BitVec 32 := 3#32
  let v489 : BitVec 32 := Scalar.addi v1 c3_i32_209
  let v490 : BitVec 32 := Scalar.subi v489 arg9
  let c256_i32_210 : BitVec 32 := 256#32
  let v491 : BitVec 32 := Scalar.muli v490 c256_i32_210
  v491
def k0_mult13 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c4_i32_211 : BitVec 32 := 4#32
  let v493 : BitVec 32 := Scalar.addi v1 c4_i32_211
  let v494 : BitVec 32 := Scalar.subi v493 arg9
  let c256_i32_212 : BitVec 32 := 256#32
  let v495 : BitVec 32 := Scalar.muli v494 c256_i32_212
  v495
def k0_mult14 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c5_i32_213 : BitVec 32 := 5#32
  let v497 : BitVec 32 := Scalar.addi v1 c5_i32_213
  let v498 : BitVec 32 := Scalar.subi v497 arg9
  let c256_i32_214 : BitVec 32 := 256#32
  let v499 : BitVec 32 := Scalar.muli v498 c256_i32_214
  v499
def k0_mult15 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c6_i32_215 : BitVec 32 := 6#32
  let v501 : BitVec 32 := Scalar.addi v1 c6_i32_215
  let v502 : BitVec 32 := Scalar.subi v501 arg9
  let c256_i32_216 : BitVec 32 := 256#32
  let v503 : BitVec 32 := Scalar.muli v502 c256_i32_216
  v503
def k0_mult16 (i : grid0.Coords) (arg9 : BitVec 32) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c7_i32_217 : BitVec 32 := 7#32
  let v505 : BitVec 32 := Scalar.addi v1 c7_i32_217
  let v506 : BitVec 32 := Scalar.subi v505 arg9
  let c256_i32_218 : BitVec 32 := 256#32
  let v507 : BitVec 32 := Scalar.muli v506 c256_i32_218
  v507
def k0_off2 (i : grid0.Coords) (arg9 : BitVec 32) (c0_i32_203 : BitVec 32) : Fin 3 → Nat :=
  let c0_235 : Index := 0#32
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v477 : BitVec 32 := Scalar.addi v1 c0_i32_203
  let v478 : BitVec 32 := Scalar.subi v477 arg9
  let c256_i32_204 : BitVec 32 := 256#32
  let v479 : BitVec 32 := Scalar.muli v478 c256_i32_204
  let v480 : BitVec 32 := v479
  let v517 : Index := Scalar.indexCast v480
  let c0_236 : Index := 0#32
  ![0, v517.toNat, 0]

def k0_chk1 (i : grid0.Coords) (arg9 : BitVec 32) : Prop :=
  (256 ∣ (k0_mult9 i arg9).toNat) ∧
  (256 ∣ (k0_mult10 i arg9).toNat) ∧
  (256 ∣ (k0_mult11 i arg9).toNat) ∧
  (256 ∣ (k0_mult12 i arg9).toNat) ∧
  (256 ∣ (k0_mult13 i arg9).toNat) ∧
  (256 ∣ (k0_mult14 i arg9).toNat) ∧
  (256 ∣ (k0_mult15 i arg9).toNat) ∧
  (256 ∣ (k0_mult16 i arg9).toNat) ∧
  (∀ (r : Fin 8), ∀ a, (k0_off2 i arg9 (BitVec.ofNat 32 r.val)) a + S1x256x128.size a ≤ S1x9984x128.size a)
theorem k0_mult9_dvd : ∀ (i : grid0.Coords) (arg9 : BitVec 32) (k0_hw1 : k0_chk1 i arg9), 256 ∣ (k0_mult9 i arg9).toNat := fun i arg9 k0_hw1 => k0_hw1.1
theorem k0_mult10_dvd : ∀ (i : grid0.Coords) (arg9 : BitVec 32) (k0_hw1 : k0_chk1 i arg9), 256 ∣ (k0_mult10 i arg9).toNat := fun i arg9 k0_hw1 => k0_hw1.2.1
theorem k0_mult11_dvd : ∀ (i : grid0.Coords) (arg9 : BitVec 32) (k0_hw1 : k0_chk1 i arg9), 256 ∣ (k0_mult11 i arg9).toNat := fun i arg9 k0_hw1 => k0_hw1.2.2.1
theorem k0_mult12_dvd : ∀ (i : grid0.Coords) (arg9 : BitVec 32) (k0_hw1 : k0_chk1 i arg9), 256 ∣ (k0_mult12 i arg9).toNat := fun i arg9 k0_hw1 => k0_hw1.2.2.2.1
theorem k0_mult13_dvd : ∀ (i : grid0.Coords) (arg9 : BitVec 32) (k0_hw1 : k0_chk1 i arg9), 256 ∣ (k0_mult13 i arg9).toNat := fun i arg9 k0_hw1 => k0_hw1.2.2.2.2.1
theorem k0_mult14_dvd : ∀ (i : grid0.Coords) (arg9 : BitVec 32) (k0_hw1 : k0_chk1 i arg9), 256 ∣ (k0_mult14 i arg9).toNat := fun i arg9 k0_hw1 => k0_hw1.2.2.2.2.2.1
theorem k0_mult15_dvd : ∀ (i : grid0.Coords) (arg9 : BitVec 32) (k0_hw1 : k0_chk1 i arg9), 256 ∣ (k0_mult15 i arg9).toNat := fun i arg9 k0_hw1 => k0_hw1.2.2.2.2.2.2.1
theorem k0_mult16_dvd : ∀ (i : grid0.Coords) (arg9 : BitVec 32) (k0_hw1 : k0_chk1 i arg9), 256 ∣ (k0_mult16 i arg9).toNat := fun i arg9 k0_hw1 => k0_hw1.2.2.2.2.2.2.2.1
theorem k0_off2_inb : ∀ (i : grid0.Coords) (arg9 : BitVec 32) (k0_hw1 : k0_chk1 i arg9), ∀ (r : Fin 8), ∀ a, (k0_off2 i arg9 (BitVec.ofNat 32 r.val)) a + S1x256x128.size a ≤ S1x9984x128.size a := fun i arg9 k0_hw1 r => k0_hw1.2.2.2.2.2.2.2.2 r

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9984x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x9984x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "weight_zero_below" => some ⊥
  | _ => none
-- ==== ReferenceIdeal.lean ====
abbrev S8448x2048 : Shape := ⟨2, ![8448, 2048]⟩
abbrev S2x8448x1536 : Shape := ⟨3, ![2, 8448, 1536]⟩
abbrev S8192x1536 : Shape := ⟨2, ![8192, 1536]⟩
abbrev S1x8192x12x128 : Shape := ⟨4, ![1, 8192, 12, 128]⟩
abbrev S1x8192x1536 : Shape := ⟨3, ![1, 8192, 1536]⟩
abbrev S8192 : Shape := ⟨1, ![8192]⟩
abbrev S1x12x8192x8192 : Shape := ⟨4, ![1, 12, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x12x128x8192 : Shape := ⟨4, ![1, 12, 128, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2x8448x1536, .bf16⟩
  | .hbm, ⟨2, _⟩ => ⟨S8192x1536, .f32⟩
  | .hbm, ⟨3, _⟩ => ⟨S1x8192x12x128, .f32⟩
  | .hbm, ⟨4, _⟩ => ⟨S2x8448x1536, .f32⟩
  | .hbm, ⟨5, _⟩ => ⟨S1x8192x1536, .f32⟩
  | .hbm, ⟨6, _⟩ => ⟨S8192x1536, .f32⟩
  | .hbm, ⟨7, _⟩ => ⟨S1x8192x12x128, .f32⟩
  | .hbm, ⟨8, _⟩ => ⟨S1x8192x1536, .f32⟩
  | .hbm, ⟨9, _⟩ => ⟨S8192x1536, .f32⟩
  | .hbm, ⟨10, _⟩ => ⟨S1x8192x12x128, .f32⟩
  | .hbm, ⟨11, _⟩ => ⟨S8192, .i32⟩
  | .hbm, ⟨12, _⟩ => ⟨S1x12x8192x8192, .f32⟩
  | .hbm, ⟨13, _⟩ => ⟨S_, .f32⟩
  | .hbm, ⟨14, _⟩ => ⟨S1x12x8192x8192, .f32⟩
  | .hbm, ⟨15, _⟩ => ⟨S1x12x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x12x8192x8192, .f32⟩
  | .hbm, ⟨22, _⟩ => ⟨S1x12x8192x8192, .f32⟩
  | .hbm, ⟨23, _⟩ => ⟨S_, .f32⟩
  | .hbm, ⟨24, _⟩ => ⟨S1x12x8192x8192, .f32⟩
  | .hbm, ⟨25, _⟩ => ⟨S1x12x8192x8192, .f32⟩
  | .hbm, ⟨26, _⟩ => ⟨S1x12x8192x8192, .f32⟩
  | .hbm, ⟨27, _⟩ => ⟨S1x12x8192x8192, .f32⟩
  | .hbm, ⟨28, _⟩ => ⟨S1x12x8192x8192, .i1⟩
  | .hbm, ⟨29, _⟩ => ⟨S1x12x8192x8192, .f32⟩
  | .hbm, ⟨30, _⟩ => ⟨S1x12x8192x8192, .f32⟩
  | .hbm, ⟨31, _⟩ => ⟨S1x12x8192x8192, .f32⟩
  | .hbm, ⟨32, _⟩ => ⟨S1x12x8192x8192, .f32⟩
  | .hbm, ⟨33, _⟩ => ⟨S1x12x8192x8192, .f32⟩
  | .hbm, ⟨34, _⟩ => ⟨S1x12x8192x8192, .f32⟩
  | .hbm, ⟨35, _⟩ => ⟨S1x12x8192x8192, .f32⟩
  | .hbm, ⟨36, _⟩ => ⟨S1x12x8192x8192, .f32⟩
  | .hbm, ⟨37, _⟩ => ⟨S1x12x8192x8192, .f32⟩
  | .hbm, ⟨38, _⟩ => ⟨S_, .f32⟩
  | .hbm, ⟨39, _⟩ => ⟨S_, .f32⟩
  | .hbm, ⟨40, _⟩ => ⟨S1x12x8192x8192, .i1⟩
  | .hbm, ⟨41, _⟩ => ⟨S1x12x8192x8192, .f32⟩
  | .hbm, ⟨42, _⟩ => ⟨S1x12x8192x8192, .f32⟩
  | .hbm, ⟨43, _⟩ => ⟨S_, .f32⟩
  | .hbm, ⟨44, _⟩ => ⟨S_, .f32⟩
  | .hbm, ⟨45, _⟩ => ⟨S1x12x8192x8192, .f32⟩
  | .hbm, ⟨46, _⟩ => ⟨S1x12x8192x8192, .f32⟩
  | .hbm, ⟨47, _⟩ => ⟨S1x12x8192x8192, .f32⟩
  | .hbm, ⟨48, _⟩ => ⟨S_, .f32⟩
  | .hbm, ⟨49, _⟩ => ⟨S1x12x8192x8192, .f32⟩
  | .hbm, ⟨50, _⟩ => ⟨S1x12x8192x8192, .f32⟩
  | .hbm, ⟨51, _⟩ => ⟨S1x12x8192x8192, .f32⟩
  | .hbm, ⟨52, _⟩ => ⟨S1x12x8192x8192, .f32⟩
  | .hbm, ⟨53, _⟩ => ⟨S1x12x8192x8192, .i1⟩
  | .hbm, ⟨54, _⟩ => ⟨S1x12x8192x8192, .f32⟩
  | .hbm, ⟨55, _⟩ => ⟨S1x12x8192x8192, .f32⟩
  | .hbm, ⟨56, _⟩ => ⟨S1x12x8192x8192, .f32⟩
  | .hbm, ⟨57, _⟩ => ⟨S1x12x8192x8192, .f32⟩
  | .hbm, ⟨58, _⟩ => ⟨S1x12x8192x8192, .f32⟩
  | .hbm, ⟨59, _⟩ => ⟨S1x12x8192x8192, .f32⟩
  | .hbm, ⟨60, _⟩ => ⟨S1x12x8192x8192, .f32⟩
  | .hbm, ⟨61, _⟩ => ⟨S1x12x8192x8192, .f32⟩
  | .hbm, ⟨62, _⟩ => ⟨S1x12x8192x8192, .f32⟩
  | .hbm, ⟨63, _⟩ => ⟨S1x12x8192x8192, .f32⟩
  | .hbm, ⟨64, _⟩ => ⟨S1x12x8192x8192, .f32⟩
  | .hbm, ⟨65, _⟩ => ⟨S_, .f32⟩
  | .hbm, ⟨66, _⟩ => ⟨S_, .f32⟩
  | .hbm, ⟨67, _⟩ => ⟨S1x12x8192x8192, .i1⟩
  | .hbm, ⟨68, _⟩ => ⟨S1x12x8192x8192, .f32⟩
  | .hbm, ⟨69, _⟩ => ⟨S1x12x8192x8192, .f32⟩
  | .hbm, ⟨70, _⟩ => ⟨S1x12x128x8192, .f32⟩
  | .hbm, ⟨71, _⟩ => ⟨S1x8192x12x128, .f32⟩
  | .hbm, ⟨72, _⟩ => ⟨S8192x1536, .f32⟩
  | .hbm, ⟨73, _⟩ => ⟨S8192x1536, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_call2_cst : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩

abbrev nD : Nat := 1
abbrev τ : Topo := Topo.v7x

variable {F : FTy → Type} [FloatOps F]
-- ==== Ffn.lean ====
abbrev S8448x2048 : Shape := ⟨2, ![8448, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S1x2048x5632 : Shape := ⟨3, ![1, 2048, 5632]⟩
abbrev S2048x5632 : Shape := ⟨2, ![2048, 5632]⟩
abbrev S2048x22x256 : Shape := ⟨3, ![2048, 22, 256]⟩
abbrev S22x2048x256 : Shape := ⟨3, ![22, 2048, 256]⟩
abbrev S1x5632x2048 : Shape := ⟨3, ![1, 5632, 2048]⟩
abbrev S5632x2048 : Shape := ⟨2, ![5632, 2048]⟩
abbrev S1056x2048 : Shape := ⟨2, ![1056, 2048]⟩
abbrev S1x1x2048 : Shape := ⟨3, ![1, 1, 2048]⟩
abbrev S2x2048x256 : Shape := ⟨3, ![2, 2048, 256]⟩
abbrev S512x2048 : Shape := ⟨2, ![512, 2048]⟩
abbrev S1x2048 : Shape := ⟨2, ![1, 2048]⟩
abbrev S1056 : Shape := ⟨1, ![1056]⟩
abbrev S1056x1 : Shape := ⟨2, ![1056, 1]⟩
abbrev S1x2048x256 : Shape := ⟨3, ![1, 2048, 256]⟩
abbrev S2048x256 : Shape := ⟨2, ![2048, 256]⟩
abbrev S1056x256 : Shape := ⟨2, ![1056, 256]⟩
abbrev S1056x512 : Shape := ⟨2, ![1056, 512]⟩

abbrev nBuf : Space → Nat
  | .hbm => 19
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S4x1x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048x5632, .f32⟩
  | .hbm, ⟨6, _⟩ => ⟨S2048x5632, .f32⟩
  | .hbm, ⟨7, _⟩ => ⟨S2048x5632, .bf16⟩
  | .hbm, ⟨8, _⟩ => ⟨S2048x22x256, .bf16⟩
  | .hbm, ⟨9, _⟩ => ⟨S22x2048x256, .bf16⟩
  | .hbm, ⟨10, _⟩ => ⟨S1x2048x5632, .f32⟩
  | .hbm, ⟨11, _⟩ => ⟨S2048x5632, .f32⟩
  | .hbm, ⟨12, _⟩ => ⟨S2048x5632, .bf16⟩
  | .hbm, ⟨13, _⟩ => ⟨S2048x22x256, .bf16⟩
  | .hbm, ⟨14, _⟩ => ⟨S22x2048x256, .bf16⟩
  | .hbm, ⟨15, _⟩ => ⟨S1x5632x2048, .f32⟩
  | .hbm, ⟨16, _⟩ => ⟨S5632x2048, .f32⟩
  | .hbm, ⟨17, _⟩ => ⟨S5632x2048, .bf16⟩
  | .hbm, ⟨18, _⟩ => ⟨S8448x2048, .f32⟩
  | .local _ .vmem, ⟨0, _⟩ => ⟨S1056x2048, .f32⟩
  | .local _ .vmem, ⟨1, _⟩ => ⟨S1056x2048, .f32⟩
  | .local _ .vmem, ⟨2, _⟩ => ⟨S1x1x2048, .f32⟩
  | .local _ .vmem, ⟨3, _⟩ => ⟨S2x2048x256, .bf16⟩
  | .local _ .vmem, ⟨4, _⟩ => ⟨S2x2048x256, .bf16⟩
  | .local _ .vmem, ⟨5, _⟩ => ⟨S2x2048x256, .bf16⟩
  | .local _ .vmem, ⟨6, _⟩ => ⟨S2x2048x256, .bf16⟩
  | .local _ .vmem, ⟨7, _⟩ => ⟨S512x2048, .bf16⟩
  | .local _ .vmem, ⟨8, _⟩ => ⟨S512x2048, .bf16⟩
  | .local _ .vmem, ⟨9, _⟩ => ⟨S1056x2048, .f32⟩
  | .local _ .vmem, ⟨10, _⟩ => ⟨S1056x2048, .f32⟩
  | .local _ .vmem, ⟨11, _⟩ => ⟨S1056x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![7, 11], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1056x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8448x2048 : Shape := ⟨2, ![8448, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S1x1x2048 : Shape := ⟨3, ![1, 1, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8448x5632 : Shape := ⟨2, ![8448, 5632]⟩
abbrev S1056x2048 : Shape := ⟨2, ![1056, 2048]⟩
abbrev S7392x2048 : Shape := ⟨2, ![7392, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S4x1x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x1x2048, .f32⟩
  | .hbm, ⟨6, _⟩ => ⟨S2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S8448x5632, .f32⟩
  | .hbm, ⟨30, _⟩ => ⟨S8448x5632, .f32⟩
  | .hbm, ⟨31, _⟩ => ⟨S8448x5632, .f32⟩
  | .hbm, ⟨32, _⟩ => ⟨S_, .f32⟩
  | .hbm, ⟨33, _⟩ => ⟨S8448x5632, .f32⟩
  | .hbm, ⟨34, _⟩ => ⟨S8448x5632, .f32⟩
  | .hbm, ⟨35, _⟩ => ⟨S_, .f32⟩
  | .hbm, ⟨36, _⟩ => ⟨S8448x5632, .f32⟩
  | .hbm, ⟨37, _⟩ => ⟨S8448x5632, .f32⟩
  | .hbm, ⟨38, _⟩ => ⟨S8448x5632, .f32⟩
  | .hbm, ⟨39, _⟩ => ⟨S8448x5632, .f32⟩
  | .hbm, ⟨40, _⟩ => ⟨S8448x5632, .f32⟩
  | .hbm, ⟨41, _⟩ => ⟨S8448x2048, .f32⟩
  | .hbm, ⟨42, _⟩ => ⟨S_, .f32⟩
  | .hbm, ⟨43, _⟩ => ⟨S8448x2048, .f32⟩
  | .hbm, ⟨44, _⟩ => ⟨S8448x2048, .f32⟩
  | .hbm, ⟨45, _⟩ => ⟨S8448x2048, .f32⟩
  | .hbm, ⟨46, _⟩ => ⟨S1056x2048, .f32⟩
  | .hbm, ⟨47, _⟩ => ⟨S7392x2048, .f32⟩
  | .hbm, ⟨48, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Memory.lean ====
abbrev S1x256x2048 : Shape := ⟨3, ![1, 256, 2048]⟩
abbrev S4x2048 : Shape := ⟨2, ![4, 2048]⟩
abbrev S4x2048x512 : Shape := ⟨3, ![4, 2048, 512]⟩
abbrev S4x128 : Shape := ⟨2, ![4, 128]⟩
abbrev S256x2048 : Shape := ⟨2, ![256, 2048]⟩
abbrev S4x1x2048 : Shape := ⟨3, ![4, 1, 2048]⟩
abbrev S4x1x128 : Shape := ⟨3, ![4, 1, 128]⟩
abbrev S4x4x256x128 : Shape := ⟨4, ![4, 4, 256, 128]⟩
abbrev S1x1x2048 : Shape := ⟨3, ![1, 1, 2048]⟩
abbrev S1x2048x512 : Shape := ⟨3, ![1, 2048, 512]⟩
abbrev S1x1x128 : Shape := ⟨3, ![1, 1, 128]⟩
abbrev S1x4x256x128 : Shape := ⟨4, ![1, 4, 256, 128]⟩
abbrev S1x2048 : Shape := ⟨2, ![1, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x128 : Shape := ⟨2, ![1, 128]⟩
abbrev S256x128 : Shape := ⟨2, ![256, 128]⟩
abbrev S1x1x256x128 : Shape := ⟨4, ![1, 1, 256, 128]⟩

abbrev nBuf : Space → Nat
  | .hbm => 10
  | .vmem => 13
  | .smem => 0
  | _ => 0

abbrev bufTy : (tb : Table) → Fin (tcTables nBuf tb) → BufTy
  | .hbm, ⟨0, _⟩ => ⟨S1x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S4x128, .f32⟩
  | .hbm, ⟨5, _⟩ => ⟨S256x2048, .f32⟩
  | .hbm, ⟨6, _⟩ => ⟨S4x1x2048, .f32⟩
  | .hbm, ⟨7, _⟩ => ⟨S4x1x128, .f32⟩
  | .hbm, ⟨8, _⟩ => ⟨S4x4x256x128, .f32⟩
  | .hbm, ⟨9, _⟩ => ⟨S4x4x256x128, .f32⟩
  | .local _ .vmem, ⟨0, _⟩ => ⟨S256x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x1x128, .f32⟩
  | .local _ .vmem, ⟨8, _⟩ => ⟨S1x1x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x4x256x128, .f32⟩
  | .local _ .vmem, ⟨12, _⟩ => ⟨S1x4x256x128, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemoryReferenceIdeal.lean ====
abbrev S1x256x2048 : Shape := ⟨3, ![1, 256, 2048]⟩
abbrev S4x2048 : Shape := ⟨2, ![4, 2048]⟩
abbrev S4x2048x512 : Shape := ⟨3, ![4, 2048, 512]⟩
abbrev S4x128 : Shape := ⟨2, ![4, 128]⟩
abbrev S_ : Shape := ⟨0, ![]⟩
abbrev S1x256 : Shape := ⟨2, ![1, 256]⟩
abbrev S1x256x1 : Shape := ⟨3, ![1, 256, 1]⟩
abbrev S4x1x1x2048 : Shape := ⟨4, ![4, 1, 1, 2048]⟩
abbrev S1x1x256x2048 : Shape := ⟨4, ![1, 1, 256, 2048]⟩
abbrev S4x1x256x2048 : Shape := ⟨4, ![4, 1, 256, 2048]⟩
abbrev S4x1x256x512 : Shape := ⟨4, ![4, 1, 256, 512]⟩
abbrev S4x1x256x4x128 : Shape := ⟨5, ![4, 1, 256, 4, 128]⟩
abbrev S4x1x256x4 : Shape := ⟨4, ![4, 1, 256, 4]⟩
abbrev S4x1x256x4x1 : Shape := ⟨5, ![4, 1, 256, 4, 1]⟩
abbrev S4x1x1x1x128 : Shape := ⟨5, ![4, 1, 1, 1, 128]⟩
abbrev S4x256x4x128 : Shape := ⟨4, ![4, 256, 4, 128]⟩
abbrev S4x4x256x128 : Shape := ⟨4, ![4, 4, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S4x128, .f32⟩
  | .hbm, ⟨5, _⟩ => ⟨S1x256x2048, .f32⟩
  | .hbm, ⟨6, _⟩ => ⟨S_, .f32⟩
  | .hbm, ⟨7, _⟩ => ⟨S1x256, .f32⟩
  | .hbm, ⟨8, _⟩ => ⟨S1x256x1, .f32⟩
  | .hbm, ⟨9, _⟩ => ⟨S_, .f32⟩
  | .hbm, ⟨10, _⟩ => ⟨S1x256x1, .f32⟩
  | .hbm, ⟨11, _⟩ => ⟨S1x256x1, .f32⟩
  | .hbm, ⟨12, _⟩ => ⟨S_, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S1x256x2048, .f32⟩
  | .hbm, ⟨17, _⟩ => ⟨S1x256x2048, .f32⟩
  | .hbm, ⟨18, _⟩ => ⟨S4x1x1x2048, .f32⟩
  | .hbm, ⟨19, _⟩ => ⟨S1x1x256x2048, .f32⟩
  | .hbm, ⟨20, _⟩ => ⟨S4x1x256x2048, .f32⟩
  | .hbm, ⟨21, _⟩ => ⟨S4x1x256x2048, .f32⟩
  | .hbm, ⟨22, _⟩ => ⟨S4x1x256x2048, .f32⟩
  | .hbm, ⟨23, _⟩ => ⟨S4x1x256x512, .f32⟩
  | .hbm, ⟨24, _⟩ => ⟨S4x1x256x4x128, .f32⟩
  | .hbm, ⟨25, _⟩ => ⟨S4x1x256x4x128, .f32⟩
  | .hbm, ⟨26, _⟩ => ⟨S_, .f32⟩
  | .hbm, ⟨27, _⟩ => ⟨S4x1x256x4, .f32⟩
  | .hbm, ⟨28, _⟩ => ⟨S4x1x256x4x1, .f32⟩
  | .hbm, ⟨29, _⟩ => ⟨S_, .f32⟩
  | .hbm, ⟨30, _⟩ => ⟨S4x1x256x4x1, .f32⟩
  | .hbm, ⟨31, _⟩ => ⟨S4x1x256x4x1, .f32⟩
  | .hbm, ⟨32, _⟩ => ⟨S_, .f32⟩
  | .hbm, ⟨33, _⟩ => ⟨S4x1x256x4x1, .f32⟩
  | .hbm, ⟨34, _⟩ => ⟨S4x1x256x4x1, .f32⟩
  | .hbm, ⟨35, _⟩ => ⟨S4x1x256x4x1, .f32⟩
  | .hbm, ⟨36, _⟩ => ⟨S4x1x256x4x128, .f32⟩
  | .hbm, ⟨37, _⟩ => ⟨S4x1x256x4x128, .f32⟩
  | .hbm, ⟨38, _⟩ => ⟨S4x1x1x1x128, .f32⟩
  | .hbm, ⟨39, _⟩ => ⟨S4x1x256x4x128, .f32⟩
  | .hbm, ⟨40, _⟩ => ⟨S4x1x256x4x128, .f32⟩
  | .hbm, ⟨41, _⟩ => ⟨S4x1x256x512, .f32⟩
  | .hbm, ⟨42, _⟩ => ⟨S4x1x256x4x128, .f32⟩
  | .hbm, ⟨43, _⟩ => ⟨S4x256x4x128, .f32⟩
  | .hbm, ⟨44, _⟩ => ⟨S4x4x256x128, .f32⟩
  | .hbm, ⟨45, _⟩ => ⟨S4x256x4x128, .f32⟩
  | .hbm, ⟨46, _⟩ => ⟨S4x4x256x128, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== FfnHead.lean ====
abbrev S8448x2048 : Shape := ⟨2, ![8448, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S22x2048x256 : Shape := ⟨3, ![22, 2048, 256]⟩
abbrev S5632x2048 : Shape := ⟨2, ![5632, 2048]⟩
abbrev S1056x2048 : Shape := ⟨2, ![1056, 2048]⟩
abbrev S1x1x2048 : Shape := ⟨3, ![1, 1, 2048]⟩
abbrev S1x2048x256 : Shape := ⟨3, ![1, 2048, 256]⟩
abbrev S1x256x2048 : Shape := ⟨3, ![1, 256, 2048]⟩
abbrev S256x2048 : Shape := ⟨2, ![256, 2048]⟩
abbrev S1x2048 : Shape := ⟨2, ![1, 2048]⟩
abbrev S1056 : Shape := ⟨1, ![1056]⟩
abbrev S1056x1 : Shape := ⟨2, ![1056, 1]⟩
abbrev S2048x256 : Shape := ⟨2, ![2048, 256]⟩
abbrev S1056x256 : Shape := ⟨2, ![1056, 256]⟩

abbrev nBuf : Space → Nat
  | .hbm => 9
  | .vmem => 16
  | .smem => 0
  | _ => 0

abbrev bufTy : (tb : Table) → Fin (tcTables nBuf tb) → BufTy
  | .hbm, ⟨0, _⟩ => ⟨S8448x2048, .f32⟩
  | .hbm, ⟨1, _⟩ => ⟨S4x1x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S8448x2048, .f32⟩
  | .hbm, ⟨6, _⟩ => ⟨S22x2048x256, .bf16⟩
  | .hbm, ⟨7, _⟩ => ⟨S22x2048x256, .bf16⟩
  | .hbm, ⟨8, _⟩ => ⟨S5632x2048, .bf16⟩
  | .local _ .vmem, ⟨0, _⟩ => ⟨S1056x2048, .f32⟩
  | .local _ .vmem, ⟨1, _⟩ => ⟨S1x1x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1056x2048, .f32⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S256x2048, .bf16⟩
  | .local _ .vmem, ⟨14, _⟩ => ⟨S256x2048, .bf16⟩
  | .local _ .vmem, ⟨15, _⟩ => ⟨S1056x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1056x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1056x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnHeadReferenceIdeal.lean ====
abbrev S8448x2048 : Shape := ⟨2, ![8448, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S1x1x2048 : Shape := ⟨3, ![1, 1, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8448x5632 : Shape := ⟨2, ![8448, 5632]⟩
abbrev S1056x2048 : Shape := ⟨2, ![1056, 2048]⟩
abbrev S7392x2048 : Shape := ⟨2, ![7392, 2048]⟩
abbrev S2048x22x256 : Shape := ⟨3, ![2048, 22, 256]⟩
abbrev S22x2048x256 : Shape := ⟨3, ![22, 2048, 256]⟩

abbrev nBuf : Space → Nat
  | .hbm => 62
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S4x1x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x1x2048, .f32⟩
  | .hbm, ⟨6, _⟩ => ⟨S2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x2048, .f32⟩
  | .hbm, ⟨19, _⟩ => ⟨S8448x2048, .f32⟩
  | .hbm, ⟨20, _⟩ => ⟨S1x2048, .f32⟩
  | .hbm, ⟨21, _⟩ => ⟨S8448x2048, .f32⟩
  | .hbm, ⟨22, _⟩ => ⟨S8448x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S8448x5632, .f32⟩
  | .hbm, ⟨30, _⟩ => ⟨S8448x5632, .f32⟩
  | .hbm, ⟨31, _⟩ => ⟨S8448x5632, .f32⟩
  | .hbm, ⟨32, _⟩ => ⟨S_, .f32⟩
  | .hbm, ⟨33, _⟩ => ⟨S8448x5632, .f32⟩
  | .hbm, ⟨34, _⟩ => ⟨S8448x5632, .f32⟩
  | .hbm, ⟨35, _⟩ => ⟨S_, .f32⟩
  | .hbm, ⟨36, _⟩ => ⟨S8448x5632, .f32⟩
  | .hbm, ⟨37, _⟩ => ⟨S8448x5632, .f32⟩
  | .hbm, ⟨38, _⟩ => ⟨S8448x5632, .f32⟩
  | .hbm, ⟨39, _⟩ => ⟨S8448x5632, .f32⟩
  | .hbm, ⟨40, _⟩ => ⟨S8448x5632, .f32⟩
  | .hbm, ⟨41, _⟩ => ⟨S8448x2048, .f32⟩
  | .hbm, ⟨42, _⟩ => ⟨S_, .f32⟩
  | .hbm, ⟨43, _⟩ => ⟨S8448x2048, .f32⟩
  | .hbm, ⟨44, _⟩ => ⟨S8448x2048, .f32⟩
  | .hbm, ⟨45, _⟩ => ⟨S8448x2048, .f32⟩
  | .hbm, ⟨46, _⟩ => ⟨S1056x2048, .f32⟩
  | .hbm, ⟨47, _⟩ => ⟨S7392x2048, .f32⟩
  | .hbm, ⟨48, _⟩ => ⟨S8448x2048, .f32⟩
  | .hbm, ⟨49, _⟩ => ⟨S1x2048x5632, .f32⟩
  | .hbm, ⟨50, _⟩ => ⟨S2048x5632, .f32⟩
  | .hbm, ⟨51, _⟩ => ⟨S2048x22x256, .f32⟩
  | .hbm, ⟨52, _⟩ => ⟨S22x2048x256, .f32⟩
  | .hbm, ⟨53, _⟩ => ⟨S22x2048x256, .bf16⟩
  | .hbm, ⟨54, _⟩ => ⟨S1x2048x5632, .f32⟩
  | .hbm, ⟨55, _⟩ => ⟨S2048x5632, .f32⟩
  | .hbm, ⟨56, _⟩ => ⟨S2048x22x256, .f32⟩
  | .hbm, ⟨57, _⟩ => ⟨S22x2048x256, .f32⟩
  | .hbm, ⟨58, _⟩ => ⟨S22x2048x256, .bf16⟩
  | .hbm, ⟨59, _⟩ => ⟨S1x5632x2048, .f32⟩
  | .hbm, ⟨60, _⟩ => ⟨S5632x2048, .f32⟩
  | .hbm, ⟨61, _⟩ => ⟨S5632x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Out.lean ====
abbrev S8448x2048 : Shape := ⟨2, ![8448, 2048]⟩
abbrev S8192x1536 : Shape := ⟨2, ![8192, 1536]⟩
abbrev S256x1536 : Shape := ⟨2, ![256, 1536]⟩
abbrev S8192x512 : Shape := ⟨2, ![8192, 512]⟩
abbrev S256x512 : Shape := ⟨2, ![256, 512]⟩
abbrev S4x2048x2048 : Shape := ⟨3, ![4, 2048, 2048]⟩
abbrev S256x2048 : Shape := ⟨2, ![256, 2048]⟩
abbrev S1x1536x2048 : Shape := ⟨3, ![1, 1536, 2048]⟩
abbrev S1x512x2048 : Shape := ⟨3, ![1, 512, 2048]⟩
abbrev S2048x2048 : Shape := ⟨2, ![2048, 2048]⟩
abbrev S1536x2048 : Shape := ⟨2, ![1536, 2048]⟩
abbrev S512x2048 : Shape := ⟨2, ![512, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S8192x1536, .bf16⟩
  | .hbm, ⟨2, _⟩ => ⟨S256x1536, .bf16⟩
  | .hbm, ⟨3, _⟩ => ⟨S8192x512, .bf16⟩
  | .hbm, ⟨4, _⟩ => ⟨S256x512, .bf16⟩
  | .hbm, ⟨5, _⟩ => ⟨S4x2048x2048, .f32⟩
  | .hbm, ⟨6, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x1536, .bf16⟩
  | .local _ .vmem, ⟨3, _⟩ => ⟨S256x1536, .bf16⟩
  | .local _ .vmem, ⟨4, _⟩ => ⟨S256x1536, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x1536x2048, .f32⟩
  | .local _ .vmem, ⟨9, _⟩ => ⟨S1x512x2048, .f32⟩
  | .local _ .vmem, ⟨10, _⟩ => ⟨S256x2048, .f32⟩
  | .local _ .vmem, ⟨11, _⟩ => ⟨S256x2048, .f32⟩
  | .local _ .vmem, ⟨12, _⟩ => ⟨S2048x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S8448x2048 : Shape := ⟨2, ![8448, 2048]⟩
abbrev S8192x1536 : Shape := ⟨2, ![8192, 1536]⟩
abbrev S256x1536 : Shape := ⟨2, ![256, 1536]⟩
abbrev S8192x512 : Shape := ⟨2, ![8192, 512]⟩
abbrev S256x512 : Shape := ⟨2, ![256, 512]⟩
abbrev S4x2048x2048 : Shape := ⟨3, ![4, 2048, 2048]⟩
abbrev S8448x1536 : Shape := ⟨2, ![8448, 1536]⟩
abbrev S8448x512 : Shape := ⟨2, ![8448, 512]⟩
abbrev S1x2048x2048 : Shape := ⟨3, ![1, 2048, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8192x1536, .bf16⟩
  | .hbm, ⟨2, _⟩ => ⟨S256x1536, .bf16⟩
  | .hbm, ⟨3, _⟩ => ⟨S8192x512, .bf16⟩
  | .hbm, ⟨4, _⟩ => ⟨S256x512, .bf16⟩
  | .hbm, ⟨5, _⟩ => ⟨S4x2048x2048, .f32⟩
  | .hbm, ⟨6, _⟩ => ⟨S8448x1536, .bf16⟩
  | .hbm, ⟨7, _⟩ => ⟨S8448x1536, .f32⟩
  | .hbm, ⟨8, _⟩ => ⟨S8448x512, .bf16⟩
  | .hbm, ⟨9, _⟩ => ⟨S8448x512, .f32⟩
  | .hbm, ⟨10, _⟩ => ⟨S8448x2048, .f32⟩
  | .hbm, ⟨11, _⟩ => ⟨S1x2048x2048, .f32⟩
  | .hbm, ⟨12, _⟩ => ⟨S2048x2048, .f32⟩
  | .hbm, ⟨13, _⟩ => ⟨S8448x2048, .f32⟩
  | .hbm, ⟨14, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proj.lean ====
abbrev S8448x2048 : Shape := ⟨2, ![8448, 2048]⟩
abbrev S4x2048 : Shape := ⟨2, ![4, 2048]⟩
abbrev S2x2048x2048 : Shape := ⟨3, ![2, 2048, 2048]⟩
abbrev S4x1x2048 : Shape := ⟨3, ![4, 1, 2048]⟩
abbrev S768x2048 : Shape := ⟨2, ![768, 2048]⟩
abbrev S1x1x2048 : Shape := ⟨3, ![1, 1, 2048]⟩
abbrev S1x2048x2048 : Shape := ⟨3, ![1, 2048, 2048]⟩
abbrev S1x2048 : Shape := ⟨2, ![1, 2048]⟩
abbrev S768 : Shape := ⟨1, ![768]⟩
abbrev S768x1 : Shape := ⟨2, ![768, 1]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S4x2048, .f32⟩
  | .hbm, ⟨2, _⟩ => ⟨S2x2048x2048, .f32⟩
  | .hbm, ⟨3, _⟩ => ⟨S4x1x2048, .f32⟩
  | .hbm, ⟨4, _⟩ => ⟨S2x2048x2048, .bf16⟩
  | .hbm, ⟨5, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S1x1x2048, .f32⟩
  | .local _ .vmem, ⟨3, _⟩ => ⟨S1x2048x2048, .bf16⟩
  | .local _ .vmem, ⟨4, _⟩ => ⟨S768x2048, .f32⟩
  | .local _ .vmem, ⟨5, _⟩ => ⟨S768x2048, .f32⟩
  | .local _ .vmem, ⟨6, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S8448x2048 : Shape := ⟨2, ![8448, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048x2048 : Shape := ⟨3, ![1, 2048, 2048]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S4x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S8448x2048, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x2048, .f32⟩
  | .hbm, ⟨17, _⟩ => ⟨S8448x2048, .f32⟩
  | .hbm, ⟨18, _⟩ => ⟨S1x2048, .f32⟩
  | .hbm, ⟨19, _⟩ => ⟨S8448x2048, .f32⟩
  | .hbm, ⟨20, _⟩ => ⟨S8448x2048, .f32⟩
  | .hbm, ⟨21, _⟩ => ⟨S1x2048x2048, .f32⟩
  | .hbm, ⟨22, _⟩ => ⟨S2048x2048, .f32⟩
  | .hbm, ⟨23, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Gates.lean ====
abbrev S8448x2048 : Shape := ⟨2, ![8448, 2048]⟩
abbrev S4x2048 : Shape := ⟨2, ![4, 2048]⟩
abbrev S2x2048x5132 : Shape := ⟨3, ![2, 2048, 5132]⟩
abbrev S2x2048x12 : Shape := ⟨3, ![2, 2048, 12]⟩
abbrev S2x2048x4608 : Shape := ⟨3, ![2, 2048, 4608]⟩
abbrev S2x2048x512 : Shape := ⟨3, ![2, 2048, 512]⟩
abbrev S_ : Shape := ⟨0, ![]⟩
abbrev S2x2048x244 : Shape := ⟨3, ![2, 2048, 244]⟩
abbrev S2x2048x5376 : Shape := ⟨3, ![2, 2048, 5376]⟩
abbrev S2x12x2048 : Shape := ⟨3, ![2, 12, 2048]⟩
abbrev S2x16x2048 : Shape := ⟨3, ![2, 16, 2048]⟩
abbrev S4x1x2048 : Shape := ⟨3, ![4, 1, 2048]⟩
abbrev S8448x5376 : Shape := ⟨2, ![8448, 5376]⟩
abbrev S16x8448 : Shape := ⟨2, ![16, 8448]⟩
abbrev S768x2048 : Shape := ⟨2, ![768, 2048]⟩
abbrev S1x1x2048 : Shape := ⟨3, ![1, 1, 2048]⟩
abbrev S1x2048x1792 : Shape := ⟨3, ![1, 2048, 1792]⟩
abbrev S1x16x2048 : Shape := ⟨3, ![1, 16, 2048]⟩
abbrev S768x1792 : Shape := ⟨2, ![768, 1792]⟩
abbrev S16x768 : Shape := ⟨2, ![16, 768]⟩
abbrev S1x2048 : Shape := ⟨2, ![1, 2048]⟩
abbrev S768 : Shape := ⟨1, ![768]⟩
abbrev S768x1 : Shape := ⟨2, ![768, 1]⟩
abbrev S16x2048 : Shape := ⟨2, ![16, 2048]⟩
abbrev S2048x1792 : Shape := ⟨2, ![2048, 1792]⟩

abbrev nBuf : Space → Nat
  | .hbm => 18
  | .vmem => 11
  | .smem => 0
  | _ => 0

abbrev bufTy : (tb : Table) → Fin (tcTables nBuf tb) → BufTy
  | .hbm, ⟨0, _⟩ => ⟨S8448x2048, .f32⟩
  | .hbm, ⟨1, _⟩ => ⟨S4x2048, .f32⟩
  | .hbm, ⟨2, _⟩ => ⟨S2x2048x5132, .f32⟩
  | .hbm, ⟨3, _⟩ => ⟨S2x2048x12, .f32⟩
  | .hbm, ⟨4, _⟩ => ⟨S2x2048x4608, .f32⟩
  | .hbm, ⟨5, _⟩ => ⟨S2x2048x512, .f32⟩
  | .hbm, ⟨6, _⟩ => ⟨S_, .f32⟩
  | .hbm, ⟨7, _⟩ => ⟨S2x2048x244, .f32⟩
  | .hbm, ⟨8, _⟩ => ⟨S2x2048x5376, .f32⟩
  | .hbm, ⟨9, _⟩ => ⟨S2x2048x5376, .bf16⟩
  | .hbm, ⟨10, _⟩ => ⟨S2x12x2048, .f32⟩
  | .hbm, ⟨11, _⟩ => ⟨S_, .i32⟩
  | .hbm, ⟨12, _⟩ => ⟨S_, .f32⟩
  | .hbm, ⟨13, _⟩ => ⟨S2x16x2048, .f32⟩
  | .hbm, ⟨14, _⟩ => ⟨S2x16x2048, .bf16⟩
  | .hbm, ⟨15, _⟩ => ⟨S4x1x2048, .f32⟩
  | .hbm, ⟨16, _⟩ => ⟨S8448x5376, .f32⟩
  | .hbm, ⟨17, _⟩ => ⟨S16x8448, .f32⟩
  | .local _ .vmem, ⟨0, _⟩ => ⟨S768x2048, .f32⟩
  | .local _ .vmem, ⟨1, _⟩ => ⟨S768x2048, .f32⟩
  | .local _ .vmem, ⟨2, _⟩ => ⟨S1x1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S1x16x2048, .bf16⟩
  | .local _ .vmem, ⟨6, _⟩ => ⟨S768x1792, .f32⟩
  | .local _ .vmem, ⟨7, _⟩ => ⟨S768x1792, .f32⟩
  | .local _ .vmem, ⟨8, _⟩ => ⟨S16x768, .f32⟩
  | .local _ .vmem, ⟨9, _⟩ => ⟨S16x768, .f32⟩
  | .local _ .vmem, ⟨10, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GatesReferenceIdeal.lean ====
abbrev S8448x2048 : Shape := ⟨2, ![8448, 2048]⟩
abbrev S4x2048 : Shape := ⟨2, ![4, 2048]⟩
abbrev S2x2048x5132 : Shape := ⟨3, ![2, 2048, 5132]⟩
abbrev S1x2048 : Shape := ⟨2, ![1, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048x5132 : Shape := ⟨3, ![1, 2048, 5132]⟩
abbrev S2048x5132 : Shape := ⟨2, ![2048, 5132]⟩
abbrev S8448x5132 : Shape := ⟨2, ![8448, 5132]⟩
abbrev S8448x4608 : Shape := ⟨2, ![8448, 4608]⟩
abbrev S8448x12 : Shape := ⟨2, ![8448, 12]⟩
abbrev S8448x512 : Shape := ⟨2, ![8448, 512]⟩
abbrev S8448x244 : Shape := ⟨2, ![8448, 244]⟩
abbrev S8448x5376 : Shape := ⟨2, ![8448, 5376]⟩
abbrev S12x8448 : Shape := ⟨2, ![12, 8448]⟩
abbrev S4x8448 : Shape := ⟨2, ![4, 8448]⟩
abbrev S16x8448 : Shape := ⟨2, ![16, 8448]⟩

abbrev nBuf : Space → Nat
  | .hbm => 34
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S4x2048, .f32⟩
  | .hbm, ⟨2, _⟩ => ⟨S2x2048x5132, .f32⟩
  | .hbm, ⟨3, _⟩ => ⟨S1x2048, .f32⟩
  | .hbm, ⟨4, _⟩ => ⟨S2048, .f32⟩
  | .hbm, ⟨5, _⟩ => ⟨S8448x2048, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x2048, .f32⟩
  | .hbm, ⟨17, _⟩ => ⟨S8448x2048, .f32⟩
  | .hbm, ⟨18, _⟩ => ⟨S1x2048, .f32⟩
  | .hbm, ⟨19, _⟩ => ⟨S8448x2048, .f32⟩
  | .hbm, ⟨20, _⟩ => ⟨S8448x2048, .f32⟩
  | .hbm, ⟨21, _⟩ => ⟨S1x2048x5132, .f32⟩
  | .hbm, ⟨22, _⟩ => ⟨S2048x5132, .f32⟩
  | .hbm, ⟨23, _⟩ => ⟨S8448x5132, .f32⟩
  | .hbm, ⟨24, _⟩ => ⟨S8448x4608, .f32⟩
  | .hbm, ⟨25, _⟩ => ⟨S8448x12, .f32⟩
  | .hbm, ⟨26, _⟩ => ⟨S8448x512, .f32⟩
  | .hbm, ⟨27, _⟩ => ⟨S_, .f32⟩
  | .hbm, ⟨28, _⟩ => ⟨S8448x244, .f32⟩
  | .hbm, ⟨29, _⟩ => ⟨S8448x5376, .f32⟩
  | .hbm, ⟨30, _⟩ => ⟨S12x8448, .f32⟩
  | .hbm, ⟨31, _⟩ => ⟨S_, .f32⟩
  | .hbm, ⟨32, _⟩ => ⟨S4x8448, .f32⟩
  | .hbm, ⟨33, _⟩ => ⟨S16x8448, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Shared.lean ====
abbrev S8448x2048 : Shape := ⟨2, ![8448, 2048]⟩
abbrev S2048 : Shape := ⟨1, ![2048]⟩
abbrev S2048x1536 : Shape := ⟨2, ![2048, 1536]⟩
abbrev S1x2048 : Shape := ⟨2, ![1, 2048]⟩
abbrev S1x2048x1536 : Shape := ⟨3, ![1, 2048, 1536]⟩
abbrev S2x2048x1536 : Shape := ⟨3, ![2, 2048, 1536]⟩
abbrev S12x8192x128 : Shape := ⟨3, ![12, 8192, 128]⟩
abbrev S16x12x16x128 : Shape := ⟨4, ![16, 12, 16, 128]⟩
abbrev S2x10240x1536 : Shape := ⟨3, ![2, 10240, 1536]⟩
abbrev S256x2048 : Shape := ⟨2, ![256, 2048]⟩
abbrev S12x256x128 : Shape := ⟨3, ![12, 256, 128]⟩
abbrev S2x256x1536 : Shape := ⟨3, ![2, 256, 1536]⟩
abbrev S256 : Shape := ⟨1, ![256]⟩
abbrev S256x1 : Shape := ⟨2, ![256, 1]⟩
abbrev S256x1536 : Shape := ⟨2, ![256, 1536]⟩
abbrev S1x256x1536 : Shape := ⟨3, ![1, 256, 1536]⟩
abbrev S256x128 : Shape := ⟨2, ![256, 128]⟩
abbrev S1x256x128 : Shape := ⟨3, ![1, 256, 128]⟩
abbrev S16x128 : Shape := ⟨2, ![16, 128]⟩
abbrev S1x1x16x128 : Shape := ⟨4, ![1, 1, 16, 128]⟩

abbrev nBuf : Space → Nat
  | .hbm => 14
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x1536, .f32⟩
  | .hbm, ⟨3, _⟩ => ⟨S2048x1536, .f32⟩
  | .hbm, ⟨4, _⟩ => ⟨S1x2048, .f32⟩
  | .hbm, ⟨5, _⟩ => ⟨S1x2048x1536, .f32⟩
  | .hbm, ⟨6, _⟩ => ⟨S1x2048x1536, .f32⟩
  | .hbm, ⟨7, _⟩ => ⟨S2x2048x1536, .f32⟩
  | .hbm, ⟨8, _⟩ => ⟨S2x2048x1536, .bf16⟩
  | .hbm, ⟨9, _⟩ => ⟨S12x8192x128, .f32⟩
  | .hbm, ⟨10, _⟩ => ⟨S12x8192x128, .f32⟩
  | .hbm, ⟨11, _⟩ => ⟨S16x12x16x128, .f32⟩
  | .hbm, ⟨12, _⟩ => ⟨S16x12x16x128, .f32⟩
  | .hbm, ⟨13, _⟩ => ⟨S2x10240x1536, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2x2048x1536, .bf16⟩
  | .local _ .vmem, ⟨4, _⟩ => ⟨S12x256x128, .f32⟩
  | .local _ .vmem, ⟨5, _⟩ => ⟨S12x256x128, .f32⟩
  | .local _ .vmem, ⟨6, _⟩ => ⟨S12x256x128, .f32⟩
  | .local _ .vmem, ⟨7, _⟩ => ⟨S12x256x128, .f32⟩
  | .local _ .vmem, ⟨8, _⟩ => ⟨S16x12x16x128, .f32⟩
  | .local _ .vmem, ⟨9, _⟩ => ⟨S16x12x16x128, .f32⟩
  | .local _ .vmem, ⟨10, _⟩ => ⟨S2x256x1536, .bf16⟩
  | .local _ .vmem, ⟨11, _⟩ => ⟨S2x256x1536, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c7_i32_0 : BitVec 32 := 7#32
  let v3 : BitVec 1 := Scalar.cmpi .sge arg0 c7_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c39_i32 : BitVec 32 := 39#32
  let v29 : BitVec 1 := Scalar.cmpi .slt arg0 c39_i32
  let v30 : BitVec 32 := Scalar.extui v29
  let c0_i32_14 : BitVec 32 := 0#32
  let v31 : BitVec 1 := Scalar.cmpi .ne v30 c0_i32_14
  v31

def k0_cond5 (i : grid0.Coords) : BitVec 1 :=
  let arg0 : BitVec 32 := BitVec.ofNat 32 (i 0).val
  let c39_i32_23 : BitVec 32 := 39#32
  let v42 : BitVec 1 := Scalar.cmpi .slt arg0 c39_i32_23
  let v43 : BitVec 32 := Scalar.extui v42
  let c0_i32_24 : BitVec 32 := 0#32
  let v44 : BitVec 1 := Scalar.cmpi .ne v43 c0_i32_24
  v44

def k0_cond4 (i : grid0.Coords) : BitVec 1 :=
  let arg0 : BitVec 32 := BitVec.ofNat 32 (i 0).val
  let c39_i32_15 : BitVec 32 := 39#32
  let v32 : BitVec 1 := Scalar.cmpi .sge arg0 c39_i32_15
  let v33 : BitVec 32 := Scalar.extui v32
  let c0_i32_16 : BitVec 32 := 0#32
  let v34 : BitVec 1 := Scalar.cmpi .ne v33 c0_i32_16
  v34

def k0_cond6 (i : grid0.Coords) : BitVec 1 :=
  let arg0 : BitVec 32 := BitVec.ofNat 32 (i 0).val
  let c39_i32_25 : BitVec 32 := 39#32
  let v45 : BitVec 1 := Scalar.cmpi .sge arg0 c39_i32_25
  let v46 : BitVec 32 := Scalar.extui v45
  let c0_i32_26 : BitVec 32 := 0#32
  let v47 : BitVec 1 := Scalar.cmpi .ne v46 c0_i32_26
  v47

def k0_cond1 (i : grid0.Coords) : BitVec 1 :=
  let arg0 : BitVec 32 := BitVec.ofNat 32 (i 0).val
  let c7_i32 : BitVec 32 := 7#32
  let v0 : BitVec 1 := Scalar.cmpi .slt arg0 c7_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x12x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x12x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SharedReferenceIdeal.lean ====
abbrev S8448x2048 : Shape := ⟨2, ![8448, 2048]⟩
abbrev S2048 : Shape := ⟨1, ![2048]⟩
abbrev S2048x1536 : Shape := ⟨2, ![2048, 1536]⟩
abbrev S8192x2048 : Shape := ⟨2, ![8192, 2048]⟩
abbrev S1x8192x2048 : Shape := ⟨3, ![1, 8192, 2048]⟩
abbrev S256x2048 : Shape := ⟨2, ![256, 2048]⟩
abbrev S16x16x2048 : Shape := ⟨3, ![16, 16, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x1536 : Shape := ⟨3, ![1, 8192, 1536]⟩
abbrev S1x8192x12x128 : Shape := ⟨4, ![1, 8192, 12, 128]⟩
abbrev S16x16 : Shape := ⟨2, ![16, 16]⟩
abbrev S16x16x1 : Shape := ⟨3, ![16, 16, 1]⟩
abbrev S16x16x1536 : Shape := ⟨3, ![16, 16, 1536]⟩
abbrev S16x16x12x128 : Shape := ⟨4, ![16, 16, 12, 128]⟩
abbrev S8192x12x128 : Shape := ⟨3, ![8192, 12, 128]⟩
abbrev S12x8192x128 : Shape := ⟨3, ![12, 8192, 128]⟩
abbrev S16x12x16x128 : Shape := ⟨4, ![16, 12, 16, 128]⟩
abbrev S1792x1536 : Shape := ⟨2, ![1792, 1536]⟩
abbrev S8192x1536 : Shape := ⟨2, ![8192, 1536]⟩
abbrev S256x1536 : Shape := ⟨2, ![256, 1536]⟩
abbrev S10240x1536 : Shape := ⟨2, ![10240, 1536]⟩
abbrev S1x10240x1536 : Shape := ⟨3, ![1, 10240, 1536]⟩
abbrev S2x10240x1536 : Shape := ⟨3, ![2, 10240, 1536]⟩

abbrev nBuf : Space → Nat
  | .hbm => 100
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x1536, .f32⟩
  | .hbm, ⟨3, _⟩ => ⟨S2048x1536, .f32⟩
  | .hbm, ⟨4, _⟩ => ⟨S8192x2048, .f32⟩
  | .hbm, ⟨5, _⟩ => ⟨S1x8192x2048, .f32⟩
  | .hbm, ⟨6, _⟩ => ⟨S256x2048, .f32⟩
  | .hbm, ⟨7, _⟩ => ⟨S16x16x2048, .f32⟩
  | .hbm, ⟨8, _⟩ => ⟨S1x8192x2048, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x2048, .f32⟩
  | .hbm, ⟨20, _⟩ => ⟨S1x8192x2048, .f32⟩
  | .hbm, ⟨21, _⟩ => ⟨S1x1x2048, .f32⟩
  | .hbm, ⟨22, _⟩ => ⟨S1x8192x2048, .f32⟩
  | .hbm, ⟨23, _⟩ => ⟨S1x8192x2048, .f32⟩
  | .hbm, ⟨24, _⟩ => ⟨S1x8192x1536, .f32⟩
  | .hbm, ⟨25, _⟩ => ⟨S1x8192x12x128, .f32⟩
  | .hbm, ⟨26, _⟩ => ⟨S1x8192x2048, .f32⟩
  | .hbm, ⟨27, _⟩ => ⟨S_, .f32⟩
  | .hbm, ⟨28, _⟩ => ⟨S1x8192, .f32⟩
  | .hbm, ⟨29, _⟩ => ⟨S1x8192x1, .f32⟩
  | .hbm, ⟨30, _⟩ => ⟨S_, .f32⟩
  | .hbm, ⟨31, _⟩ => ⟨S1x8192x1, .f32⟩
  | .hbm, ⟨32, _⟩ => ⟨S1x8192x1, .f32⟩
  | .hbm, ⟨33, _⟩ => ⟨S_, .f32⟩
  | .hbm, ⟨34, _⟩ => ⟨S1x8192x1, .f32⟩
  | .hbm, ⟨35, _⟩ => ⟨S1x8192x1, .f32⟩
  | .hbm, ⟨36, _⟩ => ⟨S1x8192x1, .f32⟩
  | .hbm, ⟨37, _⟩ => ⟨S1x8192x2048, .f32⟩
  | .hbm, ⟨38, _⟩ => ⟨S1x8192x2048, .f32⟩
  | .hbm, ⟨39, _⟩ => ⟨S1x1x2048, .f32⟩
  | .hbm, ⟨40, _⟩ => ⟨S1x8192x2048, .f32⟩
  | .hbm, ⟨41, _⟩ => ⟨S1x8192x2048, .f32⟩
  | .hbm, ⟨42, _⟩ => ⟨S1x8192x1536, .f32⟩
  | .hbm, ⟨43, _⟩ => ⟨S1x8192x12x128, .f32⟩
  | .hbm, ⟨44, _⟩ => ⟨S16x16x2048, .f32⟩
  | .hbm, ⟨45, _⟩ => ⟨S_, .f32⟩
  | .hbm, ⟨46, _⟩ => ⟨S16x16, .f32⟩
  | .hbm, ⟨47, _⟩ => ⟨S16x16x1, .f32⟩
  | .hbm, ⟨48, _⟩ => ⟨S_, .f32⟩
  | .hbm, ⟨49, _⟩ => ⟨S16x16x1, .f32⟩
  | .hbm, ⟨50, _⟩ => ⟨S16x16x1, .f32⟩
  | .hbm, ⟨51, _⟩ => ⟨S_, .f32⟩
  | .hbm, ⟨52, _⟩ => ⟨S16x16x1, .f32⟩
  | .hbm, ⟨53, _⟩ => ⟨S16x16x1, .f32⟩
  | .hbm, ⟨54, _⟩ => ⟨S16x16x1, .f32⟩
  | .hbm, ⟨55, _⟩ => ⟨S16x16x2048, .f32⟩
  | .hbm, ⟨56, _⟩ => ⟨S16x16x2048, .f32⟩
  | .hbm, ⟨57, _⟩ => ⟨S1x1x2048, .f32⟩
  | .hbm, ⟨58, _⟩ => ⟨S16x16x2048, .f32⟩
  | .hbm, ⟨59, _⟩ => ⟨S16x16x2048, .f32⟩
  | .hbm, ⟨60, _⟩ => ⟨S16x16x1536, .f32⟩
  | .hbm, ⟨61, _⟩ => ⟨S16x16x12x128, .f32⟩
  | .hbm, ⟨62, _⟩ => ⟨S16x16x2048, .f32⟩
  | .hbm, ⟨63, _⟩ => ⟨S_, .f32⟩
  | .hbm, ⟨64, _⟩ => ⟨S16x16, .f32⟩
  | .hbm, ⟨65, _⟩ => ⟨S16x16x1, .f32⟩
  | .hbm, ⟨66, _⟩ => ⟨S_, .f32⟩
  | .hbm, ⟨67, _⟩ => ⟨S16x16x1, .f32⟩
  | .hbm, ⟨68, _⟩ => ⟨S16x16x1, .f32⟩
  | .hbm, ⟨69, _⟩ => ⟨S_, .f32⟩
  | .hbm, ⟨70, _⟩ => ⟨S16x16x1, .f32⟩
  | .hbm, ⟨71, _⟩ => ⟨S16x16x1, .f32⟩
  | .hbm, ⟨72, _⟩ => ⟨S16x16x1, .f32⟩
  | .hbm, ⟨73, _⟩ => ⟨S16x16x2048, .f32⟩
  | .hbm, ⟨74, _⟩ => ⟨S16x16x2048, .f32⟩
  | .hbm, ⟨75, _⟩ => ⟨S1x1x2048, .f32⟩
  | .hbm, ⟨76, _⟩ => ⟨S16x16x2048, .f32⟩
  | .hbm, ⟨77, _⟩ => ⟨S16x16x2048, .f32⟩
  | .hbm, ⟨78, _⟩ => ⟨S16x16x1536, .f32⟩
  | .hbm, ⟨79, _⟩ => ⟨S16x16x12x128, .f32⟩
  | .hbm, ⟨80, _⟩ => ⟨S8192x12x128, .f32⟩
  | .hbm, ⟨81, _⟩ => ⟨S12x8192x128, .f32⟩
  | .hbm, ⟨82, _⟩ => ⟨S8192x12x128, .f32⟩
  | .hbm, ⟨83, _⟩ => ⟨S12x8192x128, .f32⟩
  | .hbm, ⟨84, _⟩ => ⟨S16x12x16x128, .f32⟩
  | .hbm, ⟨85, _⟩ => ⟨S16x12x16x128, .f32⟩
  | .hbm, ⟨86, _⟩ => ⟨S_, .f32⟩
  | .hbm, ⟨87, _⟩ => ⟨S1792x1536, .f32⟩
  | .hbm, ⟨88, _⟩ => ⟨S8192x1536, .f32⟩
  | .hbm, ⟨89, _⟩ => ⟨S256x1536, .f32⟩
  | .hbm, ⟨90, _⟩ => ⟨S10240x1536, .f32⟩
  | .hbm, ⟨91, _⟩ => ⟨S_, .f32⟩
  | .hbm, ⟨92, _⟩ => ⟨S1792x1536, .f32⟩
  | .hbm, ⟨93, _⟩ => ⟨S8192x1536, .f32⟩
  | .hbm, ⟨94, _⟩ => ⟨S256x1536, .f32⟩
  | .hbm, ⟨95, _⟩ => ⟨S10240x1536, .f32⟩
  | .hbm, ⟨96, _⟩ => ⟨S1x10240x1536, .f32⟩
  | .hbm, ⟨97, _⟩ => ⟨S1x10240x1536, .f32⟩
  | .hbm, ⟨98, _⟩ => ⟨S2x10240x1536, .f32⟩
  | .hbm, ⟨99, _⟩ => ⟨S2x10240x1536, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_12 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Proof.SBI.Walk.lean ====
/-
  One trip of the loop that walks the key tiles: from the two running buffers (what the chains have added up so far, and
  what is left of each row's stick) the trip reads the next tile of keys and values of each of the eight chains and stores
  the chain's new rows. `walk` runs the trip up to the call that starts the next one.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Sound
public import Idealize.ShloMosaic.Lib.Pipeline.Frame
public import Idealize.ShloMosaic.Lib.Pipeline.FrameBody

@[expose] public section

set_option maxRecDepth 16384

noncomputable section

namespace Cert.Proof.SBI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop is bounded by how many trips are left, a number. -/
abbrev 𝒱₀ : Variants := Variants.nat

/-- The test at the head of the loop: the chain has a tile left, and some row's remainder is above the bound. -/
abbrev goes (i : grid0.Coords) (j : BitVec 32) (top : F .f32) : BitVec 1 :=
  Scalar.andi (Scalar.cmpi .sle j (Scalar.addi (Scalar.muli (BitVec.ofNat 32 (i 1).val) 8#32) 7#32))
    (Scalar.cmpf .ogt top (Named.named κ "weight_zero_below" 0xC2D00000#32))

set_option maxHeartbeats 4000000 in
/-- What a trip leaves: the pieces it stores into the running sums, into the remainders, and the largest remainder it hands to
    the next trip, with the run that shows it. -/
def walk (c : Dev nD) (i : grid0.Coords) (arg6 : Memref sig .tc .vmem S2048x128 .bf16) (harg6 : arg6.IsWhole)
    (arg3 : Memref sig .tc .vmem S1x9984x128 .bf16) (harg3 : arg3.IsWhole) (arg4 : Memref sig .tc .vmem S1x9984x128 .bf16) (harg4 : arg4.IsWhole)
    (arg8 : Memref sig .tc .vmem S2048x1 .f32) (harg8 : arg8.IsWhole) (v8 : FVec F S256x256 .bf16)
    (arg7 : Memref sig .tc .vmem S2048x128 .f32) (harg7 : arg7.IsWhole) (j : BitVec 32) (top : F .f32)
    (hgo : goes i j top = 1#1) (hchk : k0_chk1 i j)
    (xq : Vec F S2048x128 .bf16) (xk xv : Vec F S1x9984x128 .bf16) (xa : Vec F S2048x128 .f32) (xr : Vec F S2048x1 .f32) :
    Σ' (LA : List (View.Piece (Elt F) S2048x128 .f32)) (LR : List (View.Piece (Elt F) S2048x1 .f32)) (jn : BitVec 32), { nx : F .f32 //
      ∀ (u : Option 𝒱₀.V) (E : Set ℕ) (K : BitVec 32 × F .f32 → sProp 𝕄),
        iprop(owns (c : Thread nD τ) arg6 fullShare xq ∗ owns (c : Thread nD τ) arg3 fullShare xk ∗ owns (c : Thread nD τ) arg4 fullShare xv
            ∗ owns (c : Thread nD τ) arg7 fullShare xa ∗ owns (c : Thread nD τ) arg8 fullShare xr
            ∗ (iprop(owns (c : Thread nD τ) arg6 fullShare xq ∗ owns (c : Thread nD τ) arg3 fullShare xk ∗ owns (c : Thread nD τ) arg4 fullShare xv
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LR))
              -∗ wp frame (wpE (defs₀ (F := F)) 𝒱₀ (c : Thread nD τ) u) E
                  (.op (.call (1 : (Λ₀ F).Label) ⟨i, arg6, harg6, arg3, harg3, arg4, harg4, arg8, harg8, v8, arg7, harg7, jn, nx⟩) .ret) K))
          ⊢ wp frame (wpE (defs₀ (F := F)) 𝒱₀ (c : Thread nD τ) u) E
              (cc0_while1 i arg6 harg6 arg3 harg3 arg4 harg4 arg8 harg8 v8 arg7 harg7 j top) K } := by
  refine ⟨?_, ?_, ?_, ?_, fun u E K => ?run⟩
  case run =>
    simp only [cc0_while1_eq_skeleton]; unfold cc0_while1_skel
    have hgo' := hgo
    unfold goes at hgo'
    simp only [hgo', ↓reduceIte]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg6.eq_unread hf0; obtain rfl := harg3.eq_unread hf1; obtain rfl := harg4.eq_unread hf2
    obtain rfl := harg7.eq_unread hf3; obtain rfl := harg8.eq_unread hf4
    sl_exec
    ihave HC := Hk $$ [H0 H1 H2 H3 H4]
    · isplitl [H0]
      · iexists _; isplitr; swap; · iexact H0
        ipureintro; exact harg6.read_unread _
      isplitl [H1]
      · iexists _; isplitr; swap; · iexact H1
        ipureintro; exact harg3.read_unread _
      isplitl [H2]
      · iexists _; isplitr; swap; · iexact H2
        ipureintro; exact harg4.read_unread _
      isplitl [H3]; · iexists _; iexact H3
      iexists _; iexact H4
    iexact HC

end Cert.Proof.SBI

end
-- ==== Proof.SBI.Start.lean ====
/-
  What comes before the loop: the step's rows of the projection are read as queries, each of the eight chains takes its
  first tile of keys, the one with the diagonal, and the running buffers are filled.
-/
module

public import proofs.«01_k».proof.Proof.SBI.Walk

@[expose] public section

set_option maxRecDepth 16384

noncomputable section

namespace Cert.Proof.SBI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the part before the loop leaves: the queries rounded, the first sums, the first remainders, the triangle of ones the
    loop is handed and the largest remainder, with the run that shows it. -/
def start (c : Dev nD) (i : grid0.Coords) (arg2 : Memref sig .tc .vmem S2048x128 .f32) (harg2 : arg2.IsWhole)
    (arg3 : Memref sig .tc .vmem S1x9984x128 .bf16) (harg3 : arg3.IsWhole) (arg4 : Memref sig .tc .vmem S1x9984x128 .bf16) (harg4 : arg4.IsWhole)
    (arg5 : Memref sig .tc .vmem S2048x128 .bf16) (harg5 : arg5.IsWhole) (arg6 : Memref sig .tc .vmem S2048x128 .bf16) (harg6 : arg6.IsWhole)
    (arg7 : Memref sig .tc .vmem S2048x128 .f32) (harg7 : arg7.IsWhole) (arg8 : Memref sig .tc .vmem S2048x1 .f32) (harg8 : arg8.IsWhole)
    (xq : Vec F S2048x128 .f32) (xk xv : Vec F S1x9984x128 .bf16) :
    Σ' (LQ : List (View.Piece (Elt F) S2048x128 .bf16)) (LA : List (View.Piece (Elt F) S2048x128 .f32)) (LR : List (View.Piece (Elt F) S2048x1 .f32))
      (v8 : FVec F S256x256 .bf16), { nx : F .f32 //
      ∀ (E : Set ℕ) (K : PUnit → sProp 𝕄),
        iprop(owns (c : Thread nD τ) arg2 fullShare xq ∗ owns (c : Thread nD τ) arg3 fullShare xk ∗ owns (c : Thread nD τ) arg4 fullShare xv
            ∗ (∃ f, arg6.view.loc (c : Thread nD τ) ↦[arg6.view.set]{fullShare} f)
            ∗ (∃ f, arg7.view.loc (c : Thread nD τ) ↦[arg7.view.set]{fullShare} f)
            ∗ (∃ f, arg8.view.loc (c : Thread nD τ) ↦[arg8.view.set]{fullShare} f)
            ∗ (iprop(owns (c : Thread nD τ) arg2 fullShare xq ∗ owns (c : Thread nD τ) arg3 fullShare xk ∗ owns (c : Thread nD τ) arg4 fullShare xv
                ∗ (∃ f, arg6.view.loc (c : Thread nD τ) ↦[arg6.view.set]{fullShare} arg6.view.writes (Elt F) f LQ)
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LR))
              -∗ wp frame (wpE (defs₀ (F := F)) 𝒱₀ (c : Thread nD τ) none) E
                  (.op (.call (1 : (Λ₀ F).Label) ⟨i, arg6, harg6, arg3, harg3, arg4, harg4, arg8, harg8, v8, arg7, harg7, 1#32, nx⟩)
                    (fun x => match x with | (_, _) => Pure.pure PUnit.unit)) K))
          ⊢ wp frame (wpE (defs₀ (F := F)) 𝒱₀ (c : Thread nD τ) none) E
              (k0_part12 i arg2 harg2 arg3 harg3 arg4 harg4 arg5 harg5 arg6 harg6 arg7 harg7 arg8 harg8) K } := by
  refine ⟨?_, ?_, ?_, ?_, ?_, fun E K => ?run⟩
  case run =>
    simp only [k0_part12_eq_skeleton]; unfold k0_part12_skel
    unfold owns
    iintro ⟨⟨%f0, %hf0, H0⟩, ⟨%f1, %hf1, H1⟩, ⟨%f2, %hf2, H2⟩, ⟨%f6, H6⟩, ⟨%f7, H7⟩, ⟨%f8, H8⟩, Hk⟩
    obtain rfl := harg2.eq_unread hf0; obtain rfl := harg3.eq_unread hf1; obtain rfl := harg4.eq_unread hf2
    sl_exec
    ihave HC := Hk $$ [H0 H1 H2 H6 H7 H8]
    · isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H6]; · iexists _; iexact H6
      isplitl [H7]; · iexists _; iexact H7
      iexists _; iexact H8
    iexact HC

end Cert.Proof.SBI

end
-- ==== Proof.SBI.Body.lean ====
/-
  The kernel's body at one step of the grid: the part before the loop, the loop, the last rounding. `loopSt` is the state the
  loop ends with, `loop` the run of it, `whole` the run of the body.
-/
module

public import proofs.«01_k».proof.Proof.SBI.Start
public import Idealize.ShloMosaic.Lib.Ring

@[expose] public section

set_option maxRecDepth 16384

noncomputable section

namespace Cert.Proof.SBI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's bound: the last trip's number. -/
abbrev base (i : grid0.Coords) : ℕ := (i 1).val * 8 + 7

set_option maxRecDepth 100000 in
theorem chk_of_le' : ∀ (i : grid0.Coords) (n : Fin 32), 1 ≤ n.val → n.val ≤ base i → k0_chk1 i (BitVec.ofNat 32 n.val) := by
  decide +kernel

/-- At each trip the tiles the chains read lie within the rows. -/
theorem chk_of_le (i : grid0.Coords) (n : ℕ) (h1 : 1 ≤ n) (h : n ≤ base i) : k0_chk1 i (BitVec.ofNat 32 n) := by
  have hi : (i 1).val < 4 := (i 1).isLt
  exact chk_of_le' i ⟨n, by unfold base at h; omega⟩ h1 h

theorem le_of_goes' : ∀ (a : Fin 4) (n : Fin 33), Scalar.cmpi .sle (BitVec.ofNat 32 n.val) (Scalar.addi (Scalar.muli (BitVec.ofNat 32 a.val) 8#32) 7#32) = 1#1 ↔ n.val ≤ a.val * 8 + 7 := by
  decide +kernel

/-- The test can hold only as long as a tile is left. -/
theorem le_of_goes (i : grid0.Coords) (n : ℕ) (hn : n ≤ 32) (top : F .f32) (h : goes i (BitVec.ofNat 32 n) top = 1#1) : n ≤ base i := by
  refine (le_of_goes' (i 1) ⟨n, by omega⟩).mp ?_
  unfold goes at h
  generalize Scalar.cmpf .ogt top (Named.named κ "weight_zero_below" 0xC2D00000#32) = b at h
  revert h
  generalize Scalar.cmpi .sle (BitVec.ofNat 32 n) (Scalar.addi (Scalar.muli (BitVec.ofNat 32 (i 1).val) 8#32) 7#32) = a
  intro h
  show a = 1#1
  revert a b; decide

/-- Views to read contents back through. -/
abbrev VQ : View sig .tc .vmem S2048x128 .bf16 := (Memref.whole cc0_scratch0 : Memref sig .tc .vmem S2048x128 .bf16).view
abbrev VA : View sig .tc .vmem S2048x128 .f32 := (Memref.whole cc0_scratch1 : Memref sig .tc .vmem S2048x128 .f32).view
abbrev VR : View sig .tc .vmem S2048x1 .f32 := (Memref.whole cc0_scratch2 : Memref sig .tc .vmem S2048x1 .f32).view

section

variable (c : Dev nD) (i : grid0.Coords) (arg6 : Memref sig .tc .vmem S2048x128 .bf16) (harg6 : arg6.IsWhole)
    (arg3 : Memref sig .tc .vmem S1x9984x128 .bf16) (harg3 : arg3.IsWhole) (arg4 : Memref sig .tc .vmem S1x9984x128 .bf16) (harg4 : arg4.IsWhole)
    (arg8 : Memref sig .tc .vmem S2048x1 .f32) (harg8 : arg8.IsWhole) (v8 : FVec F S256x256 .bf16)
    (arg7 : Memref sig .tc .vmem S2048x128 .f32) (harg7 : arg7.IsWhole)
    (xq : Vec F S2048x128 .bf16) (xk xv : Vec F S1x9984x128 .bf16)

theorem walk_coverA (j : BitVec 32) (top : F .f32) (hgo : goes i j top = 1#1) (hchk : k0_chk1 i j) (xa : Vec F S2048x128 .f32) (xr : Vec F S2048x1 .f32)
    (y : S2048x128.Idx) : ∃ pc ∈ (walk c i arg6 harg6 arg3 harg3 arg4 harg4 arg8 harg8 v8 arg7 harg7 j top hgo hchk xq xk xv xa xr).1, y ∈ pc.1.set :=
  View.cover_of_tiledL (walk c i arg6 harg6 arg3 harg3 arg4 harg4 arg8 harg8 v8 arg7 harg7 j top hgo hchk xq xk xv xa xr).1 S256x128.size (by sl_kernel_rfl) y

theorem walk_coverR (j : BitVec 32) (top : F .f32) (hgo : goes i j top = 1#1) (hchk : k0_chk1 i j) (xa : Vec F S2048x128 .f32) (xr : Vec F S2048x1 .f32)
    (y : S2048x1.Idx) : ∃ pc ∈ (walk c i arg6 harg6 arg3 harg3 arg4 harg4 arg8 harg8 v8 arg7 harg7 j top hgo hchk xq xk xv xa xr).2.1, y ∈ pc.1.set :=
  View.cover_of_tiledL (walk c i arg6 harg6 arg3 harg3 arg4 harg4 arg8 harg8 v8 arg7 harg7 j top hgo hchk xq xk xv xa xr).2.1 S256x1.size (by sl_kernel_rfl) y

theorem walk_next (j : BitVec 32) (top : F .f32) (hgo : goes i j top = 1#1) (hchk : k0_chk1 i j) (xa : Vec F S2048x128 .f32) (xr : Vec F S2048x1 .f32) :
    (walk c i arg6 harg6 arg3 harg3 arg4 harg4 arg8 harg8 v8 arg7 harg7 j top hgo hchk xq xk xv xa xr).2.2.1 = Scalar.addi j 1#32 := rfl

/-- The loop's state after at most `k` more trips, from trip `n` on: sums, remainders, and what the loop returns. -/
def loopSt : ℕ → ℕ → F .f32 → Vec F S2048x128 .f32 → Vec F S2048x1 .f32 → Vec F S2048x128 .f32 × Vec F S2048x1 .f32 × (BitVec 32 × F .f32)
  | 0, n, top, xa, xr => (xa, xr, BitVec.ofNat 32 n, top)
  | k + 1, n, top, xa, xr =>
    if h : goes i (BitVec.ofNat 32 n) top = 1#1 ∧ k0_chk1 i (BitVec.ofNat 32 n) then
      let w := walk c i arg6 harg6 arg3 harg3 arg4 harg4 arg8 harg8 v8 arg7 harg7 (BitVec.ofNat 32 n) top h.1 h.2 xq xk xv xa xr
      loopSt k (n + 1) w.2.2.2.1 (VA.read (Elt F) (VA.writes (Elt F) VA.junk w.1)) (VR.read (Elt F) (VR.writes (Elt F) VR.junk w.2.1))
    else (xa, xr, BitVec.ofNat 32 n, top)

set_option maxHeartbeats 4000000 in
theorem loop (E : Set ℕ) : ∀ (k n : ℕ) (hn : n + k = base i + 1) (h1 : 1 ≤ n) (top : F .f32) (xa : Vec F S2048x128 .f32) (xr : Vec F S2048x1 .f32) (K : BitVec 32 × F .f32 → sProp 𝕄),
    iprop(owns (c : Thread nD τ) arg6 fullShare xq ∗ owns (c : Thread nD τ) arg3 fullShare xk ∗ owns (c : Thread nD τ) arg4 fullShare xv
        ∗ owns (c : Thread nD τ) arg7 fullShare xa ∗ owns (c : Thread nD τ) arg8 fullShare xr
        ∗ (iprop(owns (c : Thread nD τ) arg6 fullShare xq ∗ owns (c : Thread nD τ) arg3 fullShare xk ∗ owns (c : Thread nD τ) arg4 fullShare xv
            ∗ owns (c : Thread nD τ) arg7 fullShare (loopSt c i arg6 harg6 arg3 harg3 arg4 harg4 arg8 harg8 v8 arg7 harg7 xq xk xv k n top xa xr).1
            ∗ owns (c : Thread nD τ) arg8 fullShare (loopSt c i arg6 harg6 arg3 harg3 arg4 harg4 arg8 harg8 v8 arg7 harg7 xq xk xv k n top xa xr).2.1)
          -∗ K (loopSt c i arg6 harg6 arg3 harg3 arg4 harg4 arg8 harg8 v8 arg7 harg7 xq xk xv k n top xa xr).2.2))
      ⊢ wp frame (wpE (defs₀ (F := F)) 𝒱₀ (c : Thread nD τ) (some k)) E
          (cc0_while1 i arg6 harg6 arg3 harg3 arg4 harg4 arg8 harg8 v8 arg7 harg7 (BitVec.ofNat 32 n) top) K := by
  intro k
  induction k with
  | zero =>
    intro n hn h1 top xa xr K
    have hi : (i 1).val < 4 := (i 1).isLt
    have hgo : ¬ goes i (BitVec.ofNat 32 n) top = 1#1 := fun h => by
      have := le_of_goes i n (by unfold base at hn; omega) top h
      omega
    have hst : loopSt c i arg6 harg6 arg3 harg3 arg4 harg4 arg8 harg8 v8 arg7 harg7 xq xk xv 0 n top xa xr = (xa, xr, BitVec.ofNat 32 n, top) := rfl
    rw [hst]
    simp only [cc0_while1_eq_skeleton]; unfold cc0_while1_skel
    have hgo' := hgo
    unfold goes at hgo'
    simp only [hgo', ↓reduceIte]
    iintro ⟨H0, H1, H2, H3, H4, Hk⟩
    sl_step
    iapply Hk
    isplitl [H0]; · iexact H0
    isplitl [H1]; · iexact H1
    isplitl [H2]; · iexact H2
    isplitl [H3]; · iexact H3
    iexact H4
  | succ k ih =>
    intro n hn h1 top xa xr K
    have hi : (i 1).val < 4 := (i 1).isLt
    by_cases hgo : goes i (BitVec.ofNat 32 n) top = 1#1
    · have hle := le_of_goes i n (by unfold base at hn; omega) top hgo
      have hchk := chk_of_le i n h1 hle
      have hst : loopSt c i arg6 harg6 arg3 harg3 arg4 harg4 arg8 harg8 v8 arg7 harg7 xq xk xv (k + 1) n top xa xr
          = (let w := walk c i arg6 harg6 arg3 harg3 arg4 harg4 arg8 harg8 v8 arg7 harg7 (BitVec.ofNat 32 n) top hgo hchk xq xk xv xa xr
             loopSt c i arg6 harg6 arg3 harg3 arg4 harg4 arg8 harg8 v8 arg7 harg7 xq xk xv k (n + 1) w.2.2.2.1
              (VA.read (Elt F) (VA.writes (Elt F) VA.junk w.1)) (VR.read (Elt F) (VR.writes (Elt F) VR.junk w.2.1))) := dif_pos ⟨hgo, hchk⟩
      rw [hst]
      dsimp only
      have hj : (walk c i arg6 harg6 arg3 harg3 arg4 harg4 arg8 harg8 v8 arg7 harg7 (BitVec.ofNat 32 n) top hgo hchk xq xk xv xa xr).2.2.1 = BitVec.ofNat 32 (n + 1) := by
        rw [walk_next]; show BitVec.ofNat 32 n + 1#32 = _; rw [BitVec.ofNat_add]
      have hcA := walk_coverA c i arg6 harg6 arg3 harg3 arg4 harg4 arg8 harg8 v8 arg7 harg7 xq xk xv (BitVec.ofNat 32 n) top hgo hchk xa xr
      have hcR := walk_coverR c i arg6 harg6 arg3 harg3 arg4 harg4 arg8 harg8 v8 arg7 harg7 xq xk xv (BitVec.ofNat 32 n) top hgo hchk xa xr
      have hrun := (walk c i arg6 harg6 arg3 harg3 arg4 harg4 arg8 harg8 v8 arg7 harg7 (BitVec.ofNat 32 n) top hgo hchk xq xk xv xa xr).2.2.2.2 (some (k + 1)) E K
      generalize walk c i arg6 harg6 arg3 harg3 arg4 harg4 arg8 harg8 v8 arg7 harg7 (BitVec.ofNat 32 n) top hgo hchk xq xk xv xa xr = w at hj hcA hcR hrun ⊢
      obtain ⟨LA, LR, jn, nx, hw⟩ := w
      dsimp only at hj hcA hcR hrun ⊢
      subst hj
      refine BIBase.Entails.trans ?_ hrun
      iintro ⟨H0, H1, H2, H3, H4, Hk⟩
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      iapply (wp_call 𝒱₀ (c : Thread nD τ) (some (k + 1)) E k (fun u hu => by cases hu; exact Nat.lt_succ_self k))
      iapply (ih (n + 1) (by omega) (by omega) nx (VA.read (Elt F) (VA.writes (Elt F) VA.junk LA)) (VR.read (Elt F) (VR.writes (Elt F) VR.junk LR)) _)
      isplitl [H0]; · iexact H0
      isplitl [H1]; · iexact H1
      isplitl [H2]; · iexact H2
      isplitl [H3]
      · unfold owns; iexists _; isplitr; swap; · iexact H3
        ipureintro; exact View.read_writes_of_cover _ _ _ _ _ hcA
      isplitl [H4]
      · unfold owns; iexists _; isplitr; swap; · iexact H4
        ipureintro; exact View.read_writes_of_cover _ _ _ _ _ hcR
      iintro H
      sl_step
      iapply Hk
      iexact H
    · have hst : loopSt c i arg6 harg6 arg3 harg3 arg4 harg4 arg8 harg8 v8 arg7 harg7 xq xk xv (k + 1) n top xa xr = (xa, xr, BitVec.ofNat 32 n, top) :=
        dif_neg (fun h => hgo h.1)
      rw [hst]
      simp only [cc0_while1_eq_skeleton]; unfold cc0_while1_skel
      have hgo' := hgo
      unfold goes at hgo'
      simp only [hgo', ↓reduceIte]
      iintro ⟨H0, H1, H2, H3, H4, Hk⟩
      sl_step
      iapply Hk
      isplitl [H0]; · iexact H0
      isplitl [H1]; · iexact H1
      isplitl [H2]; · iexact H2
      isplitl [H3]; · iexact H3
      iexact H4

end

section

variable (c : Dev nD) (i : grid0.Coords) (arg2 : Memref sig .tc .vmem S2048x128 .f32) (harg2 : arg2.IsWhole)
    (arg3 : Memref sig .tc .vmem S1x9984x128 .bf16) (harg3 : arg3.IsWhole) (arg4 : Memref sig .tc .vmem S1x9984x128 .bf16) (harg4 : arg4.IsWhole)
    (arg5 : Memref sig .tc .vmem S2048x128 .bf16) (harg5 : arg5.IsWhole) (arg6 : Memref sig .tc .vmem S2048x128 .bf16) (harg6 : arg6.IsWhole)
    (arg7 : Memref sig .tc .vmem S2048x128 .f32) (harg7 : arg7.IsWhole) (arg8 : Memref sig .tc .vmem S2048x1 .f32) (harg8 : arg8.IsWhole)
    (xq : Vec F S2048x128 .f32) (xk xv : Vec F S1x9984x128 .bf16)

theorem start_coverQ (y : S2048x128.Idx) :
    ∃ pc ∈ (start c i arg2 harg2 arg3 harg3 arg4 harg4 arg5 harg5 arg6 harg6 arg7 harg7 arg8 harg8 xq xk xv).1, y ∈ pc.1.set :=
  View.cover_of_tiledL (start c i arg2 harg2 arg3 harg3 arg4 harg4 arg5 harg5 arg6 harg6 arg7 harg7 arg8 harg8 xq xk xv).1 S2048x128.size (by sl_kernel_rfl) y
theorem start_coverA (y : S2048x128.Idx) :
    ∃ pc ∈ (start c i arg2 harg2 arg3 harg3 arg4 harg4 arg5 harg5 arg6 harg6 arg7 harg7 arg8 harg8 xq xk xv).2.1, y ∈ pc.1.set :=
  View.cover_of_tiledL (start c i arg2 harg2 arg3 harg3 arg4 harg4 arg5 harg5 arg6 harg6 arg7 harg7 arg8 harg8 xq xk xv).2.1 S256x128.size (by sl_kernel_rfl) y
theorem start_coverR (y : S2048x1.Idx) :
    ∃ pc ∈ (start c i arg2 harg2 arg3 harg3 arg4 harg4 arg5 harg5 arg6 harg6 arg7 harg7 arg8 harg8 xq xk xv).2.2.1, y ∈ pc.1.set :=
  View.cover_of_tiledL (start c i arg2 harg2 arg3 harg3 arg4 harg4 arg5 harg5 arg6 harg6 arg7 harg7 arg8 harg8 xq xk xv).2.2.1 S256x1.size (by sl_kernel_rfl) y

/-- The state the loop ends with, started from what the part before it leaves. -/
def endSt : Vec F S2048x128 .f32 × Vec F S2048x1 .f32 × (BitVec 32 × F .f32) :=
  let s := start c i arg2 harg2 arg3 harg3 arg4 harg4 arg5 harg5 arg6 harg6 arg7 harg7 arg8 harg8 xq xk xv
  loopSt c i arg6 harg6 arg3 harg3 arg4 harg4 arg8 harg8 s.2.2.2.1 arg7 harg7 (VQ.read (Elt F) (VQ.writes (Elt F) VQ.junk s.1)) xk xv (base i) 1 s.2.2.2.2.1
    (VA.read (Elt F) (VA.writes (Elt F) VA.junk s.2.1)) (VR.read (Elt F) (VR.writes (Elt F) VR.junk s.2.2.1))

set_option maxHeartbeats 4000000 in
/-- The body's run: the piece it stores into the output's block, from the queries' block and the keys' and values'. -/
def whole : { L5 : List (View.Piece (Elt F) S2048x128 .bf16) //
      ∀ (E : Set ℕ) (K : PUnit → sProp 𝕄),
        iprop(owns (c : Thread nD τ) arg2 fullShare xq ∗ owns (c : Thread nD τ) arg3 fullShare xk ∗ owns (c : Thread nD τ) arg4 fullShare xv
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare xq ∗ owns (c : Thread nD τ) arg3 fullShare xk ∗ owns (c : Thread nD τ) arg4 fullShare xv
                ∗ (∃ f, arg5.view.loc (c : Thread nD τ) ↦[arg5.view.set]{fullShare} arg5.view.writes (Elt F) f L5)
                ∗ (∃ d, owns (c : Thread nD τ) arg6 fullShare d)
                ∗ (∃ d, owns (c : Thread nD τ) arg7 fullShare d) ∗ (∃ d, owns (c : Thread nD τ) arg8 fullShare d))
              -∗ K PUnit.unit))
          ⊢ wp frame (wpE (defs₀ (F := F)) 𝒱₀ (c : Thread nD τ) none) E
              (cc0_sb_prompt i arg2 harg2 arg3 harg3 arg4 harg4 arg5 harg5 arg6 harg6 arg7 harg7 arg8 harg8) K } := by
  refine ⟨?_, fun E K => ?run⟩
  case run =>
    simp only [cc0_sb_prompt_eq_skeleton]; unfold cc0_sb_prompt_skel
    rw [wp_bind]
    have hcQ := start_coverQ c i arg2 harg2 arg3 harg3 arg4 harg4 arg5 harg5 arg6 harg6 arg7 harg7 arg8 harg8 xq xk xv
    have hcA := start_coverA c i arg2 harg2 arg3 harg3 arg4 harg4 arg5 harg5 arg6 harg6 arg7 harg7 arg8 harg8 xq xk xv
    have hcR := start_coverR c i arg2 harg2 arg3 harg3 arg4 harg4 arg5 harg5 arg6 harg6 arg7 harg7 arg8 harg8 xq xk xv
    iintro ⟨H0, H1, H2, ⟨%d5, H5⟩, ⟨%d6, H6⟩, ⟨%d7, H7⟩, ⟨%d8, H8⟩, Hk⟩
    iapply ((start c i arg2 harg2 arg3 harg3 arg4 harg4 arg5 harg5 arg6 harg6 arg7 harg7 arg8 harg8 xq xk xv).2.2.2.2.2 E _)
    isplitl [H0]; · iexact H0
    isplitl [H1]; · iexact H1
    isplitl [H2]; · iexact H2
    isplitl [H6]; · unfold owns; icases H6 with ⟨%e, %he, H6⟩; iexists _; iexact H6
    isplitl [H7]; · unfold owns; icases H7 with ⟨%e, %he, H7⟩; iexists _; iexact H7
    isplitl [H8]; · unfold owns; icases H8 with ⟨%e, %he, H8⟩; iexists _; iexact H8
    iintro ⟨H0, H1, H2, ⟨%e6, H6⟩, ⟨%e7, H7⟩, ⟨%e8, H8⟩⟩
    iapply (wp_call 𝒱₀ (c : Thread nD τ) none E (base i) (fun u hu => nomatch hu))
    iapply (loop c i arg6 harg6 arg3 harg3 arg4 harg4 arg8 harg8
      (start c i arg2 harg2 arg3 harg3 arg4 harg4 arg5 harg5 arg6 harg6 arg7 harg7 arg8 harg8 xq xk xv).2.2.2.1 arg7 harg7
      (VQ.read (Elt F) (VQ.writes (Elt F) VQ.junk (start c i arg2 harg2 arg3 harg3 arg4 harg4 arg5 harg5 arg6 harg6 arg7 harg7 arg8 harg8 xq xk xv).1)) xk xv E (base i) 1 (Nat.add_comm _ _) (Nat.le_refl _)
      (start c i arg2 harg2 arg3 harg3 arg4 harg4 arg5 harg5 arg6 harg6 arg7 harg7 arg8 harg8 xq xk xv).2.2.2.2.1
      (VA.read (Elt F) (VA.writes (Elt F) VA.junk (start c i arg2 harg2 arg3 harg3 arg4 harg4 arg5 harg5 arg6 harg6 arg7 harg7 arg8 harg8 xq xk xv).2.1))
      (VR.read (Elt F) (VR.writes (Elt F) VR.junk (start c i arg2 harg2 arg3 harg3 arg4 harg4 arg5 harg5 arg6 harg6 arg7 harg7 arg8 harg8 xq xk xv).2.2.1)) _)
    isplitl [H6]
    · unfold owns; iexists _; isplitr; swap; · iexact H6
      ipureintro; exact View.read_writes_of_cover _ _ _ _ _ hcQ
    isplitl [H1]; · iexact H1
    isplitl [H2]; · iexact H2
    isplitl [H7]
    · unfold owns; iexists _; isplitr; swap; · iexact H7
      ipureintro; exact View.read_writes_of_cover _ _ _ _ _ hcA
    isplitl [H8]
    · unfold owns; iexists _; isplitr; swap; · iexact H8
      ipureintro; exact View.read_writes_of_cover _ _ _ _ _ hcR
    iintro ⟨H6, H1, H2, H7, H8⟩
    have hend : (loopSt c i arg6 harg6 arg3 harg3 arg4 harg4 arg8 harg8
      (start c i arg2 harg2 arg3 harg3 arg4 harg4 arg5 harg5 arg6 harg6 arg7 harg7 arg8 harg8 xq xk xv).2.2.2.1 arg7 harg7
      (VQ.read (Elt F) (VQ.writes (Elt F) VQ.junk (start c i arg2 harg2 arg3 harg3 arg4 harg4 arg5 harg5 arg6 harg6 arg7 harg7 arg8 harg8 xq xk xv).1)) xk xv (base i) 1
      (start c i arg2 harg2 arg3 harg3 arg4 harg4 arg5 harg5 arg6 harg6 arg7 harg7 arg8 harg8 xq xk xv).2.2.2.2.1
      (VA.read (Elt F) (VA.writes (Elt F) VA.junk (start c i arg2 harg2 arg3 harg3 arg4 harg4 arg5 harg5 arg6 harg6 arg7 harg7 arg8 harg8 xq xk xv).2.1))
      (VR.read (Elt F) (VR.writes (Elt F) VR.junk (start c i arg2 harg2 arg3 harg3 arg4 harg4 arg5 harg5 arg6 harg6 arg7 harg7 arg8 harg8 xq xk xv).2.2.1)))
      = endSt c i arg2 harg2 arg3 harg3 arg4 harg4 arg5 harg5 arg6 harg6 arg7 harg7 arg8 harg8 xq xk xv := rfl
    rw [hend]
    generalize (endSt c i arg2 harg2 arg3 harg3 arg4 harg4 arg5 harg5 arg6 harg6 arg7 harg7 arg8 harg8 xq xk xv).2.2 = r
    obtain ⟨r1, r2⟩ := r
    dsimp only
    sl_step
    unfold owns
    icases H7 with ⟨%g7, %hg7, H7⟩
    obtain rfl := harg7.eq_unread hg7
    icases H5 with ⟨%g5, %hg5, H5⟩
    sl_exec
    sl_step
    iapply Hk
    isplitl [H0]; · iexact H0
    isplitl [H1]; · iexact H1
    isplitl [H2]; · iexact H2
    isplitl [H5]; · iexists _; iexact H5
    isplitl [H6]; · iexists _; iexact H6
    isplitl [H7]
    · iexists _; iexists _; isplitr; swap; · iexact H7
      ipureintro; rfl
    iexists _; iexact H8

end

end Cert.Proof.SBI

end
-- ==== Proof.SBI.Run.lean ====
/-
  The launch: the pipeline's proof data from the body's run, and what every execution of the program leaves. The two windows
  of keys and values read one array, so each holds a share of it.
-/
module

public import proofs.«01_k».proof.Proof.SBI.Body
public import Idealize.ShloMosaic.Lib.Claim

@[expose] public section

set_option maxRecDepth 16384

noncomputable section

namespace Cert.Proof.SBI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What each array holds when the pipeline starts, after the operations on the host. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

theorem uncut0 : ∀ (i : grid0.Coords) (a), win0_0.clip i a = none := by decide +kernel
theorem uncut1 : ∀ (i : grid0.Coords) (a), win0_1.clip i a = none := by decide +kernel
theorem uncut2 : ∀ (i : grid0.Coords) (a), win0_2.clip i a = none := by decide +kernel

theorem moved_of (w : Pipeline.Window sig grid0) (h : ∀ i a, w.clip i a = none) (i : grid0.Coords) (j : w.block.Idx) : w.moved i j = true :=
  (w.moved_iff i j).mpr fun a => by unfold Pipeline.Window.xsize; rw [h i a]; exact (j a).isLt

/-- No block is cut, so a fetch fills the whole of a buffer, whatever it held. -/
theorem fill_of (w : Pipeline.Window sig grid0) (h : ∀ i a, w.clip i a = none) {α : Type} (i : grid0.Coords) (d d' : w.block.Idx → α) (g) :
    w.fill i d g = w.fill i d' g := by
  funext j; unfold Pipeline.Window.fill; rw [dif_pos (moved_of w h i j), dif_pos (moved_of w h i j)]

/-- The block window `w` is on at step `t`, read off its array. -/
def blockAt (c : Dev nD) (w : Fin (cfg0 (F := F)).W) (t : Fin (cfg0 (F := F)).N) :
    ((cfg0 (F := F)).win w).block.Idx → Elt F ((cfg0 (F := F)).win w).elt :=
  ((cfg0 (F := F)).win w).fill ((cfg0 (F := F)).grid.coords t) (fun _ => Classical.arbitrary _)
    ((((cfg0 (F := F)).win w).blk t).view.read (Elt F) (V m c (Pipeline.arrRef spec0 w)))

/-- The memrefs of the four windows at step `t`, and the three scratch buffers. -/
abbrev mq (t : Fin (cfg0 (F := F)).N) : Memref sig .tc .vmem S2048x128 .f32 := win0_0.stage (cfg0.slots t 0)
abbrev hmq (t : Fin (cfg0 (F := F)).N) : (mq t).IsWhole := hstage0_0 ((cfg0.slots t 0).cast nbuf0_0)
abbrev mk (t : Fin (cfg0 (F := F)).N) : Memref sig .tc .vmem S1x9984x128 .bf16 := win0_1.stage (cfg0.slots t 1)
abbrev hmk (t : Fin (cfg0 (F := F)).N) : (mk t).IsWhole := hstage0_1 ((cfg0.slots t 1).cast nbuf0_1)
abbrev mv (t : Fin (cfg0 (F := F)).N) : Memref sig .tc .vmem S1x9984x128 .bf16 := win0_2.stage (cfg0.slots t 2)
abbrev hmv (t : Fin (cfg0 (F := F)).N) : (mv t).IsWhole := hstage0_2 ((cfg0.slots t 2).cast nbuf0_2)
abbrev mo (t : Fin (cfg0 (F := F)).N) : Memref sig .tc .vmem S2048x128 .bf16 := win0_3.stage (cfg0.slots t 3)
abbrev hmo (t : Fin (cfg0 (F := F)).N) : (mo t).IsWhole := hstage0_3 ((cfg0.slots t 3).cast nbuf0_3)
abbrev sQ : Memref sig .tc .vmem S2048x128 .bf16 := Memref.whole cc0_scratch0
abbrev sA : Memref sig .tc .vmem S2048x128 .f32 := Memref.whole cc0_scratch1
abbrev sR : Memref sig .tc .vmem S2048x1 .f32 := Memref.whole cc0_scratch2

/-- The run of the body at step `t`, on that step's blocks. -/
abbrev wholeAt (c : Dev nD) (t : Fin (cfg0 (F := F)).N) (xq : Vec F S2048x128 .f32) (xk xv : Vec F S1x9984x128 .bf16) :=
  whole c (grid0.coords t) (mq t) (hmq t) (mk t) (hmk t) (mv t) (hmv t) (mo t) (hmo t) sQ (Memref.isWhole_whole _) sA (Memref.isWhole_whole _)
    sR (Memref.isWhole_whole _) xq xk xv

theorem whole_cover (c : Dev nD) (t : Fin (cfg0 (F := F)).N) (xq : Vec F S2048x128 .f32) (xk xv : Vec F S1x9984x128 .bf16) (y : S2048x128.Idx) :
    ∃ pc ∈ (wholeAt c t xq xk xv).1, y ∈ pc.1.set :=
  View.cover_of_tiledL (wholeAt c t xq xk xv).1 S2048x128.size (by sl_kernel_rfl) y

/-- What the body leaves in the output's block at step `t`. -/
def outAt (c : Dev nD) (t : Fin (cfg0 (F := F)).N) : Vec F S2048x128 .bf16 :=
  VQ.read (Elt F) (VQ.writes (Elt F) VQ.junk (wholeAt c t (blockAt m c 0 t) (blockAt m c 1 t) (blockAt m c 2 t)).1)

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = blockAt m c 0 t := by dsimp only [dats]; rfl
theorem after0_1 (c : Dev nD) (t : Fin (cfg0 (F := F)).N) : (dats m 0 c).after 1 t = blockAt m c 1 t := by dsimp only [dats]; rfl
theorem after0_2 (c : Dev nD) (t : Fin (cfg0 (F := F)).N) : (dats m 0 c).after 2 t = blockAt m c 2 t := by dsimp only [dats]; rfl
theorem after0_3 (c : Dev nD) (t : Fin (cfg0 (F := F)).N) : (dats m 0 c).after 3 t = outAt m c t := by dsimp only [dats]; rfl

theorem before0_0 (c : Dev nD) (t : Fin (cfg0 (F := F)).N) (d) : (dats m 0 c).before 0 t d = blockAt m c 0 t :=
  ((dats m 0 c).before_in_eq_fetched 0 rfl (fun _ => rfl)
    (fun t t' _ => funext fun a => (uncut0 _ a).trans (uncut0 _ a).symm)
    (fun t => by rw [after0_0]; unfold blockAt; rw [Pipeline.Window.cut_fill]; unfold Dat.blockOf; rw [A_eq]; try rfl) t d).trans
    (by unfold Dat.fetched blockAt; unfold Dat.blockOf; rw [A_eq]; exact fill_of ((cfg0 (F := F)).win 0) uncut0 _ _ _ _)
theorem before0_1 (c : Dev nD) (t : Fin (cfg0 (F := F)).N) (d) : (dats m 0 c).before 1 t d = blockAt m c 1 t :=
  ((dats m 0 c).before_in_eq_fetched 1 rfl (fun _ => rfl)
    (fun t t' _ => funext fun a => (uncut1 _ a).trans (uncut1 _ a).symm)
    (fun t => by rw [after0_1]; unfold blockAt; rw [Pipeline.Window.cut_fill]; unfold Dat.blockOf; rw [A_eq]; try rfl) t d).trans
    (by unfold Dat.fetched blockAt; unfold Dat.blockOf; rw [A_eq]; exact fill_of ((cfg0 (F := F)).win 1) uncut1 _ _ _ _)
theorem before0_2 (c : Dev nD) (t : Fin (cfg0 (F := F)).N) (d) : (dats m 0 c).before 2 t d = blockAt m c 2 t :=
  ((dats m 0 c).before_in_eq_fetched 2 rfl (fun _ => rfl)
    (fun t t' _ => funext fun a => (uncut2 _ a).trans (uncut2 _ a).symm)
    (fun t => by rw [after0_2]; unfold blockAt; rw [Pipeline.Window.cut_fill]; unfold Dat.blockOf; rw [A_eq]; try rfl) t d).trans
    (by unfold Dat.fetched blockAt; unfold Dat.blockOf; rw [A_eq]; exact fill_of ((cfg0 (F := F)).win 2) uncut2 _ _ _ _)

/-- What passes between steps besides the windows: the scratch buffers at anything, and the generator's register. -/
theorem between_eq (c : Dev nD) :
    (Pipeline.ΦA spec0 c : sProp 𝕄)
      = iprop(iprop((∃ d, owns (c : Thread nD τ) sQ fullShare d) ∗ (∃ d, owns (c : Thread nD τ) sA fullShare d) ∗ (∃ d, owns (c : Thread nD τ) sR fullShare d)) ∗ (∃ r, prngReg c r)) := by
  unfold Pipeline.ΦA; rw [scopedRest0_eq]; simp only [sQ, sA, sR, owns_whole]; try rfl

/-- What the body starts from at step `t`, the windows one by one, -/
def pre (c : Dev nD) (t : Fin (cfg0 (F := F)).N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (mo t) fullShare ((dats m 0 c).before 3 t d)))

/-- and what it ends with. -/
def post (c : Dev nD) (t : Fin (cfg0 (F := F)).N) : sProp 𝕄 :=
  iprop((dats m 0 c).Φ t.succ ∗ (dats m 0 c).owesAt () t.succ
    ∗ owns (c : Thread nD τ) (mq t) fullShare ((dats m 0 c).after 0 t)
    ∗ owns (c : Thread nD τ) (mk t) fullShare ((dats m 0 c).after 1 t)
    ∗ owns (c : Thread nD τ) (mv t) fullShare ((dats m 0 c).after 2 t)
    ∗ owns (c : Thread nD τ) (mo t) fullShare ((dats m 0 c).after 3 t))

set_option maxHeartbeats 3200000 in
theorem step_run (c : Dev nD) (t : Fin (cfg0 (F := F)).N) :
    pre m c t ⊢ wp frame (wpE (defs₀ (F := F)) 𝒱₀ c none) Set.univ (bodyAt0 t) (fun _ => post m c t) := by
  unfold pre post bodyAt0
  simp only [before0_0, before0_1, before0_2]
  rw [show (dats m 0 c).owesAt () t.succ = (dats m 0 c).owesAt () t.castSucc from rfl, after0_0, after0_1, after0_2, after0_3,
    show (dats m 0 c).Φ t.succ = Pipeline.ΦA spec0 c from rfl, show (dats m 0 c).Φ t.castSucc = Pipeline.ΦA spec0 c from rfl, between_eq]
  unfold outAt
  have hc := whole_cover c t (blockAt m c 0 t) (blockAt m c 1 t) (blockAt m c 2 t)
  iintro ⟨⟨⟨HQ, HA, HR⟩, Hg⟩, Ho, ⟨%d0, H0⟩, ⟨%d1, H1⟩, ⟨%d2, H2⟩, ⟨%d3, H3⟩⟩
  iapply ((wholeAt c t (blockAt m c 0 t) (blockAt m c 1 t) (blockAt m c 2 t)).2 Set.univ _)
  isplitl [H0]; · iexact H0
  isplitl [H1]; · iexact H1
  isplitl [H2]; · iexact H2
  isplitl [H3]; · iexists _; iexact H3
  isplitl [HQ]; · iexact HQ
  isplitl [HA]; · iexact HA
  isplitl [HR]; · iexact HR
  iintro ⟨H0, H1, H2, ⟨%e3, H3⟩, HQ, HA, HR⟩
  isplitl [HQ HA HR Hg]
  · isplitl [HQ HA HR]
    · isplitl [HQ]; · iexact HQ
      isplitl [HA]; · iexact HA
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ hc

theorem row_eq (t : Fin (cfg0 (F := F)).N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, row_eq]
  exact triple_restated (step_run m c t) rfl .rfl fun _ => .rfl

set_option backward.isDefEq.respectTransparency.types false in
/-- Every execution ends, with the arrays at what the pipeline's proof data say, and every counter at zero. -/
theorem run_counters : θ_run defs (onTc (τ := τ) (main (F := F))) (s₀ m ρ) (fun r => (Pipeline.FramePost cfgs (dats m) 0 (V m)) r ∧ r.2.sem = fun _ => 0) :=
  Pipeline.θ_run_frame_shared cfgs (dats m) (0 : Fin 1) launch₀0 defs₀ 𝒱₀ m ρ main
    (hbody := fun c => (obligation m c).loose) (hq := fun _ _ _ => rfl)
    (howed := fun _ _ => rfl) (V := V m) (hmain := hmain m) (hA := A_eq m) (hΦ := fun _ _ => rfl) (Q' := _)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 0).trans (((dats m 0 c).arrAt_in 0 rfl _).trans ((A_eq m c 0).trans (V_main_arg0 m c))),
      ((h.1 c).2 main_arg1 (Pipeline.mem_restRefs_of main_arg1 (by decide) (show ∀ w : Fin 4, (spec0 w).arr.view.ref ≠ main_arg1 by decide))).trans (V_main_arg1 m c)⟩) (run_counters m ρ)

/-- The frame claim, for any values. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_counters m ρ))

end Cert.Proof.SBI

end
-- ==== Proof.SBI.Chain.lean ====
/-
  What one chain computes. The body holds eight chains that do the same on eight slices of 256 rows: here their arithmetic is
  written once, on whole tiles, and the pieces that the first part (`start`) and a trip of the loop (`walk`) store are shown to be it.
-/
module

public import proofs.«01_k».proof.Proof.SBI.Body
public import Idealize.ShloMosaic.Lib.WholeRead

@[expose] public section

set_option maxRecDepth 16384

noncomputable section

namespace Cert.Proof.SBI

open Cert.KernelIdeal Cert.KernelIdeal.Gen
open Idealize.ShloMosaic Idealize.ShloMosaic.TcCoe

variable {F : FTy → Type} [FloatOps F]

/-! ## One chain's arithmetic -/

/-- Scores of a tile of queries on a tile of keys. -/
def scoreT (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- Softplus of the scores. -/
def softT (z : FVec F S256x256 .f32) : FVec F S256x256 .f32 :=
  addf (maximumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- Sum, for each key of the tile, over the newer keys of the tile, by a product with a triangle of ones. -/
def newerT (u : FVec F S256x256 .bf16) (sp : FVec F S256x256 .f32) : FVec F S256x256 .f32 :=
  addf (matmul dot_S256x256_S256x256_S256x256_1_0_0_1_n_n none (truncf .bf16 sp bitsLt_bf16_f32) u (constant S256x256 .f32 0x00000000#32))
    (matmul dot_S256x256_S256x256_S256x256_1_0_0_1_n_n none
      (truncf .bf16 (subf sp (extf .f32 (truncf .bf16 sp bitsLt_bf16_f32) bitsLt_bf16_f32)) bitsLt_bf16_f32) u (constant S256x256 .f32 0x00000000#32))

/-- The sticks' pieces: each key's weight, before its rounding. -/
def weightT (z sp : FVec F S256x256 .f32) (u : FVec F S256x256 .bf16) (r : FVec F S256x1 .f32) : FVec F S256x256 .f32 :=
  exp (addf (subf (subf z sp) (newerT u sp)) (broadcastTo S256x256 r broadcasts_S256x1_S256x256))

/-- Weights times values. -/
def mixT (w : FVec F S256x256 .f32) (v : FVec F S256x128 .bf16) : FVec F S256x128 .f32 :=
  matmul dot_S256x256_S256x128_S256x128_1_0_0_1_n_n none (truncf .bf16 w bitsLt_bf16_f32) v (constant S256x128 .f32 0x00000000#32)

/-- What is left of the rows' sticks after the tile. -/
def restT (sp : FVec F S256x256 .f32) (r : FVec F S256x1 .f32) : FVec F S256x1 .f32 :=
  subf r (shapeCast S256x1 (multiReduction .add [1] S256 sp 0x00000000#32 reduces_S256x256_S256 (.inl rfl) rfl) shapeCasts_S256_S256x1)

/-- The largest of a chain's remainders. -/
def topT (r : FVec F S256x1 .f32) : F .f32 :=
  extractAt ![0, 0, 0] (shapeCast S1x1x1 (multiReduction .maximumf [1, 2] S1 (shapeCast S1x256x1 r shapeCasts_S256x1_S1x256x1) 0xFF800000#32 reduces_S1x256x1_S1 (.inl rfl) rfl) shapeCasts_S1_S1x1x1) inpos_S1x1x1_p0_0_0

/-- The keys of the diagonal tile that a row sees: those before it. -/
def seenT : IVec S256x256 1 := cmpi .slt (iota .tc S256x256 32 [1] iota_S256x256_d1_w32) (iota .tc S256x256 32 [0] iota_S256x256_d0_w32)

/-- The triangle: ones where the row's index is above the column's. -/
def triT : FVec F S256x256 .bf16 :=
  truncf .bf16 (select (cmpi .sgt (iota .tc S256x256 32 [0] iota_S256x256_d0_w32) (iota .tc S256x256 32 [1] iota_S256x256_d1_w32))
    (broadcast S256x256 (Scalar.ofBits .f32 0x3F800000#32)) (broadcast S256x256 (Scalar.ofBits .f32 0x00000000#32))) bitsLt_bf16_f32

def zeroT : FVec F S256x1 .f32 := broadcast S256x1 (Scalar.ofBits .f32 0x00000000#32)

def softMaskT (z : FVec F S256x256 .f32) : FVec F S256x256 .f32 :=
  select seenT (softT z) (broadcast S256x256 (Scalar.ofBits .f32 0x00000000#32))

/-! ## The slices of the eight chains -/

theorem rowA_inb (c : Fin 8) : ∀ a, (![256 * c.val, 0] : Fin 2 → ℕ) a + S256x128.size a ≤ S2048x128.size a := by revert c; decide
theorem rowR_inb (c : Fin 8) : ∀ a, (![256 * c.val, 0] : Fin 2 → ℕ) a + S256x1.size a ≤ S2048x1.size a := by revert c; decide

/-- Chain `c`'s rows. -/
abbrev rowA (c : Fin 8) : Rect S2048x128 := Rect.unit (s := S2048x128) ![256 * c.val, 0] S256x128.size (rowA_inb c)
abbrev rowR (c : Fin 8) : Rect S2048x1 := Rect.unit (s := S2048x1) ![256 * c.val, 0] S256x1.size (rowR_inb c)

/-- The chains, last stored first. -/
abbrev chains : List (Fin 8) := [7, 6, 5, 4, 3, 2, 1, 0]

section

variable [Named F] (c : Dev nD) (i : grid0.Coords) (arg6 : Memref sig .tc .vmem S2048x128 .bf16) (harg6 : arg6.IsWhole)
    (arg3 : Memref sig .tc .vmem S1x9984x128 .bf16) (harg3 : arg3.IsWhole) (arg4 : Memref sig .tc .vmem S1x9984x128 .bf16) (harg4 : arg4.IsWhole)
    (arg8 : Memref sig .tc .vmem S2048x1 .f32) (harg8 : arg8.IsWhole) (v8 : FVec F S256x256 .bf16)
    (arg7 : Memref sig .tc .vmem S2048x128 .f32) (harg7 : arg7.IsWhole)
    (xq : Vec F S2048x128 .bf16) (xk xv : Vec F S1x9984x128 .bf16)
    (j : BitVec 32) (top : F .f32) (hgo : goes i j top = 1#1) (hchk : k0_chk1 i j) (xa : Vec F S2048x128 .f32) (xr : Vec F S2048x1 .f32)

abbrev rdQ (b : Fin 8) : FVec F S256x128 .bf16 := View.readAt (Elt F) arg6.view (rowA b).toLoadRect (harg6.unread xq)
abbrev rdA (b : Fin 8) : FVec F S256x128 .f32 := View.readAt (Elt F) arg7.view (rowA b).toLoadRect (harg7.unread xa)
abbrev rdR (b : Fin 8) : FVec F S256x1 .f32 := View.readAt (Elt F) arg8.view (rowR b).toLoadRect (harg8.unread xr)
abbrev rdT (m : Memref sig .tc .vmem S1x9984x128 .bf16) (hm : m.IsWhole) (x : Vec F S1x9984x128 .bf16) (b : Fin 8) : FVec F S256x128 .bf16 :=
  shapeCast S256x128 (View.readAt (Elt F) m.view (Rect.unit (s := S1x9984x128) (k0_off2 i j (BitVec.ofNat 32 b.val)) S1x256x128.size (k0_off2_inb i j hchk b)).toLoadRect (hm.unread x)) shapeCasts_S1x256x128_S256x128

set_option maxHeartbeats 2000000 in
theorem walk_A : (walk c i arg6 harg6 arg3 harg3 arg4 harg4 arg8 harg8 v8 arg7 harg7 j top hgo hchk xq xk xv xa xr).1
    = chains.map fun b => ⟨rowA b, shapeCast S256x128 (addf (rdA arg7 harg7 xa b)
        (mixT (weightT (scoreT (rdQ arg6 harg6 xq b) (rdT i j hchk arg3 harg3 xk b)) (softT (scoreT (rdQ arg6 harg6 xq b) (rdT i j hchk arg3 harg3 xk b))) v8
          (rdR arg8 harg8 xr b)) (rdT i j hchk arg4 harg4 xv b))) shapeCasts_S256x128_S256x128⟩ := by sl_kernel_rfl

set_option maxHeartbeats 2000000 in
theorem walk_R : (walk c i arg6 harg6 arg3 harg3 arg4 harg4 arg8 harg8 v8 arg7 harg7 j top hgo hchk xq xk xv xa xr).2.1
    = chains.map fun b => ⟨rowR b, shapeCast S256x1 (restT (softT (scoreT (rdQ arg6 harg6 xq b) (rdT i j hchk arg3 harg3 xk b))) (rdR arg8 harg8 xr b)) shapeCasts_S256x1_S256x1⟩ := by sl_kernel_rfl

set_option maxHeartbeats 2000000 in
theorem walk_top : ∃ a : F .f32, (walk c i arg6 harg6 arg3 harg3 arg4 harg4 arg8 harg8 v8 arg7 harg7 j top hgo hchk xq xk xv xa xr).2.2.2.1
    = Scalar.maximumf a (topT (restT (softT (scoreT (rdQ arg6 harg6 xq 7) (rdT i j hchk arg3 harg3 xk 7))) (rdR arg8 harg8 xr 7))) := by
  exact ⟨walk.sl.v902 c i arg6 harg6 arg3 harg3 arg8 harg8 j hchk xq xk xr, by sl_kernel_rfl⟩

end

end Cert.Proof.SBI

end
-- ==== Proof.SBI.Tile.lean ====
/-
  The chain's arithmetic on real numbers: at finite inputs every tile the chain works on is a tile of reals, and is told here
  entry by entry.
-/
module

public import proofs.«01_k».proof.Proof.SBI.Chain
public import Idealize.ShloMosaic.Lib.Pointwise

@[expose] public section

set_option maxRecDepth 16384

noncomputable section

namespace Cert.Proof.SBI

open Cert.KernelIdeal Cert.KernelIdeal.Gen
open Idealize.ShloMosaic

/-- The real number of the scores' scale. -/
def scaleR : ℝ := (Ideal.ofBits .f32 0x3DB504F3#32).toReal

theorem scaleR_eq : Ideal.ofBits .f32 0x3DB504F3#32 = (scaleR : EReal) := by
  have h : ∃ r : ℝ, Ideal.ofBits .f32 0x3DB504F3#32 = (r : EReal) := ⟨_, rfl⟩
  obtain ⟨r, hr⟩ := h
  rw [scaleR, hr, EReal.toReal_coe]

theorem coe_sum {ι : Type*} (s : Finset ι) (f : ι → ℝ) : ((∑ a ∈ s, f a : ℝ) : EReal) = ∑ a ∈ s, (f a : EReal) := by
  classical
  induction s using Finset.induction_on with
  | empty => simp
  | insert a s h ih => rw [Finset.sum_insert h, Finset.sum_insert h, EReal.coe_add, ih]

/-- Softplus, as both programs spell it. -/
def softR (z : ℝ) : ℝ := max z 0 + Real.log (1 + Real.exp (-|z|))

theorem coe_max (a b : ℝ) : max (a : EReal) (b : EReal) = ((max a b : ℝ) : EReal) := (EReal.coe_strictMono.monotone.map_max).symm

theorem abs_coe (z : ℝ) : max (z : EReal) (-(z : EReal)) = ((|z| : ℝ) : EReal) := by
  rw [← EReal.coe_neg, coe_max]; rfl

theorem log_coe_pos (x : ℝ) (h : 0 < x) : Ideal.log (x : EReal) = (Real.log x : EReal) := by
  rw [Ideal.log_coe, if_neg (not_le.mpr h)]

theorem soft_coe (z : ℝ) : max (z : EReal) 0 + Ideal.log (1 + Ideal.exp (0 - max (z : EReal) (-(z : EReal)))) = (softR z : EReal) := by
  rw [abs_coe, zero_sub, ← EReal.coe_neg, Ideal.exp_coe, ← EReal.coe_one, ← EReal.coe_add, log_coe_pos _ (by positivity), ← EReal.coe_zero, coe_max, ← EReal.coe_add]
  rfl

variable (q k v : FVec Ideal S256x128 .bf16) (z sp : FVec Ideal S256x256 .f32) (r : FVec Ideal S256x1 .f32)

theorem scoreT_apply (a b : Fin 256) : scoreT (F := Ideal) q k (ix2 a b) = (∑ d : Fin 128, q (ix2 a d) * k (ix2 b d)) * Ideal.ofBits .f32 0x3DB504F3#32 := by
  pointwise [scoreT]

theorem softT_apply (a b : Fin 256) : softT (F := Ideal) z (ix2 a b)
    = max (z (ix2 a b)) 0 + Ideal.log (1 + Ideal.exp (0 - max (z (ix2 a b)) (-(z (ix2 a b))))) := by
  pointwise [softT]
  rfl

theorem sgt_word : ∀ a b : Fin 256, IntOp.cmpi CmpIPredicate.sgt (BitVec.ofNat 32 a.val) (BitVec.ofNat 32 b.val) = if b < a then 1#1 else 0#1 := by
  decide +kernel

theorem slt_word : ∀ a b : Fin 256, IntOp.cmpi CmpIPredicate.slt (BitVec.ofNat 32 b.val) (BitVec.ofNat 32 a.val) = if b < a then 1#1 else 0#1 := by
  decide +kernel

theorem triT_apply (a b : Fin 256) : triT (F := Ideal) (ix2 a b) = if b < a then 1 else 0 := by
  pointwise [triT]
  rw [sgt_word]
  split <;> rfl

theorem seenT_apply (a b : Fin 256) : seenT (ix2 a b) = if b < a then 1#1 else 0#1 := by
  pointwise [seenT]
  exact slt_word a b

theorem newerT_apply (u : FVec Ideal S256x256 .bf16) (a b : Fin 256) : newerT (F := Ideal) u sp (ix2 a b)
    = (∑ e : Fin 256, sp (ix2 a e) * u (ix2 e b)) + ∑ e : Fin 256, (sp (ix2 a e) - sp (ix2 a e)) * u (ix2 e b) := by
  pointwise [newerT]

theorem weightT_apply (u : FVec Ideal S256x256 .bf16) (a b : Fin 256) : weightT (F := Ideal) z sp u r (ix2 a b)
    = Ideal.exp (z (ix2 a b) - sp (ix2 a b) - newerT (F := Ideal) u sp (ix2 a b) + r (ix2 a 0)) := by
  pointwise [weightT]

theorem mixT_apply (w : FVec Ideal S256x256 .f32) (a : Fin 256) (d : Fin 128) : mixT (F := Ideal) w v (ix2 a d) = ∑ e : Fin 256, w (ix2 a e) * v (ix2 e d) := by
  pointwise [mixT]

theorem restT_apply (a : Fin 256) : restT (F := Ideal) sp r (ix2 a 0) = r (ix2 a 0) - ∑ e : Fin 256, sp (ix2 a e) := by
  pointwise [restT]

theorem topT_bot (x : ℝ) (h : r (ix2 0 0) = (x : EReal)) : (⊥ : EReal) < topT (F := Ideal) r := by
  refine lt_of_lt_of_le (EReal.bot_lt_coe x) ?_
  pointwise [topT]
  rw [Finset.le_fold_max]
  exact Or.inr ⟨(0, 0), Finset.mem_univ _, h.ge⟩

/-! ## Tiles of reals -/

/-- The weight of key `b` of a tile, from the row's scores `f` on the tile, the softplus `s` counted for each key, and the
    stick's remainder `x` before the tile. -/
def weightR (f s : Fin 256 → ℝ) (x : ℝ) (b : Fin 256) : ℝ := Real.exp (f b - s b - (∑ e : Fin 256, if b < e then s e else 0) + x)

section

variable {q k v z sp r} {qr kr vr : Fin 256 → Fin 128 → ℝ} {zr sr wr : Fin 256 → Fin 256 → ℝ} {xr : Fin 256 → ℝ}

theorem scoreT_real (hq : ∀ a d, q (ix2 a d) = (qr a d : EReal)) (hk : ∀ b d, k (ix2 b d) = (kr b d : EReal)) (a b : Fin 256) :
    scoreT (F := Ideal) q k (ix2 a b) = (((∑ d : Fin 128, qr a d * kr b d) * scaleR : ℝ) : EReal) := by
  rw [scoreT_apply, scaleR_eq, EReal.coe_mul, coe_sum]
  simp only [hq, hk, EReal.coe_mul]

theorem softT_real (hz : ∀ a b, z (ix2 a b) = (zr a b : EReal)) (a b : Fin 256) : softT (F := Ideal) z (ix2 a b) = (softR (zr a b) : EReal) := by
  rw [softT_apply, hz, soft_coe]

theorem newerT_real (hs : ∀ a b, sp (ix2 a b) = (sr a b : EReal)) (a b : Fin 256) :
    newerT (F := Ideal) triT sp (ix2 a b) = ((∑ e : Fin 256, if b < e then sr a e else 0 : ℝ) : EReal) := by
  rw [newerT_apply]
  have h2 : (∑ e : Fin 256, (sp (ix2 a e) - sp (ix2 a e)) * (triT (F := Ideal) : FVec Ideal S256x256 .bf16) (ix2 e b)) = 0 :=
    Finset.sum_eq_zero fun e _ => by rw [hs, ← EReal.coe_sub, sub_self, EReal.coe_zero, zero_mul]
  rw [h2, add_zero, coe_sum]
  refine Finset.sum_congr rfl fun e _ => ?_
  rw [triT_apply, hs]
  split
  · rw [mul_one]
  · rw [mul_zero]; rfl

theorem weightT_real (hz : ∀ a b, z (ix2 a b) = (zr a b : EReal)) (hs : ∀ a b, sp (ix2 a b) = (sr a b : EReal))
    (hr : ∀ a, r (ix2 a 0) = (xr a : EReal)) (a b : Fin 256) :
    weightT (F := Ideal) z sp triT r (ix2 a b) = (weightR (zr a) (sr a) (xr a) b : EReal) := by
  rw [weightT_apply, newerT_real hs, hz, hs, hr, ← EReal.coe_sub, ← EReal.coe_sub, ← EReal.coe_add, Ideal.exp_coe]
  rfl

theorem mixT_real {w : FVec Ideal S256x256 .f32} (hw : ∀ a b, w (ix2 a b) = (wr a b : EReal)) (hv : ∀ b d, v (ix2 b d) = (vr b d : EReal)) (a : Fin 256) (d : Fin 128) :
    mixT (F := Ideal) w v (ix2 a d) = ((∑ e : Fin 256, wr a e * vr e d : ℝ) : EReal) := by
  rw [mixT_apply, coe_sum]
  simp only [hw, hv, EReal.coe_mul]

theorem restT_real (hs : ∀ a b, sp (ix2 a b) = (sr a b : EReal)) (hr : ∀ a, r (ix2 a 0) = (xr a : EReal)) (a : Fin 256) :
    restT (F := Ideal) sp r (ix2 a 0) = ((xr a - ∑ e : Fin 256, sr a e : ℝ) : EReal) := by
  rw [restT_apply, hr, EReal.coe_sub, coe_sum]
  simp only [hs]

theorem softMaskT_real (hz : ∀ a b, z (ix2 a b) = (zr a b : EReal)) (a b : Fin 256) :
    softMaskT (F := Ideal) z (ix2 a b) = ((if b < a then softR (zr a b) else 0 : ℝ) : EReal) := by
  have h : softMaskT (F := Ideal) z (ix2 a b) = Scalar.select (seenT (ix2 a b)) (softT (F := Ideal) z (ix2 a b)) 0 := by pointwise [softMaskT]
  rw [h, seenT_apply, softT_real hz]
  split <;> rfl

theorem maskT_real {w : FVec Ideal S256x256 .f32} (hw : ∀ a b, w (ix2 a b) = (wr a b : EReal)) (a b : Fin 256) :
    (select seenT w (broadcast S256x256 (Scalar.ofBits (F := Ideal) .f32 0x00000000#32)) : FVec Ideal S256x256 .f32) (ix2 a b) = ((if b < a then wr a b else 0 : ℝ) : EReal) := by
  have h : (select seenT w (broadcast S256x256 (Scalar.ofBits (F := Ideal) .f32 0x00000000#32)) : FVec Ideal S256x256 .f32) (ix2 a b) = Scalar.select (seenT (ix2 a b)) (w (ix2 a b)) 0 := by pointwise []
  rw [h, seenT_apply, hw]
  split <;> rfl

end

end Cert.Proof.SBI

end
-- ==== Proof.SBI.ChainS.lean ====
/-
  The pieces the part before the loop stores: each chain on its diagonal tile.
-/
module

public import proofs.«01_k».proof.Proof.SBI.Chain

@[expose] public section

set_option maxRecDepth 16384

noncomputable section

namespace Cert.Proof.SBI

open Cert.KernelIdeal Cert.KernelIdeal.Gen
open Idealize.ShloMosaic Idealize.ShloMosaic.TcCoe

variable {F : FTy → Type} [FloatOps F]

section

variable [Named F] (c : Dev nD) (i : grid0.Coords) (arg2 : Memref sig .tc .vmem S2048x128 .f32) (harg2 : arg2.IsWhole)
    (arg3 : Memref sig .tc .vmem S1x9984x128 .bf16) (harg3 : arg3.IsWhole) (arg4 : Memref sig .tc .vmem S1x9984x128 .bf16) (harg4 : arg4.IsWhole)
    (arg5 : Memref sig .tc .vmem S2048x128 .bf16) (harg5 : arg5.IsWhole) (arg6 : Memref sig .tc .vmem S2048x128 .bf16) (harg6 : arg6.IsWhole)
    (arg7 : Memref sig .tc .vmem S2048x128 .f32) (harg7 : arg7.IsWhole) (arg8 : Memref sig .tc .vmem S2048x1 .f32) (harg8 : arg8.IsWhole)
    (xq : Vec F S2048x128 .f32) (xk xv : Vec F S1x9984x128 .bf16)

theorem start_Q : (start c i arg2 harg2 arg3 harg3 arg4 harg4 arg5 harg5 arg6 harg6 arg7 harg7 arg8 harg8 xq xk xv).1
    = [⟨Rect.unit (s := S2048x128) ![0, 0] S2048x128.size inb_S2048x128_S2048x128_0_0, shapeCast S2048x128 (truncf .bf16
        (View.readAt (Elt F) arg2.view (Rect.unit (s := S2048x128) ![0, 0] S2048x128.size inb_S2048x128_S2048x128_0_0).toLoadRect (harg2.unread xq) : FVec F S2048x128 .f32) bitsLt_bf16_f32) shapeCasts_S2048x128_S2048x128⟩] := by
  sl_kernel_rfl

theorem start_tri : (start c i arg2 harg2 arg3 harg3 arg4 harg4 arg5 harg5 arg6 harg6 arg7 harg7 arg8 harg8 xq xk xv).2.2.2.1 = triT := by
  sl_kernel_rfl

/-- Chain `b`'s queries, read back from the buffer the rounded queries were stored in. -/
abbrev stQ (b : Fin 8) : FVec F S256x128 .bf16 :=
  View.readAt (Elt F) arg6.view (rowA b).toLoadRect (arg6.view.writes (Elt F) arg6.view.junk (start c i arg2 harg2 arg3 harg3 arg4 harg4 arg5 harg5 arg6 harg6 arg7 harg7 arg8 harg8 xq xk xv).1)

abbrev stT (m : Memref sig .tc .vmem S1x9984x128 .bf16) (hm : m.IsWhole) (x : Vec F S1x9984x128 .bf16) (b : Fin 8) : FVec F S256x128 .bf16 :=
  shapeCast S256x128 (View.readAt (Elt F) m.view (Rect.unit (s := S1x9984x128) (k0_off1 i (BitVec.ofNat 32 b.val)) S1x256x128.size (k0_off1_inb i b)).toLoadRect (hm.unread x)) shapeCasts_S1x256x128_S256x128

set_option maxHeartbeats 2000000 in
theorem start_R : (start c i arg2 harg2 arg3 harg3 arg4 harg4 arg5 harg5 arg6 harg6 arg7 harg7 arg8 harg8 xq xk xv).2.2.1
    = chains.map fun b => ⟨rowR b, shapeCast S256x1 (restT (softMaskT (scoreT (stQ c i arg2 harg2 arg3 harg3 arg4 harg4 arg5 harg5 arg6 harg6 arg7 harg7 arg8 harg8 xq xk xv b) (stT i arg3 harg3 xk b))) zeroT) shapeCasts_S256x1_S256x1⟩ := by sl_kernel_rfl

/-- Chain `b`'s scores on its diagonal tile. -/
abbrev stZ (b : Fin 8) : FVec F S256x256 .f32 :=
  scoreT (stQ c i arg2 harg2 arg3 harg3 arg4 harg4 arg5 harg5 arg6 harg6 arg7 harg7 arg8 harg8 xq xk xv b) (stT i arg3 harg3 xk b)

set_option maxHeartbeats 2000000 in
theorem start_A : (start c i arg2 harg2 arg3 harg3 arg4 harg4 arg5 harg5 arg6 harg6 arg7 harg7 arg8 harg8 xq xk xv).2.1
    = chains.map fun b => ⟨rowA b, shapeCast S256x128 (mixT (select seenT (weightT
        (stZ c i arg2 harg2 arg3 harg3 arg4 harg4 arg5 harg5 arg6 harg6 arg7 harg7 arg8 harg8 xq xk xv b)
        (softMaskT (stZ c i arg2 harg2 arg3 harg3 arg4 harg4 arg5 harg5 arg6 harg6 arg7 harg7 arg8 harg8 xq xk xv b)) triT zeroT)
        (broadcast S256x256 (Scalar.ofBits .f32 0x00000000#32))) (stT i arg4 harg4 xv b)) shapeCasts_S256x128_S256x128⟩ := by sl_kernel_rfl

set_option maxHeartbeats 2000000 in
theorem start_top : ∃ a : F .f32, (start c i arg2 harg2 arg3 harg3 arg4 harg4 arg5 harg5 arg6 harg6 arg7 harg7 arg8 harg8 xq xk xv).2.2.2.2.1
    = Scalar.maximumf a (topT (restT (softMaskT (stZ c i arg2 harg2 arg3 harg3 arg4 harg4 arg5 harg5 arg6 harg6 arg7 harg7 arg8 harg8 xq xk xv 7)) zeroT)) :=
  ⟨_, rfl⟩

end

end Cert.Proof.SBI

end
-- ==== Proof.SBI.Reads.lean ====
/-
  Reading the buffers: what the eight chains' stores leave, row by row, and which rows of keys and values a chain's loads are.
-/
module

public import proofs.«01_k».proof.Proof.SBI.Tile
public import proofs.«01_k».proof.Proof.SBI.ChainS

@[expose] public section

set_option maxRecDepth 16384

noncomputable section

namespace Cert.Proof.SBI

open Cert.KernelIdeal Cert.KernelIdeal.Gen
open Idealize.ShloMosaic Idealize.ShloMosaic.TcCoe

theorem lt_block (b : Fin 8) (r : Fin 256) : 256 * b.val + r.val < 2048 := by omega

/-- Row `r` of chain `b`, as a row of the block. -/
abbrev rowOf (b : Fin 8) (r : Fin 256) : Fin 2048 := ⟨256 * b.val + r.val, lt_block b r⟩

theorem exists_rowOf (a : Fin 2048) : ∃ b r, a = rowOf b r :=
  ⟨⟨a.val / 256, by omega⟩, ⟨a.val % 256, by omega⟩, Fin.ext (by show a.val = 256 * (a.val / 256) + a.val % 256; omega)⟩

theorem rowA_emb (b : Fin 8) (r : Fin 256) (d : Fin 128) : (rowA b).emb (ix2 r d) = ix2 (rowOf b r) d := by
  funext a; apply Fin.ext
  match a with
  | 0 => show 256 * b.val + 1 * r.val = 256 * b.val + r.val; omega
  | 1 => show 0 + 1 * d.val = d.val; omega

theorem rowR_emb (b : Fin 8) (r : Fin 256) (d : Fin 1) : (rowR b).emb (ix2 r d) = ix2 (rowOf b r) d := by
  funext a; apply Fin.ext
  match a with
  | 0 => show 256 * b.val + 1 * r.val = 256 * b.val + r.val; omega
  | 1 => show 0 + 1 * d.val = d.val; omega

theorem mem_chains (b : Fin 8) : b ∈ chains := by revert b; decide

variable {F : FTy → Type} [FloatOps F]

theorem read_chainsA {e : EltTy} (v : View sig .tc .vmem S2048x128 e) (f : v.ty.Contents (Elt F)) (g : Fin 8 → S256x128.Idx → Elt F e) (b : Fin 8) (r : Fin 256) (d : Fin 128) :
    v.read (Elt F) (v.writes (Elt F) f (chains.map fun b => ⟨rowA b, g b⟩)) (ix2 (rowOf b r) d) = g b (ix2 r d) := by
  rw [View.read_writes_apply_of_pieces v f (fun y : S2048x128.Idx => g ⟨(y 0).val / 256, by have : (y 0).val < 2048 := (y 0).isLt; omega⟩ (ix2 ⟨(y 0).val % 256, by omega⟩ ⟨(y 1).val, (y 1).isLt⟩)) _ ?_ _ ?_]
  · have h1 : (256 * b.val + r.val) / 256 = b.val := by omega
    have h2 : (256 * b.val + r.val) % 256 = r.val := by omega
    show g ⟨(256 * b.val + r.val) / 256, _⟩ (ix2 ⟨(256 * b.val + r.val) % 256, _⟩ ⟨d.val, _⟩) = _
    simp only [h1, h2]
  · intro p hp x
    obtain ⟨b', _, rfl⟩ := List.mem_map.mp hp
    have hx : x = ix2 (x 0 : Fin 256) (x 1 : Fin 128) := eq_ix2 x
    obtain ⟨r', d', rfl⟩ : ∃ (r' : Fin 256) (d' : Fin 128), x = ix2 r' d' := ⟨_, _, hx⟩
    have h1 : (256 * b'.val + r'.val) / 256 = b'.val := by omega
    have h2 : (256 * b'.val + r'.val) % 256 = r'.val := by omega
    dsimp only
    rw [rowA_emb]
    show _ = g ⟨(256 * b'.val + r'.val) / 256, _⟩ (ix2 ⟨(256 * b'.val + r'.val) % 256, _⟩ ⟨d'.val, _⟩)
    simp only [h1, h2]
  · refine ⟨_, List.mem_map.mpr ⟨b, mem_chains b, rfl⟩, ?_⟩
    rw [← rowA_emb]
    rw [← Rect.map_emb_univ]; exact Finset.mem_map_of_mem _ (Finset.mem_univ _)

theorem read_chainsR {e : EltTy} (v : View sig .tc .vmem S2048x1 e) (f : v.ty.Contents (Elt F)) (g : Fin 8 → S256x1.Idx → Elt F e) (b : Fin 8) (r : Fin 256) :
    v.read (Elt F) (v.writes (Elt F) f (chains.map fun b => ⟨rowR b, g b⟩)) (ix2 (rowOf b r) 0) = g b (ix2 r 0) := by
  rw [View.read_writes_apply_of_pieces v f (fun y : S2048x1.Idx => g ⟨(y 0).val / 256, by have : (y 0).val < 2048 := (y 0).isLt; omega⟩ (ix2 ⟨(y 0).val % 256, by omega⟩ 0)) _ ?_ _ ?_]
  · have h1 : (256 * b.val + r.val) / 256 = b.val := by omega
    have h2 : (256 * b.val + r.val) % 256 = r.val := by omega
    show g ⟨(256 * b.val + r.val) / 256, _⟩ (ix2 ⟨(256 * b.val + r.val) % 256, _⟩ 0) = _
    simp only [h1, h2]
  · intro p hp x
    obtain ⟨b', _, rfl⟩ := List.mem_map.mp hp
    obtain ⟨r', d', rfl⟩ : ∃ (r' : Fin 256) (d' : Fin 1), x = ix2 r' d' := ⟨_, _, eq_ix2 x⟩
    obtain rfl : d' = 0 := Subsingleton.elim _ _
    have h1 : (256 * b'.val + r'.val) / 256 = b'.val := by omega
    have h2 : (256 * b'.val + r'.val) % 256 = r'.val := by omega
    dsimp only
    rw [rowR_emb]
    show _ = g ⟨(256 * b'.val + r'.val) / 256, _⟩ (ix2 ⟨(256 * b'.val + r'.val) % 256, _⟩ 0)
    simp only [h1, h2]
  · refine ⟨_, List.mem_map.mpr ⟨b, mem_chains b, rfl⟩, ?_⟩
    rw [← rowR_emb]
    rw [← Rect.map_emb_univ]; exact Finset.mem_map_of_mem _ (Finset.mem_univ _)

/-! ## The loads -/

theorem rdA_apply {e : EltTy} (m : Memref sig .tc .vmem S2048x128 e) (hm : m.IsWhole) (x : Vec F S2048x128 e) (b : Fin 8) (r : Fin 256) (d : Fin 128) :
    View.readAt (Elt F) m.view (rowA b).toLoadRect (hm.unread x) (ix2 r d) = x (ix2 (rowOf b r) d) := by
  rw [hm.readAt_unread]
  exact congrArg x (rowA_emb b r d)

theorem rdR_apply {e : EltTy} (m : Memref sig .tc .vmem S2048x1 e) (hm : m.IsWhole) (x : Vec F S2048x1 e) (b : Fin 8) (r : Fin 256) :
    View.readAt (Elt F) m.view (rowR b).toLoadRect (hm.unread x) (ix2 r 0) = x (ix2 (rowOf b r) 0) := by
  rw [hm.readAt_unread]
  exact congrArg x (rowR_emb b r 0)

theorem off2_val' : ∀ (a : Fin 4) (n : Fin 33) (b : Fin 8), n.val ≤ a.val * 8 + 7 →
    (Scalar.indexCast (Scalar.muli (Scalar.subi (Scalar.addi (Scalar.addi (Scalar.muli (BitVec.ofNat 32 a.val) 8#32) 7#32) (BitVec.ofNat 32 b.val)) (BitVec.ofNat 32 n.val)) 256#32) : Index).toNat
      = 256 * (a.val * 8 + 7 + b.val - n.val) := by
  decide +kernel

theorem off2_val (i : grid0.Coords) (n : ℕ) (b : Fin 8) (hn : n ≤ base i) :
    k0_off2 i (BitVec.ofNat 32 n) (BitVec.ofNat 32 b.val) = ![0, 256 * (base i + b.val - n), 0] := by
  have hi : (i 1).val < 4 := (i 1).isLt
  have h := off2_val' (i 1) ⟨n, by unfold base at hn; omega⟩ b hn
  show ![0, _, 0] = _
  exact congrArg (fun k => ![0, k, 0]) h

theorem off1_val' : ∀ (a : Fin 4) (b : Fin 8),
    (Scalar.indexCast (Scalar.muli (Scalar.subi (Scalar.addi (Scalar.addi (Scalar.muli (BitVec.ofNat 32 a.val) 8#32) 7#32) (BitVec.ofNat 32 b.val)) 0#32) 256#32) : Index).toNat
      = 256 * (a.val * 8 + 7 + b.val) := by
  decide +kernel

theorem off1_val (i : grid0.Coords) (b : Fin 8) :
    k0_off1 i (BitVec.ofNat 32 b.val) = ![0, 256 * (base i + b.val), 0] := by
  have h := off1_val' (i 1) b
  show ![0, _, 0] = _
  exact congrArg (fun k => ![0, k, 0]) h

theorem shapeCast_tile {e : EltTy} (x : Vec F S1x256x128 e) (r : Fin 256) (d : Fin 128) :
    shapeCast S256x128 x shapeCasts_S1x256x128_S256x128 (ix2 r d) = x (ix3 0 r d) := by
  pointwise []

theorem tile_apply {e : EltTy} (m : Memref sig .tc .vmem S1x9984x128 e) (hm : m.IsWhole) (x : Vec F S1x9984x128 e) (off : Fin 3 → ℕ)
    (h : ∀ a, off a + S1x256x128.size a ≤ S1x9984x128.size a) (o : ℕ) (ho : off = ![0, o, 0]) (r : Fin 256) (d : Fin 128) (hr : o + r.val < 9984) :
    shapeCast S256x128 (View.readAt (Elt F) m.view (Rect.unit (s := S1x9984x128) off S1x256x128.size h).toLoadRect (hm.unread x)) shapeCasts_S1x256x128_S256x128 (ix2 r d)
      = x (ix3 0 ⟨o + r.val, hr⟩ d) := by
  subst ho
  rw [shapeCast_tile, hm.readAt_unread]
  refine congrArg x ?_
  funext a; apply Fin.ext
  match a with
  | 0 => rfl
  | 1 => show o + 1 * r.val = o + r.val; omega
  | 2 => show 0 + 1 * d.val = d.val; omega

end Cert.Proof.SBI

end
-- ==== Proof.SBI.Sums.lean ====
/-
  Sums over the keys a row sees, cut into tiles of 256: what a chain adds on one tile, told over the positions in the row.
-/
module

public import proofs.«01_k».proof.Proof.SBI.Tile

@[expose] public section

noncomputable section

namespace Cert.Proof.SBI

open Finset

/-- The weight of key `p` for a query at position `T`: `g` its score, `S` what each newer key breaks off the stick. -/
def stickR (g S : ℕ → ℝ) (T p : ℕ) : ℝ := Real.exp (g p - ∑ p' ∈ Ico p T, S p')

theorem sum_fin_tile (f : ℕ → ℝ) (o : ℕ) : (∑ e : Fin 256, f (o + e.val)) = ∑ p ∈ Ico o (o + 256), f p := by
  rw [Fin.sum_univ_eq_sum_range (fun e => f (o + e)) 256, Finset.sum_Ico_eq_sum_range, Nat.add_sub_cancel_left]

theorem sum_fin_newer (f : ℕ → ℝ) (o b n : ℕ) (hn : n ≤ 256) : (∑ e : Fin 256, if b < e.val ∧ e.val < n then f (o + e.val) else 0) = ∑ p ∈ Ico (o + b + 1) (o + n), f p := by
  rw [Fin.sum_univ_eq_sum_range (fun e => if b < e ∧ e < n then f (o + e) else 0) 256, ← Finset.sum_filter]
  have h : (range 256).filter (fun e => b < e ∧ e < n) = Ico (b + 1) n := by
    ext e; simp only [mem_filter, mem_range, mem_Ico]; omega
  rw [h, Finset.sum_Ico_add f (b + 1) n o]
  congr 2 <;> omega

theorem sum_fin_older (f : ℕ → ℝ) (o n : ℕ) (hn : n ≤ 256) : (∑ e : Fin 256, if e.val < n then f (o + e.val) else 0) = ∑ p ∈ Ico o (o + n), f p := by
  rw [Fin.sum_univ_eq_sum_range (fun e => if e < n then f (o + e) else 0) 256, ← Finset.sum_filter]
  have h : (range 256).filter (fun e => e < n) = Ico 0 n := by
    ext e; simp only [mem_filter, mem_range, mem_Ico]; omega
  rw [h, Finset.sum_Ico_add f 0 n o]
  congr 2 <;> omega

variable (g S : ℕ → ℝ)

/-- On a tile all of which the row sees, the remainder counting all keys newer than the tile. -/
theorem weightR_full (T o : ℕ) (h : o + 256 ≤ T) (b : Fin 256) :
    weightR (fun e => g (o + e.val)) (fun e => S (o + e.val)) (-∑ p ∈ Ico (o + 256) T, S p) b = stickR g S T (o + b.val) := by
  have hb := b.isLt
  have h1 : (∑ e : Fin 256, if b < e then S (o + e.val) else 0) = ∑ p ∈ Ico (o + b.val + 1) (o + 256), S p := by
    rw [← sum_fin_newer S o b.val 256 le_rfl]
    refine Finset.sum_congr rfl fun e _ => ?_
    by_cases hc : b < e
    · rw [if_pos hc, if_pos ⟨hc, e.isLt⟩]
    · rw [if_neg hc, if_neg fun h' => hc h'.1]
  have h2 : (∑ p ∈ Ico (o + b.val) T, S p) = S (o + b.val) + ((∑ p ∈ Ico (o + b.val + 1) (o + 256), S p) + ∑ p ∈ Ico (o + 256) T, S p) := by
    rw [Finset.sum_Ico_consecutive _ (by omega) h, Finset.sum_eq_sum_Ico_succ_bot (by omega)]
  unfold weightR stickR
  rw [h1, h2]
  congr 1
  ring

/-- On the diagonal tile, of which the row at place `a` sees the first `a` keys. -/
theorem weightR_diag (o : ℕ) (a b : Fin 256) (h : b < a) :
    weightR (fun e => g (o + e.val)) (fun e => if e < a then S (o + e.val) else 0) 0 b = stickR g S (o + a.val) (o + b.val) := by
  have hb := b.isLt
  have ha := a.isLt
  have hba : b.val < a.val := h
  have h1 : (∑ e : Fin 256, if b < e then (if e < a then S (o + e.val) else 0) else 0) = ∑ p ∈ Ico (o + b.val + 1) (o + a.val), S p := by
    rw [← sum_fin_newer S o b.val a.val ha.le]
    refine Finset.sum_congr rfl fun e _ => ?_
    by_cases hc : b < e <;> by_cases hd : e < a
    · rw [if_pos hc, if_pos hd, if_pos ⟨hc, hd⟩]
    · rw [if_pos hc, if_neg hd, if_neg fun h' => hd h'.2]
    · rw [if_neg hc, if_neg fun h' => hc h'.1]
    · rw [if_neg hc, if_neg fun h' => hc h'.1]
  have h2 : (∑ p ∈ Ico (o + b.val) (o + a.val), S p) = S (o + b.val) + ∑ p ∈ Ico (o + b.val + 1) (o + a.val), S p := by
    rw [Finset.sum_eq_sum_Ico_succ_bot (by omega)]
  unfold weightR stickR
  rw [h1, h2]
  simp only [if_pos h]
  congr 1
  ring

end Cert.Proof.SBI

end
-- ==== Proof.SBI.State.lean ====
/-
  The loop on real numbers. A row of chain `b` at place `r` sits at position `256 * (base + b) + r` of the padded rows of keys; after
  `n` tiles its sum covers the keys from position `256 * (base + b + 1 - n)` up to itself, and its remainder has paid for them.
-/
module

public import proofs.«01_k».proof.Proof.SBI.Reads
public import proofs.«01_k».proof.Proof.SBI.Sums

@[expose] public section

set_option maxRecDepth 16384

noncomputable section

namespace Cert.Proof.SBI

open Cert.KernelIdeal Cert.KernelIdeal.Gen
open Idealize.ShloMosaic Idealize.ShloMosaic.TcCoe
open Finset

section

variable (qr kr vr : ℕ → Fin 128 → ℝ)

/-- The score of query row `a` on the key at position `p`. -/
def scoreR (a p : ℕ) : ℝ := (∑ d : Fin 128, qr a d * kr p d) * scaleR

/-- A row's sum over the keys from `lo` to the row's own position `T`. -/
def sumR (a T lo : ℕ) (d : Fin 128) : ℝ :=
  ∑ p ∈ Ico lo T, stickR (scoreR qr kr a) (fun p => softR (scoreR qr kr a p)) T p * vr p d

/-- A row's remainder after the keys from `lo` on. -/
def leftR (a T lo : ℕ) : ℝ := -∑ p ∈ Ico lo T, softR (scoreR qr kr a p)

end

theorem sc_A (x : Vec Ideal S256x128 .f32) (r : Fin 256) (d : Fin 128) : shapeCast S256x128 x shapeCasts_S256x128_S256x128 (ix2 r d) = x (ix2 r d) := by
  pointwise []
theorem sc_R (x : Vec Ideal S256x1 .f32) (r : Fin 256) : shapeCast S256x1 x shapeCasts_S256x1_S256x1 (ix2 r 0) = x (ix2 r 0) := by
  pointwise []

section

variable (c : Dev nD) (i : grid0.Coords) (arg6 : Memref sig .tc .vmem S2048x128 .bf16) (harg6 : arg6.IsWhole)
    (arg3 : Memref sig .tc .vmem S1x9984x128 .bf16) (harg3 : arg3.IsWhole) (arg4 : Memref sig .tc .vmem S1x9984x128 .bf16) (harg4 : arg4.IsWhole)
    (arg8 : Memref sig .tc .vmem S2048x1 .f32) (harg8 : arg8.IsWhole)
    (arg7 : Memref sig .tc .vmem S2048x128 .f32) (harg7 : arg7.IsWhole)
    (xq : Vec Ideal S2048x128 .bf16) (xk xv : Vec Ideal S1x9984x128 .bf16)
    (qr kr vr : ℕ → Fin 128 → ℝ)

/-- The running buffers hold the rows' sums and remainders after `n` tiles. -/
def HoldsA (n : ℕ) (xa : Vec Ideal S2048x128 .f32) : Prop :=
  ∀ (b : Fin 8) (r : Fin 256) (d : Fin 128), xa (ix2 (rowOf b r) d) = ((sumR qr kr vr (rowOf b r).val (256 * (base i + b.val) + r.val) (256 * (base i + b.val + 1 - n)) d : ℝ) : EReal)
def HoldsR (n : ℕ) (xr : Vec Ideal S2048x1 .f32) : Prop :=
  ∀ (b : Fin 8) (r : Fin 256), xr (ix2 (rowOf b r) 0) = ((leftR qr kr (rowOf b r).val (256 * (base i + b.val) + r.val) (256 * (base i + b.val + 1 - n)) : ℝ) : EReal)

variable {i xq xk xv qr kr vr}
variable (hq : ∀ (a : Fin 2048) (d : Fin 128), xq (ix2 a d) = (qr a.val d : EReal))
  (hk : ∀ (p : Fin 9984) (d : Fin 128), xk (ix3 0 p d) = (kr p.val d : EReal))
  (hv : ∀ (p : Fin 9984) (d : Fin 128), xv (ix3 0 p d) = (vr p.val d : EReal))
  (n : ℕ) (h1 : 1 ≤ n) (hn : n ≤ base i) (top : Ideal .f32) (hgo : goes i (BitVec.ofNat 32 n) top = 1#1) (hchk : k0_chk1 i (BitVec.ofNat 32 n))
  {xa : Vec Ideal S2048x128 .f32} {xr : Vec Ideal S2048x1 .f32} (hA : HoldsA i qr kr vr n xa) (hR : HoldsR i qr kr n xr)

theorem base_lt (i : grid0.Coords) : base i ≤ 31 := by
  have hi : (i 1).val < 4 := (i 1).isLt
  unfold base; omega

include hn in
theorem tile_real {m : Memref sig .tc .vmem S1x9984x128 .bf16} {hm : m.IsWhole} {x : Vec Ideal S1x9984x128 .bf16} {f : ℕ → Fin 128 → ℝ}
    (hf : ∀ (p : Fin 9984) (d : Fin 128), x (ix3 0 p d) = (f p.val d : EReal)) (b : Fin 8) (e : Fin 256) (d : Fin 128) :
    rdT i (BitVec.ofNat 32 n) hchk m hm x b (ix2 e d) = (f (256 * (base i + b.val - n) + e.val) d : EReal) := by
  have hb := base_lt i
  rw [rdT, tile_apply m hm x _ _ (256 * (base i + b.val - n)) (off2_val i n b hn) e d (by omega), hf]

include hq hk hn in
theorem score_real (b : Fin 8) (a e : Fin 256) :
    scoreT (rdQ arg6 harg6 xq b) (rdT i (BitVec.ofNat 32 n) hchk arg3 harg3 xk b) (ix2 a e)
      = (scoreR qr kr (rowOf b a).val (256 * (base i + b.val - n) + e.val) : EReal) :=
  scoreT_real (qr := fun a d => qr (rowOf b a).val d) (kr := fun e d => kr (256 * (base i + b.val - n) + e.val) d)
    (fun a d => (rdA_apply arg6 harg6 xq b a d).trans (hq _ d))
    (fun e d => tile_real n hn hchk hk b e d) a e

include hR h1 hn in
theorem rest_real (b : Fin 8) (a : Fin 256) :
    rdR arg8 harg8 xr b (ix2 a 0) = ((-∑ p ∈ Ico (256 * (base i + b.val - n) + 256) (256 * (base i + b.val) + a.val), softR (scoreR qr kr (rowOf b a).val p) : ℝ) : EReal) := by
  rw [rdR, rdR_apply arg8 harg8 xr b a, hR b a, leftR]
  have h : 256 * (base i + b.val + 1 - n) = 256 * (base i + b.val - n) + 256 := by omega
  rw [h]

include hq hk hv hn h1 hA hR in
theorem step_A : HoldsA i qr kr vr (n + 1) (VA.read (Elt Ideal) (VA.writes (Elt Ideal) VA.junk
    (walk c i arg6 harg6 arg3 harg3 arg4 harg4 arg8 harg8 triT arg7 harg7 (BitVec.ofNat 32 n) top hgo hchk xq xk xv xa xr).1)) := by
  intro b r d
  rw [walk_A, read_chainsA, sc_A]
  have hz := score_real arg6 harg6 arg3 harg3 hq hk n hn hchk b
  have hw := weightT_real hz (softT_real hz) (rest_real arg8 harg8 n h1 hn hR b)
  have hm := mixT_real hw (tile_real (hm := harg4) n hn hchk hv b) r d
  show rdA arg7 harg7 xa b (ix2 r d) + mixT _ _ (ix2 r d) = _
  rw [hm, rdA, rdA_apply, hA b r d, ← EReal.coe_add]
  refine congrArg _ ?_
  have e1 : 256 * (base i + b.val + 1 - n) = 256 * (base i + b.val - n) + 256 := by omega
  have e2 : base i + b.val + 1 - (n + 1) = base i + b.val - n := by omega
  have hT : 256 * (base i + b.val - n) + 256 ≤ 256 * (base i + b.val) + r.val := by omega
  unfold sumR
  rw [e1, e2, ← Finset.sum_Ico_consecutive _ (Nat.le_add_right (256 * (base i + b.val - n)) 256) hT, ← sum_fin_tile, add_comm]
  congr 1
  refine Finset.sum_congr rfl fun e _ => ?_
  rw [← weightR_full _ _ _ _ hT e]

include hq hk hn h1 hR in
theorem step_R : HoldsR i qr kr (n + 1) (VR.read (Elt Ideal) (VR.writes (Elt Ideal) VR.junk
    (walk c i arg6 harg6 arg3 harg3 arg4 harg4 arg8 harg8 triT arg7 harg7 (BitVec.ofNat 32 n) top hgo hchk xq xk xv xa xr).2.1)) := by
  intro b r
  rw [walk_R, read_chainsR, sc_R]
  have hz := score_real arg6 harg6 arg3 harg3 hq hk n hn hchk b
  rw [restT_real (softT_real hz) (rest_real arg8 harg8 n h1 hn hR b) r]
  refine congrArg _ ?_
  have e2 : base i + b.val + 1 - (n + 1) = base i + b.val - n := by omega
  have hT : 256 * (base i + b.val - n) + 256 ≤ 256 * (base i + b.val) + r.val := by omega
  unfold leftR
  rw [e2, ← Finset.sum_Ico_consecutive _ (Nat.le_add_right (256 * (base i + b.val - n)) 256) hT,
    ← sum_fin_tile (fun p => softR (scoreR qr kr (rowOf b r).val p))]
  ring

include hq hk hn h1 hR in
theorem step_top : (⊥ : EReal) < (walk c i arg6 harg6 arg3 harg3 arg4 harg4 arg8 harg8 triT arg7 harg7 (BitVec.ofNat 32 n) top hgo hchk xq xk xv xa xr).2.2.2.1 := by
  obtain ⟨a, ha⟩ := walk_top c i arg6 harg6 arg3 harg3 arg4 harg4 arg8 harg8 triT arg7 harg7 xq xk xv (BitVec.ofNat 32 n) top hgo hchk xa xr
  rw [ha]
  have hz := score_real arg6 harg6 arg3 harg3 hq hk n hn hchk 7
  exact lt_of_lt_of_le (topT_bot _ _ (restT_real (softT_real hz) (rest_real arg8 harg8 n h1 hn hR 7) 0)) (le_max_right _ _)

include hn in
/-- While tiles are left and the largest remainder is a real number, the loop goes on. -/
theorem goes_real (h : (⊥ : EReal) < top) : goes i (BitVec.ofNat 32 n) top = 1#1 := by
  have hi : (i 1).val < 4 := (i 1).isLt
  have ha := (le_of_goes' (i 1) ⟨n, by have := base_lt i; omega⟩).mpr hn
  have hb : Scalar.cmpf .ogt top (Named.named κ "weight_zero_below" 0xC2D00000#32 : Ideal .f32) = 1#1 := by
    have e : (Named.named κ "weight_zero_below" 0xC2D00000#32 : Ideal .f32) = (⊥ : EReal) := IdealRules.named_const.ideal_named_scalar _ _ _ _ rfl
    rw [e]
    show BitVec.ofBool (decide ((⊥ : EReal) < top)) = 1#1
    rw [decide_eq_true h]; rfl
  unfold goes
  rw [hb]
  show IntOp.andi (Scalar.cmpi .sle (BitVec.ofNat 32 n) (Scalar.addi (Scalar.muli (BitVec.ofNat 32 (i 1).val) 8#32) 7#32)) 1#1 = 1#1
  rw [show Scalar.cmpi .sle (BitVec.ofNat 32 n) (Scalar.addi (Scalar.muli (BitVec.ofNat 32 (i 1).val) 8#32) 7#32) = 1#1 from ha]
  rfl

end

section

variable (c : Dev nD) (i : grid0.Coords) (arg6 : Memref sig .tc .vmem S2048x128 .bf16) (harg6 : arg6.IsWhole)
    (arg3 : Memref sig .tc .vmem S1x9984x128 .bf16) (harg3 : arg3.IsWhole) (arg4 : Memref sig .tc .vmem S1x9984x128 .bf16) (harg4 : arg4.IsWhole)
    (arg8 : Memref sig .tc .vmem S2048x1 .f32) (harg8 : arg8.IsWhole)
    (arg7 : Memref sig .tc .vmem S2048x128 .f32) (harg7 : arg7.IsWhole)
    {xq : Vec Ideal S2048x128 .bf16} {xk xv : Vec Ideal S1x9984x128 .bf16}
    {qr kr vr : ℕ → Fin 128 → ℝ}
    (hq : ∀ (a : Fin 2048) (d : Fin 128), xq (ix2 a d) = (qr a.val d : EReal))
    (hk : ∀ (p : Fin 9984) (d : Fin 128), xk (ix3 0 p d) = (kr p.val d : EReal))
    (hv : ∀ (p : Fin 9984) (d : Fin 128), xv (ix3 0 p d) = (vr p.val d : EReal))

include hq hk hv in
/-- The loop takes all its tiles. -/
theorem loop_real : ∀ (k n : ℕ) (hn : n + k = base i + 1) (h1 : 1 ≤ n) (top : Ideal .f32) (ht : (⊥ : EReal) < top) (xa : Vec Ideal S2048x128 .f32) (xr : Vec Ideal S2048x1 .f32)
    (hA : HoldsA i qr kr vr n xa) (hR : HoldsR i qr kr n xr),
    HoldsA i qr kr vr (base i + 1) (loopSt c i arg6 harg6 arg3 harg3 arg4 harg4 arg8 harg8 triT arg7 harg7 xq xk xv k n top xa xr).1 := by
  intro k
  induction k with
  | zero =>
    intro n hn h1 top ht xa xr hA hR
    obtain rfl : n = base i + 1 := by omega
    exact hA
  | succ k ih =>
    intro n hn h1 top ht xa xr hA hR
    have hle : n ≤ base i := by omega
    have hgo := goes_real n hle top ht
    have hchk := chk_of_le i n h1 hle
    have hst : loopSt c i arg6 harg6 arg3 harg3 arg4 harg4 arg8 harg8 triT arg7 harg7 xq xk xv (k + 1) n top xa xr
        = loopSt c i arg6 harg6 arg3 harg3 arg4 harg4 arg8 harg8 triT arg7 harg7 xq xk xv k (n + 1)
            (walk c i arg6 harg6 arg3 harg3 arg4 harg4 arg8 harg8 triT arg7 harg7 (BitVec.ofNat 32 n) top hgo hchk xq xk xv xa xr).2.2.2.1
            (VA.read (Elt Ideal) (VA.writes (Elt Ideal) VA.junk (walk c i arg6 harg6 arg3 harg3 arg4 harg4 arg8 harg8 triT arg7 harg7 (BitVec.ofNat 32 n) top hgo hchk xq xk xv xa xr).1))
            (VR.read (Elt Ideal) (VR.writes (Elt Ideal) VR.junk (walk c i arg6 harg6 arg3 harg3 arg4 harg4 arg8 harg8 triT arg7 harg7 (BitVec.ofNat 32 n) top hgo hchk xq xk xv xa xr).2.1)) :=
      dif_pos ⟨hgo, hchk⟩
    rw [hst]
    exact ih (n + 1) (by omega) (by omega) _
      (step_top c arg6 harg6 arg3 harg3 arg4 harg4 arg8 harg8 arg7 harg7 hq hk n h1 hle top hgo hchk hR) _ _
      (step_A c arg6 harg6 arg3 harg3 arg4 harg4 arg8 harg8 arg7 harg7 hq hk hv n h1 hle top hgo hchk hA hR)
      (step_R c arg6 harg6 arg3 harg3 arg4 harg4 arg8 harg8 arg7 harg7 hq hk n h1 hle top hgo hchk hR)

end

end Cert.Proof.SBI

end
-- ==== Proof.SBI.Whole.lean ====
/-
  The whole body at one step of the grid, on real numbers: the part before the loop leaves each chain's diagonal tile, the loop the rest.
-/
module

public import proofs.«01_k».proof.Proof.SBI.State

@[expose] public section

set_option maxRecDepth 16384

noncomputable section

namespace Cert.Proof.SBI

open Cert.KernelIdeal Cert.KernelIdeal.Gen
open Idealize.ShloMosaic Idealize.ShloMosaic.TcCoe
open Finset

theorem sc_Q (x : Vec Ideal S2048x128 .bf16) (y : S2048x128.Idx) : shapeCast S2048x128 x shapeCasts_S2048x128_S2048x128 y = x y := by
  pointwise []

theorem loop_real' (c : Dev nD) (i : grid0.Coords) (arg6 : Memref sig .tc .vmem S2048x128 .bf16) (harg6 : arg6.IsWhole)
    (arg3 : Memref sig .tc .vmem S1x9984x128 .bf16) (harg3 : arg3.IsWhole) (arg4 : Memref sig .tc .vmem S1x9984x128 .bf16) (harg4 : arg4.IsWhole)
    (arg8 : Memref sig .tc .vmem S2048x1 .f32) (harg8 : arg8.IsWhole)
    (arg7 : Memref sig .tc .vmem S2048x128 .f32) (harg7 : arg7.IsWhole)
    {xq : Vec Ideal S2048x128 .bf16} {xk xv : Vec Ideal S1x9984x128 .bf16}
    {qr kr vr : ℕ → Fin 128 → ℝ}
    (hq : ∀ (a : Fin 2048) (d : Fin 128), xq (ix2 a d) = (qr a.val d : EReal))
    (hk : ∀ (p : Fin 9984) (d : Fin 128), xk (ix3 0 p d) = (kr p.val d : EReal))
    (hv : ∀ (p : Fin 9984) (d : Fin 128), xv (ix3 0 p d) = (vr p.val d : EReal)) (u : FVec Ideal S256x256 .bf16) (hu : u = triT)
    (k n : ℕ) (hn : n + k = base i + 1) (h1 : 1 ≤ n) (top : Ideal .f32) (ht : (⊥ : EReal) < top) (xa : Vec Ideal S2048x128 .f32) (xr : Vec Ideal S2048x1 .f32)
    (hA : HoldsA i qr kr vr n xa) (hR : HoldsR i qr kr n xr) :
    HoldsA i qr kr vr (base i + 1) (loopSt c i arg6 harg6 arg3 harg3 arg4 harg4 arg8 harg8 u arg7 harg7 xq xk xv k n top xa xr).1 := by
  subst hu
  exact loop_real c i arg6 harg6 arg3 harg3 arg4 harg4 arg8 harg8 arg7 harg7 hq hk hv k n hn h1 top ht xa xr hA hR

theorem full_emb (y : S2048x128.Idx) : (Rect.unit (s := S2048x128) ![0, 0] S2048x128.size inb_S2048x128_S2048x128_0_0).emb y = y := by
  funext a; apply Fin.ext
  match a with
  | 0 => show 0 + 1 * (y 0).val = (y 0).val; omega
  | 1 => show 0 + 1 * (y 1).val = (y 1).val; omega

section

variable (c : Dev nD) (i : grid0.Coords) (arg2 : Memref sig .tc .vmem S2048x128 .f32) (harg2 : arg2.IsWhole)
    (arg3 : Memref sig .tc .vmem S1x9984x128 .bf16) (harg3 : arg3.IsWhole) (arg4 : Memref sig .tc .vmem S1x9984x128 .bf16) (harg4 : arg4.IsWhole)
    (arg5 : Memref sig .tc .vmem S2048x128 .bf16) (harg5 : arg5.IsWhole) (arg6 : Memref sig .tc .vmem S2048x128 .bf16) (harg6 : arg6.IsWhole)
    (arg7 : Memref sig .tc .vmem S2048x128 .f32) (harg7 : arg7.IsWhole) (arg8 : Memref sig .tc .vmem S2048x1 .f32) (harg8 : arg8.IsWhole)
    {xq : Vec Ideal S2048x128 .f32} {xk xv : Vec Ideal S1x9984x128 .bf16}
    {qr kr vr : ℕ → Fin 128 → ℝ}
    (hq : ∀ (a : Fin 2048) (d : Fin 128), xq (ix2 a d) = (qr a.val d : EReal))
    (hk : ∀ (p : Fin 9984) (d : Fin 128), xk (ix3 0 p d) = (kr p.val d : EReal))
    (hv : ∀ (p : Fin 9984) (d : Fin 128), xv (ix3 0 p d) = (vr p.val d : EReal))

/-- The rounded queries are the queries, through whichever view they are read back. -/
theorem startQ_apply (v : View sig .tc .vmem S2048x128 .bf16) (f : v.ty.Contents (Elt Ideal)) (y : S2048x128.Idx) :
    v.read (Elt Ideal) (v.writes (Elt Ideal) f (start c i arg2 harg2 arg3 harg3 arg4 harg4 arg5 harg5 arg6 harg6 arg7 harg7 arg8 harg8 xq xk xv).1) y = xq y := by
  rw [start_Q, View.read_writes_cons_hit _ _ _ _ _ y _ (full_emb y), sc_Q]
  exact (harg2.readAt_unread xq (Rect.unit (s := S2048x128) ![0, 0] S2048x128.size inb_S2048x128_S2048x128_0_0).toLoadRect y).trans (congrArg xq (full_emb y))

include hq in
theorem stQ_real (b : Fin 8) (r : Fin 256) (d : Fin 128) :
    stQ c i arg2 harg2 arg3 harg3 arg4 harg4 arg5 harg5 arg6 harg6 arg7 harg7 arg8 harg8 xq xk xv b (ix2 r d) = (qr (rowOf b r).val d : EReal) := by
  rw [stQ, View.readAt_apply]
  have e : (rowA b).toLoadRect.idx (ix2 r d) = ix2 (rowOf b r) d := rowA_emb b r d
  rw [e, startQ_apply, hq]

theorem stT_real {m : Memref sig .tc .vmem S1x9984x128 .bf16} {hm : m.IsWhole} {x : Vec Ideal S1x9984x128 .bf16} {f : ℕ → Fin 128 → ℝ}
    (hf : ∀ (p : Fin 9984) (d : Fin 128), x (ix3 0 p d) = (f p.val d : EReal)) (b : Fin 8) (e : Fin 256) (d : Fin 128) :
    stT i m hm x b (ix2 e d) = (f (256 * (base i + b.val) + e.val) d : EReal) := by
  have hb := base_lt i
  rw [stT, tile_apply m hm x _ _ (256 * (base i + b.val)) (off1_val i b) e d (by omega), hf]

include hq hk in
theorem stZ_real (b : Fin 8) (a e : Fin 256) :
    stZ c i arg2 harg2 arg3 harg3 arg4 harg4 arg5 harg5 arg6 harg6 arg7 harg7 arg8 harg8 xq xk xv b (ix2 a e)
      = (scoreR qr kr (rowOf b a).val (256 * (base i + b.val) + e.val) : EReal) :=
  scoreT_real (qr := fun a d => qr (rowOf b a).val d) (kr := fun e d => kr (256 * (base i + b.val) + e.val) d)
    (fun a d => stQ_real c i arg2 harg2 arg3 harg3 arg4 harg4 arg5 harg5 arg6 harg6 arg7 harg7 arg8 harg8 hq b a d) (fun e d => stT_real i hk b e d) a e

theorem zeroT_real (a : Fin 256) : zeroT (F := Ideal) (ix2 a 0) = ((0 : ℝ) : EReal) := by
  pointwise [zeroT]
  rfl

include hq hk hv in
theorem start_holdsA : HoldsA i qr kr vr 1 (VA.read (Elt Ideal) (VA.writes (Elt Ideal) VA.junk
    (start c i arg2 harg2 arg3 harg3 arg4 harg4 arg5 harg5 arg6 harg6 arg7 harg7 arg8 harg8 xq xk xv).2.1)) := by
  intro b r d
  rw [start_A, read_chainsA, sc_A]
  have hz := stZ_real c i arg2 harg2 arg3 harg3 arg4 harg4 arg5 harg5 arg6 harg6 arg7 harg7 arg8 harg8 (xv := xv) hq hk b
  rw [mixT_real (maskT_real (weightT_real hz (softMaskT_real hz) zeroT_real)) (stT_real (hm := harg4) i hv b) r d]
  refine congrArg _ ?_
  have e2 : base i + b.val + 1 - 1 = base i + b.val := by omega
  unfold sumR
  rw [e2, ← sum_fin_older _ (256 * (base i + b.val)) r.val r.isLt.le]
  refine Finset.sum_congr rfl fun e _ => ?_
  by_cases h : e < r
  · rw [if_pos h, if_pos (show e.val < r.val from h), ← weightR_diag _ _ _ r e h]
  · rw [if_neg h, if_neg (show ¬e.val < r.val from h), zero_mul]

include hq hk in
theorem start_holdsR : HoldsR i qr kr 1 (VR.read (Elt Ideal) (VR.writes (Elt Ideal) VR.junk
    (start c i arg2 harg2 arg3 harg3 arg4 harg4 arg5 harg5 arg6 harg6 arg7 harg7 arg8 harg8 xq xk xv).2.2.1)) := by
  intro b r
  rw [start_R, read_chainsR, sc_R]
  have hz := stZ_real c i arg2 harg2 arg3 harg3 arg4 harg4 arg5 harg5 arg6 harg6 arg7 harg7 arg8 harg8 (xv := xv) hq hk b
  rw [restT_real (softMaskT_real hz) zeroT_real r]
  refine congrArg _ ?_
  have e2 : base i + b.val + 1 - 1 = base i + b.val := by omega
  unfold leftR
  rw [e2, zero_sub, ← sum_fin_older _ (256 * (base i + b.val)) r.val r.isLt.le]
  rfl

include hq hk in
theorem start_bot : (⊥ : EReal) < (start c i arg2 harg2 arg3 harg3 arg4 harg4 arg5 harg5 arg6 harg6 arg7 harg7 arg8 harg8 xq xk xv).2.2.2.2.1 := by
  obtain ⟨a, ha⟩ := start_top c i arg2 harg2 arg3 harg3 arg4 harg4 arg5 harg5 arg6 harg6 arg7 harg7 arg8 harg8 xq xk xv
  rw [ha]
  have hz := stZ_real c i arg2 harg2 arg3 harg3 arg4 harg4 arg5 harg5 arg6 harg6 arg7 harg7 arg8 harg8 (xv := xv) hq hk 7
  exact lt_of_lt_of_le (topT_bot _ _ (restT_real (softMaskT_real hz) zeroT_real 0)) (le_max_right _ _)

include hq hk hv in
theorem end_real : HoldsA i qr kr vr (base i + 1) (endSt c i arg2 harg2 arg3 harg3 arg4 harg4 arg5 harg5 arg6 harg6 arg7 harg7 arg8 harg8 xq xk xv).1 := by
  refine loop_real' c i arg6 harg6 arg3 harg3 arg4 harg4 arg8 harg8 arg7 harg7 ?_ hk hv _
    (start_tri c i arg2 harg2 arg3 harg3 arg4 harg4 arg5 harg5 arg6 harg6 arg7 harg7 arg8 harg8 xq xk xv) (base i) 1 (by omega) le_rfl _ ?_ _ _ ?_ ?_
  · intro a d
    rw [startQ_apply, hq]
  · exact start_bot c i arg2 harg2 arg3 harg3 arg4 harg4 arg5 harg5 arg6 harg6 arg7 harg7 arg8 harg8 hq hk
  · exact start_holdsA c i arg2 harg2 arg3 harg3 arg4 harg4 arg5 harg5 arg6 harg6 arg7 harg7 arg8 harg8 hq hk hv
  · exact start_holdsR c i arg2 harg2 arg3 harg3 arg4 harg4 arg5 harg5 arg6 harg6 arg7 harg7 arg8 harg8 hq hk

theorem whole_piece : (whole c i arg2 harg2 arg3 harg3 arg4 harg4 arg5 harg5 arg6 harg6 arg7 harg7 arg8 harg8 xq xk xv).1
    = [⟨Rect.unit (s := S2048x128) ![0, 0] S2048x128.size inb_S2048x128_S2048x128_0_0,
        (View.readAt (Elt Ideal) arg7.view (Rect.unit (s := S2048x128) ![0, 0] S2048x128.size inb_S2048x128_S2048x128_0_0).toLoadRect
          (harg7.unread (endSt c i arg2 harg2 arg3 harg3 arg4 harg4 arg5 harg5 arg6 harg6 arg7 harg7 arg8 harg8 xq xk xv).1) : Vec Ideal S2048x128 .f32)⟩] := by
  sl_kernel_rfl

include hq hk hv in
/-- What the body leaves in the output's block: each row's sum over the keys from position `256 * b` up to the row's own. -/
theorem whole_real (v : View sig .tc .vmem S2048x128 .bf16) (f : v.ty.Contents (Elt Ideal)) (b : Fin 8) (r : Fin 256) (d : Fin 128) :
    v.read (Elt Ideal) (v.writes (Elt Ideal) f (whole c i arg2 harg2 arg3 harg3 arg4 harg4 arg5 harg5 arg6 harg6 arg7 harg7 arg8 harg8 xq xk xv).1) (ix2 (rowOf b r) d)
      = ((sumR qr kr vr (rowOf b r).val (256 * (base i + b.val) + r.val) (256 * b.val) d : ℝ) : EReal) := by
  rw [whole_piece, View.read_writes_cons_hit _ _ _ _ _ _ _ (full_emb _)]
  refine (harg7.readAt_unread _ (Rect.unit (s := S2048x128) ![0, 0] S2048x128.size inb_S2048x128_S2048x128_0_0).toLoadRect (ix2 (rowOf b r) d)).trans ((congrArg _ (full_emb (ix2 (rowOf b r) d))).trans ?_)
  rw [end_real c i arg2 harg2 arg3 harg3 arg4 harg4 arg5 harg5 arg6 harg6 arg7 harg7 arg8 harg8 hq hk hv b r d]
  have e2 : base i + b.val + 1 - (base i + 1) = b.val := by omega
  rw [e2]

end

end Cert.Proof.SBI

end
-- ==== Proof.SBI.Final.lean ====
/-
  The kernel's result as an array: at query `t` and column `128 * h + d`, the sum over the earlier keys of head `h`.
-/
module

public import proofs.«01_k».proof.Proof.SBI.Whole
public import proofs.«01_k».proof.Proof.SBI.Run
public import Idealize.ShloMosaic.Lib.Pipeline.ValueKit

@[expose] public section

set_option maxRecDepth 16384

noncomputable section

namespace Cert.Proof.SBI

open Cert.KernelIdeal Cert.KernelIdeal.Gen
open Idealize.ShloMosaic Idealize.ShloMosaic.TcCoe Idealize.ShloMosaic.Tactic
open Idealize.ShloMosaic.Pipeline (Dat)
open Finset

section

variable (Q K V' : ℕ → ℕ → ℝ)

/-- Head `h`'s score of query `t` on key `s`. -/
def headScore (h t s : ℕ) : ℝ := (∑ d : Fin 128, Q t (128 * h + d.val) * K s (128 * h + d.val)) * scaleR

/-- The attention of query `t`, at column `j` of its heads' rows: the earlier keys' values under the weights the stick gives them. -/
def attendR (t j : ℕ) : ℝ :=
  ∑ s ∈ range t, stickR (headScore Q K (j / 128) t) (fun s => softR (headScore Q K (j / 128) t s)) t s * V' s j

/-- Rows of keys or values with 1792 rows of zeros before them. -/
def padded (X : ℕ → ℕ → ℝ) (p j : ℕ) : ℝ := if p < 1792 then 0 else X (p - 1792) j

theorem stickR_shift (g S g' S' : ℕ → ℝ) (o T s : ℕ) (hg : ∀ s, g (s + o) = g' s) (hS : ∀ s, S (s + o) = S' s) :
    stickR g S (T + o) (s + o) = stickR g' S' T s := by
  unfold stickR
  rw [hg, ← Finset.sum_Ico_add' S s T o]
  simp only [hS]

/-- A row's sum over the padded keys is the attention: the rows of zeros add nothing. -/
theorem sumR_eq (h i t : ℕ) (a lo : ℕ) (hlo : lo ≤ 1792) (d : Fin 128) (ht : i + a = t) :
    sumR (fun a d => Q (i + a) (128 * h + d.val)) (fun p d => padded K p (128 * h + d.val)) (fun p d => padded V' p (128 * h + d.val)) a (t + 1792) lo d
      = attendR Q K V' t (128 * h + d.val) := by
  subst ht
  have hd := d.isLt
  have hh : (128 * h + d.val) / 128 = h := by omega
  unfold sumR attendR
  rw [← Finset.sum_Ico_consecutive _ hlo (Nat.le_add_left 1792 _), Finset.sum_eq_zero (s := Ico lo 1792), zero_add, hh, Finset.range_eq_Ico]
  · have e := Finset.sum_Ico_add' (fun p => stickR (scoreR (fun a d => Q (i + a) (128 * h + d.val)) (fun p d => padded K p (128 * h + d.val)) a)
      (fun p => softR (scoreR (fun a d => Q (i + a) (128 * h + d.val)) (fun p d => padded K p (128 * h + d.val)) a p)) (i + a + 1792) p * padded V' p (128 * h + d.val)) 0 (i + a) 1792
    rw [zero_add] at e
    rw [← e]
    refine Finset.sum_congr rfl fun s _ => ?_
    have hp : ∀ (X : ℕ → ℕ → ℝ) (s j : ℕ), padded X (s + 1792) j = X s j := fun X s j => by
      unfold padded; rw [if_neg (by omega), Nat.add_sub_cancel]
    have hs : ∀ s, scoreR (fun a d => Q (i + a) (128 * h + d.val)) (fun p d => padded K p (128 * h + d.val)) a (s + 1792) = headScore Q K h (i + a) s := fun s => by
      unfold scoreR headScore; simp only [hp]
    rw [stickR_shift _ _ _ _ 1792 (i + a) s hs (fun s => congrArg softR (hs s)), show padded V' (s + 1792) (128 * h + d.val) = V' s (128 * h + d.val) from hp V' s _]
  · intro p hp
    rw [Finset.mem_Ico] at hp
    show _ * padded V' p (128 * h + d.val) = 0
    rw [show padded V' p (128 * h + d.val) = 0 from if_pos hp.2, mul_zero]

end

variable (m : (ℓ : Loc nD τ sig) → Buf (Elt Ideal) ℓ) (c : Dev nD)

/-- The arguments' entries, as reals. -/
def argQ (a j : ℕ) : ℝ := if h : a < 8448 ∧ j < 2048 then EReal.toReal ((m ((c : Thread nD τ).loc main_arg0) : Vec Ideal S8448x2048 .f32) (ix2 ⟨a, h.1⟩ ⟨j, h.2⟩)) else 0
def argKV (s : Fin 2) (a j : ℕ) : ℝ := if h : a < 8448 ∧ j < 1536 then EReal.toReal ((m ((c : Thread nD τ).loc main_arg1) : Vec Ideal S2x8448x1536 .bf16) (ix3 s ⟨a, h.1⟩ ⟨j, h.2⟩)) else 0

/-- Every entry of the arguments is a number. -/
def Real0 : Prop := ∀ y, (m ((c : Thread nD τ).loc main_arg0) : Vec Ideal S8448x2048 .f32) y = ((EReal.toReal ((m ((c : Thread nD τ).loc main_arg0) : Vec Ideal S8448x2048 .f32) y) : ℝ) : EReal)
def Real1 : Prop := ∀ y, (m ((c : Thread nD τ).loc main_arg1) : Vec Ideal S2x8448x1536 .bf16) y = ((EReal.toReal ((m ((c : Thread nD τ).loc main_arg1) : Vec Ideal S2x8448x1536 .bf16) y) : ℝ) : EReal)

theorem V_main_v1 : (V m c main_v1 : Vec Ideal S2x10240x1536 .bf16)
    = concatenate S2x10240x1536 1 [⟨S2x1792x1536, broadcastInDim S2x1792x1536 ![] bcast_S_S2x1792x1536 (constant S_ .bf16 0x0000#16 : FVec Ideal S_ .bf16)⟩,
        ⟨S2x8448x1536, (m ((c : Thread nD τ).loc main_arg1) : Vec Ideal S2x8448x1536 .bf16)⟩] concatenates_S2x1792x1536_S2x8448x1536_S2x10240x1536_d1 := by
  unfold_abbrev_sides
  after_results

variable {m c}

theorem rows_real (h1 : Real1 m c) (s : Fin 2) (p : Fin 10240) (j : Fin 1536) :
    (V m c main_v1 : Vec Ideal S2x10240x1536 .bf16) (ix3 s p j) = ((padded (argKV m c s) p.val j.val : ℝ) : EReal) := by
  rw [V_main_v1]
  pointwise []
  unfold padded
  by_cases hp : p.val < 1792
  · rw [dif_pos hp, if_pos hp]; rfl
  · rw [dif_neg hp, if_neg hp]
    unfold argKV
    rw [dif_pos ⟨by omega, j.isLt⟩]
    exact h1 _

theorem proj_real (h0 : Real0 m c) (a : Fin 8448) (j : Fin 2048) :
    (V m c main_arg0 : Vec Ideal S8448x2048 .f32) (ix2 a j) = ((argQ m c a.val j.val : ℝ) : EReal) := by
  rw [V_main_arg0]
  unfold argQ
  rw [dif_pos ⟨a.isLt, j.isLt⟩]
  exact h0 _

theorem coord_vals : ∀ t : Fin grid0.N, (grid0.coords t 0).val = t.val / 4 ∧ (grid0.coords t 1).val = t.val % 4 := by decide +kernel
theorem index0 : ∀ t : Fin grid0.N, win0_0.index t (0 : Fin 2) = t.val % 4 ∧ win0_0.index t (1 : Fin 2) = t.val / 4 := by decide +kernel
theorem index1 : ∀ t : Fin grid0.N, win0_1.index t (0 : Fin 3) = 0 ∧ win0_1.index t (1 : Fin 3) = 0 ∧ win0_1.index t (2 : Fin 3) = t.val / 4 := by decide +kernel
theorem index2 : ∀ t : Fin grid0.N, win0_2.index t (0 : Fin 3) = 1 ∧ win0_2.index t (1 : Fin 3) = 0 ∧ win0_2.index t (2 : Fin 3) = t.val / 4 := by decide +kernel
theorem index3 : ∀ t : Fin grid0.N, win0_3.index t (0 : Fin 2) = t.val % 4 ∧ win0_3.index t (1 : Fin 2) = t.val / 4 := by decide +kernel

theorem steps_lt (t : Fin (cfg0 (F := Ideal)).N) : t.val < 48 := lt_of_lt_of_eq t.isLt N_0

theorem blockQ (h0 : Real0 m c) (t : Fin (cfg0 (F := Ideal)).N) (a : Fin 2048) (d : Fin 128) :
    (blockAt m c 0 t : Vec Ideal S2048x128 .f32) (ix2 a d) = ((argQ m c (2048 * (t.val % 4) + a.val) (128 * (t.val / 4) + d.val) : ℝ) : EReal) := by
  have ht := steps_lt t
  obtain ⟨e0, e1⟩ := index0 t
  unfold blockAt Pipeline.Window.fill
  rw [dif_pos (moved_of _ uncut0 _ _)]
  refine Eq.trans ?_ (proj_real h0 ⟨2048 * (t.val % 4) + a.val, by omega⟩ ⟨128 * (t.val / 4) + d.val, by omega⟩)
  refine congrArg (V m c main_arg0 : Vec Ideal S8448x2048 .f32) ?_
  funext k; apply Fin.ext
  match k with
  | 0 => show win0_0.index t (0 : Fin 2) * 2048 + 1 * a.val = 2048 * (t.val % 4) + a.val; rw [e0]; omega
  | 1 => show win0_0.index t (1 : Fin 2) * 128 + 1 * d.val = 128 * (t.val / 4) + d.val; rw [e1]; omega

theorem blockK (h1 : Real1 m c) (t : Fin (cfg0 (F := Ideal)).N) (p : Fin 9984) (d : Fin 128) :
    (blockAt m c 1 t : Vec Ideal S1x9984x128 .bf16) (ix3 0 p d) = ((padded (argKV m c 0) p.val (128 * (t.val / 4) + d.val) : ℝ) : EReal) := by
  have ht := steps_lt t
  obtain ⟨e0, e1, e2⟩ := index1 t
  unfold blockAt Pipeline.Window.fill
  rw [dif_pos (moved_of _ uncut1 _ _)]
  refine Eq.trans ?_ (rows_real h1 0 ⟨p.val, by omega⟩ ⟨128 * (t.val / 4) + d.val, by omega⟩)
  refine congrArg (V m c main_v1 : Vec Ideal S2x10240x1536 .bf16) ?_
  funext k; apply Fin.ext
  match k with
  | 0 => show win0_1.index t (0 : Fin 3) * 1 + 1 * 0 = 0; rw [e0]
  | 1 => show win0_1.index t (1 : Fin 3) * 9984 + 1 * p.val = p.val; rw [e1]; omega
  | 2 => show win0_1.index t (2 : Fin 3) * 128 + 1 * d.val = 128 * (t.val / 4) + d.val; rw [e2]; omega

theorem blockV (h1 : Real1 m c) (t : Fin (cfg0 (F := Ideal)).N) (p : Fin 9984) (d : Fin 128) :
    (blockAt m c 2 t : Vec Ideal S1x9984x128 .bf16) (ix3 0 p d) = ((padded (argKV m c 1) p.val (128 * (t.val / 4) + d.val) : ℝ) : EReal) := by
  have ht := steps_lt t
  obtain ⟨e0, e1, e2⟩ := index2 t
  unfold blockAt Pipeline.Window.fill
  rw [dif_pos (moved_of _ uncut2 _ _)]
  refine Eq.trans ?_ (rows_real h1 1 ⟨p.val, by omega⟩ ⟨128 * (t.val / 4) + d.val, by omega⟩)
  refine congrArg (V m c main_v1 : Vec Ideal S2x10240x1536 .bf16) ?_
  funext k; apply Fin.ext
  match k with
  | 0 => show win0_2.index t (0 : Fin 3) * 1 + 1 * 0 = 1; rw [e0]
  | 1 => show win0_2.index t (1 : Fin 3) * 9984 + 1 * p.val = p.val; rw [e1]; omega
  | 2 => show win0_2.index t (2 : Fin 3) * 128 + 1 * d.val = 128 * (t.val / 4) + d.val; rw [e2]; omega

/-- A step's block, in numbers. -/
theorem out_real (h0 : Real0 m c) (h1 : Real1 m c) (t : Fin (cfg0 (F := Ideal)).N) (a : Fin 2048) (d : Fin 128) :
    (outAt m c t : Vec Ideal S2048x128 .bf16) (ix2 a d)
      = ((attendR (argQ m c) (argKV m c 0) (argKV m c 1) (2048 * (t.val % 4) + a.val) (128 * (t.val / 4) + d.val) : ℝ) : EReal) := by
  obtain ⟨b, r, rfl⟩ := exists_rowOf a
  obtain ⟨-, c1⟩ := coord_vals t
  unfold outAt wholeAt
  rw [whole_real c _ _ _ _ _ _ _ _ _ _ _ _ _ _ _ (qr := fun a d => argQ m c (2048 * (t.val % 4) + a) (128 * (t.val / 4) + d.val))
      (kr := fun p d => padded (argKV m c 0) p (128 * (t.val / 4) + d.val)) (vr := fun p d => padded (argKV m c 1) p (128 * (t.val / 4) + d.val))
      (fun a d => blockQ h0 t a d) (fun p d => blockK h1 t p d) (fun p d => blockV h1 t p d)]
  rw [show 256 * (base ((grid0).coords t) + b.val) + r.val = 2048 * (t.val % 4) + (rowOf b r).val + 1792 from by
    show 256 * ((grid0.coords t 1).val * 8 + 7 + b.val) + r.val = 2048 * (t.val % 4) + (256 * b.val + r.val) + 1792
    rw [c1]; omega]
  rw [sumR_eq (argQ m c) (argKV m c 0) (argKV m c 1) (t.val / 4) (2048 * (t.val % 4)) _ (rowOf b r).val (256 * b.val) (by omega) d rfl]

/-- The result of the kernel. -/
def attended (m : (ℓ : Loc nD τ sig) → Buf (Elt Ideal) ℓ) (c : Dev nD) : Vec Ideal S8192x1536 .bf16 :=
  fun y => ((attendR (argQ m c) (argKV m c 0) (argKV m c 1) (y 0).val (y 1).val : ℝ) : EReal)

theorem covers3 : win0_3.Covers := by decide +kernel

theorem place_real (h0 : Real0 m c) (h1 : Real1 m c) (t : Fin (cfg0 (F := Ideal)).N) (y : S2048x128.Idx) :
    (outAt m c t : Vec Ideal S2048x128 .bf16) y = attended m c ((win0_3.blk t).view.emb y) := by
  obtain ⟨e0, e1⟩ := index3 t
  refine (congrArg (outAt m c t : Vec Ideal S2048x128 .bf16) (eq_ix2 y)).trans ((out_real h0 h1 t (y 0) (y 1)).trans ?_)
  have g0 : ((win0_3.blk t).view.emb y (0 : Fin 2)).val = win0_3.index t (0 : Fin 2) * 2048 + 1 * (y 0).val := rfl
  have g1 : ((win0_3.blk t).view.emb y (1 : Fin 2)).val = win0_3.index t (1 : Fin 2) * 128 + 1 * (y 1).val := rfl
  unfold attended
  rw [g0, g1, e0, e1, Nat.mul_comm _ 2048, Nat.mul_comm _ 128, one_mul, one_mul]

theorem array_eq (h0 : Real0 m c) (h1 : Real1 m c) : (dats m 0 c).arrAt 3 (cfg0 (F := Ideal)).N = attended m c :=
  (dats m 0 c).arrAt_eq_of_covers 3 (attended m c) covers3 fun t hf y => (congrFun (after0_3 m c t) _).trans (place_real h0 h1 t y)

theorem run_value (m : (ℓ : Loc nD τ sig) → Buf (Elt Ideal) ℓ) (ρ) (h : ∀ c, Real0 m c ∧ Real1 m c) :
    θ_run defs (onTc (τ := τ) (main (F := Ideal))) ⟨m, fun _ => 0, ρ⟩ (fun r => ∀ c : Dev nD,
      r.2.mem ((c.tc : Thread nD τ).loc main_v2) = attended m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ g c => ⟨((g.1.1 c).1 3).trans (array_eq (h c).1 (h c).2), g.2 c⟩)
    (θ_run_and (run_counters m ρ) (unchanged m ρ))

end Cert.Proof.SBI

end
-- ==== Proof.SBI.Ref.lean ====
/-
  The reference's result: at query `t` and column `128 * h + d`, the same sum over the earlier keys of head `h`.
-/
module

public import proofs.«01_k».proof.Proof.SBI.Final
public import proofs.«01_k».proof.Proof.Gen.ReferenceIdeal.Run
public import Idealize.ShloMosaic.Lib.Pointwise
public import Idealize.ShloMosaic.Lib.WordCmp

@[expose] public section

set_option maxRecDepth 16384

noncomputable section

namespace Cert.Proof.SBI

open Cert.ReferenceIdeal Cert.ReferenceIdeal.Gen
open Idealize.ShloMosaic Idealize.ShloMosaic.TcCoe Idealize.ShloMosaic.Tactic
open Finset

variable (m : (ℓ : Loc nD τ sig) → Buf (Elt Ideal) ℓ) (c : Dev nD)

/-! ## The reference in stages -/

/-- Which keys are earlier than the query. -/
def earlierV : IVec S1x12x8192x8192 1 :=
  broadcastInDim S1x12x8192x8192 ![2, 3] bcast_S8192x8192_S1x12x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The scaled scores. -/
def scoresV (x : FVec Ideal S8448x2048 .f32) (y : FVec Ideal S2x8448x1536 .bf16) : FVec Ideal S1x12x8192x8192 .f32 :=
  mulf (Host.dotGeneral dot_S1x8192x12x128_S1x8192x12x128_S1x12x8192x8192_3_3_1_1_02_02 none (shapeCast _ (extractStridedSlice S8192x1536 ![0, 0] x slices_S8448x2048_S8192x1536_0_0) shapeCasts_S8192x1536_S1x8192x12x128) (shapeCast _ (shapeCast _ (extractStridedSlice S1x8192x1536 ![0, 0, 0] (extf .f32 y bitsLt_bf16_f32) slices_S2x8448x1536_S1x8192x1536_0_0_0) shapeCasts_S1x8192x1536_S8192x1536) shapeCasts_S8192x1536_S1x8192x12x128)) (broadcastInDim S1x12x8192x8192 ![] bcast_S_S1x12x8192x8192 (constant S_ .f32 0x3DB504F3#32))

/-- The logarithm of the logistic function, entry by entry. -/
def logisticV (z : FVec Ideal S1x12x8192x8192 .f32) : FVec Ideal S1x12x8192x8192 .f32 :=
  Host.negf (select (cmpf .une (subf (Host.negf z) (broadcastInDim S1x12x8192x8192 ![] bcast_S_S1x12x8192x8192 (constant S_ .f32 0x00000000#32))) (subf (Host.negf z) (broadcastInDim S1x12x8192x8192 ![] bcast_S_S1x12x8192x8192 (constant S_ .f32 0x00000000#32)))) (addf (Host.negf z) (broadcastInDim S1x12x8192x8192 ![] bcast_S_S1x12x8192x8192 (constant S_ .f32 0x00000000#32))) (addf (maximumf (Host.negf z) (broadcastInDim S1x12x8192x8192 ![] bcast_S_S1x12x8192x8192 (constant S_ .f32 0x00000000#32))) (Host.log1p (Host.exp (Host.negf (Host.absf (subf (Host.negf z) (broadcastInDim S1x12x8192x8192 ![] bcast_S_S1x12x8192x8192 (constant S_ .f32 0x00000000#32)))))))))

/-- Where the key is earlier, the vector; elsewhere zero. -/
def keepV (w : FVec Ideal S1x12x8192x8192 .f32) : FVec Ideal S1x12x8192x8192 .f32 :=
  select earlierV w (broadcastInDim S1x12x8192x8192 ![] bcast_S_S1x12x8192x8192 (id (constant S_ .f32 0x00000000#32)))

/-- The sums over a key and all after it. -/
def onwardV (u : FVec Ideal S1x12x8192x8192 .f32) : FVec Ideal S1x12x8192x8192 .f32 :=
  Host.reduceWindowAdd ![1, 1, 1, 8192] ![1, 1, 1, 1] ![0, 0, 0, 0] ![0, 0, 0, 8191] u (broadcastInDim S_ ![] bcast_S_S_ (constant (F := Ideal) S_ .f32 0x00000000#32)) reduceWindows_S1x12x8192x8192_S1x12x8192x8192_w1s1p0_0_w1s1p0_0_w1s1p0_0_w8192s1p0_8191 h_S_

/-- The weights, of the scores `z` and the kept logarithms `u`. -/
def weightsV (z u : FVec Ideal S1x12x8192x8192 .f32) : FVec Ideal S1x12x8192x8192 .f32 :=
  keepV (Host.exp (addf (logisticV z) (subf (onwardV u) u)))

/-- The weights' sums of the values, laid out by row. -/
def mixedV (a : FVec Ideal S1x12x8192x8192 .f32) (y : FVec Ideal S2x8448x1536 .bf16) : FVec Ideal S8192x1536 .bf16 :=
  truncf .bf16 (shapeCast _ (transpose S1x8192x12x128 [0, 3, 1, 2] (Host.dotGeneral dot_S1x8192x12x128_S1x12x8192x8192_S1x12x128x8192_1_3_3_2_02_01 none (shapeCast _ (shapeCast _ (extractStridedSlice S1x8192x1536 ![1, 0, 0] (extf .f32 y bitsLt_bf16_f32) slices_S2x8448x1536_S1x8192x1536_1_0_0) shapeCasts_S1x8192x1536_S8192x1536) shapeCasts_S8192x1536_S1x8192x12x128) a) transposes_S1x12x128x8192_S1x8192x12x128_0_3_1_2) shapeCasts_S1x8192x12x128_S8192x1536) bitsLt_bf16_f32

theorem res_eq : Cert.ReferenceIdeal.Value.res_main_v30 m c
    = mixedV (weightsV (scoresV (m ((c.tc : Thread nD τ).loc main_arg0)) (m ((c.tc : Thread nD τ).loc main_arg1)))
        (keepV (logisticV (Host.negf (scoresV (m ((c.tc : Thread nD τ).loc main_arg0)) (m ((c.tc : Thread nD τ).loc main_arg1)))))))
        (m ((c.tc : Thread nD τ).loc main_arg1)) := by
  unfold Cert.ReferenceIdeal.Value.res_main_v30 mixedV weightsV keepV onwardV logisticV scoresV earlierV
  rfl

/-! ## The stages at an index -/

theorem earlierV_apply (h : Fin 12) (t s : Fin 8192) : earlierV (ix4 0 h t s) = if s.val < t.val then 1#1 else 0#1 := by
  pointwise [earlierV]
  rw [WordCmp.cmpi_slt_ofNat (by omega) (by omega)]
  by_cases hs : s.val < t.val
  · rw [if_pos hs, decide_eq_true hs]; rfl
  · rw [if_neg hs, decide_eq_false hs]; rfl

theorem keepV_apply (w : FVec Ideal S1x12x8192x8192 .f32) (h : Fin 12) (t s : Fin 8192) :
    keepV w (ix4 0 h t s) = if s.val < t.val then w (ix4 0 h t s) else 0 := by
  have e : keepV w (ix4 0 h t s) = Scalar.select (earlierV (ix4 0 h t s)) (w (ix4 0 h t s)) (Ideal.ofBits .f32 0x00000000#32) := rfl
  rw [e, earlierV_apply]
  by_cases hs : s.val < t.val
  · rw [if_pos hs, if_pos hs]; rfl
  · rw [if_neg hs, if_neg hs]; exact Ideal.ofBits_zero_f32

theorem softR_neg (z : ℝ) : softR (-z) = softR z - z := by
  have e : max (-z) 0 = max z 0 - z := by rcases le_total z 0 with h | h
                                          · rw [max_eq_left (by linarith), max_eq_right h]; ring
                                          · rw [max_eq_right (by linarith), max_eq_left h]; ring
  unfold softR
  rw [abs_neg, e]
  ring

theorem logisticV_real (z : FVec Ideal S1x12x8192x8192 .f32) (h : Fin 12) (t s : Fin 8192) (r : ℝ) (hz : z (ix4 0 h t s) = (r : EReal)) :
    logisticV z (ix4 0 h t s) = ((r - softR r : ℝ) : EReal) := by
  have e : logisticV z (ix4 0 h t s) = -(max (-(z (ix4 0 h t s))) 0 + Ideal.log (1 + Ideal.exp (-(max (-(z (ix4 0 h t s))) (-(-(z (ix4 0 h t s)))))))) := by
    pointwise [logisticV]
    rw [if_neg fun h => h rfl]
    rfl
  rw [e, hz]
  have g := soft_coe (-r)
  rw [zero_sub, EReal.coe_neg] at g
  rw [g, ← EReal.coe_neg, softR_neg]
  congr 1; ring

theorem negV_real (z : FVec Ideal S1x12x8192x8192 .f32) (i) (r : ℝ) (hz : z i = (r : EReal)) : (Host.negf z : FVec Ideal S1x12x8192x8192 .f32) i = ((-r : ℝ) : EReal) := by
  have e : (Host.negf z : FVec Ideal S1x12x8192x8192 .f32) i = -(z i) := rfl
  rw [e, hz, EReal.coe_neg]

theorem foldl_real {ι : Type} (l : List ι) (G : ι → EReal) (g : ι → ℝ) (hg : ∀ n ∈ l, G n = (g n : EReal)) (a : ℝ) :
    l.foldl (fun r n => r + G n) (a : EReal) = ((a + (l.map g).sum : ℝ) : EReal) := by
  induction l generalizing a with
  | nil => simp
  | cons n l ih =>
    rw [List.foldl_cons, hg n (List.mem_cons_self ..), ← EReal.coe_add, ih (fun k hk => hg k (List.mem_cons_of_mem _ hk)), List.map_cons, List.sum_cons, add_assoc]

/-- A running sum from each position to the end, along the last of four axes of any lengths. -/
theorem runs_real {A B C N M : ℕ} (hM : M + 1 = N) (u : (⟨4, ![A, B, C, N]⟩ : Shape).Idx → EReal)
    (w : (⟨4, ![A, B, C, N]⟩ : Shape).ReduceWindows ![1, 1, 1, N] ![1, 1, 1, 1] ![0, 0, 0, 0] ![0, 0, 0, M] ⟨4, ![A, B, C, N]⟩)
    (g : Fin A) (h : Fin B) (t : Fin C) (f : ℕ → ℝ) (hu : ∀ s : Fin N, u (ix4 g h t s) = (f s.val : EReal)) (s : Fin N) :
    Ideal.hostReduceWindowAdd ![1, 1, 1, N] ![1, 1, 1, 1] ![0, 0, 0, 0] ![0, 0, 0, M] w u ((0 : ℝ) : EReal) (ix4 g h t s) = ((∑ p ∈ Ico s.val N, f p : ℝ) : EReal) := by
  have hW : (⟨4, ![1, 1, 1, N]⟩ : Shape).numel = N := by
    show ∏ a : Fin 4, (![1, 1, 1, N] : Fin 4 → ℕ) a = N
    rw [Fin.prod_univ_four]
    show 1 * 1 * 1 * N = N
    omega
  have l0 : ∀ n, ((⟨4, ![1, 1, 1, N]⟩ : Shape).rowMajor.symm n 0).val = 0 := fun n => Nat.lt_one_iff.mp ((⟨4, ![1, 1, 1, N]⟩ : Shape).rowMajor.symm n 0).isLt
  have l1 : ∀ n, ((⟨4, ![1, 1, 1, N]⟩ : Shape).rowMajor.symm n 1).val = 0 := fun n => Nat.lt_one_iff.mp ((⟨4, ![1, 1, 1, N]⟩ : Shape).rowMajor.symm n 1).isLt
  have l2 : ∀ n, ((⟨4, ![1, 1, 1, N]⟩ : Shape).rowMajor.symm n 2).val = 0 := fun n => Nat.lt_one_iff.mp ((⟨4, ![1, 1, 1, N]⟩ : Shape).rowMajor.symm n 2).isLt
  have hn : ∀ n : Fin (⟨4, ![1, 1, 1, N]⟩ : Shape).numel, (((⟨4, ![1, 1, 1, N]⟩ : Shape).rowMajor.symm n 3).val = n.val) := fun n => by
    have e := congrArg Fin.val ((⟨4, ![1, 1, 1, N]⟩ : Shape).rowMajor.apply_symm_apply n)
    rw [Shape.rowMajor_val_four, l0, l1, l2, Nat.zero_mul, Nat.zero_add, Nat.zero_mul, Nat.zero_add, Nat.zero_mul, Nat.zero_add] at e
    exact e
  have hs := s.isLt
  have hg := g.isLt
  have hh := h.isLt
  have ht := t.isLt
  unfold Ideal.hostReduceWindowAdd Host.reduceWindow
  refine (foldl_real _ _ (fun n => if s.val + n.val < N then f (s.val + n.val) else 0) (fun n _ => ?_) 0).trans ?_
  · have p0 : g.val * 1 + ((⟨4, ![1, 1, 1, N]⟩ : Shape).rowMajor.symm n 0).val = g.val := by rw [l0, Nat.mul_one, Nat.add_zero]
    have p1 : h.val * 1 + ((⟨4, ![1, 1, 1, N]⟩ : Shape).rowMajor.symm n 1).val = h.val := by rw [l1, Nat.mul_one, Nat.add_zero]
    have p2 : t.val * 1 + ((⟨4, ![1, 1, 1, N]⟩ : Shape).rowMajor.symm n 2).val = t.val := by rw [l2, Nat.mul_one, Nat.add_zero]
    have p3 : s.val * 1 + ((⟨4, ![1, 1, 1, N]⟩ : Shape).rowMajor.symm n 3).val = s.val + n.val := by rw [hn, Nat.mul_one]
    dsimp only
    split
    · next hin =>
      have h3 := (hin 3).2
      change s.val * 1 + ((⟨4, ![1, 1, 1, N]⟩ : Shape).rowMajor.symm n 3).val - 0 < N at h3
      rw [p3, Nat.sub_zero] at h3
      rw [if_pos h3]
      refine (congrArg u (funext fun a => Fin.ext ?_)).trans (hu ⟨s.val + n.val, h3⟩)
      match a with
      | ⟨0, _⟩ => exact p0
      | ⟨1, _⟩ => exact p1
      | ⟨2, _⟩ => exact p2
      | ⟨3, _⟩ => exact p3
    · next hin =>
      rw [if_neg fun hle => hin fun a => by
        match a with
        | ⟨0, _⟩ => show 0 ≤ g.val * 1 + ((⟨4, ![1, 1, 1, N]⟩ : Shape).rowMajor.symm n 0).val ∧ g.val * 1 + ((⟨4, ![1, 1, 1, N]⟩ : Shape).rowMajor.symm n 0).val - 0 < A; rw [p0]; omega
        | ⟨1, _⟩ => show 0 ≤ h.val * 1 + ((⟨4, ![1, 1, 1, N]⟩ : Shape).rowMajor.symm n 1).val ∧ h.val * 1 + ((⟨4, ![1, 1, 1, N]⟩ : Shape).rowMajor.symm n 1).val - 0 < B; rw [p1]; omega
        | ⟨2, _⟩ => show 0 ≤ t.val * 1 + ((⟨4, ![1, 1, 1, N]⟩ : Shape).rowMajor.symm n 2).val ∧ t.val * 1 + ((⟨4, ![1, 1, 1, N]⟩ : Shape).rowMajor.symm n 2).val - 0 < C; rw [p2]; omega
        | ⟨3, _⟩ => show 0 ≤ s.val * 1 + ((⟨4, ![1, 1, 1, N]⟩ : Shape).rowMajor.symm n 3).val ∧ s.val * 1 + ((⟨4, ![1, 1, 1, N]⟩ : Shape).rowMajor.symm n 3).val - 0 < N; rw [p3]; omega]
  · rw [zero_add]
    congr 1
    have e1 : ((List.finRange (⟨4, ![1, 1, 1, N]⟩ : Shape).numel).map (fun n => if s.val + n.val < N then f (s.val + n.val) else 0)).sum
        = ((List.range (⟨4, ![1, 1, 1, N]⟩ : Shape).numel).map (fun n => if s.val + n < N then f (s.val + n) else 0)).sum := by
      rw [← List.map_coe_finRange_eq_range, List.map_map]; rfl
    refine e1.trans ?_
    rw [hW]
    have e2 : ((List.range N).map (fun n => if s.val + n < N then f (s.val + n) else 0)).sum = ∑ n ∈ range N, if s.val + n < N then f (s.val + n) else 0 := rfl
    rw [e2, ← Finset.sum_filter, Finset.sum_Ico_eq_sum_range]
    refine Finset.sum_congr ?_ fun _ _ => rfl
    ext n
    simp only [Finset.mem_filter, Finset.mem_range]
    omega

theorem onwardV_real (u : FVec Ideal S1x12x8192x8192 .f32) (h : Fin 12) (t : Fin 8192) (f : ℕ → ℝ) (hu : ∀ s : Fin 8192, u (ix4 0 h t s) = (f s.val : EReal)) (s : Fin 8192) :
    onwardV u (ix4 0 h t s) = ((∑ p ∈ Ico s.val 8192, f p : ℝ) : EReal) := by
  have hv : (broadcastInDim S_ ![] bcast_S_S_ (constant (F := Ideal) S_ .f32 0x00000000#32) : FVec Ideal S_ .f32) (Shape.Idx.first h_S_) = ((0 : ℝ) : EReal) := Ideal.ofBits_zero_f32
  unfold onwardV Host.reduceWindowAdd
  rw [hv]
  exact runs_real (M := 8191) rfl u _ 0 h t f hu s

section

variable {x : FVec Ideal S8448x2048 .f32} {y : FVec Ideal S2x8448x1536 .bf16} {Q : ℕ → ℕ → ℝ} {KV : Fin 2 → ℕ → ℕ → ℝ}
  (hx : ∀ (a : Fin 8448) (j : Fin 2048), x (ix2 a j) = (Q a.val j.val : EReal)) (hy : ∀ (k : Fin 2) (a : Fin 8448) (j : Fin 1536), y (ix3 k a j) = (KV k a.val j.val : EReal))
include hx hy

theorem scoresV_real (h : Fin 12) (t s : Fin 8192) : scoresV x y (ix4 0 h t s) = (headScore Q (KV 0) h.val t.val s.val : EReal) := by
  pointwise [scoresV]
  unfold headScore
  rw [scaleR_eq, EReal.coe_mul, coe_sum]
  refine congrArg (· * (scaleR : EReal)) (Finset.sum_congr rfl fun d _ => ?_)
  rw [hx, hy, ← EReal.coe_mul]
  exact congrArg (fun e => ((Q t.val (e + d.val) * KV 0 s.val (e + d.val) : ℝ) : EReal)) (Nat.mul_comm h.val 128)

theorem weightsV_real (h : Fin 12) (t s : Fin 8192) :
    weightsV (scoresV x y) (keepV (logisticV (Host.negf (scoresV x y)))) (ix4 0 h t s)
      = ((if s.val < t.val then stickR (headScore Q (KV 0) h.val t.val) (fun p => softR (headScore Q (KV 0) h.val t.val p)) t.val s.val else 0 : ℝ) : EReal) := by
  have hu : ∀ p : Fin 8192, keepV (logisticV (Host.negf (scoresV x y))) (ix4 0 h t p)
      = ((if p.val < t.val then -(softR (headScore Q (KV 0) h.val t.val p.val)) else 0 : ℝ) : EReal) := fun p => by
    rw [keepV_apply, logisticV_real _ h t p _ (negV_real _ _ _ (scoresV_real hx hy h t p)), softR_neg]
    split
    · congr 1; ring
    · rfl
  unfold weightsV
  rw [keepV_apply]
  by_cases hs : s.val < t.val
  · rw [if_pos hs, if_pos hs]
    have e : (Host.exp (addf (logisticV (scoresV x y)) (subf (onwardV (keepV (logisticV (Host.negf (scoresV x y))))) (keepV (logisticV (Host.negf (scoresV x y)))))) : FVec Ideal S1x12x8192x8192 .f32) (ix4 0 h t s)
        = Ideal.exp (logisticV (scoresV x y) (ix4 0 h t s) + (onwardV (keepV (logisticV (Host.negf (scoresV x y)))) (ix4 0 h t s) - keepV (logisticV (Host.negf (scoresV x y))) (ix4 0 h t s))) := rfl
    rw [e, onwardV_real _ h t (fun p => if p < t.val then -(softR (headScore Q (KV 0) h.val t.val p)) else 0) hu s, hu, if_pos hs,
      logisticV_real _ h t s _ (scoresV_real hx hy h t s), ← EReal.coe_sub, ← EReal.coe_add, Ideal.exp_coe]
    unfold stickR
    have hsum : (∑ p ∈ Ico s.val 8192, if p < t.val then -(softR (headScore Q (KV 0) h.val t.val p)) else 0) = -∑ p ∈ Ico s.val t.val, softR (headScore Q (KV 0) h.val t.val p) := by
      rw [← Finset.sum_filter, ← Finset.sum_neg_distrib]
      refine Finset.sum_congr ?_ fun _ _ => rfl
      have := t.isLt
      ext p
      simp only [Finset.mem_filter, Finset.mem_Ico]
      omega
    rw [hsum]
    congr 2; ring
  · rw [if_neg hs, if_neg hs]; rfl

theorem mixedV_real (t : Fin 8192) (j : Fin 1536) :
    mixedV (weightsV (scoresV x y) (keepV (logisticV (Host.negf (scoresV x y))))) y (ix2 t j) = (attendR Q (KV 0) (KV 1) t.val j.val : EReal) := by
  pointwise [mixedV]
  have e : ∀ s : Fin 8192, y (ix3 1 ⟨s.val, by omega⟩ j) * weightsV (scoresV x y) (keepV (logisticV (Host.negf (scoresV x y)))) (ix4 0 ⟨j.val / 128, by omega⟩ t s)
      = (((fun p => if p < t.val then stickR (headScore Q (KV 0) (j.val / 128) t.val) (fun p => softR (headScore Q (KV 0) (j.val / 128) t.val p)) t.val p * KV 1 p j.val else 0) s.val : ℝ) : EReal) := fun s => by
    rw [hy, weightsV_real hx hy, ← EReal.coe_mul]
    congr 1
    dsimp only
    split
    · exact mul_comm _ _
    · exact mul_zero _
  refine (Finset.sum_congr rfl fun s _ => e s).trans ?_
  rw [← coe_sum]
  congr 1
  unfold attendR
  rw [Fin.sum_univ_eq_sum_range (fun p => if p < t.val then stickR (headScore Q (KV 0) (j.val / 128) t.val) (fun p => softR (headScore Q (KV 0) (j.val / 128) t.val p)) t.val p * KV 1 p j.val else 0) 8192,
    ← Finset.sum_filter]
  refine Finset.sum_congr ?_ fun _ _ => rfl
  have := t.isLt
  ext p
  simp only [Finset.mem_filter, Finset.mem_range]
  omega

end

end Cert.Proof.SBI

end
-- ==== Proof.SBI.Finite.lean ====
/-
  The precondition read entry by entry, and the two results compared.
-/
module

public import proofs.«01_k».proof.Defs
public import proofs.«01_k».proof.Proof.SBI.Ref
public import proofs.«01_k».proof.Proof.Gen.Pre_finite
public import Idealize.ShloMosaic.Lib.ReduceAll
public import Idealize.ShloMosaic.Lib.Affine
public import Idealize.ShloMosaic.Lib.WordArith

@[expose] public section

noncomputable section

namespace Cert.Proof.SBI

open Idealize.ShloMosaic Idealize.ShloMosaic.TcCoe

theorem top_word : Ideal.ofBits .f32 0x7F800000#32 = ⊤ := by simp [Ideal.ofBits, Ideal.ieee]

theorem real_of_abs (x : EReal) (h : max x (-x) < ⊤) : x = ((EReal.toReal x : ℝ) : EReal) := by
  refine (EReal.coe_toReal (fun e => ?_) (fun e => ?_)).symm
  · subst e; exact absurd h (by simp)
  · subst e; exact absurd h (by simp)

theorem real_of_word (x : EReal) (h : FloatOps.cmpf (F := Ideal) (φ := .f32) .olt (max x (-x)) (Ideal.ofBits .f32 0x7F800000#32) = 1#1) :
    x = ((EReal.toReal x : ℝ) : EReal) := by
  rw [top_word] at h
  refine real_of_abs x ?_
  have h' : BitVec.ofBool (decide (max x (-x) < ⊤)) = 1#1 := h
  by_contra hn
  rw [decide_eq_false hn] at h'
  exact absurd h' (by decide)

/-- What the precondition says of the arguments. -/
theorem reals_of_pre [Cert.Pre_finite.Facts] (x : FVec Ideal Cert.Pre_finite.S8448x2048 .f32) (y : FVec Ideal Cert.Pre_finite.S2x8448x1536 .bf16)
    (h : Cert.Pre_finite.fn (F := Ideal) x y = fun _ => 1#1) :
    (∀ i, x i = ((EReal.toReal (x i) : ℝ) : EReal)) ∧ (∀ i, y i = ((EReal.toReal (y i) : ℝ) : EReal)) := by
  have h0 := congrFun h ix0
  dsimp only [Cert.Pre_finite.fn] at h0
  have h1 := IntOp.andi_eq_one.mp h0
  exact ⟨fun i => real_of_word _ (Host.reduce_andi_all _ _ _ _ _ h1.1 i), fun i => real_of_word _ (Host.reduce_andi_all _ _ _ _ _ h1.2 i)⟩

/-- The reference's run ends in the kernel's result, given the same arguments. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Real0 m c) (h1 : Real1 m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v30 m' c = attended m c := by
  rw [res_eq]
  funext i
  have hx : ∀ (a : Fin 8448) (j : Fin 2048), (m' ((c.tc : Thread Cert.ReferenceIdeal.nD Cert.ReferenceIdeal.τ).loc Cert.ReferenceIdeal.main_arg0) : FVec Ideal Cert.ReferenceIdeal.S8448x2048 .f32) (ix2 a j) = (argQ m c a.val j.val : EReal) := fun a j => by
    rw [e0]
    unfold argQ
    rw [dif_pos ⟨a.isLt, j.isLt⟩]
    exact h0 _
  have hy : ∀ (k : Fin 2) (a : Fin 8448) (j : Fin 1536), (m' ((c.tc : Thread Cert.ReferenceIdeal.nD Cert.ReferenceIdeal.τ).loc Cert.ReferenceIdeal.main_arg1) : FVec Ideal Cert.ReferenceIdeal.S2x8448x1536 .bf16) (ix3 k a j) = (argKV m c k a.val j.val : EReal) := fun k a j => by
    rw [e1]
    unfold argKV
    rw [dif_pos ⟨a.isLt, j.isLt⟩]
    exact h1 _
  exact (congrArg _ (eq_ix2 i)).trans (mixedV_real hx hy (i 0) (i 1))

end Cert.Proof.SBI

end
-- ==== Proof.GT.RunIdeal.lean ====
/-
  The run of the projection with gates, over exact arithmetic: at the first of a row block's three points the body normalises the rows into
  its scratch buffer and writes the gates; at every point it multiplies the scratch rows with the point's weights. The gates'
  block stays as it is between, and is written back after the third point.
-/
module

public import proofs.«01_k».proof.Proof.Gen.GatesIdeal.Frame
public import proofs.«01_k».proof.Proof.Gen.GatesIdeal.Skeleton
public import proofs.«01_k».proof.Proof.Gen.GatesIdeal.Launch
public import proofs.«01_k».proof.Proof.Gen.GatesIdeal.Points
public import Idealize.ShloMosaic.Lib.Pipeline.FrameBody
public import Idealize.ShloMosaic.Lib.Pipeline.TableIdle
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.Proof.GT.GatesIdeal

open Cert.GatesIdeal Cert.GatesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem start2 : (![0, 0] : Fin 2 → Nat) = fun _ => 0 := funext fun a => by fin_cases a <;> rfl
theorem start3 : (![0, 0, 0] : Fin 3 → Nat) = fun _ => 0 := funext fun a => by fin_cases a <;> rfl

/-- One store over a whole buffer leaves what it stored. -/
theorem read_one {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon v f _ (fun y => ⟨_, List.mem_singleton_self _, View.mem_set_unit_zero rfl inb y⟩), View.canon_unit_zero rfl]

/-! ## The body -/

theorem first_iff : ∀ t : Fin grid0.N, k0_cond1 (grid0.coords t) = 1#1 ↔ t.val % 3 = 0 := by decide +kernel

section

variable (c : Dev nD) (i : grid0.Coords) (a2 : Memref sig .tc .vmem S768x2048 .f32) (h2 : a2.IsWhole) (a3 : Memref sig .tc .vmem S1x1x2048 .f32) (h3 : a3.IsWhole)
  (a4 : Memref sig .tc .vmem S1x2048x1792 .bf16) (h4 : a4.IsWhole) (a5 : Memref sig .tc .vmem S1x16x2048 .bf16) (h5 : a5.IsWhole)
  (a6 : Memref sig .tc .vmem S768x1792 .f32) (h6 : a6.IsWhole) (a7 : Memref sig .tc .vmem S16x768 .f32) (h7 : a7.IsWhole)
  (a8 : Memref sig .tc .vmem S768x2048 .bf16) (h8 : a8.IsWhole)
  (x0 : Vec F S768x2048 .f32) (x1 : Vec F S1x1x2048 .f32) (x2 : Vec F S1x2048x1792 .bf16) (x3 : Vec F S1x16x2048 .bf16)

set_option maxHeartbeats 2000000 in
/-- At a row block's first point. -/
theorem run_first (hc : k0_cond1 i = 1#1) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ (∃ d, owns (c : Thread nD τ) a6 fullShare d) ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare (k0_pay4 (k0_pay2 x0 x1) x2) ∗ owns (c : Thread nD τ) a7 fullShare (k0_pay3 x0 x1 x3)
            ∗ owns (c : Thread nD τ) a8 fullShare (k0_pay2 x0 x1)) -∗ K ⟨⟩))
      ⊢ wp frame (wpE (defs₀ (F := F)) Variants.none c none) E (cc0_proj_gates i a2 h2 a3 h3 a4 h4 a5 h5 a6 h6 a7 h7 a8 h8) K := by
  simp only [cc0_proj_gates_eq_skeleton]; unfold cc0_proj_gates_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := h2.eq_unread hf0; obtain rfl := h3.eq_unread hf1; obtain rfl := h4.eq_unread hf2; obtain rfl := h5.eq_unread hf3
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    sl_unfold_words
    rw [read_one _ _ start2]
    simp only [View.readCov_unit_zero (S := S768x2048) _ start2, View.readAt_eq_ld, h2.read_unread, h3.read_unread, h4.read_unread,
      View.ld_unit_zero (S := S768x2048) start2, View.ld_unit_zero (S := S1x1x2048) start3, View.ld_unit_zero (S := S1x2048x1792) start3]
  isplitl [H5]
  · iexists _; isplitr
    swap; · iexact H5
    ipureintro
    sl_unfold_words
    rw [read_one _ _ start2]
    simp only [View.readAt_eq_ld, h2.read_unread, h3.read_unread, h5.read_unread,
      View.ld_unit_zero (S := S768x2048) start2, View.ld_unit_zero (S := S1x1x2048) start3, View.ld_unit_zero (S := S1x16x2048) start3]
  iexists _; isplitr
  swap; · iexact H6
  ipureintro
  sl_unfold_words
  rw [read_one _ _ start2]
  simp only [View.readAt_eq_ld, h2.read_unread, h3.read_unread, View.ld_unit_zero (S := S768x2048) start2, View.ld_unit_zero (S := S1x1x2048) start3]

set_option maxHeartbeats 2000000 in
/-- At a later point: the scratch rows `xs` are read, and the gates' block is not touched. -/
theorem run_later (hc : ¬k0_cond1 i = 1#1) (xs : Vec F S768x2048 .bf16) (E : Set ℕ) (K : PUnit → sProp 𝕄) :
    iprop(owns (c : Thread nD τ) a4 fullShare x2 ∗ (∃ d, owns (c : Thread nD τ) a6 fullShare d) ∗ owns (c : Thread nD τ) a8 fullShare xs
        ∗ (iprop(owns (c : Thread nD τ) a4 fullShare x2 ∗ owns (c : Thread nD τ) a6 fullShare (k0_pay4 xs x2) ∗ owns (c : Thread nD τ) a8 fullShare xs) -∗ K ⟨⟩))
      ⊢ wp frame (wpE (defs₀ (F := F)) Variants.none c none) E (cc0_proj_gates i a2 h2 a3 h3 a4 h4 a5 h5 a6 h6 a7 h7 a8 h8) K := by
  simp only [cc0_proj_gates_eq_skeleton]; unfold cc0_proj_gates_skel
  unfold owns
  iintro ⟨⟨%f2, %hf2, H2⟩, ⟨%d4, %f4, -, H4⟩, ⟨%f6, %hf6, H6⟩, Hk⟩
  obtain rfl := h4.eq_unread hf2; obtain rfl := h8.eq_unread hf6
  sl_exec (disch := first | sl_exact hc)
  sl_step
  iapply Hk
  isplitl [H2]
  · iexists _; isplitr; · ipureintro; exact h4.read_unread _
    iexact H2
  isplitl [H4]
  · iexists _; isplitr
    swap; · iexact H4
    ipureintro
    sl_unfold_words
    rw [read_one _ _ start2]
    simp only [View.readAt_eq_ld, h4.read_unread, h8.read_unread, View.ld_unit_zero (S := S768x2048) start2, View.ld_unit_zero (S := S1x2048x1792) start3]
  iexists _; isplitr; · ipureintro; exact h8.read_unread _
  iexact H6

end

/-! ## What the points leave -/

/-- The first point of `t`'s row block. -/
def firstOf (n : ℕ) (hn : n < cfg0.N) : Fin cfg0.N := ⟨n - n % 3, Nat.lt_of_le_of_lt (Nat.sub_le _ _) hn⟩

/-- The normalised rows of the row block, its gates, and the block a point writes. -/
def rowsAt (c : Dev nD) (n : ℕ) (hn : n < cfg0.N) : Vec F S768x2048 .bf16 :=
  k0_pay2 (iblk m c 0 (firstOf n hn) : Vec F S768x2048 .f32) (iblk m c 1 (firstOf n hn) : Vec F S1x1x2048 .f32)
def gatesAt (c : Dev nD) (n : ℕ) (hn : n < cfg0.N) : Vec F S16x768 .f32 :=
  k0_pay3 (iblk m c 0 (firstOf n hn) : Vec F S768x2048 .f32) (iblk m c 1 (firstOf n hn) : Vec F S1x1x2048 .f32) (iblk m c 3 (firstOf n hn) : Vec F S1x16x2048 .bf16)
def outAt (c : Dev nD) (t : Fin cfg0.N) : Vec F S768x1792 .f32 := k0_pay4 (rowsAt m c t.val t.isLt) (iblk m c 2 t : Vec F S1x2048x1792 .bf16)

theorem firstOf_pred (n : ℕ) (hn : n < cfg0.N) (h : ¬n % 3 = 0) : firstOf (n - 1) (Nat.lt_of_le_of_lt (Nat.sub_le _ _) hn) = firstOf n hn :=
  Fin.ext (by simp only [firstOf]; omega)
theorem firstOf_self (t : Fin cfg0.N) (h : t.val % 3 = 0) : firstOf t.val t.isLt = t := Fin.ext (by simp only [firstOf]; omega)

theorem rowsAt_pred (c : Dev nD) (n : ℕ) (hn : n < cfg0.N) (h : ¬n % 3 = 0) : rowsAt m c (n - 1) (Nat.lt_of_le_of_lt (Nat.sub_le _ _) hn) = rowsAt m c n hn := by
  unfold rowsAt; rw [firstOf_pred n hn h]
theorem gatesAt_pred (c : Dev nD) (n : ℕ) (hn : n < cfg0.N) (h : ¬n % 3 = 0) : gatesAt m c (n - 1) (Nat.lt_of_le_of_lt (Nat.sub_le _ _) hn) = gatesAt m c n hn := by
  unfold gatesAt; rw [firstOf_pred n hn h]

/-- Each window's current buffer at point `t`, and the scratch buffer. -/
abbrev scr : Memref sig .tc .vmem S768x2048 .bf16 := Memref.whole cc0_scratch0

theorem entry_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- What holds of the scratch buffer before position `n`. -/
def before (c : Dev nD) : (n : ℕ) → n ≤ cfg0.N → sProp 𝕄
  | 0, _ => Pipeline.ΦA spec0 c
  | n + 1, hn => iprop(iprop(owns (c : Thread nD τ) scr fullShare (rowsAt m c n hn)) ∗ (∃ r, prngReg c r))

theorem before_succ (c : Dev nD) (n : ℕ) (hn : n < cfg0.N) :
    before m c (n + 1) hn = iprop(iprop(owns (c : Thread nD τ) scr fullShare (rowsAt m c n hn)) ∗ (∃ r, prngReg c r)) := rfl

theorem before_pos (c : Dev nD) (n : ℕ) (h : n ≤ cfg0.N) (hz : n ≠ 0) :
    before m c n h = iprop(iprop(owns (c : Thread nD τ) scr fullShare (rowsAt m c (n - 1) (by omega))) ∗ (∃ r, prngReg c r)) := by
  cases n with
  | zero => exact absurd rfl hz
  | succ n => rfl

/-- Before any position the scratch buffer holds something. -/
theorem before_any (c : Dev nD) (n : ℕ) (h : n ≤ cfg0.N) :
    before m c n h ⊢ iprop(iprop((∃ d, owns (c : Thread nD τ) scr fullShare d)) ∗ (∃ r, prngReg c r)) := by
  cases n with
  | zero => rw [show before m c 0 h = Pipeline.ΦA spec0 c from rfl, entry_eq]
  | succ n =>
    rw [before_succ]
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => gatesAt m c t.val t.isLt
  Φ t := before m c t.val (Nat.le_of_lt_succ t.isLt)
  q _ := fullShare
  owed _ := 0

theorem A_eq (c : Dev nD) (w : Fin cfg0.W) : (dats m 0 c).A w = V m c (Pipeline.arrRef spec0 w) := by
  dsimp only [dats]

theorem at_castSucc (c : Dev nD) (t : Fin cfg0.N) : (dats m 0 c).Φ t.castSucc = before m c t.val (Nat.le_of_lt t.isLt) := by
  dsimp only [dats]; exact Pipeline.Dat.Φ_castSucc (before m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]
theorem after_5 (c : Dev nD) (t : Fin cfg0.N) : (dats m 0 c).after 5 t = gatesAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Where the gates' buffer holds nothing yet: at a row block's first point. -/
theorem fresh_5 : ∀ n, n ≤ cfg0.N → cfg0.fresh 5 n = decide (n % 3 = 0) :=
  Cfg.fresh_tab cfg0 5 (fun n => decide (n % 3 = 0)) rfl (by decide +kernel)

theorem idle_first : ∀ t : Fin cfg0.N, t.val % 3 = 0 → idle0 5 (grid0.coords t) = false := by decide +kernel
theorem idle_later : ∀ t : Fin cfg0.N, ¬t.val % 3 = 0 → idle0 5 (grid0.coords t) = true := by decide +kernel

/-- At a later point the gates' buffer holds the row block's gates. -/
theorem before_5 (c : Dev nD) (t : Fin cfg0.N) (h : ¬t.val % 3 = 0) (d) : (dats m 0 c).before 5 t d = gatesAt m c t.val t.isLt := by
  rw [(dats m 0 c).before_out_traj 5 rfl (fun _ _ => rfl) (fun t hz hi hf => by
      rw [after_5, after_5]
      have h3 : ¬t.val % 3 = 0 := fun h => by rw [fresh_5 _ (Nat.le_of_lt t.isLt), h] at hf; exact absurd hf (by decide)
      exact (gatesAt_pred m c _ _ h3).symm) t.val t rfl d, fresh_5 _ (Nat.le_of_lt t.isLt), if_neg (by simpa using h), after_5]
  exact gatesAt_pred m c _ _ h

/-! ## The body at a point -/

abbrev at0 (t : Fin cfg0.N) : Memref sig .tc .vmem S768x2048 .f32 := win0_0.stage (cfg0.slots t 0)
abbrev at1 (t : Fin cfg0.N) : Memref sig .tc .vmem S1x1x2048 .f32 := win0_1.stage (cfg0.slots t 1)
abbrev at2 (t : Fin cfg0.N) : Memref sig .tc .vmem S1x2048x1792 .bf16 := win0_2.stage (cfg0.slots t 2)
abbrev at3 (t : Fin cfg0.N) : Memref sig .tc .vmem S1x16x2048 .bf16 := win0_3.stage (cfg0.slots t 3)
abbrev at4 (t : Fin cfg0.N) : Memref sig .tc .vmem S768x1792 .f32 := win0_4.stage (cfg0.slots t 4)
abbrev at5 (t : Fin cfg0.N) : Memref sig .tc .vmem S16x768 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (at0 t) fullShare ((dats m 0 c).before 0 t d))
    ∗ (∃ d, owns (c : Thread nD τ) (at1 t) fullShare ((dats m 0 c).before 1 t d))
    ∗ (∃ d, owns (c : Thread nD τ) (at2 t) fullShare ((dats m 0 c).before 2 t d))
    ∗ (∃ d, owns (c : Thread nD τ) (at3 t) fullShare ((dats m 0 c).before 3 t d))
    ∗ (∃ d, owns (c : Thread nD τ) (at4 t) fullShare ((dats m 0 c).before 4 t d))
    ∗ (∃ d, owns (c : Thread nD τ) (at5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (at0 t) fullShare ((dats m 0 c).after 0 t)
    ∗ owns (c : Thread nD τ) (at1 t) fullShare ((dats m 0 c).after 1 t)
    ∗ owns (c : Thread nD τ) (at2 t) fullShare ((dats m 0 c).after 2 t)
    ∗ owns (c : Thread nD τ) (at3 t) fullShare ((dats m 0 c).after 3 t)
    ∗ owns (c : Thread nD τ) (at4 t) fullShare ((dats m 0 c).after 4 t)
    ∗ owns (c : Thread nD τ) (at5 t) fullShare ((dats m 0 c).after 5 t))

set_option maxHeartbeats 2000000 in
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, after_0, after_1, after_2, after_3, after_4, after_5]
  rw [show (dats m 0 c).Φ t.succ = before m c (t.val + 1) t.isLt from rfl, before_succ, at_castSucc]
  by_cases h0 : t.val % 3 = 0
  · have e1 : outAt m c t = k0_pay4 (k0_pay2 (iblk m c 0 t : Vec F S768x2048 .f32) (iblk m c 1 t : Vec F S1x1x2048 .f32)) (iblk m c 2 t : Vec F S1x2048x1792 .bf16) := by
      unfold outAt rowsAt; rw [firstOf_self t h0]
    have e2 : gatesAt m c t.val t.isLt = k0_pay3 (iblk m c 0 t : Vec F S768x2048 .f32) (iblk m c 1 t : Vec F S1x1x2048 .f32) (iblk m c 3 t : Vec F S1x16x2048 .bf16) := by
      unfold gatesAt; rw [firstOf_self t h0]
    have e3 : rowsAt m c t.val t.isLt = k0_pay2 (iblk m c 0 t : Vec F S768x2048 .f32) (iblk m c 1 t : Vec F S1x1x2048 .f32) := by
      unfold rowsAt; rw [firstOf_self t h0]
    rw [e1, e2, e3]
    iintro ⟨HP, Ho, ⟨%d0, H0⟩, ⟨%d1, H1⟩, ⟨%d2, H2⟩, ⟨%d3, H3⟩, ⟨%d4, H4⟩, ⟨%d5, H5⟩⟩
    ihave HA := (before_any m c t.val (Nat.le_of_lt t.isLt)) $$ HP
    icases HA with ⟨HS, Hg⟩
    iapply (run_first c (grid0.coords t) _ _ _ _ _ _ _ _ _ _ _ _ _ _ (iblk m c 0 t : Vec F S768x2048 .f32) (iblk m c 1 t : Vec F S1x1x2048 .f32) (iblk m c 2 t : Vec F S1x2048x1792 .bf16) (iblk m c 3 t : Vec F S1x16x2048 .bf16) ((first_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [before_pos m c t.val _ (fun hz => h0 (by rw [hz]))]
    simp only [before_5 m c t h0]
    rw [rowsAt_pred m c t.val t.isLt h0]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (iblk m c 2 t : Vec F S1x2048x1792 .bf16) (fun h => h0 ((first_iff t).mp h)) (rowsAt m c t.val t.isLt) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  refine triple_restated (sound m c t) rfl .rfl fun _ => ?_
  unfold bodyPost
  by_cases h0 : t.val % 3 = 0
  · simp only [idle_first t h0]
    exact Idealize.SL.BI.Entails.refl _
  · simp only [idle_later t h0]
    cases hf : (cfg0.win 5).flush t with
    | true => exact Idealize.SL.BI.Entails.refl _
    | false =>
      simp only [before_5 m c t h0, after_5]
      iintro ⟨HP, Ho, H0, H1, H2, H3, H4, H5⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      iexists (gatesAt m c t.val t.isLt); iexact H5

theorem entry (c : Dev nD) : Pipeline.ΦA spec0 c ⊢ (dats m 0 c).Φ 0 := by
  rw [show (dats m 0 c).Φ 0 = before m c 0 (Nat.zero_le _) from rfl]
  exact Idealize.SL.BI.Entails.refl _

theorem exit (c : Dev nD) : (dats m 0 c).Φ (Fin.last cfg0.N) ⊢ Pipeline.ΦA spec0 c := by
  rw [show (dats m 0 c).Φ (Fin.last cfg0.N) = before m c cfg0.N (Nat.le_refl _) from rfl, entry_eq]
  exact before_any m c _ _

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := entry m) (hout := exit m)

theorem run_main : θ_run defs (onTc (τ := τ) (main (F := F))) (s₀ m ρ) (Pipeline.FramePost cfgs (dats m) 0 (V m)) :=
  (θ_run defs _ _).mono (fun _ h => h.1) (run_quiet m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The same, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiet m ρ))

/-- The run to both arrays. -/
theorem run_arrays : θ_run defs (onTc (τ := τ) (main (F := F))) ⟨m, fun _ => 0, ρ⟩ (fun r => ∀ c : Dev nD,
      r.2.mem ((c.tc : Thread nD τ).loc main_v10_0) = (dats m 0 c).arrAt 4 cfg0.N
      ∧ r.2.mem ((c.tc : Thread nD τ).loc main_v10_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 4, (h.1 c).1 5, h.2 c⟩) (θ_run_and (run_main m ρ) (unchanged m ρ))

end Cert.Proof.GT.GatesIdeal

end
-- ==== Proof.FFN.Body.lean ====
/-
  What one point of the feed-forward kernel's grid leaves in its output block and in the normalised rows it keeps,
  entry by entry: the output block grows by 512 columns of the hidden layer, each through its row of the down weights.
-/
module

public import proofs.«01_k».proof.Proof.Gen.FfnIdeal.Value
public import Idealize.ShloMosaic.Lib.Pointwise
public import Idealize.ShloMosaic.Lib.Pipeline.ValueKit

@[expose] public section

set_option maxRecDepth 16384

noncomputable section

namespace Cert.Proof.FFN

open Cert.FfnIdeal Cert.FfnIdeal.Gen
open Idealize.ShloMosaic Idealize.ShloMosaic.TcCoe Idealize.ShloMosaic.Tactic

section

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first of a block's two tiles of weights. -/
def tile0 (x : Vec F S2x2048x256 .bf16) : Vec F S1x2048x256 .bf16 :=
  View.ld x (Rect.unit (s := S2x2048x256) ![0, 0, 0] S1x2048x256.size inb_S2x2048x256_S1x2048x256_0_0_0)
/-- The second. -/
def tile1 (x : Vec F S2x2048x256 .bf16) : Vec F S1x2048x256 .bf16 :=
  View.ld x (Rect.unit (s := S2x2048x256) ![1, 0, 0] S1x2048x256.size inb_S2x2048x256_S1x2048x256_1_0_0)

/-- The output block after a point that found `acc` there and the normalised rows `h`. -/
def stepV (wg wu : Vec F S2x2048x256 .bf16) (wd : Vec F S512x2048 .bf16) (h : Vec F S1056x2048 .bf16) (acc : Vec F S1056x2048 .f32) : Vec F S1056x2048 .f32 :=
  k0_pay2 (tile0 wg) (tile1 wg) (tile0 wu) (tile1 wu) wd h acc

variable (c : Dev nD) (i : grid0.Coords) (a2 : Memref sig .tc .vmem S1056x2048 .f32) (h2 : a2.IsWhole)
  (a3 : Memref sig .tc .vmem S1x1x2048 .f32) (h3 : a3.IsWhole) (a4 : Memref sig .tc .vmem S2x2048x256 .bf16) (h4 : a4.IsWhole)
  (a5 : Memref sig .tc .vmem S2x2048x256 .bf16) (h5 : a5.IsWhole) (a6 : Memref sig .tc .vmem S512x2048 .bf16) (h6 : a6.IsWhole)
  (a7 : Memref sig .tc .vmem S1056x2048 .f32) (h7 : a7.IsWhole) (a8 : Memref sig .tc .vmem S1056x2048 .bf16) (h8 : a8.IsWhole)
  (x0 : Vec F S1056x2048 .f32) (x1 : Vec F S1x1x2048 .f32) (x2 x3 : Vec F S2x2048x256 .bf16) (x4 : Vec F S512x2048 .bf16)

/-- A later point's output block. -/
theorem out_later (hc : ¬cond0_0 i) (xo : Vec F S1056x2048 .f32) (xs : Vec F S1056x2048 .bf16) :
    out0_B_5 c i a2 h2 a3 h3 a4 h4 a5 h5 a6 h6 a7 h7 a8 h8 hc x0 x1 x2 x3 x4 xo xs = stepV x2 x3 x4 xs xo := by
  unfold out0_B_5
  rw [View.read_writes_junk_eq_canon]
  unfold kernelRun0_B
  dsimp only
  sl_unfold_words
  rw [View.canon_unit_zero zero2]
  simp only [View.readAt_eq_ld, h4.read_unread, h5.read_unread, h6.read_unread, h7.read_unread, h8.read_unread,
    View.ld_unit_zero (S := S1056x2048) zero2, View.ld_unit_zero (S := S512x2048) zero2]
  rfl

/-- The rows a later point keeps. -/
theorem kept_later (hc : ¬cond0_0 i) (xo : Vec F S1056x2048 .f32) (xs : Vec F S1056x2048 .bf16) :
    sout0_B_0 c i a2 h2 a3 h3 a4 h4 a5 h5 a6 h6 a7 h7 a8 h8 hc x0 x1 x2 x3 x4 xo xs = xs := rfl

/-- The rows a block's first point normalises. -/
theorem kept_first (hc : cond0_0 i) :
    sout0_A_0 c i a2 h2 a3 h3 a4 h4 a5 h5 a6 h6 a7 h7 a8 h8 hc x0 x1 x2 x3 x4 = k0_pay1 x0 x1 := by
  unfold sout0_A_0
  rw [View.read_writes_junk_eq_canon]
  unfold kernelRun0_A
  dsimp only
  sl_unfold_words
  rw [View.canon_unit_zero zero2]
  simp only [View.readAt_eq_ld, h2.read_unread, h3.read_unread,
    View.ld_unit_zero (S := S1056x2048) zero2, View.ld_unit_zero (S := S1x1x2048) zero3]

/-- The output block of a block's first point: the input rows, and the first columns' share. -/
theorem out_first (hc : cond0_0 i) :
    out0_A_5 c i a2 h2 a3 h3 a4 h4 a5 h5 a6 h6 a7 h7 a8 h8 hc x0 x1 x2 x3 x4 = stepV x2 x3 x4 (k0_pay1 x0 x1) x0 := by
  unfold out0_A_5
  rw [View.read_writes_junk_eq_canon]
  unfold kernelRun0_A
  dsimp only
  sl_unfold_words
  rw [View.canon_cons_unit_zero (S := S1056x2048) zero2]
  simp only [View.readCov_unit_zero (S := S1056x2048) _ zero2, View.readAt_eq_ld, h2.read_unread, h3.read_unread, h4.read_unread, h5.read_unread, h6.read_unread,
    View.ld_unit_zero (S := S1056x2048) zero2, View.ld_unit_zero (S := S1x1x2048) zero3, View.ld_unit_zero (S := S512x2048) zero2]
  rfl

end

end Cert.Proof.FFN
-- ==== Proof.FFN.Maths.lean ====
/-
  The feed-forward layer on one row, over the extended reals: the row scaled by its root mean square and the gain, two
  matrix products with the gate and up weights, the hidden columns, and their sum through the down weights.
-/
module

public import Idealize.ShloMosaic.Lib.Pointwise

@[expose] public section

noncomputable section

namespace Cert.Proof.FFN

open Idealize.ShloMosaic
open Finset

/-- The row, scaled by its root mean square and the gain. -/
def normE (X gain : Fin 2048 → EReal) (k : Fin 2048) : EReal :=
  X k * Ideal.rsqrt (Ideal.div (∑ j, X j * X j) (Ideal.ofBits .f32 1157627904#32) + Ideal.ofBits .f32 897988541#32) * gain k

/-- A row's product with column `e` of a matrix. -/
def columnE (h : Fin 2048 → EReal) (W : Fin 2048 → ℕ → EReal) (e : ℕ) : EReal := ∑ k, h k * W k e

/-- Hidden column `e`: the gate through its logistic, times the up projection. -/
def hiddenE (h : Fin 2048 → EReal) (G U : Fin 2048 → ℕ → EReal) (e : ℕ) : EReal :=
  columnE h G e * Ideal.logistic (columnE h G e) * columnE h U e

/-- One half. -/
abbrev halfE : EReal := Ideal.ofBits .f32 1056964608#32

/-- What hidden column `e` adds to the output, halved. -/
def shareE (h : Fin 2048 → EReal) (G U : Fin 2048 → ℕ → EReal) (D : ℕ → EReal) (e : ℕ) : EReal :=
  hiddenE h G U e * halfE * D e

theorem half_coe : halfE = ((1 / 2 : ℝ) : EReal) := by
  simp [halfE, Ideal.ofBits, Ideal.ieee, -EReal.coe_mul]; norm_num

/-- A real factor goes into a sum. -/
theorem coe_mul_sum (a : ℝ) (ha : 0 ≤ a) {ι : Type} (s : Finset ι) (f : ι → EReal) : (a : EReal) * ∑ e ∈ s, f e = ∑ e ∈ s, (a : EReal) * f e := by
  classical
  induction s using Finset.induction_on with
  | empty => simp
  | insert e s he ih =>
    rw [Finset.sum_insert he, Finset.sum_insert he, EReal.left_distrib_of_nonneg_of_ne_top (EReal.coe_nonneg.mpr ha) (EReal.coe_ne_top a), ih]

/-- Halving the sum is halving every hidden column. -/
theorem half_shares (h : Fin 2048 → EReal) (G U : Fin 2048 → ℕ → EReal) (D : ℕ → EReal) (n : ℕ) :
    halfE * ∑ e ∈ range n, hiddenE h G U e * D e = ∑ e ∈ range n, shareE h G U D e := by
  rw [half_coe, coe_mul_sum _ (by norm_num)]
  refine Finset.sum_congr rfl fun e _ => ?_
  unfold shareE
  rw [half_coe, mul_comm (hiddenE h G U e) ((1 / 2 : ℝ) : EReal), mul_assoc]

end Cert.Proof.FFN
-- ==== Proof.FFN.Rest.lean ====
/-
  The feed-forward kernel's points, entry by entry, and what the eleven points of a block of rows add up to.
-/
module

public import proofs.«01_k».proof.Proof.FFN.Body
public import proofs.«01_k».proof.Proof.FFN.Maths

@[expose] public section

set_option maxRecDepth 16384

noncomputable section

namespace Cert.Proof.FFN

open Cert.FfnIdeal Cert.FfnIdeal.Gen
open Idealize.ShloMosaic Idealize.ShloMosaic.TcCoe Idealize.ShloMosaic.Tactic
open Finset

/-! ## A point's arithmetic -/

theorem norm_apply (x : Vec Ideal S1056x2048 .f32) (g : Vec Ideal S1x1x2048 .f32) (r : Fin 1056) (k : Fin 2048) :
    k0_pay1 x g (ix2 r k) = normE (fun k => x (ix2 r k)) (fun k => g (ix3 0 0 k)) k := by
  pointwise [k0_pay1]
  rfl

theorem tile0_apply (w : Vec Ideal S2x2048x256 .bf16) (k : Fin 2048) (l : Fin 256) : tile0 w (ix3 0 k l) = w (ix3 0 k l) := by
  refine congrArg w ?_
  funext a; apply Fin.ext
  match a with
  | 0 => rfl
  | 1 => show 0 + 1 * k.val = k.val; omega
  | 2 => show 0 + 1 * l.val = l.val; omega

theorem tile1_apply (w : Vec Ideal S2x2048x256 .bf16) (k : Fin 2048) (l : Fin 256) : tile1 w (ix3 0 k l) = w (ix3 1 k l) := by
  refine congrArg w ?_
  funext a; apply Fin.ext
  match a with
  | 0 => rfl
  | 1 => show 0 + 1 * k.val = k.val; omega
  | 2 => show 0 + 1 * l.val = l.val; omega

/-- A point adds the shares of its 512 hidden columns, `b` on. -/
theorem step_apply (wg wu : Vec Ideal S2x2048x256 .bf16) (wd : Vec Ideal S512x2048 .bf16) (h : Vec Ideal S1056x2048 .bf16) (acc : Vec Ideal S1056x2048 .f32)
    (H : Fin 2048 → EReal) (G U : Fin 2048 → ℕ → EReal) (D : ℕ → EReal) (b : ℕ) (r : Fin 1056) (d : Fin 2048)
    (hh : ∀ k, h (ix2 r k) = H k) (hg : ∀ p k l, wg (ix3 p k l) = G k (b + 256 * p.val + l.val))
    (hu : ∀ p k l, wu (ix3 p k l) = U k (b + 256 * p.val + l.val)) (hd : ∀ e, wd (ix2 e d) = D (b + e.val)) :
    stepV wg wu wd h acc (ix2 r d) = acc (ix2 r d) + ∑ e ∈ range 512, shareE H G U D (b + e) := by
  unfold stepV
  pointwise [k0_pay2]
  simp only [tile0_apply, tile1_apply, hh, hg, hu, hd]
  refine congrArg (fun z => acc (ix2 r d) + z) ?_
  rw [show (512 : ℕ) = 256 + 256 from rfl, Finset.sum_range_add, Finset.sum_range, Finset.sum_range]
  refine congrArg₂ (· + ·) (Finset.sum_congr rfl fun x _ => ?_) (Finset.sum_congr rfl fun x _ => ?_)
  · show _ = shareE H G U D (b + 256 * 0 + x.val)
    rfl
  · rw [← Nat.add_assoc]
    rfl

/-! ## The arrays and their blocks -/

section

variable (m : (ℓ : Loc nD τ sig) → Buf (Elt Ideal) ℓ) (c : Dev nD)

/-- The input rows, the gain and the weights. -/
abbrev argX : Vec Ideal S8448x2048 .f32 := m ((c : Thread nD τ).loc main_arg0)
abbrev argGain : Vec Ideal S4x1x2048 .f32 := m ((c : Thread nD τ).loc main_arg1)
abbrev argG : Vec Ideal S4x2048x5632 .f32 := m ((c : Thread nD τ).loc main_arg2)
abbrev argU : Vec Ideal S4x2048x5632 .f32 := m ((c : Thread nD τ).loc main_arg3)
abbrev argD : Vec Ideal S4x5632x2048 .f32 := m ((c : Thread nD τ).loc main_arg4)

/-- Column `e` of the first layer's gate (or up) weights; row `e` of its down weights. -/
def colW (w : Vec Ideal S4x2048x5632 .f32) (k : Fin 2048) (e : ℕ) : EReal := if h : e < 5632 then w (ix3 0 k ⟨e, h⟩) else 0
def rowD (w : Vec Ideal S4x5632x2048 .f32) (d : Fin 2048) (e : ℕ) : EReal := if h : e < 5632 then w (ix3 0 ⟨e, h⟩ d) else 0

/-- Weights cut into tiles of 256 columns. -/
def tilesV (w : Vec Ideal S4x2048x5632 .f32) : Vec Ideal S22x2048x256 .bf16 :=
  transpose S22x2048x256 [1, 0, 2] (shapeCast S2048x22x256 (truncf .bf16 (shapeCast S2048x5632 (extractStridedSlice S1x2048x5632 ![0, 0, 0] w slices_S4x2048x5632_S1x2048x5632_0_0_0) shapeCasts_S1x2048x5632_S2048x5632 : FVec Ideal S2048x5632 .f32) bitsLt_bf16_f32 : FVec Ideal S2048x5632 .bf16) shapeCasts_S2048x5632_S2048x22x256) transposes_S2048x22x256_S22x2048x256_1_0_2

theorem tiles_apply (w : Vec Ideal S4x2048x5632 .f32) (q : Fin 22) (k : Fin 2048) (l : Fin 256) :
    tilesV w (ix3 q k l) = colW w k (256 * q.val + l.val) := by
  unfold colW
  rw [dif_pos (by omega)]
  pointwise [tilesV]
  exact congrArg (fun e => w (ix3 0 k e)) (Fin.ext (by show q.val * 256 + l.val = 256 * q.val + l.val; omega))

theorem V_tilesG : (V m c main_v4 : Vec Ideal S22x2048x256 .bf16) = tilesV (argG m c) := by
  unfold_abbrev_sides
  after_results
  rfl

theorem V_tilesU : (V m c main_v9 : Vec Ideal S22x2048x256 .bf16) = tilesV (argU m c) := by
  unfold_abbrev_sides
  after_results
  rfl

theorem V_down (e : Fin 5632) (d : Fin 2048) : (V m c main_v12 : Vec Ideal S5632x2048 .bf16) (ix2 e d) = rowD (argD m c) d e.val := by
  have h : (V m c main_v12 : Vec Ideal S5632x2048 .bf16) = (truncf .bf16 (shapeCast S5632x2048 (extractStridedSlice S1x5632x2048 ![0, 0, 0] (argD m c) slices_S4x5632x2048_S1x5632x2048_0_0_0) shapeCasts_S1x5632x2048_S5632x2048 : FVec Ideal S5632x2048 .f32) bitsLt_bf16_f32 : FVec Ideal S5632x2048 .bf16) := by
    unfold_abbrev_sides
    after_results
    rfl
  unfold rowD
  rw [h, dif_pos e.isLt]
  pointwise []

theorem index0 : ∀ t : Fin grid0.N, win0_0.index t (0 : Fin 2) = t.val / 11 + 1 ∧ win0_0.index t (1 : Fin 2) = 0 := by decide +kernel
theorem index1 : ∀ t : Fin grid0.N, win0_1.index t (0 : Fin 3) = 0 ∧ win0_1.index t (1 : Fin 3) = 0 ∧ win0_1.index t (2 : Fin 3) = 0 := by decide +kernel
theorem index2 : ∀ t : Fin grid0.N, win0_2.index t (0 : Fin 3) = t.val % 11 ∧ win0_2.index t (1 : Fin 3) = 0 ∧ win0_2.index t (2 : Fin 3) = 0 := by decide +kernel
theorem index3 : ∀ t : Fin grid0.N, win0_3.index t (0 : Fin 3) = t.val % 11 ∧ win0_3.index t (1 : Fin 3) = 0 ∧ win0_3.index t (2 : Fin 3) = 0 := by decide +kernel
theorem index4 : ∀ t : Fin grid0.N, win0_4.index t (0 : Fin 2) = t.val % 11 ∧ win0_4.index t (1 : Fin 2) = 0 := by decide +kernel

theorem points_lt (t : Fin cfg0.N) : t.val < 77 := lt_of_lt_of_eq t.isLt N_0

theorem blockX (t : Fin cfg0.N) (r : Fin 1056) (k : Fin 2048) (hr : 1056 * (t.val / 11 + 1) + r.val < 8448) :
    (iblk m c 0 t : Vec Ideal S1056x2048 .f32) (ix2 r k) = argX m c (ix2 ⟨1056 * (t.val / 11 + 1) + r.val, hr⟩ k) := by
  obtain ⟨e0, e1⟩ := index0 t
  refine Eq.trans ?_ (congrFun (V_main_arg0 m c) _)
  refine congrArg (V m c main_arg0 : Vec Ideal S8448x2048 .f32) ?_
  funext a; apply Fin.ext
  match a with
  | 0 => show win0_0.index t (0 : Fin 2) * 1056 + 1 * r.val = 1056 * (t.val / 11 + 1) + r.val; rw [e0]; omega
  | 1 => show win0_0.index t (1 : Fin 2) * 2048 + 1 * k.val = k.val; rw [e1]; omega

theorem blockGain (t : Fin cfg0.N) (k : Fin 2048) :
    (iblk m c 1 t : Vec Ideal S1x1x2048 .f32) (ix3 0 0 k) = argGain m c (ix3 0 0 k) := by
  obtain ⟨e0, e1, e2⟩ := index1 t
  refine Eq.trans ?_ (congrFun (V_main_arg1 m c) _)
  refine congrArg (V m c main_arg1 : Vec Ideal S4x1x2048 .f32) ?_
  funext a; apply Fin.ext
  match a with
  | 0 => show win0_1.index t (0 : Fin 3) * 1 + 1 * 0 = 0; rw [e0]
  | 1 => show win0_1.index t (1 : Fin 3) * 1 + 1 * 0 = 0; rw [e1]
  | 2 => show win0_1.index t (2 : Fin 3) * 2048 + 1 * k.val = k.val; rw [e2]; omega

theorem blockG (t : Fin cfg0.N) (p : Fin 2) (k : Fin 2048) (l : Fin 256) :
    (iblk m c 2 t : Vec Ideal S2x2048x256 .bf16) (ix3 p k l) = colW (argG m c) k (512 * (t.val % 11) + 256 * p.val + l.val) := by
  have ht := points_lt t
  obtain ⟨e0, e1, e2⟩ := index2 t
  have h := tiles_apply (argG m c) ⟨2 * (t.val % 11) + p.val, by omega⟩ k l
  rw [← V_tilesG m c] at h
  refine Eq.trans ?_ (h.trans (congrArg (colW (argG m c) k) ?_))
  · refine congrArg (V m c main_v4 : Vec Ideal S22x2048x256 .bf16) ?_
    funext a; apply Fin.ext
    match a with
    | 0 => show win0_2.index t (0 : Fin 3) * 2 + 1 * p.val = 2 * (t.val % 11) + p.val; rw [e0]; omega
    | 1 => show win0_2.index t (1 : Fin 3) * 2048 + 1 * k.val = k.val; rw [e1]; omega
    | 2 => show win0_2.index t (2 : Fin 3) * 256 + 1 * l.val = l.val; rw [e2]; omega
  · show 256 * (2 * (t.val % 11) + p.val) + l.val = _
    omega

theorem blockU (t : Fin cfg0.N) (p : Fin 2) (k : Fin 2048) (l : Fin 256) :
    (iblk m c 3 t : Vec Ideal S2x2048x256 .bf16) (ix3 p k l) = colW (argU m c) k (512 * (t.val % 11) + 256 * p.val + l.val) := by
  have ht := points_lt t
  obtain ⟨e0, e1, e2⟩ := index3 t
  have h := tiles_apply (argU m c) ⟨2 * (t.val % 11) + p.val, by omega⟩ k l
  rw [← V_tilesU m c] at h
  refine Eq.trans ?_ (h.trans (congrArg (colW (argU m c) k) ?_))
  · refine congrArg (V m c main_v9 : Vec Ideal S22x2048x256 .bf16) ?_
    funext a; apply Fin.ext
    match a with
    | 0 => show win0_3.index t (0 : Fin 3) * 2 + 1 * p.val = 2 * (t.val % 11) + p.val; rw [e0]; omega
    | 1 => show win0_3.index t (1 : Fin 3) * 2048 + 1 * k.val = k.val; rw [e1]; omega
    | 2 => show win0_3.index t (2 : Fin 3) * 256 + 1 * l.val = l.val; rw [e2]; omega
  · show 256 * (2 * (t.val % 11) + p.val) + l.val = _
    omega

theorem blockD (t : Fin cfg0.N) (e : Fin 512) (d : Fin 2048) :
    (iblk m c 4 t : Vec Ideal S512x2048 .bf16) (ix2 e d) = rowD (argD m c) d (512 * (t.val % 11) + e.val) := by
  have ht := points_lt t
  obtain ⟨e0, e1⟩ := index4 t
  refine Eq.trans ?_ (V_down m c ⟨512 * (t.val % 11) + e.val, by omega⟩ d)
  refine congrArg (V m c main_v12 : Vec Ideal S5632x2048 .bf16) ?_
  funext a; apply Fin.ext
  match a with
  | 0 => show win0_4.index t (0 : Fin 2) * 512 + 1 * e.val = 512 * (t.val % 11) + e.val; rw [e0]; omega
  | 1 => show win0_4.index t (1 : Fin 2) * 2048 + 1 * d.val = d.val; rw [e1]; omega

/-! ## The points of a block of rows -/

/-- The layer's normalised row `a`, and its output at `(a, d)` with the first `n` hidden columns added. -/
def rowE (a : Fin 8448) : Fin 2048 → EReal := normE (fun k => argX m c (ix2 a k)) (fun k => argGain m c (ix3 0 0 k))
def layerE (n : ℕ) (a : Fin 8448) (d : Fin 2048) : EReal :=
  argX m c (ix2 a d) + ∑ e ∈ range n, shareE (rowE m c a) (colW (argG m c)) (colW (argU m c)) (rowD (argD m c) d) e

/-- What the points up to `t` of its block leave: the rows with the hidden columns so far, and the normalised rows. -/
theorem outs_eq (r : Fin 1056) : ∀ (n : ℕ) (hn : n < cfg0.N) (hr : 1056 * (n / 11 + 1) + r.val < 8448),
    (∀ d : Fin 2048, (outsAt0 m c n hn).1 (ix2 r d) = layerE m c (512 * (n % 11 + 1)) ⟨1056 * (n / 11 + 1) + r.val, hr⟩ d)
      ∧ ∀ k : Fin 2048, (outsAt0 m c n hn).2 (ix2 r k) = rowE m c ⟨1056 * (n / 11 + 1) + r.val, hr⟩ k := by
  have start : ∀ (n : ℕ) (hn : n < cfg0.N) (hr : 1056 * (n / 11 + 1) + r.val < 8448), n % 11 = 0 →
      (∀ d : Fin 2048, (outsAt0 m c n hn).1 (ix2 r d) = layerE m c (512 * (n % 11 + 1)) ⟨1056 * (n / 11 + 1) + r.val, hr⟩ d)
      ∧ ∀ k : Fin 2048, (outsAt0 m c n hn).2 (ix2 r k) = rowE m c ⟨1056 * (n / 11 + 1) + r.val, hr⟩ k := by
    intro n hn hr h0
    have hk : ∀ k : Fin 2048, k0_pay1 (iblk m c 0 ⟨n, hn⟩ : Vec Ideal S1056x2048 .f32) (iblk m c 1 ⟨n, hn⟩ : Vec Ideal S1x1x2048 .f32) (ix2 r k)
        = rowE m c ⟨1056 * (n / 11 + 1) + r.val, hr⟩ k := fun k => by
      rw [norm_apply]
      simp only [blockX m c ⟨n, hn⟩ r _ hr, blockGain]
      rfl
    rw [outsAt0_A m c ⟨n, hn⟩ h0, out_first, kept_first]
    refine ⟨fun d => ?_, hk⟩
    refine (step_apply _ _ _ _ _ _ _ _ _ _ r d hk (blockG m c ⟨n, hn⟩) (blockU m c ⟨n, hn⟩) (fun e => blockD m c ⟨n, hn⟩ e d)).trans ?_
    rw [blockX m c ⟨n, hn⟩ r d hr]
    unfold layerE
    dsimp only
    rw [h0]
    simp only [Nat.mul_zero, Nat.zero_add, Nat.mul_one]
  intro n
  induction n with
  | zero => exact fun hn hr => start 0 hn hr rfl
  | succ n ih =>
    intro hn hr
    by_cases h0 : (n + 1) % 11 = 0
    · exact start (n + 1) hn hr h0
    · have q : (n + 1) / 11 = n / 11 := by omega
      have p : (n + 1) % 11 = n % 11 + 1 := by omega
      have hr' : 1056 * (n / 11 + 1) + r.val < 8448 := by omega
      obtain ⟨i1, i2⟩ := ih (Nat.lt_of_succ_lt hn) hr'
      have ea : (⟨1056 * ((n + 1) / 11 + 1) + r.val, hr⟩ : Fin 8448) = ⟨1056 * (n / 11 + 1) + r.val, hr'⟩ := Fin.ext (by dsimp only; omega)
      rw [outsAt0_B m c ⟨n + 1, hn⟩ h0, out_later, kept_later, ea]
      refine ⟨fun d => ?_, i2⟩
      refine (step_apply _ _ _ _ _ _ _ _ _ _ r d i2 (blockG m c ⟨n + 1, hn⟩) (blockU m c ⟨n + 1, hn⟩) (fun e => blockD m c ⟨n + 1, hn⟩ e d)).trans ?_
      refine (congrArg (fun z => z + _) (i1 d)).trans ?_
      unfold layerE
      dsimp only
      rw [p, show 512 * (n % 11 + 1 + 1) = 512 * (n % 11 + 1) + 512 from by omega, Finset.sum_range_add, add_assoc]

/-! ## The array after the run -/

/-- The output array starts as the input rows. -/
theorem V_rows : (V m c (Pipeline.arrRef spec0 5) : Vec Ideal S8448x2048 .f32) = argX m c := by
  show (V m c main_v13 : Vec Ideal S8448x2048 .f32) = argX m c
  unfold_abbrev_sides
  after_results
  rfl

/-- The kernel's result: the first 1056 rows as they were, the others with the layer added. -/
def resultE : Vec Ideal S8448x2048 .f32 := fun i =>
  if 1056 ≤ (i 0).val ∧ (i 0).val < 8448 ∧ 0 ≤ (i 1).val ∧ (i 1).val < 2048 then Value.G5 m c i else V m c (Pipeline.arrRef spec0 5) i

theorem result_apply (a : Fin 8448) (d : Fin 2048) :
    resultE m c (ix2 a d) = if a.val < 1056 then argX m c (ix2 a d) else layerE m c 5632 a d := by
  have ha := a.isLt
  have hd := d.isLt
  unfold resultE
  by_cases h : a.val < 1056
  · rw [if_neg (fun h' => absurd (show 1056 ≤ a.val from h'.1) (by omega)), if_pos h]
    exact congrFun (V_rows m c) _
  · rw [if_pos ⟨show 1056 ≤ a.val by omega, ha, Nat.zero_le _, hd⟩, if_neg h]
    have hp : Value.pt5Of (ix2 a d) = 11 * (a.val / 1056 - 1) + 10 := by
      show 11 * (1 * (a.val / 1056 - 1) + 1 * (d.val / 2048 - 0)) + 10 = _
      omega
    have hn : Value.pt5Of (ix2 a d) < cfg0.N := by rw [hp]; exact lt_of_lt_of_eq (by omega) N_0.symm
    unfold Value.G5
    rw [dif_pos hn, ← Value.outsAt0_sweep m c _ hn]
    have hl : Value.loc5Of (ix2 a d) = ix2 (⟨a.val % 1056, Nat.mod_lt _ (by omega)⟩ : Fin 1056) (⟨d.val, hd⟩ : Fin 2048) := by
      funext k; apply Fin.ext
      match k with
      | 0 => rfl
      | 1 => show d.val % 2048 = d.val; omega
    rw [hl]
    have q : Value.pt5Of (ix2 a d) / 11 = a.val / 1056 - 1 := by rw [hp]; omega
    have p : Value.pt5Of (ix2 a d) % 11 = 10 := by rw [hp]; omega
    rw [(outs_eq m c ⟨a.val % 1056, Nat.mod_lt _ (by omega)⟩ _ hn (by rw [q]; dsimp only; omega)).1 ⟨d.val, hd⟩, p]
    exact congrArg (fun z => layerE m c 5632 z d) (Fin.ext (by dsimp only; rw [q]; omega))

end

end Cert.Proof.FFN
-- ==== Proof.FFN.Ref.lean ====
/-
  The reference's result, entry by entry, and that it is the kernel's.
-/
module

public import proofs.«01_k».proof.Proof.FFN.Rest
public import proofs.«01_k».proof.Proof.Gen.FfnReferenceIdeal.Run
public import Idealize.ShloMosaic.Lib.IdealHost

@[expose] public section

set_option maxRecDepth 16384

noncomputable section

namespace Cert.Proof.FFN

open Cert.FfnReferenceIdeal Cert.FfnReferenceIdeal.Gen
open Idealize.ShloMosaic Idealize.ShloMosaic.TcCoe Idealize.ShloMosaic.Tactic
open Finset

/-! ## The reference in stages -/

/-- The rows scaled by their root mean squares and the gain. -/
def normV (x : FVec Ideal S8448x2048 .f32) (gain : FVec Ideal S4x1x2048 .f32) : FVec Ideal S8448x2048 .f32 :=
  mulf (mulf x (broadcastInDim S8448x2048 ![0, 1] bcast_S8448x1_S8448x2048_0_1 (Host.rsqrt (addf (Host.divf (broadcastInDim S8448x1 ![0] bcast_S8448_S8448x1_0 (Host.reduceAdd (mulf x x) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 (shapeCast _ (extractStridedSlice S1x1x2048 ![0, 0, 0] gain slices_S4x1x2048_S1x1x2048_0_0_0) shapeCasts_S1x1x2048_S2048)))

/-- The rows through the first layer's weights `w`. -/
def throughV (h : FVec Ideal S8448x2048 .f32) (w : FVec Ideal S4x2048x5632 .f32) : FVec Ideal S8448x5632 .f32 :=
  Host.dotGeneral dot_S8448x2048_S2048x5632_S8448x5632_1_0_0_1_n_n none h (shapeCast _ (extractStridedSlice S1x2048x5632 ![0, 0, 0] w slices_S4x2048x5632_S1x2048x5632_0_0_0) shapeCasts_S1x2048x5632_S2048x5632)

/-- The gate times its logistic. -/
def siluV (g : FVec Ideal S8448x5632 .f32) : FVec Ideal S8448x5632 .f32 :=
  mulf g (Host.divf (broadcastInDim S8448x5632 ![] bcast_S_S8448x5632 (constant S_ .f32 0x3F800000#32)) (addf (broadcastInDim S8448x5632 ![] bcast_S_S8448x5632 (constant S_ .f32 0x3F800000#32)) (Host.exp (Host.negf g))))

/-- The rows with half of the hidden columns' sums through the down weights added. -/
def addedV (x : FVec Ideal S8448x2048 .f32) (a : FVec Ideal S8448x5632 .f32) (w : FVec Ideal S4x5632x2048 .f32) : FVec Ideal S8448x2048 .f32 :=
  addf x (mulf (broadcastInDim S8448x2048 ![] bcast_S_S8448x2048 (constant S_ .f32 0x3F000000#32)) (Host.dotGeneral dot_S8448x5632_S5632x2048_S8448x2048_1_0_0_1_n_n none a (shapeCast _ (extractStridedSlice S1x5632x2048 ![0, 0, 0] w slices_S4x5632x2048_S1x5632x2048_0_0_0) shapeCasts_S1x5632x2048_S5632x2048)))

/-- The whole layer. -/
def layerV (x : FVec Ideal S8448x2048 .f32) (gain : FVec Ideal S4x1x2048 .f32) (wg wu : FVec Ideal S4x2048x5632 .f32) (wd : FVec Ideal S4x5632x2048 .f32) : FVec Ideal S8448x2048 .f32 :=
  addedV x (mulf (siluV (throughV (normV x gain) wg)) (throughV (normV x gain) wu)) wd

/-! ## The stages, entry by entry -/

theorem norm_row (x : FVec Ideal S8448x2048 .f32) (gain : FVec Ideal S4x1x2048 .f32) (a : Fin 8448) (k : Fin 2048) :
    normV x gain (ix2 a k) = normE (fun k => x (ix2 a k)) (fun k => gain (ix3 0 0 k)) k := by
  pointwise [normV]
  rfl

theorem through_row (h : FVec Ideal S8448x2048 .f32) (w : FVec Ideal S4x2048x5632 .f32) (a : Fin 8448) (e : Fin 5632) :
    throughV h w (ix2 a e) = columnE (fun k => h (ix2 a k)) (colW w) e.val := by
  pointwise [throughV]
  unfold columnE colW
  refine Finset.sum_congr rfl fun k _ => ?_
  rw [dif_pos e.isLt]

theorem silu_row (g : FVec Ideal S8448x5632 .f32) (a : Fin 8448) (e : Fin 5632) :
    siluV g (ix2 a e) = g (ix2 a e) * Ideal.logistic (g (ix2 a e)) := by
  pointwise [siluV]
  rfl

theorem added_row (x : FVec Ideal S8448x2048 .f32) (v : FVec Ideal S8448x5632 .f32) (w : FVec Ideal S4x5632x2048 .f32) (a : Fin 8448) (d : Fin 2048) :
    addedV x v w (ix2 a d) = x (ix2 a d) + halfE * ∑ e : Fin 5632, v (ix2 a e) * rowD w d e.val := by
  pointwise [addedV]
  refine congrArg (fun z => x (ix2 a d) + halfE * z) ?_
  refine Finset.sum_congr rfl fun e _ => ?_
  unfold rowD
  rw [dif_pos e.isLt]

theorem layer_row (x : FVec Ideal S8448x2048 .f32) (gain : FVec Ideal S4x1x2048 .f32) (wg wu : FVec Ideal S4x2048x5632 .f32) (wd : FVec Ideal S4x5632x2048 .f32) (a : Fin 8448) (d : Fin 2048) :
    layerV x gain wg wu wd (ix2 a d) = x (ix2 a d) + ∑ e ∈ range 5632, shareE (normE (fun k => x (ix2 a k)) (fun k => gain (ix3 0 0 k))) (colW wg) (colW wu) (rowD wd d) e := by
  unfold layerV
  rw [added_row, ← half_shares, Finset.sum_range]
  refine congrArg (fun z => x (ix2 a d) + halfE * z) ?_
  refine Finset.sum_congr rfl fun e _ => ?_
  refine congrArg (fun z => z * rowD wd d e.val) ?_
  show siluV _ (ix2 a e) * throughV _ wu (ix2 a e) = _
  rw [silu_row, through_row, through_row]
  simp only [norm_row]
  rfl

/-! ## The two results -/

section

variable (m : (ℓ : Loc nD τ sig) → Buf (Elt Ideal) ℓ) (c : Dev nD)

/-- The reference's result: the first 1056 rows as they were, the others through the layer. -/
theorem reference_eq : Cert.FfnReferenceIdeal.Value.res_out0 m c
    = concatenate S8448x2048 0 [⟨S1056x2048, extractStridedSlice S1056x2048 ![0, 0] (m ((c.tc : Thread nD τ).loc main_arg0)) slices_S8448x2048_S1056x2048_0_0⟩,
        ⟨S7392x2048, extractStridedSlice S7392x2048 ![1056, 0] (layerV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) slices_S8448x2048_S7392x2048_1056_0⟩] concatenates_S1056x2048_S7392x2048_S8448x2048_d0 := rfl

theorem reference_apply (a : Fin 8448) (d : Fin 2048) :
    (Cert.FfnReferenceIdeal.Value.res_out0 m c : FVec Ideal S8448x2048 .f32) (ix2 a d)
      = if a.val < 1056 then (m ((c.tc : Thread nD τ).loc main_arg0) : FVec Ideal S8448x2048 .f32) (ix2 a d)
        else layerV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 a d) := by
  rw [reference_eq]
  pointwise []
  by_cases h : a.val < 1056
  · rw [dif_pos h, if_pos h]
  · rw [dif_neg h, if_neg h]
    exact congrArg (fun z => layerV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 z d)) (Fin.ext (by dsimp only; omega))

/-- Over the extended reals, from the same arguments, the kernel's result is the reference's. -/
theorem results_agree (n : (ℓ : Loc Cert.FfnIdeal.nD Cert.FfnIdeal.τ Cert.FfnIdeal.sig) → Buf (Elt Ideal) ℓ)
    (h0 : (m ((c.tc : Thread nD τ).loc main_arg0) : FVec Ideal S8448x2048 .f32) = argX n c) (h1 : (m ((c.tc : Thread nD τ).loc main_arg1) : FVec Ideal S4x1x2048 .f32) = argGain n c)
    (h2 : (m ((c.tc : Thread nD τ).loc main_arg2) : FVec Ideal S4x2048x5632 .f32) = argG n c) (h3 : (m ((c.tc : Thread nD τ).loc main_arg3) : FVec Ideal S4x2048x5632 .f32) = argU n c)
    (h4 : (m ((c.tc : Thread nD τ).loc main_arg4) : FVec Ideal S4x5632x2048 .f32) = argD n c) :
    (Cert.FfnReferenceIdeal.Value.res_out0 m c : FVec Ideal S8448x2048 .f32) = resultE n c := by
  funext i
  obtain ⟨a, d, rfl⟩ : ∃ (a : Fin 8448) (d : Fin 2048), i = ix2 a d := ⟨_, _, eq_ix2 i⟩
  rw [reference_apply, result_apply, layer_row, h0, h1, h2, h3, h4]
  rfl

end

end Cert.Proof.FFN
-- ==== Proof.FFN.Claims.lean ====
/-
  The feed-forward call's claims.
-/
module

public import proofs.«01_k».proof.Defs
public import proofs.«01_k».proof.Proof.Gen.Ffn.Frame
public import proofs.«01_k».proof.Proof.FFN.Ref
public import Idealize.ShloMosaic.Adequacy
public import Idealize.ShloMosaic.Init

@[expose] public section

noncomputable section

namespace Cert.Proof.FFN

open Idealize.ShloMosaic Idealize.SL.Sem

/-- The reference's run: its arguments end as they began, and it has no counter. -/
theorem frame_reference : Cert.quiescent_FfnReferenceIdeal (hFfnReferenceIdeal := Cert.FfnReferenceIdeal.Gen.facts) :=
  fun m g _ => (θ_run Cert.FfnReferenceIdeal.defs _ _).mono (fun r h => ⟨fun c => (h c).2, sem_eq_zero_of_no_sems (by decide) r.2⟩)
    (Cert.FfnReferenceIdeal.Value.run m g)

/-- The kernel's result and the reference's are the same array, whatever arguments they share. -/
theorem same : Cert.algebraic_FfnIdeal_FfnReferenceIdeal (hFfnIdeal := Cert.FfnIdeal.Gen.facts) (hFfnReferenceIdeal := Cert.FfnReferenceIdeal.Gen.facts) :=
  fun m g m' g' _ he =>
    ⟨fun c => resultE m c, Cert.FfnIdeal.Value.run m g,
      (θ_run Cert.FfnReferenceIdeal.defs _ _).mono (fun r h c => ⟨(h c).1.trans (results_agree m' c m (he c).1 (he c).2.1 (he c).2.2.1 (he c).2.2.2.1 (he c).2.2.2.2), (h c).2⟩)
        (Cert.FfnReferenceIdeal.Value.run m' g')⟩

end Cert.Proof.FFN
-- ==== Proof.MEM.Call.lean ====
/-
  The memory's keys and values: a grid point scales the memory's rows by their root mean squares and its layer's gain,
  multiplies them with the layer's key and value weights, and scales every head's keys again. Each point's blocks, and the two
  arrays after the run, entry by entry.
-/
module

public import proofs.«01_k».proof.Proof.Gen.MemoryIdeal.Value
public import proofs.«01_k».proof.Proof.FFN.Maths
public import Idealize.ShloMosaic.Lib.Pointwise
public import Idealize.ShloMosaic.Lib.Pipeline.ValueKit

@[expose] public section

set_option maxRecDepth 16384

noncomputable section

namespace Cert.Proof.MEM

open Cert.MemoryIdeal Cert.MemoryIdeal.Gen
open Idealize.ShloMosaic Idealize.ShloMosaic.TcCoe Idealize.ShloMosaic.Tactic
open Cert.Proof.FFN (normE)

theorem origin2 : (![0, 0] : Fin 2 → Nat) = fun _ => 0 := funext fun a => by fin_cases a <;> rfl
theorem origin3 : (![0, 0, 0] : Fin 3 → Nat) = fun _ => 0 := funext fun a => by fin_cases a <;> rfl

/-! ## A point's arithmetic -/

/-- Column `d` of head `p` among the 512 columns of the four heads. -/
def col (p : Fin 4) (d : Fin 128) : Fin 512 := ⟨p.val * 128 + d.val, by omega⟩

/-- A head's row, scaled by its root mean square and the gain. -/
def headE (X gain : Fin 128 → EReal) (d : Fin 128) : EReal :=
  X d * Ideal.rsqrt (Ideal.div (∑ j, X j * X j) (Ideal.ofBits .f32 1124073472#32) + Ideal.ofBits .f32 897988541#32) * gain d

theorem norm_apply (x : Vec Ideal S256x2048 .f32) (g : Vec Ideal S1x1x2048 .f32) (r : Fin 256) (k : Fin 2048) :
    k0_pay1 x g (ix2 r k) = normE (fun k => x (ix2 r k)) (fun k => g (ix3 0 0 k)) k := by
  pointwise [k0_pay1]
  rfl

theorem keys_apply (x : Vec Ideal S256x2048 .f32) (g : Vec Ideal S1x1x2048 .f32) (w : Vec Ideal S1x2048x512 .f32) (r : Fin 256) (e : Fin 512) :
    k0_pay2 x g w (ix2 r e) = ∑ k : Fin 2048, normE (fun k => x (ix2 r k)) (fun k => g (ix3 0 0 k)) k * w (ix3 0 k e) := by
  pointwise [k0_pay2]
  simp only [norm_apply]

theorem values_apply (x : Vec Ideal S256x2048 .f32) (g : Vec Ideal S1x1x2048 .f32) (w : Vec Ideal S1x2048x512 .f32) (r : Fin 256) (e : Fin 512) :
    k0_pay3 x g w (ix2 r e) = ∑ k : Fin 2048, normE (fun k => x (ix2 r k)) (fun k => g (ix3 0 0 k)) k * w (ix3 0 k e) := by
  pointwise [k0_pay3]
  simp only [norm_apply]

theorem head0_apply (x : Vec Ideal S256x2048 .f32) (g : Vec Ideal S1x1x2048 .f32) (w : Vec Ideal S1x2048x512 .f32) (kg : Vec Ideal S1x1x128 .f32) (r : Fin 256) (d : Fin 128) :
    k0_pay7 (k0_pay4 kg) (k0_pay5 x g w) (k0_pay6 x g w) (ix4 0 0 r d)
      = headE (fun d => k0_pay2 x g w (ix2 r (col 0 d))) (fun d => kg (ix3 0 0 d)) d := by
  have e : ∀ d : Fin 128, (⟨d.val, by omega⟩ : Fin 512) = col 0 d := fun d => Fin.ext (by show d.val = 0 * 128 + d.val; omega)
  pointwise [k0_pay4, k0_pay5, k0_pay6, k0_pay7]
  simp only [e]
  rfl

theorem head1_apply (k : FVec Ideal S256x512 .f32) (kg : Vec Ideal S1x1x128 .f32) (r : Fin 256) (d : Fin 128) :
    k0_pay9 k (k0_pay4 kg) (ix4 0 0 r d) = headE (fun d => k (ix2 r (col 1 d))) (fun d => kg (ix3 0 0 d)) d := by
  have e : ∀ d : Fin 128, (⟨128 + d.val, by omega⟩ : Fin 512) = col 1 d := fun d => Fin.ext (by show 128 + d.val = 1 * 128 + d.val; omega)
  pointwise [k0_pay4, k0_pay9]
  simp only [e]
  rfl

theorem head2_apply (k : FVec Ideal S256x512 .f32) (kg : Vec Ideal S1x1x128 .f32) (r : Fin 256) (d : Fin 128) :
    k0_pay14 (k0_pay4 kg) (k0_pay11 k) (k0_pay12 k) (k0_pay13 (F := Ideal)) (ix4 0 0 r d) = headE (fun d => k (ix2 r (col 2 d))) (fun d => kg (ix3 0 0 d)) d := by
  have e : ∀ d : Fin 128, (⟨256 + d.val, by omega⟩ : Fin 512) = col 2 d := fun d => Fin.ext (by show 256 + d.val = 2 * 128 + d.val; omega)
  pointwise [k0_pay4, k0_pay11, k0_pay12, k0_pay13, k0_pay14]
  simp only [e]
  rfl

theorem head3_apply (k : FVec Ideal S256x512 .f32) (kg : Vec Ideal S1x1x128 .f32) (r : Fin 256) (d : Fin 128) :
    k0_pay16 k (k0_pay4 kg) (ix4 0 0 r d) = headE (fun d => k (ix2 r (col 3 d))) (fun d => kg (ix3 0 0 d)) d := by
  have e : ∀ d : Fin 128, (⟨384 + d.val, by omega⟩ : Fin 512) = col 3 d := fun d => Fin.ext (by show 384 + d.val = 3 * 128 + d.val; omega)
  pointwise [k0_pay4, k0_pay16]
  simp only [e]
  rfl

/-- A point's block of keys, the heads before the rows. -/
def keysV (x : Vec Ideal S256x2048 .f32) (g : Vec Ideal S1x1x2048 .f32) (w : Vec Ideal S1x2048x512 .f32) (kg : Vec Ideal S1x1x128 .f32) : Vec Ideal S1x4x256x128 .f32 :=
  fun i => headE (fun d => k0_pay2 x g w (ix2 (i 2) (col (i 1) d))) (fun d => kg (ix3 0 0 d)) (i 3)

/-- Where head `p`'s piece lies in the block. -/
theorem piece_at (p : ℕ) (hp : p < 4) (h : ∀ a, ![0, p, 0, 0] a + S1x1x256x128.size a ≤ S1x4x256x128.size a) (r : Fin 256) (d : Fin 128) :
    (Rect.unit (s := S1x4x256x128) ![0, p, 0, 0] S1x1x256x128.size h).emb (ix4 0 0 r d) = ix4 0 ⟨p, hp⟩ r d := by
  funext a; apply Fin.ext
  match a with
  | 0 => rfl
  | 1 => show p + 1 * 0 = p; omega
  | 2 => show 0 + 1 * r.val = r.val; omega
  | 3 => show 0 + 1 * d.val = d.val; omega

theorem keys_block (x : Vec Ideal S256x2048 .f32) (g : Vec Ideal S1x1x2048 .f32) (w v : Vec Ideal S1x2048x512 .f32) (kg : Vec Ideal S1x1x128 .f32) :
    out0_5 x g w v kg = keysV x g w kg := by
  unfold_out out0_5
  simp only [View.ld_unit_zero (S := S256x2048) origin2, View.ld_unit_zero (S := S1x1x2048) origin3, View.ld_unit_zero (S := S1x2048x512) origin3,
    View.ld_unit_zero (S := S1x1x128) origin3]
  funext y
  refine View.canon_apply_of_pieces (keysV x g w kg) _ (fun pc hp => ?_) y (cover0_5 _ _ _ _ y)
  rcases List.mem_cons.mp hp with rfl | hp
  · intro z
    obtain ⟨u, u', r, d, rfl⟩ : ∃ (u u' : Fin 1) (r : Fin 256) (d : Fin 128), z = ix4 u u' r d := ⟨_, _, _, _, eq_ix4 z⟩
    obtain rfl := Fin.fin_one_eq_zero u
    obtain rfl := Fin.fin_one_eq_zero u'
    exact (head3_apply _ kg r d).trans (congrArg (keysV x g w kg) (piece_at 3 (by decide) inb_S1x4x256x128_S1x1x256x128_0_3_0_0 r d)).symm
  rcases List.mem_cons.mp hp with rfl | hp
  · intro z
    obtain ⟨u, u', r, d, rfl⟩ : ∃ (u u' : Fin 1) (r : Fin 256) (d : Fin 128), z = ix4 u u' r d := ⟨_, _, _, _, eq_ix4 z⟩
    obtain rfl := Fin.fin_one_eq_zero u
    obtain rfl := Fin.fin_one_eq_zero u'
    exact (head2_apply _ kg r d).trans (congrArg (keysV x g w kg) (piece_at 2 (by decide) inb_S1x4x256x128_S1x1x256x128_0_2_0_0 r d)).symm
  rcases List.mem_cons.mp hp with rfl | hp
  · intro z
    obtain ⟨u, u', r, d, rfl⟩ : ∃ (u u' : Fin 1) (r : Fin 256) (d : Fin 128), z = ix4 u u' r d := ⟨_, _, _, _, eq_ix4 z⟩
    obtain rfl := Fin.fin_one_eq_zero u
    obtain rfl := Fin.fin_one_eq_zero u'
    exact (head1_apply _ kg r d).trans (congrArg (keysV x g w kg) (piece_at 1 (by decide) inb_S1x4x256x128_S1x1x256x128_0_1_0_0 r d)).symm
  obtain rfl := List.mem_singleton.mp hp
  intro z
  obtain ⟨u, u', r, d, rfl⟩ : ∃ (u u' : Fin 1) (r : Fin 256) (d : Fin 128), z = ix4 u u' r d := ⟨_, _, _, _, eq_ix4 z⟩
  obtain rfl := Fin.fin_one_eq_zero u
  obtain rfl := Fin.fin_one_eq_zero u'
  exact (head0_apply x g w kg r d).trans (congrArg (keysV x g w kg) (piece_at 0 (by decide) inb_S1x4x256x128_S1x1x256x128_0_0_0_0 r d)).symm

theorem values_block (x : Vec Ideal S256x2048 .f32) (g : Vec Ideal S1x1x2048 .f32) (w v : Vec Ideal S1x2048x512 .f32) (kg : Vec Ideal S1x1x128 .f32)
    (p : Fin 4) (r : Fin 256) (d : Fin 128) : out0_6 x g w v kg (ix4 0 p r d) = k0_pay3 x g v (ix2 r (col p d)) := by
  unfold_out out0_6
  simp only [View.ld_unit_zero (S := S256x2048) origin2, View.ld_unit_zero (S := S1x1x2048) origin3, View.ld_unit_zero (S := S1x2048x512) origin3,
    View.ld_unit_zero (S := S1x1x128) origin3]
  refine (Value.canon6_eq x g v (ix4 0 p r d)).trans (congrArg (k0_pay3 x g v) ?_)
  funext a
  match a with
  | 0 => rfl
  | 1 => rfl

/-! ## The arrays and their blocks -/

section

variable (m : (ℓ : Loc nD τ sig) → Buf (Elt Ideal) ℓ) (c : Dev nD)

/-- The memory's rows, the layers' gains, their key and value weights and their key gains. -/
abbrev argMem : Vec Ideal S1x256x2048 .f32 := m ((c : Thread nD τ).loc main_arg0)
abbrev argGain : Vec Ideal S4x2048 .f32 := m ((c : Thread nD τ).loc main_arg1)
abbrev argK : Vec Ideal S4x2048x512 .f32 := m ((c : Thread nD τ).loc main_arg2)
abbrev argV : Vec Ideal S4x2048x512 .f32 := m ((c : Thread nD τ).loc main_arg3)
abbrev argKg : Vec Ideal S4x128 .f32 := m ((c : Thread nD τ).loc main_arg4)

theorem V_mem (r : Fin 256) (k : Fin 2048) : (V m c main_v0 : Vec Ideal S256x2048 .f32) (ix2 r k) = argMem m c (ix3 0 r k) := by
  have h : (V m c main_v0 : Vec Ideal S256x2048 .f32) = shapeCast S256x2048 (argMem m c) shapeCasts_S1x256x2048_S256x2048 := by
    unfold_abbrev_sides
    after_results
    rfl
  rw [h]
  pointwise []

theorem V_gain (l : Fin 4) (k : Fin 2048) : (V m c main_v1 : Vec Ideal S4x1x2048 .f32) (ix3 l 0 k) = argGain m c (ix2 l k) := by
  have h : (V m c main_v1 : Vec Ideal S4x1x2048 .f32) = shapeCast S4x1x2048 (argGain m c) shapeCasts_S4x2048_S4x1x2048 := by
    unfold_abbrev_sides
    after_results
    rfl
  rw [h]
  pointwise []

theorem V_kgain (l : Fin 4) (d : Fin 128) : (V m c main_v2 : Vec Ideal S4x1x128 .f32) (ix3 l 0 d) = argKg m c (ix2 l d) := by
  have h : (V m c main_v2 : Vec Ideal S4x1x128 .f32) = shapeCast S4x1x128 (argKg m c) shapeCasts_S4x128_S4x1x128 := by
    unfold_abbrev_sides
    after_results
    rfl
  rw [h]
  pointwise []

theorem index0 : ∀ t : Fin grid0.N, win0_0.index t (0 : Fin 2) = 0 ∧ win0_0.index t (1 : Fin 2) = 0 := by decide +kernel
theorem index1 : ∀ t : Fin grid0.N, win0_1.index t (0 : Fin 3) = t.val ∧ win0_1.index t (1 : Fin 3) = 0 ∧ win0_1.index t (2 : Fin 3) = 0 := by decide +kernel
theorem index2 : ∀ t : Fin grid0.N, win0_2.index t (0 : Fin 3) = t.val ∧ win0_2.index t (1 : Fin 3) = 0 ∧ win0_2.index t (2 : Fin 3) = 0 := by decide +kernel
theorem index3 : ∀ t : Fin grid0.N, win0_3.index t (0 : Fin 3) = t.val ∧ win0_3.index t (1 : Fin 3) = 0 ∧ win0_3.index t (2 : Fin 3) = 0 := by decide +kernel
theorem index4 : ∀ t : Fin grid0.N, win0_4.index t (0 : Fin 3) = t.val ∧ win0_4.index t (1 : Fin 3) = 0 ∧ win0_4.index t (2 : Fin 3) = 0 := by decide +kernel
theorem index5 : ∀ t : Fin grid0.N, win0_5.index t (0 : Fin 4) = t.val ∧ win0_5.index t (1 : Fin 4) = 0 ∧ win0_5.index t (2 : Fin 4) = 0 ∧ win0_5.index t (3 : Fin 4) = 0 := by decide +kernel
theorem index6 : ∀ t : Fin grid0.N, win0_6.index t (0 : Fin 4) = t.val ∧ win0_6.index t (1 : Fin 4) = 0 ∧ win0_6.index t (2 : Fin 4) = 0 ∧ win0_6.index t (3 : Fin 4) = 0 := by decide +kernel

theorem points_lt (t : Fin cfg0.N) : t.val < 4 := lt_of_lt_of_eq t.isLt N_0

/-- The layer of a point. -/
def layer (t : Fin cfg0.N) : Fin 4 := ⟨t.val, points_lt t⟩

theorem blockMem (t : Fin cfg0.N) (r : Fin 256) (k : Fin 2048) :
    (iblk m c 0 t : Vec Ideal S256x2048 .f32) (ix2 r k) = argMem m c (ix3 0 r k) := by
  obtain ⟨e0, e1⟩ := index0 t
  refine Eq.trans ?_ (V_mem m c r k)
  refine congrArg (V m c main_v0 : Vec Ideal S256x2048 .f32) ?_
  funext a; apply Fin.ext
  match a with
  | 0 => show win0_0.index t (0 : Fin 2) * 256 + 1 * r.val = r.val; rw [e0]; omega
  | 1 => show win0_0.index t (1 : Fin 2) * 2048 + 1 * k.val = k.val; rw [e1]; omega

theorem blockGain (t : Fin cfg0.N) (k : Fin 2048) :
    (iblk m c 1 t : Vec Ideal S1x1x2048 .f32) (ix3 0 0 k) = argGain m c (ix2 (layer t) k) := by
  obtain ⟨e0, e1, e2⟩ := index1 t
  refine Eq.trans ?_ (V_gain m c (layer t) k)
  refine congrArg (V m c main_v1 : Vec Ideal S4x1x2048 .f32) ?_
  funext a; apply Fin.ext
  match a with
  | 0 => show win0_1.index t (0 : Fin 3) * 1 + 1 * 0 = t.val; rw [e0]; omega
  | 1 => show win0_1.index t (1 : Fin 3) * 1 + 1 * 0 = 0; rw [e1]
  | 2 => show win0_1.index t (2 : Fin 3) * 2048 + 1 * k.val = k.val; rw [e2]; omega

theorem blockK (t : Fin cfg0.N) (k : Fin 2048) (e : Fin 512) :
    (iblk m c 2 t : Vec Ideal S1x2048x512 .f32) (ix3 0 k e) = argK m c (ix3 (layer t) k e) := by
  obtain ⟨e0, e1, e2⟩ := index2 t
  refine Eq.trans ?_ (congrFun (V_main_arg2 m c) _)
  refine congrArg (V m c main_arg2 : Vec Ideal S4x2048x512 .f32) ?_
  funext a; apply Fin.ext
  match a with
  | 0 => show win0_2.index t (0 : Fin 3) * 1 + 1 * 0 = t.val; rw [e0]; omega
  | 1 => show win0_2.index t (1 : Fin 3) * 2048 + 1 * k.val = k.val; rw [e1]; omega
  | 2 => show win0_2.index t (2 : Fin 3) * 512 + 1 * e.val = e.val; rw [e2]; omega

theorem blockV (t : Fin cfg0.N) (k : Fin 2048) (e : Fin 512) :
    (iblk m c 3 t : Vec Ideal S1x2048x512 .f32) (ix3 0 k e) = argV m c (ix3 (layer t) k e) := by
  obtain ⟨e0, e1, e2⟩ := index3 t
  refine Eq.trans ?_ (congrFun (V_main_arg3 m c) _)
  refine congrArg (V m c main_arg3 : Vec Ideal S4x2048x512 .f32) ?_
  funext a; apply Fin.ext
  match a with
  | 0 => show win0_3.index t (0 : Fin 3) * 1 + 1 * 0 = t.val; rw [e0]; omega
  | 1 => show win0_3.index t (1 : Fin 3) * 2048 + 1 * k.val = k.val; rw [e1]; omega
  | 2 => show win0_3.index t (2 : Fin 3) * 512 + 1 * e.val = e.val; rw [e2]; omega

theorem blockKg (t : Fin cfg0.N) (d : Fin 128) :
    (iblk m c 4 t : Vec Ideal S1x1x128 .f32) (ix3 0 0 d) = argKg m c (ix2 (layer t) d) := by
  obtain ⟨e0, e1, e2⟩ := index4 t
  refine Eq.trans ?_ (V_kgain m c (layer t) d)
  refine congrArg (V m c main_v2 : Vec Ideal S4x1x128 .f32) ?_
  funext a; apply Fin.ext
  match a with
  | 0 => show win0_4.index t (0 : Fin 3) * 1 + 1 * 0 = t.val; rw [e0]; omega
  | 1 => show win0_4.index t (1 : Fin 3) * 1 + 1 * 0 = 0; rw [e1]
  | 2 => show win0_4.index t (2 : Fin 3) * 128 + 1 * d.val = d.val; rw [e2]; omega

end

/-! ## The arrays after the run -/

/-- The memory's row `r`, normalised with layer `l`'s gain, through column `e` of the layer's weights. -/
def throughE (x : Vec Ideal S1x256x2048 .f32) (g : Vec Ideal S4x2048 .f32) (w : Vec Ideal S4x2048x512 .f32) (l : Fin 4) (r : Fin 256) (e : Fin 512) : EReal :=
  ∑ k : Fin 2048, normE (fun k => x (ix3 0 r k)) (fun k => g (ix2 l k)) k * w (ix3 l k e)

/-- The keys and the values of every layer and head. -/
def keyE (x : Vec Ideal S1x256x2048 .f32) (g : Vec Ideal S4x2048 .f32) (w : Vec Ideal S4x2048x512 .f32) (kg : Vec Ideal S4x128 .f32)
    (l p : Fin 4) (r : Fin 256) (d : Fin 128) : EReal :=
  headE (fun d => throughE x g w l r (col p d)) (fun d => kg (ix2 l d)) d

def keysE (x : Vec Ideal S1x256x2048 .f32) (g : Vec Ideal S4x2048 .f32) (w : Vec Ideal S4x2048x512 .f32) (kg : Vec Ideal S4x128 .f32) : Vec Ideal S4x4x256x128 .f32 :=
  fun i => keyE x g w kg (i 0) (i 1) (i 2) (i 3)

def valuesE (x : Vec Ideal S1x256x2048 .f32) (g : Vec Ideal S4x2048 .f32) (w : Vec Ideal S4x2048x512 .f32) : Vec Ideal S4x4x256x128 .f32 :=
  fun i => throughE x g w (i 0) (i 2) (col (i 1) (i 3))

section

variable (m : (ℓ : Loc nD τ sig) → Buf (Elt Ideal) ℓ) (c : Dev nD)

theorem place5 (t : Fin cfg0.N) (p : Fin 4) (r : Fin 256) (d : Fin 128) : (win0_5.blk t).view.emb (ix4 0 p r d) = ix4 (layer t) p r d := by
  obtain ⟨e0, e1, e2, e3⟩ := index5 t
  funext a; apply Fin.ext
  match a with
  | 0 => show win0_5.index t (0 : Fin 4) * 1 + 1 * 0 = t.val; rw [e0]; omega
  | 1 => show win0_5.index t (1 : Fin 4) * 4 + 1 * p.val = p.val; rw [e1]; omega
  | 2 => show win0_5.index t (2 : Fin 4) * 256 + 1 * r.val = r.val; rw [e2]; omega
  | 3 => show win0_5.index t (3 : Fin 4) * 128 + 1 * d.val = d.val; rw [e3]; omega

theorem place6 (t : Fin cfg0.N) (p : Fin 4) (r : Fin 256) (d : Fin 128) : (win0_6.blk t).view.emb (ix4 0 p r d) = ix4 (layer t) p r d := by
  obtain ⟨e0, e1, e2, e3⟩ := index6 t
  funext a; apply Fin.ext
  match a with
  | 0 => show win0_6.index t (0 : Fin 4) * 1 + 1 * 0 = t.val; rw [e0]; omega
  | 1 => show win0_6.index t (1 : Fin 4) * 4 + 1 * p.val = p.val; rw [e1]; omega
  | 2 => show win0_6.index t (2 : Fin 4) * 256 + 1 * r.val = r.val; rw [e2]; omega
  | 3 => show win0_6.index t (3 : Fin 4) * 128 + 1 * d.val = d.val; rw [e3]; omega

theorem keys_point (t : Fin cfg0.N) (y : S1x4x256x128.Idx) :
    out0_5 (iblk m c 0 t : Vec Ideal S256x2048 .f32) (iblk m c 1 t : Vec Ideal S1x1x2048 .f32) (iblk m c 2 t : Vec Ideal S1x2048x512 .f32) (iblk m c 3 t : Vec Ideal S1x2048x512 .f32) (iblk m c 4 t : Vec Ideal S1x1x128 .f32) y
      = keysE (argMem m c) (argGain m c) (argK m c) (argKg m c) ((win0_5.blk t).view.emb y) := by
  obtain ⟨z, p, r, d, rfl⟩ : ∃ (z : Fin 1) (p : Fin 4) (r : Fin 256) (d : Fin 128), y = ix4 z p r d := ⟨_, _, _, _, eq_ix4 y⟩
  obtain rfl := Fin.fin_one_eq_zero z
  rw [keys_block, place5]
  show headE (fun d => k0_pay2 (iblk m c 0 t : Vec Ideal S256x2048 .f32) (iblk m c 1 t : Vec Ideal S1x1x2048 .f32) (iblk m c 2 t : Vec Ideal S1x2048x512 .f32) (ix2 r (col p d))) (fun d => (iblk m c 4 t : Vec Ideal S1x1x128 .f32) (ix3 0 0 d)) d = keyE _ _ _ _ (layer t) p r d
  simp only [keys_apply, blockMem, blockGain, blockK, blockKg]
  rfl

theorem values_point (t : Fin cfg0.N) (y : S1x4x256x128.Idx) :
    out0_6 (iblk m c 0 t : Vec Ideal S256x2048 .f32) (iblk m c 1 t : Vec Ideal S1x1x2048 .f32) (iblk m c 2 t : Vec Ideal S1x2048x512 .f32) (iblk m c 3 t : Vec Ideal S1x2048x512 .f32) (iblk m c 4 t : Vec Ideal S1x1x128 .f32) y
      = valuesE (argMem m c) (argGain m c) (argV m c) ((win0_6.blk t).view.emb y) := by
  obtain ⟨z, p, r, d, rfl⟩ : ∃ (z : Fin 1) (p : Fin 4) (r : Fin 256) (d : Fin 128), y = ix4 z p r d := ⟨_, _, _, _, eq_ix4 y⟩
  obtain rfl := Fin.fin_one_eq_zero z
  rw [values_block, place6, values_apply]
  simp only [blockMem, blockGain, blockV]
  rfl

theorem covers5 : win0_5.Covers := by decide +kernel
theorem covers6 : win0_6.Covers := by decide +kernel

theorem keys_eq : (dats m 0 c).arrAt 5 cfg0.N = keysE (argMem m c) (argGain m c) (argK m c) (argKg m c) :=
  (dats m 0 c).arrAt_eq_of_covers 5 (keysE (argMem m c) (argGain m c) (argK m c) (argKg m c)) covers5 fun t _ y => (congrFun (after0_5 m c t) _).trans (keys_point m c t y)

theorem values_eq : (dats m 0 c).arrAt 6 cfg0.N = valuesE (argMem m c) (argGain m c) (argV m c) :=
  (dats m 0 c).arrAt_eq_of_covers 6 (valuesE (argMem m c) (argGain m c) (argV m c)) covers6 fun t _ y => (congrFun (after0_6 m c t) _).trans (values_point m c t y)

end

end Cert.Proof.MEM
-- ==== Proof.MEM.Claims.lean ====
/-
  The memory's keys and values as the reference computes them, entry by entry, and the call's claims.
-/
module

public import proofs.«01_k».proof.Defs
public import proofs.«01_k».proof.Proof.Gen.Memory.Frame
public import proofs.«01_k».proof.Proof.Gen.MemoryReferenceIdeal.Run
public import proofs.«01_k».proof.Proof.MEM.Call
public import Idealize.ShloMosaic.Lib.IdealHost
public import Idealize.ShloMosaic.Adequacy
public import Idealize.ShloMosaic.Init

@[expose] public section

set_option maxRecDepth 16384

noncomputable section

namespace Cert.Proof.MEM

open Idealize.ShloMosaic Idealize.ShloMosaic.TcCoe Idealize.ShloMosaic.Tactic Idealize.SL.Sem
open Cert.Proof.FFN (normE)

section

open Cert.MemoryReferenceIdeal Cert.MemoryReferenceIdeal.Gen

/-- The reference's rows, normalised for every layer. -/
def normR (x : FVec Ideal S1x256x2048 .f32) (g : FVec Ideal S4x2048 .f32) : FVec Ideal S4x1x256x2048 .f32 :=
  mulf (broadcastInDim S4x1x256x2048 ![0, 1, 2, 3] bcast_S1x1x256x2048_S4x1x256x2048_0_1_2_3 (broadcastInDim S1x1x256x2048 ![1, 2, 3] bcast_S1x256x2048_S1x1x256x2048_1_2_3
      (mulf x (broadcastInDim S1x256x2048 ![0, 1, 2] bcast_S1x256x1_S1x256x2048_0_1_2
        (Host.rsqrt (addf (Host.divf (broadcastInDim S1x256x1 ![0, 1] bcast_S1x256_S1x256x1_0_1 (Host.reduceAdd (mulf x x) (constant S_ .f32 0x00000000#32) reducesTo_S1x256x2048_S1x256_d2 h_S_))
            (broadcastInDim S1x256x1 ![] bcast_S_S1x256x1 (constant S_ .f32 0x45000000#32)))
          (broadcastInDim S1x256x1 ![] bcast_S_S1x256x1 (constant S_ .f32 0x358637BD#32))))))))
    (broadcastInDim S4x1x256x2048 ![0, 1, 2, 3] bcast_S4x1x1x2048_S4x1x256x2048_0_1_2_3 (broadcastInDim S4x1x1x2048 ![0, 3] bcast_S4x2048_S4x1x1x2048_0_3 g))

/-- Those rows through every layer's weights, head by head. -/
def headsR (h : FVec Ideal S4x1x256x2048 .f32) (w : FVec Ideal S4x2048x512 .f32) : FVec Ideal S4x1x256x4x128 .f32 :=
  shapeCast _ (Host.dotGeneral dot_S4x1x256x2048_S4x2048x512_S4x1x256x512_3_1_12_2_0_0 none h w) shapeCasts_S4x1x256x512_S4x1x256x4x128

/-- A head's rows, normalised. -/
def keysR (k : FVec Ideal S4x1x256x4x128 .f32) (kg : FVec Ideal S4x128 .f32) : FVec Ideal S4x4x256x128 .f32 :=
  transpose S4x4x256x128 [0, 2, 1, 3] (shapeCast _ (mulf (mulf k (broadcastInDim S4x1x256x4x128 ![0, 1, 2, 3, 4] bcast_S4x1x256x4x1_S4x1x256x4x128_0_1_2_3_4
      (Host.rsqrt (addf (Host.divf (broadcastInDim S4x1x256x4x1 ![0, 1, 2, 3] bcast_S4x1x256x4_S4x1x256x4x1_0_1_2_3 (Host.reduceAdd (mulf k k) (constant S_ .f32 0x00000000#32) reducesTo_S4x1x256x4x128_S4x1x256x4_d4 h_S_))
          (broadcastInDim S4x1x256x4x1 ![] bcast_S_S4x1x256x4x1 (constant S_ .f32 0x43000000#32)))
        (broadcastInDim S4x1x256x4x1 ![] bcast_S_S4x1x256x4x1 (constant S_ .f32 0x358637BD#32))))))
    (broadcastInDim S4x1x256x4x128 ![0, 1, 2, 3, 4] bcast_S4x1x1x1x128_S4x1x256x4x128_0_1_2_3_4 (broadcastInDim S4x1x1x1x128 ![0, 4] bcast_S4x128_S4x1x1x1x128_0_4 kg)))
    shapeCasts_S4x1x256x4x128_S4x256x4x128 : FVec Ideal S4x256x4x128 .f32) transposes_S4x256x4x128_S4x4x256x128_0_2_1_3

def valuesR (v : FVec Ideal S4x1x256x4x128 .f32) : FVec Ideal S4x4x256x128 .f32 :=
  transpose S4x4x256x128 [0, 2, 1, 3] (shapeCast _ v shapeCasts_S4x1x256x4x128_S4x256x4x128 : FVec Ideal S4x256x4x128 .f32) transposes_S4x256x4x128_S4x4x256x128_0_2_1_3

theorem normR_apply (x : FVec Ideal S1x256x2048 .f32) (g : FVec Ideal S4x2048 .f32) (l : Fin 4) (r : Fin 256) (k : Fin 2048) :
    normR x g (ix4 l 0 r k) = normE (fun k => x (ix3 0 r k)) (fun k => g (ix2 l k)) k := by
  pointwise [normR]
  rfl

theorem headsR_apply (x : FVec Ideal S1x256x2048 .f32) (g : FVec Ideal S4x2048 .f32) (w : FVec Ideal S4x2048x512 .f32) (l p : Fin 4) (r : Fin 256) (d : Fin 128) :
    headsR (normR x g) w (ix5 l 0 r p d) = throughE x g w l r (col p d) := by
  pointwise [headsR]
  simp only [normR_apply]
  rfl

theorem keysR_apply (k : FVec Ideal S4x1x256x4x128 .f32) (kg : FVec Ideal S4x128 .f32) (l p : Fin 4) (r : Fin 256) (d : Fin 128) :
    keysR k kg (ix4 l p r d) = headE (fun d => k (ix5 l 0 r p d)) (fun d => kg (ix2 l d)) d := by
  pointwise [keysR]
  rfl

theorem valuesR_apply (v : FVec Ideal S4x1x256x4x128 .f32) (l p : Fin 4) (r : Fin 256) (d : Fin 128) :
    valuesR v (ix4 l p r d) = v (ix5 l 0 r p d) := by
  pointwise [valuesR]

theorem keys_agree (x : FVec Ideal S1x256x2048 .f32) (g : FVec Ideal S4x2048 .f32) (w : FVec Ideal S4x2048x512 .f32) (kg : FVec Ideal S4x128 .f32) :
    keysR (headsR (normR x g) w) kg = keysE x g w kg := by
  funext i
  obtain ⟨l, p, r, d, rfl⟩ : ∃ (l p : Fin 4) (r : Fin 256) (d : Fin 128), i = ix4 l p r d := ⟨_, _, _, _, eq_ix4 i⟩
  rw [keysR_apply]
  simp only [headsR_apply]
  rfl

theorem values_agree (x : FVec Ideal S1x256x2048 .f32) (g : FVec Ideal S4x2048 .f32) (w : FVec Ideal S4x2048x512 .f32) :
    valuesR (headsR (normR x g) w) = valuesE x g w := by
  funext i
  obtain ⟨l, p, r, d, rfl⟩ : ∃ (l p : Fin 4) (r : Fin 256) (d : Fin 128), i = ix4 l p r d := ⟨_, _, _, _, eq_ix4 i⟩
  rw [valuesR_apply, headsR_apply]
  rfl

/-- The reference's keys are its normalised heads. -/
theorem reference_keys (m : (ℓ : Loc nD τ sig) → Buf (Elt Ideal) ℓ) (c : Dev nD) : Cert.MemoryReferenceIdeal.Value.res_out0 m c
    = keysR (headsR (normR (m ((c.tc : Thread nD τ).loc main_arg0)) (m ((c.tc : Thread nD τ).loc main_arg1))) (m ((c.tc : Thread nD τ).loc main_arg2))) (m ((c.tc : Thread nD τ).loc main_arg4)) := rfl

theorem keys_from (m : (ℓ : Loc nD τ sig) → Buf (Elt Ideal) ℓ) (n : (ℓ : Loc Cert.MemoryIdeal.nD Cert.MemoryIdeal.τ Cert.MemoryIdeal.sig) → Buf (Elt Ideal) ℓ) (c : Dev nD)
    (h0 : (m ((c.tc : Thread nD τ).loc main_arg0) : FVec Ideal S1x256x2048 .f32) = argMem n c) (h1 : (m ((c.tc : Thread nD τ).loc main_arg1) : FVec Ideal S4x2048 .f32) = argGain n c)
    (h2 : (m ((c.tc : Thread nD τ).loc main_arg2) : FVec Ideal S4x2048x512 .f32) = argK n c) (h4 : (m ((c.tc : Thread nD τ).loc main_arg4) : FVec Ideal S4x128 .f32) = argKg n c) :
    (Cert.MemoryReferenceIdeal.Value.res_out0 m c : FVec Ideal S4x4x256x128 .f32) = keysE (argMem n c) (argGain n c) (argK n c) (argKg n c) := by
  rw [reference_keys, keys_agree, h0, h1, h2, h4]

theorem values_from (m : (ℓ : Loc nD τ sig) → Buf (Elt Ideal) ℓ) (n : (ℓ : Loc Cert.MemoryIdeal.nD Cert.MemoryIdeal.τ Cert.MemoryIdeal.sig) → Buf (Elt Ideal) ℓ) (c : Dev nD)
    (h0 : (m ((c.tc : Thread nD τ).loc main_arg0) : FVec Ideal S1x256x2048 .f32) = argMem n c) (h1 : (m ((c.tc : Thread nD τ).loc main_arg1) : FVec Ideal S4x2048 .f32) = argGain n c)
    (h3 : (m ((c.tc : Thread nD τ).loc main_arg3) : FVec Ideal S4x2048x512 .f32) = argV n c) :
    valuesR (headsR (normR (m ((c.tc : Thread nD τ).loc main_arg0)) (m ((c.tc : Thread nD τ).loc main_arg1))) (m ((c.tc : Thread nD τ).loc main_arg3))) = valuesE (argMem n c) (argGain n c) (argV n c) := by
  rw [values_agree, h0, h1, h3]

end

/-- The reference's run: its arguments end as they began, and it has no counter. -/
theorem frame_reference : Cert.quiescent_MemoryReferenceIdeal (hMemoryReferenceIdeal := Cert.MemoryReferenceIdeal.Gen.facts) :=
  fun m g _ => (θ_run Cert.MemoryReferenceIdeal.defs _ _).mono (fun r h => ⟨fun c => (h c).2.2, sem_eq_zero_of_no_sems (by decide) r.2⟩)
    (Cert.MemoryReferenceIdeal.Value.run m g)

/-- The kernel's keys and values and the reference's are the same arrays, whatever arguments they share. -/
theorem same : Cert.algebraic_MemoryIdeal_MemoryReferenceIdeal (hMemoryIdeal := Cert.MemoryIdeal.Gen.facts) (hMemoryReferenceIdeal := Cert.MemoryReferenceIdeal.Gen.facts) :=
  fun m g m' g' _ he =>
    ⟨fun c => keysE (argMem m c) (argGain m c) (argK m c) (argKg m c), fun c => valuesE (argMem m c) (argGain m c) (argV m c),
      (θ_run Cert.MemoryIdeal.defs _ _).mono (fun r h c => ⟨(h c).1.trans (keys_eq m c), (h c).2.1.trans (values_eq m c), (h c).2.2⟩)
        (Cert.MemoryIdeal.Value.run_blocks m g),
      (θ_run Cert.MemoryReferenceIdeal.defs _ _).mono (fun r h c =>
        ⟨(h c).1.trans (keys_from m' m c (he c).1 (he c).2.1 (he c).2.2.1 (he c).2.2.2.2),
          (h c).2.1.trans (values_from m' m c (he c).1 (he c).2.1 (he c).2.2.2.1), (h c).2.2⟩)
        (Cert.MemoryReferenceIdeal.Value.run m' g')⟩

end Cert.Proof.MEM
-- ==== Proof.HD.Body.lean ====
/-
  What one point of the first rows' feed-forward call leaves: its three blocks of weights with the format changed, and the
  rows with 256 more columns of the hidden layer.
-/
module

public import proofs.«01_k».proof.Proof.Gen.FfnHeadIdeal.Value
public import Idealize.ShloMosaic.Lib.Pointwise
public import Idealize.ShloMosaic.Lib.Pipeline.ValueKit

@[expose] public section

set_option maxRecDepth 16384

noncomputable section

namespace Cert.Proof.HD

open Cert.FfnHeadIdeal Cert.FfnHeadIdeal.Gen
open Idealize.ShloMosaic Idealize.ShloMosaic.TcCoe Idealize.ShloMosaic.Tactic

section

variable {F : FTy → Type} [FloatOps F]

theorem start2 : (![0, 0] : Fin 2 → Nat) = fun _ => 0 := funext fun a => by fin_cases a <;> rfl
theorem start3 : (![0, 0, 0] : Fin 3 → Nat) = fun _ => 0 := funext fun a => by fin_cases a <;> rfl

/-- The output rows after a point that found `acc` there and the normalised rows `h`. -/
def stepV (wg wu : Vec F S1x2048x256 .f32) (wd : Vec F S1x256x2048 .f32) (h : Vec F S1056x2048 .bf16) (acc : Vec F S1056x2048 .f32) : Vec F S1056x2048 .f32 :=
  k0_pay1 (k0_pay6 (k0_pay3 wg)) (k0_pay7 (k0_pay4 wu)) (k0_pay8 (k0_pay5 wd)) h acc

variable (c : Dev nD) (i : grid0.Coords) (a1 : Memref sig .tc .vmem S1056x2048 .f32) (h1 : a1.IsWhole)
  (a2 : Memref sig .tc .vmem S1x1x2048 .f32) (h2 : a2.IsWhole) (a3 : Memref sig .tc .vmem S1x2048x256 .f32) (h3 : a3.IsWhole)
  (a4 : Memref sig .tc .vmem S1x2048x256 .f32) (h4 : a4.IsWhole) (a5 : Memref sig .tc .vmem S1x256x2048 .f32) (h5 : a5.IsWhole)
  (a6 : Memref sig .tc .vmem S1056x2048 .f32) (h6 : a6.IsWhole) (a7 : Memref sig .tc .vmem S1x2048x256 .bf16) (h7 : a7.IsWhole)
  (a8 : Memref sig .tc .vmem S1x2048x256 .bf16) (h8 : a8.IsWhole) (a9 : Memref sig .tc .vmem S256x2048 .bf16) (h9 : a9.IsWhole)
  (a10 : Memref sig .tc .vmem S1056x2048 .bf16) (h10 : a10.IsWhole)
  (x0 : Vec F S1056x2048 .f32) (x1 : Vec F S1x1x2048 .f32) (x2 x3 : Vec F S1x2048x256 .f32) (x4 : Vec F S1x256x2048 .f32)

/-! ## A later point -/

section

variable (hc : ¬cond0_0 i) (xo : Vec F S1056x2048 .f32) (xs : Vec F S1056x2048 .bf16)

theorem rows_later :
    out0_B_5 c i a1 h1 a2 h2 a3 h3 a4 h4 a5 h5 a6 h6 a7 h7 a8 h8 a9 h9 a10 h10 hc x0 x1 x2 x3 x4 xo xs = stepV x2 x3 x4 xs xo := by
  unfold out0_B_5
  rw [View.read_writes_junk_eq_canon]
  unfold kernelRun0_B
  dsimp only
  sl_unfold_words
  rw [View.canon_unit_zero start2]
  simp only [View.readCov_unit_zero (S := S1x2048x256) _ start3, View.readCov_unit_zero (S := S256x2048) _ start2, View.readAt_eq_ld, h3.read_unread, h4.read_unread, h5.read_unread,
    h6.read_unread, h10.read_unread, View.ld_unit_zero (S := S1056x2048) start2, View.ld_unit_zero (S := S1x2048x256) start3, View.ld_unit_zero (S := S1x256x2048) start3]
  rfl

theorem gate_later :
    out0_B_6 c i a1 h1 a2 h2 a3 h3 a4 h4 a5 h5 a6 h6 a7 h7 a8 h8 a9 h9 a10 h10 hc x0 x1 x2 x3 x4 xo xs = k0_pay3 x2 := by
  unfold out0_B_6
  rw [View.read_writes_junk_eq_canon]
  unfold kernelRun0_B
  dsimp only
  sl_unfold_words
  rw [View.canon_unit_zero start3]
  simp only [View.readAt_eq_ld, h3.read_unread, View.ld_unit_zero (S := S1x2048x256) start3]

theorem up_later :
    out0_B_7 c i a1 h1 a2 h2 a3 h3 a4 h4 a5 h5 a6 h6 a7 h7 a8 h8 a9 h9 a10 h10 hc x0 x1 x2 x3 x4 xo xs = k0_pay4 x3 := by
  unfold out0_B_7
  rw [View.read_writes_junk_eq_canon]
  unfold kernelRun0_B
  dsimp only
  sl_unfold_words
  rw [View.canon_unit_zero start3]
  simp only [View.readAt_eq_ld, h4.read_unread, View.ld_unit_zero (S := S1x2048x256) start3]

theorem down_later :
    out0_B_8 c i a1 h1 a2 h2 a3 h3 a4 h4 a5 h5 a6 h6 a7 h7 a8 h8 a9 h9 a10 h10 hc x0 x1 x2 x3 x4 xo xs = k0_pay5 x4 := by
  unfold out0_B_8
  rw [View.read_writes_junk_eq_canon]
  unfold kernelRun0_B
  dsimp only
  sl_unfold_words
  rw [View.canon_unit_zero start2]
  simp only [View.readAt_eq_ld, h5.read_unread, View.ld_unit_zero (S := S1x256x2048) start3]

theorem kept_later :
    sout0_B_0 c i a1 h1 a2 h2 a3 h3 a4 h4 a5 h5 a6 h6 a7 h7 a8 h8 a9 h9 a10 h10 hc x0 x1 x2 x3 x4 xo xs = xs := rfl

end

/-! ## The first point -/

section

variable (hc : cond0_0 i)

theorem rows_first :
    out0_A_5 c i a1 h1 a2 h2 a3 h3 a4 h4 a5 h5 a6 h6 a7 h7 a8 h8 a9 h9 a10 h10 hc x0 x1 x2 x3 x4 = stepV x2 x3 x4 (k0_pay2 x0 x1) x0 := by
  unfold out0_A_5
  rw [View.read_writes_junk_eq_canon]
  unfold kernelRun0_A
  dsimp only
  sl_unfold_words
  rw [View.canon_cons_unit_zero (S := S1056x2048) start2]
  simp only [View.readCov_unit_zero (S := S1x2048x256) _ start3, View.readCov_unit_zero (S := S256x2048) _ start2, View.readCov_unit_zero (S := S1056x2048) _ start2, View.readAt_eq_ld,
    h1.read_unread, h2.read_unread, h3.read_unread, h4.read_unread, h5.read_unread,
    View.ld_unit_zero (S := S1056x2048) start2, View.ld_unit_zero (S := S1x1x2048) start3, View.ld_unit_zero (S := S1x2048x256) start3, View.ld_unit_zero (S := S1x256x2048) start3]
  rfl

theorem gate_first :
    out0_A_6 c i a1 h1 a2 h2 a3 h3 a4 h4 a5 h5 a6 h6 a7 h7 a8 h8 a9 h9 a10 h10 hc x0 x1 x2 x3 x4 = k0_pay3 x2 := by
  unfold out0_A_6
  rw [View.read_writes_junk_eq_canon]
  unfold kernelRun0_A
  dsimp only
  sl_unfold_words
  rw [View.canon_unit_zero start3]
  simp only [View.readAt_eq_ld, h3.read_unread, View.ld_unit_zero (S := S1x2048x256) start3]

theorem up_first :
    out0_A_7 c i a1 h1 a2 h2 a3 h3 a4 h4 a5 h5 a6 h6 a7 h7 a8 h8 a9 h9 a10 h10 hc x0 x1 x2 x3 x4 = k0_pay4 x3 := by
  unfold out0_A_7
  rw [View.read_writes_junk_eq_canon]
  unfold kernelRun0_A
  dsimp only
  sl_unfold_words
  rw [View.canon_unit_zero start3]
  simp only [View.readAt_eq_ld, h4.read_unread, View.ld_unit_zero (S := S1x2048x256) start3]

theorem down_first :
    out0_A_8 c i a1 h1 a2 h2 a3 h3 a4 h4 a5 h5 a6 h6 a7 h7 a8 h8 a9 h9 a10 h10 hc x0 x1 x2 x3 x4 = k0_pay5 x4 := by
  unfold out0_A_8
  rw [View.read_writes_junk_eq_canon]
  unfold kernelRun0_A
  dsimp only
  sl_unfold_words
  rw [View.canon_unit_zero start2]
  simp only [View.readAt_eq_ld, h5.read_unread, View.ld_unit_zero (S := S1x256x2048) start3]

theorem kept_first :
    sout0_A_0 c i a1 h1 a2 h2 a3 h3 a4 h4 a5 h5 a6 h6 a7 h7 a8 h8 a9 h9 a10 h10 hc x0 x1 x2 x3 x4 = k0_pay2 x0 x1 := by
  unfold sout0_A_0
  rw [View.read_writes_junk_eq_canon]
  unfold kernelRun0_A
  dsimp only
  sl_unfold_words
  rw [View.canon_unit_zero start2]
  simp only [View.readAt_eq_ld, h1.read_unread, h2.read_unread, View.ld_unit_zero (S := S1056x2048) start2, View.ld_unit_zero (S := S1x1x2048) start3]

end

end

end Cert.Proof.HD
-- ==== Proof.HD.Call.lean ====
/-
  The first rows' feed-forward call, entry by entry: what its 22 points add up to, and the weights it hands on.
-/
module

public import proofs.«01_k».proof.Proof.HD.Body
public import proofs.«01_k».proof.Proof.FFN.Rest

@[expose] public section

set_option maxRecDepth 16384

noncomputable section

namespace Cert.Proof.HD

open Cert.FfnHeadIdeal Cert.FfnHeadIdeal.Gen
open Idealize.ShloMosaic Idealize.ShloMosaic.TcCoe Idealize.ShloMosaic.Tactic
open Cert.Proof.FFN (normE columnE hiddenE halfE shareE colW rowD)
open Finset

/-! ## A point's arithmetic -/

theorem norm_apply (x : Vec Ideal S1056x2048 .f32) (g : Vec Ideal S1x1x2048 .f32) (r : Fin 1056) (k : Fin 2048) :
    k0_pay2 x g (ix2 r k) = normE (fun k => x (ix2 r k)) (fun k => g (ix3 0 0 k)) k := by
  pointwise [k0_pay2]
  rfl

theorem gate_apply (w : Vec Ideal S1x2048x256 .f32) (k : Fin 2048) (l : Fin 256) : k0_pay3 w (ix3 0 k l) = w (ix3 0 k l) := by
  pointwise [k0_pay3]

theorem up_apply (w : Vec Ideal S1x2048x256 .f32) (k : Fin 2048) (l : Fin 256) : k0_pay4 w (ix3 0 k l) = w (ix3 0 k l) := by
  pointwise [k0_pay4]

theorem down_apply (w : Vec Ideal S1x256x2048 .f32) (e : Fin 256) (d : Fin 2048) : k0_pay5 w (ix2 e d) = w (ix3 0 e d) := by
  pointwise [k0_pay5]

/-- A point adds the shares of its 256 hidden columns, `b` on. -/
theorem step_apply (wg wu : Vec Ideal S1x2048x256 .f32) (wd : Vec Ideal S1x256x2048 .f32) (h : Vec Ideal S1056x2048 .bf16) (acc : Vec Ideal S1056x2048 .f32)
    (H : Fin 2048 → EReal) (G U : Fin 2048 → ℕ → EReal) (D : ℕ → EReal) (b : ℕ) (r : Fin 1056) (d : Fin 2048)
    (hh : ∀ k, h (ix2 r k) = H k) (hg : ∀ k l, wg (ix3 0 k l) = G k (b + l.val))
    (hu : ∀ k l, wu (ix3 0 k l) = U k (b + l.val)) (hd : ∀ e, wd (ix3 0 e d) = D (b + e.val)) :
    stepV wg wu wd h acc (ix2 r d) = acc (ix2 r d) + ∑ e ∈ range 256, shareE H G U D (b + e) := by
  unfold stepV
  pointwise [k0_pay1, k0_pay3, k0_pay4, k0_pay5, k0_pay6, k0_pay7, k0_pay8]
  simp only [hh, hg, hu, hd]
  refine congrArg (fun z => acc (ix2 r d) + z) ?_
  rw [Finset.sum_range]
  rfl

/-! ## The arrays and their blocks -/

section

variable (m : (ℓ : Loc nD τ sig) → Buf (Elt Ideal) ℓ) (c : Dev nD)

/-- The input rows, the gain and the weights. -/
abbrev argX : Vec Ideal S8448x2048 .f32 := m ((c : Thread nD τ).loc main_arg0)
abbrev argGain : Vec Ideal S4x1x2048 .f32 := m ((c : Thread nD τ).loc main_arg1)
abbrev argG : Vec Ideal S4x2048x5632 .f32 := m ((c : Thread nD τ).loc main_arg2)
abbrev argU : Vec Ideal S4x2048x5632 .f32 := m ((c : Thread nD τ).loc main_arg3)
abbrev argD : Vec Ideal S4x5632x2048 .f32 := m ((c : Thread nD τ).loc main_arg4)

theorem index0 : ∀ t : Fin grid0.N, win0_0.index t (0 : Fin 2) = 0 ∧ win0_0.index t (1 : Fin 2) = 0 := by decide +kernel
theorem index1 : ∀ t : Fin grid0.N, win0_1.index t (0 : Fin 3) = 0 ∧ win0_1.index t (1 : Fin 3) = 0 ∧ win0_1.index t (2 : Fin 3) = 0 := by decide +kernel
theorem index2 : ∀ t : Fin grid0.N, win0_2.index t (0 : Fin 3) = 0 ∧ win0_2.index t (1 : Fin 3) = 0 ∧ win0_2.index t (2 : Fin 3) = t.val := by decide +kernel
theorem index3 : ∀ t : Fin grid0.N, win0_3.index t (0 : Fin 3) = 0 ∧ win0_3.index t (1 : Fin 3) = 0 ∧ win0_3.index t (2 : Fin 3) = t.val := by decide +kernel
theorem index4 : ∀ t : Fin grid0.N, win0_4.index t (0 : Fin 3) = 0 ∧ win0_4.index t (1 : Fin 3) = t.val ∧ win0_4.index t (2 : Fin 3) = 0 := by decide +kernel
theorem index6 : ∀ t : Fin grid0.N, win0_6.index t (0 : Fin 3) = t.val ∧ win0_6.index t (1 : Fin 3) = 0 ∧ win0_6.index t (2 : Fin 3) = 0 := by decide +kernel
theorem index7 : ∀ t : Fin grid0.N, win0_7.index t (0 : Fin 3) = t.val ∧ win0_7.index t (1 : Fin 3) = 0 ∧ win0_7.index t (2 : Fin 3) = 0 := by decide +kernel
theorem index8 : ∀ t : Fin grid0.N, win0_8.index t (0 : Fin 2) = t.val ∧ win0_8.index t (1 : Fin 2) = 0 := by decide +kernel

theorem points_lt (t : Fin cfg0.N) : t.val < 22 := lt_of_lt_of_eq t.isLt N_0

theorem blockX (t : Fin cfg0.N) (r : Fin 1056) (k : Fin 2048) :
    (iblk m c 0 t : Vec Ideal S1056x2048 .f32) (ix2 r k) = argX m c (ix2 ⟨r.val, by omega⟩ k) := by
  obtain ⟨e0, e1⟩ := index0 t
  refine Eq.trans ?_ (congrFun (V_main_arg0 m c) _)
  refine congrArg (V m c main_arg0 : Vec Ideal S8448x2048 .f32) ?_
  funext a; apply Fin.ext
  match a with
  | 0 => show win0_0.index t (0 : Fin 2) * 1056 + 1 * r.val = r.val; rw [e0]; omega
  | 1 => show win0_0.index t (1 : Fin 2) * 2048 + 1 * k.val = k.val; rw [e1]; omega

theorem blockGain (t : Fin cfg0.N) (k : Fin 2048) :
    (iblk m c 1 t : Vec Ideal S1x1x2048 .f32) (ix3 0 0 k) = argGain m c (ix3 0 0 k) := by
  obtain ⟨e0, e1, e2⟩ := index1 t
  refine Eq.trans ?_ (congrFun (V_main_arg1 m c) _)
  refine congrArg (V m c main_arg1 : Vec Ideal S4x1x2048 .f32) ?_
  funext a; apply Fin.ext
  match a with
  | 0 => show win0_1.index t (0 : Fin 3) * 1 + 1 * 0 = 0; rw [e0]
  | 1 => show win0_1.index t (1 : Fin 3) * 1 + 1 * 0 = 0; rw [e1]
  | 2 => show win0_1.index t (2 : Fin 3) * 2048 + 1 * k.val = k.val; rw [e2]; omega

theorem blockG (t : Fin cfg0.N) (k : Fin 2048) (l : Fin 256) :
    (iblk m c 2 t : Vec Ideal S1x2048x256 .f32) (ix3 0 k l) = colW (argG m c) k (256 * t.val + l.val) := by
  have ht := points_lt t
  obtain ⟨e0, e1, e2⟩ := index2 t
  unfold colW
  rw [dif_pos (by omega)]
  refine Eq.trans ?_ (congrFun (V_main_arg2 m c) _)
  refine congrArg (V m c main_arg2 : Vec Ideal S4x2048x5632 .f32) ?_
  funext a; apply Fin.ext
  match a with
  | 0 => show win0_2.index t (0 : Fin 3) * 1 + 1 * 0 = 0; rw [e0]
  | 1 => show win0_2.index t (1 : Fin 3) * 2048 + 1 * k.val = k.val; rw [e1]; omega
  | 2 => show win0_2.index t (2 : Fin 3) * 256 + 1 * l.val = 256 * t.val + l.val; rw [e2]; omega

theorem blockU (t : Fin cfg0.N) (k : Fin 2048) (l : Fin 256) :
    (iblk m c 3 t : Vec Ideal S1x2048x256 .f32) (ix3 0 k l) = colW (argU m c) k (256 * t.val + l.val) := by
  have ht := points_lt t
  obtain ⟨e0, e1, e2⟩ := index3 t
  unfold colW
  rw [dif_pos (by omega)]
  refine Eq.trans ?_ (congrFun (V_main_arg3 m c) _)
  refine congrArg (V m c main_arg3 : Vec Ideal S4x2048x5632 .f32) ?_
  funext a; apply Fin.ext
  match a with
  | 0 => show win0_3.index t (0 : Fin 3) * 1 + 1 * 0 = 0; rw [e0]
  | 1 => show win0_3.index t (1 : Fin 3) * 2048 + 1 * k.val = k.val; rw [e1]; omega
  | 2 => show win0_3.index t (2 : Fin 3) * 256 + 1 * l.val = 256 * t.val + l.val; rw [e2]; omega

theorem blockD (t : Fin cfg0.N) (e : Fin 256) (d : Fin 2048) :
    (iblk m c 4 t : Vec Ideal S1x256x2048 .f32) (ix3 0 e d) = rowD (argD m c) d (256 * t.val + e.val) := by
  have ht := points_lt t
  obtain ⟨e0, e1, e2⟩ := index4 t
  unfold rowD
  rw [dif_pos (by omega)]
  refine Eq.trans ?_ (congrFun (V_main_arg4 m c) _)
  refine congrArg (V m c main_arg4 : Vec Ideal S4x5632x2048 .f32) ?_
  funext a; apply Fin.ext
  match a with
  | 0 => show win0_4.index t (0 : Fin 3) * 1 + 1 * 0 = 0; rw [e0]
  | 1 => show win0_4.index t (1 : Fin 3) * 256 + 1 * e.val = 256 * t.val + e.val; rw [e1]; omega
  | 2 => show win0_4.index t (2 : Fin 3) * 2048 + 1 * d.val = d.val; rw [e2]; omega

/-! ## The weights handed on -/

/-- Weights in tiles of 256 columns. -/
def tilesE (w : Vec Ideal S4x2048x5632 .f32) : Vec Ideal S22x2048x256 .bf16 := fun i => colW w (i 1) (256 * (i 0).val + (i 2).val)

/-- The first layer's down weights. -/
def downE (w : Vec Ideal S4x5632x2048 .f32) : Vec Ideal S5632x2048 .bf16 := fun i => rowD w (i 1) (i 0).val

theorem outs_gate (t : Fin cfg0.N) : (outsAt0 m c t.val t.isLt).2.1 = k0_pay3 (iblk m c 2 t : Vec Ideal S1x2048x256 .f32) := by
  by_cases h0 : t.val % 22 = 0
  · rw [outsAt0_A m c t h0]; dsimp only; rw [gate_first]
  · rw [outsAt0_B m c t h0]; dsimp only; rw [gate_later]

theorem outs_up (t : Fin cfg0.N) : (outsAt0 m c t.val t.isLt).2.2.1 = k0_pay4 (iblk m c 3 t : Vec Ideal S1x2048x256 .f32) := by
  by_cases h0 : t.val % 22 = 0
  · rw [outsAt0_A m c t h0]; dsimp only; rw [up_first]
  · rw [outsAt0_B m c t h0]; dsimp only; rw [up_later]

theorem outs_down (t : Fin cfg0.N) : (outsAt0 m c t.val t.isLt).2.2.2.1 = k0_pay5 (iblk m c 4 t : Vec Ideal S1x256x2048 .f32) := by
  by_cases h0 : t.val % 22 = 0
  · rw [outsAt0_A m c t h0]; dsimp only; rw [down_first]
  · rw [outsAt0_B m c t h0]; dsimp only; rw [down_later]

theorem gate_point (t : Fin cfg0.N) (y : S1x2048x256.Idx) :
    (outsAt0 m c t.val t.isLt).2.1 y = tilesE (argG m c) ((win0_6.blk t).view.emb y) := by
  obtain ⟨z, k, l, rfl⟩ : ∃ (z : Fin 1) (k : Fin 2048) (l : Fin 256), y = ix3 z k l := ⟨_, _, _, eq_ix3 y⟩
  obtain rfl := Fin.fin_one_eq_zero z
  obtain ⟨e0, e1, e2⟩ := index6 t
  rw [outs_gate, gate_apply, blockG]
  have g0 : ((win0_6.blk t).view.emb (ix3 0 k l) (0 : Fin 3)).val = t.val := by
    show win0_6.index t (0 : Fin 3) * 1 + 1 * 0 = t.val; rw [e0]; omega
  have g1 : (win0_6.blk t).view.emb (ix3 0 k l) (1 : Fin 3) = k := Fin.ext (by
    show win0_6.index t (1 : Fin 3) * 2048 + 1 * k.val = k.val; rw [e1]; omega)
  have g2 : ((win0_6.blk t).view.emb (ix3 0 k l) (2 : Fin 3)).val = l.val := by
    show win0_6.index t (2 : Fin 3) * 256 + 1 * l.val = l.val; rw [e2]; omega
  unfold tilesE
  rw [g0, g1, g2]

theorem up_point (t : Fin cfg0.N) (y : S1x2048x256.Idx) :
    (outsAt0 m c t.val t.isLt).2.2.1 y = tilesE (argU m c) ((win0_7.blk t).view.emb y) := by
  obtain ⟨z, k, l, rfl⟩ : ∃ (z : Fin 1) (k : Fin 2048) (l : Fin 256), y = ix3 z k l := ⟨_, _, _, eq_ix3 y⟩
  obtain rfl := Fin.fin_one_eq_zero z
  obtain ⟨e0, e1, e2⟩ := index7 t
  rw [outs_up, up_apply, blockU]
  have g0 : ((win0_7.blk t).view.emb (ix3 0 k l) (0 : Fin 3)).val = t.val := by
    show win0_7.index t (0 : Fin 3) * 1 + 1 * 0 = t.val; rw [e0]; omega
  have g1 : (win0_7.blk t).view.emb (ix3 0 k l) (1 : Fin 3) = k := Fin.ext (by
    show win0_7.index t (1 : Fin 3) * 2048 + 1 * k.val = k.val; rw [e1]; omega)
  have g2 : ((win0_7.blk t).view.emb (ix3 0 k l) (2 : Fin 3)).val = l.val := by
    show win0_7.index t (2 : Fin 3) * 256 + 1 * l.val = l.val; rw [e2]; omega
  unfold tilesE
  rw [g0, g1, g2]

theorem down_point (t : Fin cfg0.N) (y : S256x2048.Idx) :
    (outsAt0 m c t.val t.isLt).2.2.2.1 y = downE (argD m c) ((win0_8.blk t).view.emb y) := by
  obtain ⟨e, d, rfl⟩ : ∃ (e : Fin 256) (d : Fin 2048), y = ix2 e d := ⟨_, _, eq_ix2 y⟩
  obtain ⟨e0, e1⟩ := index8 t
  rw [outs_down, down_apply, blockD]
  have g0 : ((win0_8.blk t).view.emb (ix2 e d) (0 : Fin 2)).val = 256 * t.val + e.val := by
    show win0_8.index t (0 : Fin 2) * 256 + 1 * e.val = 256 * t.val + e.val; rw [e0]; omega
  have g1 : (win0_8.blk t).view.emb (ix2 e d) (1 : Fin 2) = d := Fin.ext (by
    show win0_8.index t (1 : Fin 2) * 2048 + 1 * d.val = d.val; rw [e1]; omega)
  unfold downE
  rw [g0, g1]

theorem covers6 : win0_6.Covers := by decide +kernel
theorem covers7 : win0_7.Covers := by decide +kernel
theorem covers8 : win0_8.Covers := by decide +kernel

theorem gate_eq : (dats m 0 c).arrAt 6 cfg0.N = tilesE (argG m c) :=
  (dats m 0 c).arrAt_eq_of_covers 6 (tilesE (argG m c)) covers6 fun t _ y => (congrFun (after0_6 m c t) _).trans (gate_point m c t y)

theorem up_eq : (dats m 0 c).arrAt 7 cfg0.N = tilesE (argU m c) :=
  (dats m 0 c).arrAt_eq_of_covers 7 (tilesE (argU m c)) covers7 fun t _ y => (congrFun (after0_7 m c t) _).trans (up_point m c t y)

theorem down_eq : (dats m 0 c).arrAt 8 cfg0.N = downE (argD m c) :=
  (dats m 0 c).arrAt_eq_of_covers 8 (downE (argD m c)) covers8 fun t _ y => (congrFun (after0_8 m c t) _).trans (down_point m c t y)

/-! ## The rows -/

/-- The layer's normalised row `a`, and its output at `(a, d)` with the first `n` hidden columns added. -/
def rowE (a : Fin 8448) : Fin 2048 → EReal := normE (fun k => argX m c (ix2 a k)) (fun k => argGain m c (ix3 0 0 k))
def layerE (n : ℕ) (a : Fin 8448) (d : Fin 2048) : EReal :=
  argX m c (ix2 a d) + ∑ e ∈ range n, shareE (rowE m c a) (colW (argG m c)) (colW (argU m c)) (rowD (argD m c) d) e

/-- What the points up to `n` leave: the rows with the hidden columns so far, and the normalised rows. -/
theorem outs_eq (r : Fin 1056) : ∀ (n : ℕ) (hn : n < cfg0.N),
    (∀ d : Fin 2048, (outsAt0 m c n hn).1 (ix2 r d) = layerE m c (256 * (n + 1)) ⟨r.val, by omega⟩ d)
      ∧ ∀ k : Fin 2048, (outsAt0 m c n hn).2.2.2.2 (ix2 r k) = rowE m c ⟨r.val, by omega⟩ k := by
  intro n
  induction n with
  | zero =>
    intro hn
    have hk : ∀ k : Fin 2048, k0_pay2 (iblk m c 0 ⟨0, hn⟩ : Vec Ideal S1056x2048 .f32) (iblk m c 1 ⟨0, hn⟩ : Vec Ideal S1x1x2048 .f32) (ix2 r k)
        = rowE m c ⟨r.val, by omega⟩ k := fun k => by
      rw [norm_apply]
      simp only [blockX, blockGain]
      rfl
    rw [outsAt0_A m c ⟨0, hn⟩ rfl]
    dsimp only
    rw [rows_first, kept_first]
    refine ⟨fun d => ?_, hk⟩
    refine (step_apply _ _ _ _ _ _ _ _ _ _ r d hk (blockG m c ⟨0, hn⟩) (blockU m c ⟨0, hn⟩) (fun e => blockD m c ⟨0, hn⟩ e d)).trans ?_
    rw [blockX]
    unfold layerE
    simp only [Nat.mul_zero, Nat.zero_add, Nat.mul_one]
  | succ n ih =>
    intro hn
    have hN : n + 1 < 22 := lt_of_lt_of_eq hn N_0
    obtain ⟨i1, i2⟩ := ih (Nat.lt_of_succ_lt hn)
    rw [outsAt0_B m c ⟨n + 1, hn⟩ (by dsimp only; omega)]
    dsimp only
    rw [rows_later, kept_later]
    refine ⟨fun d => ?_, i2⟩
    refine (step_apply _ _ _ _ _ _ _ _ _ _ r d i2 (blockG m c ⟨n + 1, hn⟩) (blockU m c ⟨n + 1, hn⟩) (fun e => blockD m c ⟨n + 1, hn⟩ e d)).trans ?_
    refine (congrArg (fun z => z + _) (i1 d)).trans ?_
    unfold layerE
    dsimp only
    rw [show 256 * (n + 1 + 1) = 256 * (n + 1) + 256 from by omega, Finset.sum_range_add, add_assoc]

/-- The output array starts as the input rows. -/
theorem V_rows : (V m c (Pipeline.arrRef spec0 5) : Vec Ideal S8448x2048 .f32) = argX m c := by
  show (V m c main_v0_0 : Vec Ideal S8448x2048 .f32) = argX m c
  unfold_abbrev_sides
  after_results
  rfl

/-- The call's rows: the first 1056 with the layer added, the others as they were. -/
def resultE : Vec Ideal S8448x2048 .f32 := fun i =>
  if 0 ≤ (i 0).val ∧ (i 0).val < 1056 ∧ 0 ≤ (i 1).val ∧ (i 1).val < 2048 then Value.G5 m c i else V m c (Pipeline.arrRef spec0 5) i

theorem result_apply (a : Fin 8448) (d : Fin 2048) :
    resultE m c (ix2 a d) = if a.val < 1056 then layerE m c 5632 a d else argX m c (ix2 a d) := by
  have ha := a.isLt
  have hd := d.isLt
  unfold resultE
  by_cases h : a.val < 1056
  · rw [if_pos ⟨Nat.zero_le _, h, Nat.zero_le _, hd⟩, if_pos h]
    have hp : Value.pt5Of (ix2 a d) = 21 := by
      show 22 * (1 * (a.val / 1056 - 0) + 1 * (d.val / 2048 - 0)) + 21 = _
      omega
    have hn : Value.pt5Of (ix2 a d) < cfg0.N := by rw [hp]; exact lt_of_lt_of_eq (by omega) N_0.symm
    unfold Value.G5
    rw [dif_pos hn, ← Value.outsAt0_sweep m c _ hn]
    have hl : Value.loc5Of (ix2 a d) = ix2 (⟨a.val, h⟩ : Fin 1056) (⟨d.val, hd⟩ : Fin 2048) := by
      funext k; apply Fin.ext
      match k with
      | 0 => show a.val % 1056 = a.val; omega
      | 1 => show d.val % 2048 = d.val; omega
    rw [hl, (outs_eq m c ⟨a.val, h⟩ _ hn).1 ⟨d.val, hd⟩, hp]
  · rw [if_neg (fun h' => absurd (show a.val < 1056 from h'.2.1) h), if_neg h]
    exact congrFun (V_rows m c) _

end

end Cert.Proof.HD
-- ==== Proof.HD.Claims.lean ====
/-
  The first rows' feed-forward reference, entry by entry, and the call's claims.
-/
module

public import proofs.«01_k».proof.Defs
public import proofs.«01_k».proof.Proof.Gen.FfnHead.Frame
public import proofs.«01_k».proof.Proof.Gen.FfnHeadReferenceIdeal.Run
public import proofs.«01_k».proof.Proof.HD.Call
public import proofs.«01_k».proof.Proof.FFN.Ref
public import Idealize.ShloMosaic.Lib.IdealHost
public import Idealize.ShloMosaic.Adequacy
public import Idealize.ShloMosaic.Init

@[expose] public section

set_option maxRecDepth 16384

noncomputable section

namespace Cert.Proof.HD

open Idealize.ShloMosaic Idealize.ShloMosaic.TcCoe Idealize.ShloMosaic.Tactic Idealize.SL.Sem
open Cert.Proof.FFN (colW rowD layerV layer_row)

section

open Cert.FfnHeadReferenceIdeal Cert.FfnHeadReferenceIdeal.Gen

/-- The reference's weights in tiles of 256 columns. -/
abbrev tilesR (w : FVec Ideal S4x2048x5632 .f32) : FVec Ideal S22x2048x256 .bf16 :=
  truncf .bf16 (transpose S22x2048x256 [1, 0, 2] (shapeCast _ (shapeCast _ (extractStridedSlice S1x2048x5632 ![0, 0, 0] w slices_S4x2048x5632_S1x2048x5632_0_0_0) shapeCasts_S1x2048x5632_S2048x5632) shapeCasts_S2048x5632_S2048x22x256) transposes_S2048x22x256_S22x2048x256_1_0_2 : FVec Ideal S22x2048x256 .f32) bitsLt_bf16_f32

/-- The reference's down weights. -/
abbrev downR (w : FVec Ideal S4x5632x2048 .f32) : FVec Ideal S5632x2048 .bf16 :=
  truncf .bf16 (shapeCast _ (extractStridedSlice S1x5632x2048 ![0, 0, 0] w slices_S4x5632x2048_S1x5632x2048_0_0_0) shapeCasts_S1x5632x2048_S5632x2048 : FVec Ideal S5632x2048 .f32) bitsLt_bf16_f32

theorem tiles_agree (w : FVec Ideal S4x2048x5632 .f32) : tilesR w = tilesE w := by
  funext i
  obtain ⟨q, k, l, rfl⟩ : ∃ (q : Fin 22) (k : Fin 2048) (l : Fin 256), i = ix3 q k l := ⟨_, _, _, eq_ix3 i⟩
  show _ = colW w k (256 * q.val + l.val)
  unfold colW
  rw [dif_pos (by omega)]
  pointwise [tilesR]
  exact congrArg (fun e => w (ix3 0 k e)) (Fin.ext (by show q.val * 256 + l.val = 256 * q.val + l.val; omega))

theorem down_agree (w : FVec Ideal S4x5632x2048 .f32) : downR w = downE w := by
  funext i
  obtain ⟨e, d, rfl⟩ : ∃ (e : Fin 5632) (d : Fin 2048), i = ix2 e d := ⟨_, _, eq_ix2 i⟩
  show _ = rowD w d e.val
  unfold rowD
  rw [dif_pos e.isLt]
  pointwise [downR]

/-- The reference's rows: the first 1056 through the layer, the others as they were. -/
theorem reference_eq (m : (ℓ : Loc nD τ sig) → Buf (Elt Ideal) ℓ) (c : Dev nD) : Cert.FfnHeadReferenceIdeal.Value.res_out0 m c
    = concatenate S8448x2048 0 [⟨S1056x2048, extractStridedSlice S1056x2048 ![0, 0] (layerV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) slices_S8448x2048_S1056x2048_0_0⟩,
        ⟨S7392x2048, extractStridedSlice S7392x2048 ![1056, 0] (m ((c.tc : Thread nD τ).loc main_arg0)) slices_S8448x2048_S7392x2048_1056_0⟩] concatenates_S1056x2048_S7392x2048_S8448x2048_d0 := rfl

theorem reference_apply (m : (ℓ : Loc nD τ sig) → Buf (Elt Ideal) ℓ) (c : Dev nD) (a : Fin 8448) (d : Fin 2048) :
    (Cert.FfnHeadReferenceIdeal.Value.res_out0 m c : FVec Ideal S8448x2048 .f32) (ix2 a d)
      = if a.val < 1056 then layerV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 a d)
        else (m ((c.tc : Thread nD τ).loc main_arg0) : FVec Ideal S8448x2048 .f32) (ix2 a d) := by
  rw [reference_eq]
  pointwise []
  by_cases h : a.val < 1056
  · rw [dif_pos h, if_pos h]
  · rw [dif_neg h, if_neg h]
    exact congrArg (fun z => (m ((c.tc : Thread nD τ).loc main_arg0) : FVec Ideal S8448x2048 .f32) (ix2 z d)) (Fin.ext (by dsimp only; omega))

/-- From the same arguments, the kernel's rows are the reference's. -/
theorem rows_agree (m : (ℓ : Loc nD τ sig) → Buf (Elt Ideal) ℓ) (n : (ℓ : Loc Cert.FfnHeadIdeal.nD Cert.FfnHeadIdeal.τ Cert.FfnHeadIdeal.sig) → Buf (Elt Ideal) ℓ) (c : Dev nD)
    (h0 : (m ((c.tc : Thread nD τ).loc main_arg0) : FVec Ideal S8448x2048 .f32) = argX n c) (h1 : (m ((c.tc : Thread nD τ).loc main_arg1) : FVec Ideal S4x1x2048 .f32) = argGain n c)
    (h2 : (m ((c.tc : Thread nD τ).loc main_arg2) : FVec Ideal S4x2048x5632 .f32) = argG n c) (h3 : (m ((c.tc : Thread nD τ).loc main_arg3) : FVec Ideal S4x2048x5632 .f32) = argU n c)
    (h4 : (m ((c.tc : Thread nD τ).loc main_arg4) : FVec Ideal S4x5632x2048 .f32) = argD n c) :
    (Cert.FfnHeadReferenceIdeal.Value.res_out0 m c : FVec Ideal S8448x2048 .f32) = resultE n c := by
  funext i
  obtain ⟨a, d, rfl⟩ : ∃ (a : Fin 8448) (d : Fin 2048), i = ix2 a d := ⟨_, _, eq_ix2 i⟩
  rw [reference_apply, result_apply, layer_row, h0, h1, h2, h3, h4]
  rfl

end

/-- The reference's run: its arguments end as they began, and it has no counter. -/
theorem frame_reference : Cert.quiescent_FfnHeadReferenceIdeal (hFfnHeadReferenceIdeal := Cert.FfnHeadReferenceIdeal.Gen.facts) :=
  fun m g _ => (θ_run Cert.FfnHeadReferenceIdeal.defs _ _).mono (fun r h => ⟨fun c => (h c).2.2.2.2, sem_eq_zero_of_no_sems (by decide) r.2⟩)
    (Cert.FfnHeadReferenceIdeal.Value.run m g)

/-- The kernel's four results and the reference's are the same arrays, whatever arguments they share. -/
theorem same : Cert.algebraic_FfnHeadIdeal_FfnHeadReferenceIdeal (hFfnHeadIdeal := Cert.FfnHeadIdeal.Gen.facts) (hFfnHeadReferenceIdeal := Cert.FfnHeadReferenceIdeal.Gen.facts) :=
  fun m g m' g' _ he =>
    ⟨fun c => resultE m c, fun c => tilesE (argG m c), fun c => tilesE (argU m c), fun c => downE (argD m c),
      (θ_run Cert.FfnHeadIdeal.defs _ _).mono (fun r h c =>
        ⟨(h c).1.trans (Cert.FfnHeadIdeal.Value.final5 m c), (h c).2.1.trans (gate_eq m c), (h c).2.2.1.trans (up_eq m c), (h c).2.2.2.1.trans (down_eq m c), (h c).2.2.2.2⟩)
        (Cert.FfnHeadIdeal.Value.run_blocks m g),
      (θ_run Cert.FfnHeadReferenceIdeal.defs _ _).mono (fun r h c =>
        ⟨(h c).1.trans (rows_agree m' m c (he c).1 (he c).2.1 (he c).2.2.1 (he c).2.2.2.1 (he c).2.2.2.2),
          (h c).2.1.trans ((tiles_agree _).trans (congrArg tilesE (he c).2.2.1)), (h c).2.2.1.trans ((tiles_agree _).trans (congrArg tilesE (he c).2.2.2.1)),
          (h c).2.2.2.1.trans ((down_agree _).trans (congrArg downE (he c).2.2.2.2)), (h c).2.2.2.2⟩)
        (Cert.FfnHeadReferenceIdeal.Value.run m' g')⟩

end Cert.Proof.HD
-- ==== Proof.OUT.Body.lean ====
/-
  What one point of the output projection leaves: the first point changes the format of the weights and keeps them, every
  point adds its rows' two products to the rows it was given.
-/
module

public import proofs.«01_k».proof.Proof.Gen.OutIdeal.Value
public import Idealize.ShloMosaic.Lib.Pointwise
public import Idealize.ShloMosaic.Lib.Pipeline.ValueKit

@[expose] public section

set_option maxRecDepth 16384

noncomputable section

namespace Cert.Proof.OUT

open Cert.OutIdeal Cert.OutIdeal.Gen
open Idealize.ShloMosaic Idealize.ShloMosaic.TcCoe Idealize.ShloMosaic.Tactic

section

variable {F : FTy → Type} [FloatOps F]

theorem at0_2 : (![0, 0] : Fin 2 → Nat) = fun _ => 0 := funext fun a => by fin_cases a <;> rfl
theorem at0_3 : (![0, 0, 0] : Fin 3 → Nat) = fun _ => 0 := funext fun a => by fin_cases a <;> rfl

/-- The first 1536 rows of the kept weights, and the other 512. -/
def tokRows (w : Vec F S2048x2048 .bf16) : Vec F S1536x2048 .bf16 := View.ld w (Rect.unit (s := S2048x2048) ![0, 0] S1536x2048.size inb_S2048x2048_S1536x2048_0_0)
def moRows (w : Vec F S2048x2048 .bf16) : Vec F S512x2048 .bf16 := View.ld w (Rect.unit (s := S2048x2048) ![1536, 0] S512x2048.size inb_S2048x2048_S512x2048_1536_0)

/-- The rows that a point writes, from its rows, its two inputs and the kept weights. -/
def stepV (x : Vec F S256x2048 .f32) (tok : Vec F S256x1536 .bf16) (mo : Vec F S256x512 .bf16) (w : Vec F S2048x2048 .bf16) : Vec F S256x2048 .f32 :=
  k0_pay3 x tok (tokRows w) mo (moRows w)

/-- The stores of the first point into the kept weights, the later one first. -/
def keptPieces (x5 : Vec F S1x1536x2048 .f32) (x6 : Vec F S1x512x2048 .f32) : List (View.Piece (Elt F) S2048x2048 .bf16) :=
  [⟨Rect.unit (s := S2048x2048) ![1536, 0] S512x2048.size inb_S2048x2048_S512x2048_1536_0, k0_pay2 x6⟩,
    ⟨Rect.unit (s := S2048x2048) ![0, 0] S1536x2048.size inb_S2048x2048_S1536x2048_0_0, k0_pay1 x5⟩]

theorem kept_covered (x5 : Vec F S1x1536x2048 .f32) (x6 : Vec F S1x512x2048 .f32) (y : S2048x2048.Idx) : ∃ p ∈ keptPieces x5 x6, y ∈ p.1.set :=
  View.cover_of_tiledBy (keptPieces x5 x6) ![512, 2048] (by sl_kernel_rfl) y

variable (c : Dev nD) (i : grid0.Coords) (a1 : Memref sig .tc .vmem S256x2048 .f32) (h1 : a1.IsWhole)
  (a2 : Memref sig .tc .vmem S256x1536 .bf16) (h2 : a2.IsWhole) (a3 : Memref sig .tc .vmem S256x1536 .bf16) (h3 : a3.IsWhole)
  (a4 : Memref sig .tc .vmem S256x512 .bf16) (h4 : a4.IsWhole) (a5 : Memref sig .tc .vmem S256x512 .bf16) (h5 : a5.IsWhole)
  (a6 : Memref sig .tc .vmem S1x1536x2048 .f32) (h6 : a6.IsWhole) (a7 : Memref sig .tc .vmem S1x512x2048 .f32) (h7 : a7.IsWhole)
  (a8 : Memref sig .tc .vmem S256x2048 .f32) (h8 : a8.IsWhole) (a9 : Memref sig .tc .vmem S2048x2048 .bf16) (h9 : a9.IsWhole)
  (x0 : Vec F S256x2048 .f32) (x1 x2 : Vec F S256x1536 .bf16) (x3 x4 : Vec F S256x512 .bf16) (x5 : Vec F S1x1536x2048 .f32) (x6 : Vec F S1x512x2048 .f32)

theorem kept_first (hc0 : cond0_0 i) (hc1 : cond0_1 i) (hc2 : ¬cond0_2 i) :
    sout0_A_0 c i a1 h1 a2 h2 a3 h3 a4 h4 a5 h5 a6 h6 a7 h7 a8 h8 a9 h9 hc0 hc1 hc2 x0 x1 x2 x3 x4 x5 x6 = View.canon (keptPieces x5 x6) := by
  unfold sout0_A_0
  rw [View.read_writes_junk_eq_canon]
  unfold kernelRun0_A
  dsimp only
  sl_unfold_words
  simp only [View.readAt_eq_ld, h6.read_unread, h7.read_unread, View.ld_unit_zero (S := S1x1536x2048) at0_3, View.ld_unit_zero (S := S1x512x2048) at0_3]
  rfl

theorem rows_first (hc0 : cond0_0 i) (hc1 : cond0_1 i) (hc2 : ¬cond0_2 i) :
    out0_A_7 c i a1 h1 a2 h2 a3 h3 a4 h4 a5 h5 a6 h6 a7 h7 a8 h8 a9 h9 hc0 hc1 hc2 x0 x1 x2 x3 x4 x5 x6 = stepV x0 x1 x3 (View.canon (keptPieces x5 x6)) := by
  unfold out0_A_7
  rw [View.read_writes_junk_eq_canon]
  unfold kernelRun0_A
  dsimp only
  sl_unfold_words
  rw [View.canon_unit_zero at0_2]
  simp only [View.readAt_eq_ld, h1.read_unread, h2.read_unread, h4.read_unread, h6.read_unread, h7.read_unread,
    View.ld_unit_zero (S := S256x2048) at0_2, View.ld_unit_zero (S := S256x1536) at0_2, View.ld_unit_zero (S := S256x512) at0_2,
    View.ld_unit_zero (S := S1x1536x2048) at0_3, View.ld_unit_zero (S := S1x512x2048) at0_3]
  unfold stepV tokRows moRows
  exact congrArg₂ (fun u v => k0_pay3 x0 x1 u x3 v) (View.readCov_eq_canon_ld _ (keptPieces x5 x6) _ (kept_covered x5 x6)) (View.readCov_eq_canon_ld _ (keptPieces x5 x6) _ (kept_covered x5 x6))

variable (xs : Vec F S2048x2048 .bf16)

theorem rows_prompt (hc0 : ¬cond0_0 i) (hc1 : cond0_1 i) (hc2 : ¬cond0_2 i) :
    out0_B_7 c i a1 h1 a2 h2 a3 h3 a4 h4 a5 h5 a6 h6 a7 h7 a8 h8 a9 h9 hc0 hc1 hc2 x0 x1 x2 x3 x4 x5 x6 xs = stepV x0 x1 x3 xs := by
  unfold out0_B_7
  rw [View.read_writes_junk_eq_canon]
  unfold kernelRun0_B
  dsimp only
  sl_unfold_words
  rw [View.canon_unit_zero at0_2]
  simp only [View.readAt_eq_ld, h1.read_unread, h2.read_unread, h4.read_unread, h9.read_unread,
    View.ld_unit_zero (S := S256x2048) at0_2, View.ld_unit_zero (S := S256x1536) at0_2, View.ld_unit_zero (S := S256x512) at0_2]
  rfl

theorem kept_prompt (hc0 : ¬cond0_0 i) (hc1 : cond0_1 i) (hc2 : ¬cond0_2 i) :
    sout0_B_0 c i a1 h1 a2 h2 a3 h3 a4 h4 a5 h5 a6 h6 a7 h7 a8 h8 a9 h9 hc0 hc1 hc2 x0 x1 x2 x3 x4 x5 x6 xs = xs := rfl

theorem rows_sample (hc0 : ¬cond0_0 i) (hc1 : ¬cond0_1 i) (hc2 : cond0_2 i) :
    out0_C_7 c i a1 h1 a2 h2 a3 h3 a4 h4 a5 h5 a6 h6 a7 h7 a8 h8 a9 h9 hc0 hc1 hc2 x0 x1 x2 x3 x4 x5 x6 xs = stepV x0 x2 x4 xs := by
  unfold out0_C_7
  rw [View.read_writes_junk_eq_canon]
  unfold kernelRun0_C
  dsimp only
  sl_unfold_words
  rw [View.canon_unit_zero at0_2]
  simp only [View.readAt_eq_ld, h1.read_unread, h3.read_unread, h5.read_unread, h9.read_unread,
    View.ld_unit_zero (S := S256x2048) at0_2, View.ld_unit_zero (S := S256x1536) at0_2, View.ld_unit_zero (S := S256x512) at0_2]
  rfl

theorem kept_sample (hc0 : ¬cond0_0 i) (hc1 : ¬cond0_1 i) (hc2 : cond0_2 i) :
    sout0_C_0 c i a1 h1 a2 h2 a3 h3 a4 h4 a5 h5 a6 h6 a7 h7 a8 h8 a9 h9 hc0 hc1 hc2 x0 x1 x2 x3 x4 x5 x6 xs = xs := rfl

end

end Cert.Proof.OUT
-- ==== Proof.OUT.Call.lean ====
/-
  The output projection's points, entry by entry, and its array after the run.
-/
module

public import proofs.«01_k».proof.Proof.OUT.Body

@[expose] public section

set_option maxRecDepth 16384

noncomputable section

namespace Cert.Proof.OUT

open Cert.OutIdeal Cert.OutIdeal.Gen
open Idealize.ShloMosaic Idealize.ShloMosaic.TcCoe Idealize.ShloMosaic.Tactic

/-! ## A point's arithmetic -/

theorem tokRows_apply (w : Vec Ideal S2048x2048 .bf16) (k : Fin 1536) (d : Fin 2048) : tokRows w (ix2 k d) = w (ix2 ⟨k.val, by omega⟩ d) := by
  refine congrArg w ?_
  funext a; apply Fin.ext
  match a with
  | 0 => show 0 + 1 * k.val = k.val; omega
  | 1 => show 0 + 1 * d.val = d.val; omega

theorem moRows_apply (w : Vec Ideal S2048x2048 .bf16) (k : Fin 512) (d : Fin 2048) : moRows w (ix2 k d) = w (ix2 ⟨1536 + k.val, by omega⟩ d) := by
  refine congrArg w ?_
  funext a; apply Fin.ext
  match a with
  | 0 => show 1536 + 1 * k.val = 1536 + k.val; omega
  | 1 => show 0 + 1 * d.val = d.val; omega

/-- A row with its two products added. -/
def addedE (x : EReal) (tok : Fin 1536 → EReal) (mo : Fin 512 → EReal) (W : Fin 2048 → EReal) : EReal :=
  x + ∑ k : Fin 1536, tok k * W ⟨k.val, by omega⟩ + ∑ k : Fin 512, mo k * W ⟨1536 + k.val, by omega⟩

theorem step_apply (x : Vec Ideal S256x2048 .f32) (tok : Vec Ideal S256x1536 .bf16) (mo : Vec Ideal S256x512 .bf16) (w : Vec Ideal S2048x2048 .bf16) (r : Fin 256) (d : Fin 2048) :
    stepV x tok mo w (ix2 r d) = addedE (x (ix2 r d)) (fun k => tok (ix2 r k)) (fun k => mo (ix2 r k)) (fun k => w (ix2 k d)) := by
  unfold stepV addedE
  pointwise [k0_pay3]
  simp only [tokRows_apply, moRows_apply]

/-- The kept weights after the first point. -/
def keptE (x5 : Vec Ideal S1x1536x2048 .f32) (x6 : Vec Ideal S1x512x2048 .f32) : Vec Ideal S2048x2048 .bf16 := fun i =>
  if h : (i 0).val < 1536 then x5 (ix3 0 ⟨(i 0).val, h⟩ (i 1)) else x6 (ix3 0 ⟨(i 0).val - 1536, by have : (i 0).val < 2048 := (i 0).isLt; omega⟩ (i 1))

theorem tok_piece (x5 : Vec Ideal S1x1536x2048 .f32) (k : Fin 1536) (d : Fin 2048) : k0_pay1 x5 (ix2 k d) = x5 (ix3 0 k d) := by
  pointwise [k0_pay1]

theorem mo_piece (x6 : Vec Ideal S1x512x2048 .f32) (k : Fin 512) (d : Fin 2048) : k0_pay2 x6 (ix2 k d) = x6 (ix3 0 k d) := by
  pointwise [k0_pay2]

theorem kept_eq (x5 : Vec Ideal S1x1536x2048 .f32) (x6 : Vec Ideal S1x512x2048 .f32) : View.canon (keptPieces x5 x6) = keptE x5 x6 := by
  funext y
  refine View.canon_apply_of_pieces (keptE x5 x6) (keptPieces x5 x6) (fun p hp => ?_) y (kept_covered x5 x6 y)
  unfold keptPieces at hp
  rcases List.mem_cons.mp hp with rfl | hp
  · intro z
    obtain ⟨k, d, rfl⟩ : ∃ (k : Fin 512) (d : Fin 2048), z = ix2 k d := ⟨_, _, eq_ix2 z⟩
    refine (mo_piece x6 k d).trans ?_
    have g0 : ((Rect.unit (s := S2048x2048) ![1536, 0] S512x2048.size inb_S2048x2048_S512x2048_1536_0).emb (ix2 k d) (0 : Fin 2)).val = 1536 + k.val := by
      show 1536 + 1 * k.val = _; omega
    have g1 : (Rect.unit (s := S2048x2048) ![1536, 0] S512x2048.size inb_S2048x2048_S512x2048_1536_0).emb (ix2 k d) (1 : Fin 2) = d := Fin.ext (by
      show 0 + 1 * d.val = _; omega)
    unfold keptE
    rw [dif_neg (by rw [g0]; omega), g1]
    exact congrArg (fun z => x6 (ix3 0 z d)) (Fin.ext (by dsimp only; rw [g0]; omega))
  · obtain rfl := List.mem_singleton.mp hp
    intro z
    obtain ⟨k, d, rfl⟩ : ∃ (k : Fin 1536) (d : Fin 2048), z = ix2 k d := ⟨_, _, eq_ix2 z⟩
    refine (tok_piece x5 k d).trans ?_
    have g0 : ((Rect.unit (s := S2048x2048) ![0, 0] S1536x2048.size inb_S2048x2048_S1536x2048_0_0).emb (ix2 k d) (0 : Fin 2)).val = k.val := by
      show 0 + 1 * k.val = _; omega
    have g1 : (Rect.unit (s := S2048x2048) ![0, 0] S1536x2048.size inb_S2048x2048_S1536x2048_0_0).emb (ix2 k d) (1 : Fin 2) = d := Fin.ext (by
      show 0 + 1 * d.val = _; omega)
    unfold keptE
    rw [dif_pos (by rw [g0]; exact k.isLt), g1]
    exact congrArg (fun z => x5 (ix3 0 z d)) (Fin.ext (by dsimp only; rw [g0]))

/-! ## The arrays and their blocks -/

section

variable (m : (ℓ : Loc nD τ sig) → Buf (Elt Ideal) ℓ) (c : Dev nD)

/-- The rows, the attention's and the memory's rows of prompt and sample, and the weights. -/
abbrev argX : Vec Ideal S8448x2048 .f32 := m ((c : Thread nD τ).loc main_arg0)
abbrev argTokP : Vec Ideal S8192x1536 .bf16 := m ((c : Thread nD τ).loc main_arg1)
abbrev argTokS : Vec Ideal S256x1536 .bf16 := m ((c : Thread nD τ).loc main_arg2)
abbrev argMoP : Vec Ideal S8192x512 .bf16 := m ((c : Thread nD τ).loc main_arg3)
abbrev argMoS : Vec Ideal S256x512 .bf16 := m ((c : Thread nD τ).loc main_arg4)
abbrev argW : Vec Ideal S4x2048x2048 .f32 := m ((c : Thread nD τ).loc main_arg5)

theorem index0 : ∀ t : Fin grid0.N, win0_0.index t (0 : Fin 2) = t.val ∧ win0_0.index t (1 : Fin 2) = 0 := by decide +kernel
theorem index1 : ∀ t : Fin grid0.N, win0_1.index t (0 : Fin 2) = min t.val 31 ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = min t.val 31 ∧ win0_3.index t (1 : Fin 2) = 0 := by decide +kernel
theorem index4 : ∀ t : Fin grid0.N, win0_4.index t (0 : Fin 2) = 0 ∧ win0_4.index t (1 : Fin 2) = 0 := by decide +kernel
theorem index5 : ∀ t : Fin grid0.N, win0_5.index t (0 : Fin 3) = 0 ∧ win0_5.index t (1 : Fin 3) = 0 ∧ win0_5.index t (2 : Fin 3) = 0 := by decide +kernel
theorem index6 : ∀ t : Fin grid0.N, win0_6.index t (0 : Fin 3) = 0 ∧ win0_6.index t (1 : Fin 3) = 3 ∧ win0_6.index t (2 : Fin 3) = 0 := by decide +kernel
theorem index7 : ∀ t : Fin grid0.N, win0_7.index t (0 : Fin 2) = t.val ∧ win0_7.index t (1 : Fin 2) = 0 := by decide +kernel

theorem points_lt (t : Fin cfg0.N) : t.val < 33 := lt_of_lt_of_eq t.isLt N_0

theorem blockX (t : Fin cfg0.N) (r : Fin 256) (d : Fin 2048) (hr : 256 * t.val + r.val < 8448) :
    (iblk m c 0 t : Vec Ideal S256x2048 .f32) (ix2 r d) = argX m c (ix2 ⟨256 * t.val + r.val, hr⟩ d) := by
  obtain ⟨e0, e1⟩ := index0 t
  refine Eq.trans ?_ (congrFun (V_main_arg0 m c) _)
  refine congrArg (V m c main_arg0 : Vec Ideal S8448x2048 .f32) ?_
  funext a; apply Fin.ext
  match a with
  | 0 => show win0_0.index t (0 : Fin 2) * 256 + 1 * r.val = 256 * t.val + r.val; rw [e0]; omega
  | 1 => show win0_0.index t (1 : Fin 2) * 2048 + 1 * d.val = d.val; rw [e1]; omega

theorem blockTokP (t : Fin cfg0.N) (r : Fin 256) (k : Fin 1536) (ht : t.val < 32) :
    (iblk m c 1 t : Vec Ideal S256x1536 .bf16) (ix2 r k) = argTokP m c (ix2 ⟨256 * t.val + r.val, by omega⟩ k) := by
  obtain ⟨e0, e1⟩ := index1 t
  refine Eq.trans ?_ (congrFun (V_main_arg1 m c) _)
  refine congrArg (V m c main_arg1 : Vec Ideal S8192x1536 .bf16) ?_
  funext a; apply Fin.ext
  match a with
  | 0 => show win0_1.index t (0 : Fin 2) * 256 + 1 * r.val = 256 * t.val + r.val; rw [e0]; omega
  | 1 => show win0_1.index t (1 : Fin 2) * 1536 + 1 * k.val = k.val; rw [e1]; omega

theorem blockTokS (t : Fin cfg0.N) (r : Fin 256) (k : Fin 1536) :
    (iblk m c 2 t : Vec Ideal S256x1536 .bf16) (ix2 r k) = argTokS m c (ix2 r k) := by
  obtain ⟨e0, e1⟩ := index2 t
  refine Eq.trans ?_ (congrFun (V_main_arg2 m c) _)
  refine congrArg (V m c main_arg2 : Vec Ideal S256x1536 .bf16) ?_
  funext a; apply Fin.ext
  match a with
  | 0 => show win0_2.index t (0 : Fin 2) * 256 + 1 * r.val = r.val; rw [e0]; omega
  | 1 => show win0_2.index t (1 : Fin 2) * 1536 + 1 * k.val = k.val; rw [e1]; omega

theorem blockMoP (t : Fin cfg0.N) (r : Fin 256) (k : Fin 512) (ht : t.val < 32) :
    (iblk m c 3 t : Vec Ideal S256x512 .bf16) (ix2 r k) = argMoP m c (ix2 ⟨256 * t.val + r.val, by omega⟩ k) := by
  obtain ⟨e0, e1⟩ := index3 t
  refine Eq.trans ?_ (congrFun (V_main_arg3 m c) _)
  refine congrArg (V m c main_arg3 : Vec Ideal S8192x512 .bf16) ?_
  funext a; apply Fin.ext
  match a with
  | 0 => show win0_3.index t (0 : Fin 2) * 256 + 1 * r.val = 256 * t.val + r.val; rw [e0]; omega
  | 1 => show win0_3.index t (1 : Fin 2) * 512 + 1 * k.val = k.val; rw [e1]; omega

theorem blockMoS (t : Fin cfg0.N) (r : Fin 256) (k : Fin 512) :
    (iblk m c 4 t : Vec Ideal S256x512 .bf16) (ix2 r k) = argMoS m c (ix2 r k) := by
  obtain ⟨e0, e1⟩ := index4 t
  refine Eq.trans ?_ (congrFun (V_main_arg4 m c) _)
  refine congrArg (V m c main_arg4 : Vec Ideal S256x512 .bf16) ?_
  funext a; apply Fin.ext
  match a with
  | 0 => show win0_4.index t (0 : Fin 2) * 256 + 1 * r.val = r.val; rw [e0]; omega
  | 1 => show win0_4.index t (1 : Fin 2) * 512 + 1 * k.val = k.val; rw [e1]; omega

theorem blockWt (t : Fin cfg0.N) (k : Fin 1536) (d : Fin 2048) :
    (X0_5 m c t : Vec Ideal S1x1536x2048 .f32) (ix3 0 k d) = argW m c (ix3 0 ⟨k.val, by omega⟩ d) := by
  obtain ⟨e0, e1, e2⟩ := index5 t
  refine Eq.trans ?_ (congrFun (V_main_arg5 m c) _)
  unfold X0_5 Pipeline.Window.fill
  rw [dif_pos (moved0_5 t _)]
  refine congrArg (V m c main_arg5 : Vec Ideal S4x2048x2048 .f32) ?_
  funext a; apply Fin.ext
  match a with
  | 0 => show win0_5.index t (0 : Fin 3) * 1 + 1 * 0 = 0; rw [e0]
  | 1 => show win0_5.index t (1 : Fin 3) * 1536 + 1 * k.val = k.val; rw [e1]; omega
  | 2 => show win0_5.index t (2 : Fin 3) * 2048 + 1 * d.val = d.val; rw [e2]; omega

theorem blockWm (t : Fin cfg0.N) (k : Fin 512) (d : Fin 2048) :
    (iblk m c 6 t : Vec Ideal S1x512x2048 .f32) (ix3 0 k d) = argW m c (ix3 0 ⟨1536 + k.val, by omega⟩ d) := by
  obtain ⟨e0, e1, e2⟩ := index6 t
  refine Eq.trans ?_ (congrFun (V_main_arg5 m c) _)
  refine congrArg (V m c main_arg5 : Vec Ideal S4x2048x2048 .f32) ?_
  funext a; apply Fin.ext
  match a with
  | 0 => show win0_6.index t (0 : Fin 3) * 1 + 1 * 0 = 0; rw [e0]
  | 1 => show win0_6.index t (1 : Fin 3) * 512 + 1 * k.val = 1536 + k.val; rw [e1]; omega
  | 2 => show win0_6.index t (2 : Fin 3) * 2048 + 1 * d.val = d.val; rw [e2]; omega

/-- The first layer's weights. -/
def weightsE : Vec Ideal S2048x2048 .bf16 := fun i => argW m c (ix3 0 (i 0) (i 1))

theorem kept_blocks (t : Fin cfg0.N) : keptE (X0_5 m c t) (iblk m c 6 t) = weightsE m c := by
  funext i
  obtain ⟨k, d, rfl⟩ : ∃ (k d : Fin 2048), i = ix2 k d := ⟨_, _, eq_ix2 i⟩
  unfold keptE weightsE
  by_cases h : k.val < 1536
  · exact (dif_pos h).trans (blockWt m c t ⟨k.val, h⟩ d)
  · refine (dif_neg h).trans ?_
    refine (blockWm m c t ⟨k.val - 1536, by omega⟩ d).trans ?_
    exact congrArg (fun z => argW m c (ix3 0 z d)) (Fin.ext (by show 1536 + (k.val - 1536) = k.val; omega))

/-- After every point, the kept weights are the first layer's. -/
theorem outs_kept : ∀ (n : ℕ) (hn : n < cfg0.N), (outsAt0 m c n hn).2 = weightsE m c := by
  intro n
  induction n with
  | zero =>
    intro hn
    rw [outsAt0_A m c ⟨0, hn⟩ rfl (by dsimp only; omega) (by dsimp only; omega)]
    dsimp only
    rw [kept_first, kept_eq]
    exact kept_blocks m c ⟨0, hn⟩
  | succ n ih =>
    intro hn
    have hN : n + 1 < 33 := lt_of_lt_of_eq hn N_0
    by_cases h : n + 1 < 32
    · rw [outsAt0_B m c ⟨n + 1, hn⟩ (by dsimp only; omega) h (by dsimp only; omega)]
      dsimp only
      rw [kept_prompt]
      exact ih _
    · rw [outsAt0_C m c ⟨n + 1, hn⟩ (by dsimp only; omega) h (by dsimp only; omega)]
      dsimp only
      rw [kept_sample]
      exact ih _

/-! ## The array after the run -/

/-- Row `a` of the attention's output and of the memory's, prompt rows before sample rows. -/
def tokE (a : Fin 8448) (k : Fin 1536) : EReal := if h : a.val < 8192 then argTokP m c (ix2 ⟨a.val, h⟩ k) else argTokS m c (ix2 ⟨a.val - 8192, by omega⟩ k)
def moE (a : Fin 8448) (k : Fin 512) : EReal := if h : a.val < 8192 then argMoP m c (ix2 ⟨a.val, h⟩ k) else argMoS m c (ix2 ⟨a.val - 8192, by omega⟩ k)

def rowE (a : Fin 8448) (d : Fin 2048) : EReal := addedE (argX m c (ix2 a d)) (tokE m c a) (moE m c a) (fun k => argW m c (ix3 0 k d))

def resultE : Vec Ideal S8448x2048 .f32 := fun i => rowE m c (i 0) (i 1)

theorem row_point (t : Fin cfg0.N) (r : Fin 256) (d : Fin 2048) (hr : 256 * t.val + r.val < 8448) :
    (outsAt0 m c t.val t.isLt).1 (ix2 r d) = rowE m c ⟨256 * t.val + r.val, hr⟩ d := by
  have ht := points_lt t
  by_cases h : t.val < 32
  · have hp : 256 * t.val + r.val < 8192 := by omega
    have e : stepV (iblk m c 0 t : Vec Ideal S256x2048 .f32) (iblk m c 1 t : Vec Ideal S256x1536 .bf16) (iblk m c 3 t : Vec Ideal S256x512 .bf16) (weightsE m c) (ix2 r d)
        = rowE m c ⟨256 * t.val + r.val, hr⟩ d := by
      rw [step_apply, blockX m c t r d hr]
      simp only [blockTokP m c t r _ h, blockMoP m c t r _ h]
      have f1 : tokE m c ⟨256 * t.val + r.val, hr⟩ = fun k => argTokP m c (ix2 ⟨256 * t.val + r.val, hp⟩ k) := funext fun k => dif_pos hp
      have f2 : moE m c ⟨256 * t.val + r.val, hr⟩ = fun k => argMoP m c (ix2 ⟨256 * t.val + r.val, hp⟩ k) := funext fun k => dif_pos hp
      unfold rowE
      rw [f1, f2]
      rfl
    by_cases h0 : t.val % 33 = 0
    · rw [outsAt0_A m c t h0 h (by omega)]
      dsimp only
      rw [rows_first, kept_eq]
      exact (congrArg (fun w => stepV _ _ _ w (ix2 r d)) (kept_blocks m c t)).trans e
    · rw [outsAt0_B m c t h0 h (by omega)]
      dsimp only
      rw [rows_prompt]
      exact (congrArg (fun w => stepV _ _ _ w (ix2 r d)) (outs_kept m c _ _)).trans e
  · have hp : ¬256 * t.val + r.val < 8192 := by omega
    rw [outsAt0_C m c t (by omega) h (by omega)]
    dsimp only
    rw [rows_sample]
    refine (congrArg (fun w => stepV _ _ _ w (ix2 r d)) (outs_kept m c _ _)).trans ?_
    rw [step_apply, blockX m c t r d hr]
    simp only [blockTokS, blockMoS]
    have er : (⟨256 * t.val + r.val - 8192, by omega⟩ : Fin 256) = r := Fin.ext (by dsimp only; omega)
    have f1 : tokE m c ⟨256 * t.val + r.val, hr⟩ = fun k => argTokS m c (ix2 r k) := funext fun k => (dif_neg hp).trans (congrArg (fun z => argTokS m c (ix2 z k)) er)
    have f2 : moE m c ⟨256 * t.val + r.val, hr⟩ = fun k => argMoS m c (ix2 r k) := funext fun k => (dif_neg hp).trans (congrArg (fun z => argMoS m c (ix2 z k)) er)
    unfold rowE
    rw [f1, f2]
    rfl

theorem point_eq (t : Fin cfg0.N) (y : S256x2048.Idx) : (outsAt0 m c t.val t.isLt).1 y = resultE m c ((win0_7.blk t).view.emb y) := by
  have ht := points_lt t
  obtain ⟨r, d, rfl⟩ : ∃ (r : Fin 256) (d : Fin 2048), y = ix2 r d := ⟨_, _, eq_ix2 y⟩
  obtain ⟨e0, e1⟩ := index7 t
  have g0 : (win0_7.blk t).view.emb (ix2 r d) (0 : Fin 2) = (⟨256 * t.val + r.val, by omega⟩ : Fin 8448) := Fin.ext (by
    show win0_7.index t (0 : Fin 2) * 256 + 1 * r.val = 256 * t.val + r.val; rw [e0]; omega)
  have g1 : (win0_7.blk t).view.emb (ix2 r d) (1 : Fin 2) = d := Fin.ext (by
    show win0_7.index t (1 : Fin 2) * 2048 + 1 * d.val = d.val; rw [e1]; omega)
  unfold resultE
  rw [g0, g1]
  exact row_point m c t r d _

theorem covers7 : win0_7.Covers := by decide +kernel

theorem array_eq : (dats m 0 c).arrAt 7 cfg0.N = resultE m c :=
  (dats m 0 c).arrAt_eq_of_covers 7 (resultE m c) covers7 fun t _ y => (congrFun (after0_7 m c t) _).trans (point_eq m c t y)

end

end Cert.Proof.OUT
-- ==== Proof.OUT.Claims.lean ====
/-
  The output projection's reference, entry by entry, and the call's claims.
-/
module

public import proofs.«01_k».proof.Defs
public import proofs.«01_k».proof.Proof.Gen.Out.Frame
public import proofs.«01_k».proof.Proof.Gen.OutReferenceIdeal.Run
public import proofs.«01_k».proof.Proof.OUT.Call
public import Idealize.ShloMosaic.Lib.IdealHost
public import Idealize.ShloMosaic.Adequacy
public import Idealize.ShloMosaic.Init

@[expose] public section

set_option maxRecDepth 16384

noncomputable section

namespace Cert.Proof.OUT

open Idealize.ShloMosaic Idealize.ShloMosaic.TcCoe Idealize.ShloMosaic.Tactic Idealize.SL.Sem

section

open Cert.OutReferenceIdeal Cert.OutReferenceIdeal.Gen

/-- The attention's rows and the memory's, prompt before sample, side by side. -/
def joinedV (tp : FVec Ideal S8192x1536 .bf16) (ts : FVec Ideal S256x1536 .bf16) (mp : FVec Ideal S8192x512 .bf16) (ms : FVec Ideal S256x512 .bf16) : FVec Ideal S8448x2048 .f32 :=
  concatenate S8448x2048 1 [⟨S8448x1536, (extf .f32 (concatenate S8448x1536 0 [⟨S8192x1536, tp⟩, ⟨S256x1536, ts⟩] concatenates_S8192x1536_S256x1536_S8448x1536_d0 : FVec Ideal S8448x1536 .bf16) bitsLt_bf16_f32 : FVec Ideal S8448x1536 .f32)⟩,
    ⟨S8448x512, (extf .f32 (concatenate S8448x512 0 [⟨S8192x512, mp⟩, ⟨S256x512, ms⟩] concatenates_S8192x512_S256x512_S8448x512_d0 : FVec Ideal S8448x512 .bf16) bitsLt_bf16_f32 : FVec Ideal S8448x512 .f32)⟩] concatenates_S8448x1536_S8448x512_S8448x2048_d1

/-- The whole output projection. -/
def outV (x : FVec Ideal S8448x2048 .f32) (tp : FVec Ideal S8192x1536 .bf16) (ts : FVec Ideal S256x1536 .bf16) (mp : FVec Ideal S8192x512 .bf16) (ms : FVec Ideal S256x512 .bf16) (w : FVec Ideal S4x2048x2048 .f32) : FVec Ideal S8448x2048 .f32 :=
  addf x (Host.dotGeneral dot_S8448x2048_S2048x2048_S8448x2048_1_0_0_1_n_n none (joinedV tp ts mp ms) (shapeCast _ (extractStridedSlice S1x2048x2048 ![0, 0, 0] w slices_S4x2048x2048_S1x2048x2048_0_0_0) shapeCasts_S1x2048x2048_S2048x2048))

variable (n : (ℓ : Loc Cert.OutIdeal.nD Cert.OutIdeal.τ Cert.OutIdeal.sig) → Buf (Elt Ideal) ℓ) (c : Dev Cert.OutIdeal.nD)

theorem joined_tok (a : Fin 8448) (k : Fin 1536) : joinedV (argTokP n c) (argTokS n c) (argMoP n c) (argMoS n c) (ix2 a ⟨k.val, by omega⟩) = tokE n c a k := by
  pointwise [joinedV]
  rfl

theorem joined_mo (a : Fin 8448) (k : Fin 512) : joinedV (argTokP n c) (argTokS n c) (argMoP n c) (argMoS n c) (ix2 a ⟨1536 + k.val, by omega⟩) = moE n c a k := by
  pointwise [joinedV]
  rfl

theorem out_row (x : FVec Ideal S8448x2048 .f32) (w : FVec Ideal S4x2048x2048 .f32) (a : Fin 8448) (d : Fin 2048) :
    outV x (argTokP n c) (argTokS n c) (argMoP n c) (argMoS n c) w (ix2 a d) = addedE (x (ix2 a d)) (tokE n c a) (moE n c a) (fun k => w (ix3 0 k d)) := by
  pointwise [outV]
  unfold addedE
  rw [add_assoc]
  refine congrArg (fun z => x (ix2 a d) + z) ?_
  refine (Fin.sum_univ_add (a := 1536) (b := 512) (fun k : Fin (1536 + 512) => joinedV (argTokP n c) (argTokS n c) (argMoP n c) (argMoS n c) (ix2 a (k : Fin 2048)) * w (ix3 0 (k : Fin 2048) d))).trans ?_
  refine congrArg₂ (· + ·) (Finset.sum_congr rfl fun k _ => ?_) (Finset.sum_congr rfl fun k _ => ?_)
  · exact congrArg (fun z => z * w (ix3 0 ⟨k.val, by omega⟩ d)) (joined_tok n c a k)
  · exact congrArg (fun z => z * w (ix3 0 ⟨1536 + k.val, by omega⟩ d)) (joined_mo n c a k)

/-- From the same arguments, the reference's array is the kernel's. -/
theorem arrays_agree (x : FVec Ideal S8448x2048 .f32) (tp : FVec Ideal S8192x1536 .bf16) (ts : FVec Ideal S256x1536 .bf16) (mp : FVec Ideal S8192x512 .bf16) (ms : FVec Ideal S256x512 .bf16) (w : FVec Ideal S4x2048x2048 .f32)
    (h0 : x = argX n c) (h1 : tp = argTokP n c) (h2 : ts = argTokS n c) (h3 : mp = argMoP n c) (h4 : ms = argMoS n c) (h5 : w = argW n c) : outV x tp ts mp ms w = resultE n c := by
  funext i
  obtain ⟨a, d, rfl⟩ : ∃ (a : Fin 8448) (d : Fin 2048), i = ix2 a d := ⟨_, _, eq_ix2 i⟩
  rw [h0, h1, h2, h3, h4, h5]
  exact out_row n c _ _ a d

end

/-- The reference's run: its arguments end as they began, and it has no counter. -/
theorem frame_reference : Cert.quiescent_OutReferenceIdeal (hOutReferenceIdeal := Cert.OutReferenceIdeal.Gen.facts) :=
  fun m g _ => (θ_run Cert.OutReferenceIdeal.defs _ _).mono (fun r h => ⟨fun c => (h c).2, sem_eq_zero_of_no_sems (by decide) r.2⟩)
    (Cert.OutReferenceIdeal.Value.run m g)

/-- The kernel's result and the reference's are the same array, whatever arguments they share. -/
theorem same : Cert.algebraic_OutIdeal_OutReferenceIdeal (hOutIdeal := Cert.OutIdeal.Gen.facts) (hOutReferenceIdeal := Cert.OutReferenceIdeal.Gen.facts) :=
  fun m g m' g' _ he =>
    ⟨fun c => resultE m c,
      (θ_run Cert.OutIdeal.defs _ _).mono (fun r h c => ⟨(h c).1.trans (array_eq m c), (h c).2⟩) (Cert.OutIdeal.Value.run_blocks m g),
      (θ_run Cert.OutReferenceIdeal.defs _ _).mono (fun r h c =>
        ⟨(h c).1.trans (arrays_agree m c _ _ _ _ _ _ (he c).1 (he c).2.1 (he c).2.2.1 (he c).2.2.2.1 (he c).2.2.2.2.1 (he c).2.2.2.2.2), (h c).2⟩)
        (Cert.OutReferenceIdeal.Value.run m' g')⟩

end Cert.Proof.OUT
-- ==== Proof.PRJ.Call.lean ====
/-
  The projection call: a grid point scales its 768 rows by their root mean squares and the gain and multiplies them with the
  layer's weights. Each point's block, and the array after the run, entry by entry.
-/
module

public import proofs.«01_k».proof.Proof.Gen.ProjIdeal.Value
public import proofs.«01_k».proof.Proof.FFN.Maths
public import Idealize.ShloMosaic.Lib.Pointwise
public import Idealize.ShloMosaic.Lib.Pipeline.ValueKit

@[expose] public section

set_option maxRecDepth 16384

noncomputable section

namespace Cert.Proof.PRJ

open Cert.ProjIdeal Cert.ProjIdeal.Gen
open Idealize.ShloMosaic Idealize.ShloMosaic.TcCoe Idealize.ShloMosaic.Tactic
open Cert.Proof.FFN (normE columnE)

theorem origin2 : (![0, 0] : Fin 2 → Nat) = fun _ => 0 := funext fun a => by fin_cases a <;> rfl
theorem origin3 : (![0, 0, 0] : Fin 3 → Nat) = fun _ => 0 := funext fun a => by fin_cases a <;> rfl

/-- The block that a point writes: its normalised rows through the weights. -/
theorem out_block {F : FTy → Type} [FloatOps F] (c : Dev nD) (i : grid0.Coords) (a2 : Memref sig .tc .vmem S768x2048 .f32) (h2 : a2.IsWhole)
    (a3 : Memref sig .tc .vmem S1x1x2048 .f32) (h3 : a3.IsWhole) (a4 : Memref sig .tc .vmem S1x2048x2048 .bf16) (h4 : a4.IsWhole)
    (a5 : Memref sig .tc .vmem S768x2048 .f32) (h5 : a5.IsWhole) (a6 : Memref sig .tc .vmem S768x2048 .bf16) (h6 : a6.IsWhole) (hc : cond0_0 i)
    (x0 : Vec F S768x2048 .f32) (x1 : Vec F S1x1x2048 .f32) (x2 : Vec F S1x2048x2048 .bf16) :
    out0_A_3 c i a2 h2 a3 h3 a4 h4 a5 h5 a6 h6 hc x0 x1 x2 = k0_pay2 (k0_pay1 x0 x1) x2 := by
  unfold out0_A_3
  rw [View.read_writes_junk_eq_canon]
  unfold kernelRun0_A
  dsimp only
  sl_unfold_words
  rw [View.canon_unit_zero origin2]
  simp only [View.readCov_unit_zero (S := S768x2048) _ origin2, View.readAt_eq_ld, h2.read_unread, h3.read_unread, h4.read_unread,
    View.ld_unit_zero (S := S768x2048) origin2, View.ld_unit_zero (S := S1x1x2048) origin3, View.ld_unit_zero (S := S1x2048x2048) origin3]

/-! ## A point's arithmetic -/

theorem norm_apply (x : Vec Ideal S768x2048 .f32) (g : Vec Ideal S1x1x2048 .f32) (r : Fin 768) (k : Fin 2048) :
    k0_pay1 x g (ix2 r k) = normE (fun k => x (ix2 r k)) (fun k => g (ix3 0 0 k)) k := by
  pointwise [k0_pay1]
  rfl

theorem through_apply (h : Vec Ideal S768x2048 .bf16) (w : Vec Ideal S1x2048x2048 .bf16) (r : Fin 768) (d : Fin 2048) :
    k0_pay2 h w (ix2 r d) = ∑ k : Fin 2048, h (ix2 r k) * w (ix3 0 k d) := by
  pointwise [k0_pay2]

/-! ## The arrays and their blocks -/

section

variable (m : (ℓ : Loc nD τ sig) → Buf (Elt Ideal) ℓ) (c : Dev nD)

/-- The input rows, the gains and the weights. -/
abbrev argX : Vec Ideal S8448x2048 .f32 := m ((c : Thread nD τ).loc main_arg0)
abbrev argGain : Vec Ideal S4x2048 .f32 := m ((c : Thread nD τ).loc main_arg1)
abbrev argW : Vec Ideal S2x2048x2048 .f32 := m ((c : Thread nD τ).loc main_arg2)

theorem V_gain (l : Fin 4) (k : Fin 2048) : (V m c main_v0 : Vec Ideal S4x1x2048 .f32) (ix3 l 0 k) = argGain m c (ix2 l k) := by
  have h : (V m c main_v0 : Vec Ideal S4x1x2048 .f32) = shapeCast S4x1x2048 (argGain m c) shapeCasts_S4x2048_S4x1x2048 := by
    unfold_abbrev_sides
    after_results
    rfl
  rw [h]
  pointwise []

theorem V_weights : (V m c main_v1 : Vec Ideal S2x2048x2048 .bf16) = (truncf .bf16 (argW m c : FVec Ideal S2x2048x2048 .f32) bitsLt_bf16_f32 : FVec Ideal S2x2048x2048 .bf16) := by
  unfold_abbrev_sides
  after_results

theorem index0 : ∀ t : Fin grid0.N, win0_0.index t (0 : Fin 2) = t.val ∧ win0_0.index t (1 : Fin 2) = 0 := by decide +kernel
theorem index1 : ∀ t : Fin grid0.N, win0_1.index t (0 : Fin 3) = 2 ∧ win0_1.index t (1 : Fin 3) = 0 ∧ win0_1.index t (2 : Fin 3) = 0 := by decide +kernel
theorem index2 : ∀ t : Fin grid0.N, win0_2.index t (0 : Fin 3) = 0 ∧ win0_2.index t (1 : Fin 3) = 0 ∧ win0_2.index t (2 : Fin 3) = 0 := by decide +kernel
theorem index3 : ∀ t : Fin grid0.N, win0_3.index t (0 : Fin 2) = t.val ∧ win0_3.index t (1 : Fin 2) = 0 := by decide +kernel

theorem points_lt (t : Fin cfg0.N) : t.val < 11 := lt_of_lt_of_eq t.isLt N_0

theorem blockX (t : Fin cfg0.N) (r : Fin 768) (k : Fin 2048) (hr : 768 * t.val + r.val < 8448) :
    (iblk m c 0 t : Vec Ideal S768x2048 .f32) (ix2 r k) = argX m c (ix2 ⟨768 * t.val + r.val, hr⟩ k) := by
  obtain ⟨e0, e1⟩ := index0 t
  refine Eq.trans ?_ (congrFun (V_main_arg0 m c) _)
  refine congrArg (V m c main_arg0 : Vec Ideal S8448x2048 .f32) ?_
  funext a; apply Fin.ext
  match a with
  | 0 => show win0_0.index t (0 : Fin 2) * 768 + 1 * r.val = 768 * t.val + r.val; rw [e0]; omega
  | 1 => show win0_0.index t (1 : Fin 2) * 2048 + 1 * k.val = k.val; rw [e1]; omega

theorem blockGain (t : Fin cfg0.N) (k : Fin 2048) :
    (iblk m c 1 t : Vec Ideal S1x1x2048 .f32) (ix3 0 0 k) = argGain m c (ix2 2 k) := by
  obtain ⟨e0, e1, e2⟩ := index1 t
  refine Eq.trans ?_ (V_gain m c 2 k)
  refine congrArg (V m c main_v0 : Vec Ideal S4x1x2048 .f32) ?_
  funext a; apply Fin.ext
  match a with
  | 0 => show win0_1.index t (0 : Fin 3) * 1 + 1 * 0 = 2; rw [e0]
  | 1 => show win0_1.index t (1 : Fin 3) * 1 + 1 * 0 = 0; rw [e1]
  | 2 => show win0_1.index t (2 : Fin 3) * 2048 + 1 * k.val = k.val; rw [e2]; omega

theorem blockW (t : Fin cfg0.N) (k d : Fin 2048) :
    (iblk m c 2 t : Vec Ideal S1x2048x2048 .bf16) (ix3 0 k d) = argW m c (ix3 0 k d) := by
  obtain ⟨e0, e1, e2⟩ := index2 t
  refine Eq.trans ?_ (congrFun (V_weights m c) (ix3 0 k d))
  refine congrArg (V m c main_v1 : Vec Ideal S2x2048x2048 .bf16) ?_
  funext a; apply Fin.ext
  match a with
  | 0 => show win0_2.index t (0 : Fin 3) * 1 + 1 * 0 = 0; rw [e0]
  | 1 => show win0_2.index t (1 : Fin 3) * 2048 + 1 * k.val = k.val; rw [e1]; omega
  | 2 => show win0_2.index t (2 : Fin 3) * 2048 + 1 * d.val = d.val; rw [e2]; omega

/-! ## The array after the run -/

/-- Row `a`, normalised, through column `d` of the weights. -/
def projectE (a : Fin 8448) (d : Fin 2048) : EReal :=
  ∑ k : Fin 2048, normE (fun k => argX m c (ix2 a k)) (fun k => argGain m c (ix2 2 k)) k * argW m c (ix3 0 k d)

def resultE : Vec Ideal S8448x2048 .f32 := fun i => projectE m c (i 0) (i 1)

theorem point_eq (t : Fin cfg0.N) (y : S768x2048.Idx) : (outsAt0 m c t : Vec Ideal S768x2048 .f32) y = resultE m c ((win0_3.blk t).view.emb y) := by
  have ht := points_lt t
  obtain ⟨r, d, rfl⟩ : ∃ (r : Fin 768) (d : Fin 2048), y = ix2 r d := ⟨_, _, eq_ix2 y⟩
  obtain ⟨e0, e1⟩ := index3 t
  unfold outsAt0
  rw [out_block, through_apply]
  simp only [norm_apply, blockX m c t r _ (by omega), blockGain, blockW]
  have g0 : (win0_3.blk t).view.emb (ix2 r d) (0 : Fin 2) = (⟨768 * t.val + r.val, by omega⟩ : Fin 8448) := Fin.ext (by
    show win0_3.index t (0 : Fin 2) * 768 + 1 * r.val = 768 * t.val + r.val; rw [e0]; omega)
  have g1 : (win0_3.blk t).view.emb (ix2 r d) (1 : Fin 2) = d := Fin.ext (by
    show win0_3.index t (1 : Fin 2) * 2048 + 1 * d.val = d.val; rw [e1]; omega)
  unfold resultE
  rw [g0, g1]
  rfl

theorem covers3 : win0_3.Covers := by decide +kernel

theorem array_eq : (dats m 0 c).arrAt 3 cfg0.N = resultE m c :=
  (dats m 0 c).arrAt_eq_of_covers 3 (resultE m c) covers3 fun t _ y => (congrFun (after0_3 m c t) _).trans (point_eq m c t y)

end

end Cert.Proof.PRJ
-- ==== Proof.PRJ.Claims.lean ====
/-
  The projection's reference, entry by entry, and the call's claims.
-/
module

public import proofs.«01_k».proof.Defs
public import proofs.«01_k».proof.Proof.Gen.Proj.Frame
public import proofs.«01_k».proof.Proof.Gen.ProjReferenceIdeal.Run
public import proofs.«01_k».proof.Proof.PRJ.Call
public import Idealize.ShloMosaic.Lib.IdealHost
public import Idealize.ShloMosaic.Adequacy
public import Idealize.ShloMosaic.Init

@[expose] public section

set_option maxRecDepth 16384

noncomputable section

namespace Cert.Proof.PRJ

open Idealize.ShloMosaic Idealize.ShloMosaic.TcCoe Idealize.ShloMosaic.Tactic Idealize.SL.Sem

section

open Cert.ProjReferenceIdeal Cert.ProjReferenceIdeal.Gen
open Cert.Proof.FFN (normE)

/-- The rows scaled by their root mean squares and the layer's gain. -/
def normV (x : FVec Ideal S8448x2048 .f32) (gain : FVec Ideal S4x2048 .f32) : FVec Ideal S8448x2048 .f32 :=
  mulf (mulf x (broadcastInDim S8448x2048 ![0, 1] bcast_S8448x1_S8448x2048_0_1 (Host.rsqrt (addf (Host.divf (broadcastInDim S8448x1 ![0] bcast_S8448_S8448x1_0 (Host.reduceAdd (mulf x x) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 (shapeCast _ (extractStridedSlice S1x2048 ![2, 0] gain slices_S4x2048_S1x2048_2_0) shapeCasts_S1x2048_S2048)))

/-- The whole projection. -/
def projectV (x : FVec Ideal S8448x2048 .f32) (gain : FVec Ideal S4x2048 .f32) (w : FVec Ideal S2x2048x2048 .f32) : FVec Ideal S8448x2048 .f32 :=
  Host.dotGeneral dot_S8448x2048_S2048x2048_S8448x2048_1_0_0_1_n_n none (normV x gain) (shapeCast _ (extractStridedSlice S1x2048x2048 ![0, 0, 0] w slices_S2x2048x2048_S1x2048x2048_0_0_0) shapeCasts_S1x2048x2048_S2048x2048)

theorem norm_row (x : FVec Ideal S8448x2048 .f32) (gain : FVec Ideal S4x2048 .f32) (a : Fin 8448) (k : Fin 2048) :
    normV x gain (ix2 a k) = normE (fun k => x (ix2 a k)) (fun k => gain (ix2 2 k)) k := by
  pointwise [normV]
  rfl

theorem project_row (x : FVec Ideal S8448x2048 .f32) (gain : FVec Ideal S4x2048 .f32) (w : FVec Ideal S2x2048x2048 .f32) (a : Fin 8448) (d : Fin 2048) :
    projectV x gain w (ix2 a d) = ∑ k : Fin 2048, normE (fun k => x (ix2 a k)) (fun k => gain (ix2 2 k)) k * w (ix3 0 k d) := by
  pointwise [projectV]
  simp only [norm_row]

/-- From the same arguments, the reference's array is the kernel's. -/
theorem arrays_agree (n : (ℓ : Loc Cert.ProjIdeal.nD Cert.ProjIdeal.τ Cert.ProjIdeal.sig) → Buf (Elt Ideal) ℓ) (c : Dev nD)
    (x : FVec Ideal S8448x2048 .f32) (gain : FVec Ideal S4x2048 .f32) (w : FVec Ideal S2x2048x2048 .f32)
    (h0 : x = argX n c) (h1 : gain = argGain n c) (h2 : w = argW n c) : projectV x gain w = resultE n c := by
  funext i
  obtain ⟨a, d, rfl⟩ : ∃ (a : Fin 8448) (d : Fin 2048), i = ix2 a d := ⟨_, _, eq_ix2 i⟩
  rw [project_row, h0, h1, h2]
  rfl

end

/-- The reference's run: its arguments end as they began, and it has no counter. -/
theorem frame_reference : Cert.quiescent_ProjReferenceIdeal (hProjReferenceIdeal := Cert.ProjReferenceIdeal.Gen.facts) :=
  fun m g _ => (θ_run Cert.ProjReferenceIdeal.defs _ _).mono (fun r h => ⟨fun c => (h c).2, sem_eq_zero_of_no_sems (by decide) r.2⟩)
    (Cert.ProjReferenceIdeal.Value.run m g)

/-- The kernel's result and the reference's are the same array, whatever arguments they share. -/
theorem same : Cert.algebraic_ProjIdeal_ProjReferenceIdeal (hProjIdeal := Cert.ProjIdeal.Gen.facts) (hProjReferenceIdeal := Cert.ProjReferenceIdeal.Gen.facts) :=
  fun m g m' g' _ he =>
    ⟨fun c => resultE m c,
      (θ_run Cert.ProjIdeal.defs _ _).mono (fun r h c => ⟨(h c).1.trans (array_eq m c), (h c).2⟩) (Cert.ProjIdeal.Value.run_blocks m g),
      (θ_run Cert.ProjReferenceIdeal.defs _ _).mono (fun r h c => ⟨(h c).1.trans (arrays_agree m c _ _ _ (he c).1 (he c).2.1 (he c).2.2), (h c).2⟩)
        (Cert.ProjReferenceIdeal.Value.run m' g')⟩

end Cert.Proof.PRJ
-- ==== Proof.GT.Call.lean ====
/-
  The projection with gates: what the weights' and the gate weights' host arrays hold, each point's blocks, and the two arrays
  after the run, entry by entry. The host puts the weights' columns in another order and fills both arrays up with zeros.
-/
module

public import proofs.«01_k».proof.Proof.GT.RunIdeal
public import proofs.«01_k».proof.Proof.FFN.Maths
public import Idealize.ShloMosaic.Lib.Pointwise
public import Idealize.ShloMosaic.Lib.IdealHost
public import Idealize.ShloMosaic.Lib.KernelVsHost
public import Idealize.ShloMosaic.Lib.Pipeline.ValueKit

@[expose] public section

set_option maxRecDepth 16384

noncomputable section

namespace Cert.Proof.GT

open Cert.GatesIdeal Cert.GatesIdeal.Gen
open Idealize.ShloMosaic Idealize.ShloMosaic.TcCoe Idealize.ShloMosaic.Tactic
open Cert.Proof.FFN (normE)
open Cert.Proof.GT.GatesIdeal

/-! ## A point's arithmetic -/

theorem norm_apply (x : Vec Ideal S768x2048 .f32) (g : Vec Ideal S1x1x2048 .f32) (r : Fin 768) (k : Fin 2048) :
    k0_pay1 x g (ix2 r k) = normE (fun k => x (ix2 r k)) (fun k => g (ix3 0 0 k)) k := by
  pointwise [k0_pay1]
  rfl

theorem rows_apply (x : Vec Ideal S768x2048 .f32) (g : Vec Ideal S1x1x2048 .f32) (r : Fin 768) (k : Fin 2048) :
    k0_pay2 x g (ix2 r k) = normE (fun k => x (ix2 r k)) (fun k => g (ix3 0 0 k)) k := by
  refine Eq.trans ?_ (norm_apply x g r k)
  pointwise [k0_pay2]

theorem gates_apply (x : Vec Ideal S768x2048 .f32) (g : Vec Ideal S1x1x2048 .f32) (w : Vec Ideal S1x16x2048 .bf16) (q : Fin 16) (r : Fin 768) :
    k0_pay3 x g w (ix2 q r) = ∑ k : Fin 2048, w (ix3 0 q k) * normE (fun k => x (ix2 r k)) (fun k => g (ix3 0 0 k)) k := by
  pointwise [k0_pay3]
  simp only [norm_apply]

theorem through_apply (h : Vec Ideal S768x2048 .bf16) (w : Vec Ideal S1x2048x1792 .bf16) (r : Fin 768) (d : Fin 1792) :
    k0_pay4 h w (ix2 r d) = ∑ k : Fin 2048, h (ix2 r k) * w (ix3 0 k d) := by
  pointwise [k0_pay4]

/-! ## The host's arrays -/

/-- The column of the weights that stands at column `e` of the output. -/
def sourceOf (e : ℕ) : ℕ := if e < 4608 then e else if e < 5120 then e + 12 else e - 512

theorem sourceOf_lt {e : ℕ} (h : e < 5132) : sourceOf e < 5132 := by unfold sourceOf; split_ifs <;> omega

/-- The weights' column for column `e` of the output: zeros past the last of them. -/
def columnOf (W : Vec Ideal S2x2048x5132 .f32) (k : Fin 2048) (e : ℕ) : EReal :=
  if h : e < 5132 then W (ix3 0 k ⟨sourceOf e, sourceOf_lt h⟩) else 0

/-- Gate `q`'s weights: zeros past the twelfth. -/
def gateOf (W : Vec Ideal S2x2048x5132 .f32) (q : ℕ) (k : Fin 2048) : EReal :=
  if h : q < 12 then W (ix3 0 k ⟨4608 + q, by omega⟩) else 0

section

variable (m : (ℓ : Loc nD τ sig) → Buf (Elt Ideal) ℓ) (c : Dev nD)

/-- The input rows, the gains and the weights. -/
abbrev argX : Vec Ideal S8448x2048 .f32 := m ((c : Thread nD τ).loc main_arg0)
abbrev argGain : Vec Ideal S4x2048 .f32 := m ((c : Thread nD τ).loc main_arg1)
abbrev argW : Vec Ideal S2x2048x5132 .f32 := m ((c : Thread nD τ).loc main_arg2)

theorem V_gain (l : Fin 4) (k : Fin 2048) : (V m c main_v9 : Vec Ideal S4x1x2048 .f32) (ix3 l 0 k) = argGain m c (ix2 l k) := by
  have h : (V m c main_v9 : Vec Ideal S4x1x2048 .f32) = shapeCast S4x1x2048 (argGain m c) shapeCasts_S4x2048_S4x1x2048 := by
    unfold_abbrev_sides
    simp only [hostOps0, hostOps0_1, hostOps0_2, List.flatten_cons, List.flatten_nil, List.append_nil, List.cons_append, List.nil_append]
    after_results
    rfl
  rw [h]
  pointwise []

/-- The gates' columns of the weights. -/
def gatePart (w : FVec Ideal S2x2048x5132 .f32) : FVec Ideal S2x2048x12 .f32 :=
  extractStridedSlice S2x2048x12 ![0, 0, 4608] w slices_S2x2048x5132_S2x2048x12_0_0_4608

/-- The weights with their columns in the output's order. -/
def packed (w : FVec Ideal S2x2048x5132 .f32) : FVec Ideal S2x2048x5376 .f32 :=
  concatenate S2x2048x5376 2 [⟨S2x2048x4608, extractStridedSlice S2x2048x4608 ![0, 0, 0] w slices_S2x2048x5132_S2x2048x4608_0_0_0⟩,
    ⟨S2x2048x512, extractStridedSlice S2x2048x512 ![0, 0, 4620] w slices_S2x2048x5132_S2x2048x512_0_0_4620⟩, ⟨S2x2048x12, gatePart w⟩,
    ⟨S2x2048x244, (broadcastInDim S2x2048x244 ![] bcast_S_S2x2048x244 (constant S_ .f32 0x00000000#32) : FVec Ideal S2x2048x244 .f32)⟩] concatenates_S2x2048x4608_S2x2048x512_S2x2048x12_S2x2048x244_S2x2048x5376_d2

/-- The gates' columns as sixteen rows. -/
def padded (w : FVec Ideal S2x2048x5132 .f32) : FVec Ideal S2x16x2048 .f32 :=
  pad S2x16x2048 ![0, 0, 0] ![0, 4, 0] ![0, 0, 0] (transpose S2x12x2048 [0, 2, 1] (gatePart w) transposes_S2x2048x12_S2x12x2048_0_2_1)
    (sitofp .f32 (constantI S_ 32 0#32) : FVec Ideal S_ .f32) pads_S2x12x2048_S2x16x2048_000_040_000 h_S_

theorem V_weights : (V m c main_v5 : Vec Ideal S2x2048x5376 .bf16) = (truncf .bf16 (packed (argW m c)) bitsLt_bf16_f32 : FVec Ideal S2x2048x5376 .bf16) := by
  unfold_abbrev_sides
  simp only [hostOps0, hostOps0_1, hostOps0_2, List.flatten_cons, List.flatten_nil, List.append_nil, List.cons_append, List.nil_append]
  after_results
  rfl

theorem V_gates : (V m c main_v8 : Vec Ideal S2x16x2048 .bf16) = (truncf .bf16 (padded (argW m c)) bitsLt_bf16_f32 : FVec Ideal S2x16x2048 .bf16) := by
  unfold_abbrev_sides
  simp only [hostOps0, hostOps0_1, hostOps0_2, List.flatten_cons, List.flatten_nil, List.append_nil, List.cons_append, List.nil_append]
  after_results
  rfl

theorem packed_apply (w : FVec Ideal S2x2048x5132 .f32) (k : Fin 2048) (e : Fin 5376) : packed w (ix3 0 k e) = columnOf w k e.val := by
  unfold columnOf
  pointwise [packed, gatePart]
  have he := e.isLt
  by_cases h : e.val < 5132
  · rw [dif_pos h]
    by_cases h1 : e.val < 4608
    · rw [dif_pos h1]
      exact congrArg (fun z => w (ix3 0 k z)) (Fin.ext (by simp only [sourceOf, if_pos h1]))
    · rw [dif_neg h1]
      by_cases h2 : e.val - 4608 < 512
      · rw [dif_pos h2]
        exact congrArg (fun z => w (ix3 0 k z)) (Fin.ext (by simp only [sourceOf, if_neg h1, if_pos (show e.val < 5120 by omega)]; omega))
      · rw [dif_neg h2, dif_pos (by omega)]
        exact congrArg (fun z => w (ix3 0 k z)) (Fin.ext (by simp only [sourceOf, if_neg h1, if_neg (show ¬e.val < 5120 by omega)]; omega))
  · rw [dif_neg h, dif_neg (by omega), dif_neg (by omega), dif_neg (by omega)]

theorem padded_apply (w : FVec Ideal S2x2048x5132 .f32) (q : Fin 16) (k : Fin 2048) : padded w (ix3 0 q k) = gateOf w q.val k := by
  unfold gateOf
  pointwise [padded, gatePart]
  have hz : (FloatOps.sitofp FTy.f32 0#32 : Ideal .f32) = 0 := sitofp_zero
  rw [hz]

theorem index0 : ∀ t : Fin grid0.N, win0_0.index t (0 : Fin 2) = t.val / 3 ∧ win0_0.index t (1 : Fin 2) = 0 := by decide +kernel
theorem index1 : ∀ t : Fin grid0.N, win0_1.index t (0 : Fin 3) = 0 ∧ win0_1.index t (1 : Fin 3) = 0 ∧ win0_1.index t (2 : Fin 3) = 0 := by decide +kernel
theorem index2 : ∀ t : Fin grid0.N, win0_2.index t (0 : Fin 3) = 0 ∧ win0_2.index t (1 : Fin 3) = 0 ∧ win0_2.index t (2 : Fin 3) = t.val % 3 := by decide +kernel
theorem index3 : ∀ t : Fin grid0.N, win0_3.index t (0 : Fin 3) = 0 ∧ win0_3.index t (1 : Fin 3) = 0 ∧ win0_3.index t (2 : Fin 3) = 0 := by decide +kernel
theorem index4 : ∀ t : Fin grid0.N, win0_4.index t (0 : Fin 2) = t.val / 3 ∧ win0_4.index t (1 : Fin 2) = t.val % 3 := by decide +kernel
theorem index5 : ∀ t : Fin grid0.N, win0_5.index t (0 : Fin 2) = 0 ∧ win0_5.index t (1 : Fin 2) = t.val / 3 := by decide +kernel

theorem points_lt (t : Fin cfg0.N) : t.val < 33 := lt_of_lt_of_eq t.isLt N_0

theorem blockX (t : Fin cfg0.N) (r : Fin 768) (k : Fin 2048) (hr : 768 * (t.val / 3) + r.val < 8448) :
    (iblk m c 0 t : Vec Ideal S768x2048 .f32) (ix2 r k) = argX m c (ix2 ⟨768 * (t.val / 3) + r.val, hr⟩ k) := by
  obtain ⟨e0, e1⟩ := index0 t
  refine Eq.trans ?_ (congrFun (V_main_arg0 m c) _)
  refine congrArg (V m c main_arg0 : Vec Ideal S8448x2048 .f32) ?_
  funext a; apply Fin.ext
  match a with
  | 0 => show win0_0.index t (0 : Fin 2) * 768 + 1 * r.val = 768 * (t.val / 3) + r.val; rw [e0]; omega
  | 1 => show win0_0.index t (1 : Fin 2) * 2048 + 1 * k.val = k.val; rw [e1]; omega

theorem blockGain (t : Fin cfg0.N) (k : Fin 2048) :
    (iblk m c 1 t : Vec Ideal S1x1x2048 .f32) (ix3 0 0 k) = argGain m c (ix2 0 k) := by
  obtain ⟨e0, e1, e2⟩ := index1 t
  refine Eq.trans ?_ (V_gain m c 0 k)
  refine congrArg (V m c main_v9 : Vec Ideal S4x1x2048 .f32) ?_
  funext a; apply Fin.ext
  match a with
  | 0 => show win0_1.index t (0 : Fin 3) * 1 + 1 * 0 = 0; rw [e0]
  | 1 => show win0_1.index t (1 : Fin 3) * 1 + 1 * 0 = 0; rw [e1]
  | 2 => show win0_1.index t (2 : Fin 3) * 2048 + 1 * k.val = k.val; rw [e2]; omega

theorem blockW (t : Fin cfg0.N) (k : Fin 2048) (d : Fin 1792) (hd : 1792 * (t.val % 3) + d.val < 5376) :
    (iblk m c 2 t : Vec Ideal S1x2048x1792 .bf16) (ix3 0 k d) = columnOf (argW m c) k (1792 * (t.val % 3) + d.val) := by
  obtain ⟨e0, e1, e2⟩ := index2 t
  refine Eq.trans ?_ ((congrFun (V_weights m c) (ix3 0 k ⟨1792 * (t.val % 3) + d.val, hd⟩)).trans (packed_apply (argW m c) k ⟨1792 * (t.val % 3) + d.val, hd⟩))
  refine congrArg (V m c main_v5 : Vec Ideal S2x2048x5376 .bf16) ?_
  funext a; apply Fin.ext
  match a with
  | 0 => show win0_2.index t (0 : Fin 3) * 1 + 1 * 0 = 0; rw [e0]
  | 1 => show win0_2.index t (1 : Fin 3) * 2048 + 1 * k.val = k.val; rw [e1]; omega
  | 2 => show win0_2.index t (2 : Fin 3) * 1792 + 1 * d.val = 1792 * (t.val % 3) + d.val; rw [e2]; omega

theorem blockGates (t : Fin cfg0.N) (q : Fin 16) (k : Fin 2048) :
    (iblk m c 3 t : Vec Ideal S1x16x2048 .bf16) (ix3 0 q k) = gateOf (argW m c) q.val k := by
  obtain ⟨e0, e1, e2⟩ := index3 t
  refine Eq.trans ?_ ((congrFun (V_gates m c) (ix3 0 q k)).trans (padded_apply (argW m c) q k))
  refine congrArg (V m c main_v8 : Vec Ideal S2x16x2048 .bf16) ?_
  funext a; apply Fin.ext
  match a with
  | 0 => show win0_3.index t (0 : Fin 3) * 1 + 1 * 0 = 0; rw [e0]
  | 1 => show win0_3.index t (1 : Fin 3) * 16 + 1 * q.val = q.val; rw [e1]; omega
  | 2 => show win0_3.index t (2 : Fin 3) * 2048 + 1 * k.val = k.val; rw [e2]; omega

/-! ## The arrays after the run -/

/-- Entry `k` of row `a`, normalised. -/
def rowE (a : Fin 8448) (k : Fin 2048) : EReal := normE (fun k => argX m c (ix2 a k)) (fun k => argGain m c (ix2 0 k)) k

def resultE : Vec Ideal S8448x5376 .f32 := fun i => ∑ k : Fin 2048, rowE m c (i 0) k * columnOf (argW m c) k (i 1).val
def gatesE : Vec Ideal S16x8448 .f32 := fun i => ∑ k : Fin 2048, gateOf (argW m c) (i 0).val k * rowE m c (i 1) k

theorem first_third (t : Fin cfg0.N) : (firstOf t.val t.isLt).val / 3 = t.val / 3 := by
  show (t.val - t.val % 3) / 3 = t.val / 3
  omega

theorem point_norm (t : Fin cfg0.N) (r : Fin 768) (k : Fin 2048) (hr : 768 * (t.val / 3) + r.val < 8448) :
    normE (fun k => (iblk m c 0 (firstOf t.val t.isLt) : Vec Ideal S768x2048 .f32) (ix2 r k)) (fun k => (iblk m c 1 (firstOf t.val t.isLt) : Vec Ideal S1x1x2048 .f32) (ix3 0 0 k)) k
      = rowE m c ⟨768 * (t.val / 3) + r.val, hr⟩ k := by
  unfold rowE
  have e : 768 * ((firstOf t.val t.isLt).val / 3) + r.val = 768 * (t.val / 3) + r.val := by rw [first_third]
  simp only [blockX m c (firstOf t.val t.isLt) r _ (e ▸ hr), blockGain]
  exact congrArg (fun a => normE (fun k => argX m c (ix2 a k)) (fun k => argGain m c (ix2 0 k)) k) (Fin.ext e)

theorem out_point (t : Fin cfg0.N) (y : S768x1792.Idx) : outAt m c t y = resultE m c ((win0_4.blk t).view.emb y) := by
  have ht := points_lt t
  obtain ⟨r, d, rfl⟩ : ∃ (r : Fin 768) (d : Fin 1792), y = ix2 r d := ⟨_, _, eq_ix2 y⟩
  obtain ⟨e0, e1⟩ := index4 t
  unfold outAt rowsAt
  rw [through_apply]
  simp only [rows_apply, point_norm m c t r _ (by omega), blockW m c t _ d (by omega)]
  have g0 : (win0_4.blk t).view.emb (ix2 r d) (0 : Fin 2) = (⟨768 * (t.val / 3) + r.val, by omega⟩ : Fin 8448) := Fin.ext (by
    show win0_4.index t (0 : Fin 2) * 768 + 1 * r.val = 768 * (t.val / 3) + r.val; rw [e0]; omega)
  have g1 : (win0_4.blk t).view.emb (ix2 r d) (1 : Fin 2) = (⟨1792 * (t.val % 3) + d.val, by omega⟩ : Fin 5376) := Fin.ext (by
    show win0_4.index t (1 : Fin 2) * 1792 + 1 * d.val = 1792 * (t.val % 3) + d.val; rw [e1]; omega)
  unfold resultE
  rw [g0, g1]

theorem gates_point (t : Fin cfg0.N) (y : S16x768.Idx) : gatesAt m c t.val t.isLt y = gatesE m c ((win0_5.blk t).view.emb y) := by
  have ht := points_lt t
  obtain ⟨q, r, rfl⟩ : ∃ (q : Fin 16) (r : Fin 768), y = ix2 q r := ⟨_, _, eq_ix2 y⟩
  obtain ⟨e0, e1⟩ := index5 t
  unfold gatesAt
  rw [gates_apply]
  simp only [point_norm m c t r _ (by omega), blockGates]
  have g0 : (win0_5.blk t).view.emb (ix2 q r) (0 : Fin 2) = q := Fin.ext (by
    show win0_5.index t (0 : Fin 2) * 16 + 1 * q.val = q.val; rw [e0]; omega)
  have g1 : (win0_5.blk t).view.emb (ix2 q r) (1 : Fin 2) = (⟨768 * (t.val / 3) + r.val, by omega⟩ : Fin 8448) := Fin.ext (by
    show win0_5.index t (1 : Fin 2) * 768 + 1 * r.val = 768 * (t.val / 3) + r.val; rw [e1]; omega)
  unfold gatesE
  rw [g0, g1]

theorem covers4 : win0_4.Covers := by decide +kernel
theorem covers5 : win0_5.Covers := by decide +kernel

theorem out_eq : (dats m 0 c).arrAt 4 cfg0.N = resultE m c :=
  (dats m 0 c).arrAt_eq_of_covers 4 (resultE m c) covers4 fun t _ y => (congrFun (after_4 m c t) _).trans (out_point m c t y)

theorem gates_eq : (dats m 0 c).arrAt 5 cfg0.N = gatesE m c :=
  (dats m 0 c).arrAt_eq_of_covers 5 (gatesE m c) covers5 fun t _ y => (congrFun (after_5 m c t) _).trans (gates_point m c t y)

end

end Cert.Proof.GT
-- ==== Proof.GT.Claims.lean ====
/-
  The reference of the projection with gates, entry by entry, and the call's claims.
-/
module

public import proofs.«01_k».proof.Defs
public import proofs.«01_k».proof.Proof.Gen.GatesReferenceIdeal.Run
public import proofs.«01_k».proof.Proof.GT.RunBits
public import proofs.«01_k».proof.Proof.GT.Call
public import Idealize.ShloMosaic.Lib.IdealHost
public import Idealize.ShloMosaic.Adequacy
public import Idealize.ShloMosaic.Init

@[expose] public section

set_option maxRecDepth 16384

noncomputable section

namespace Cert.Proof.GT

open Idealize.ShloMosaic Idealize.ShloMosaic.TcCoe Idealize.ShloMosaic.Tactic Idealize.SL.Sem

section

open Cert.GatesReferenceIdeal Cert.GatesReferenceIdeal.Gen
open Cert.Proof.FFN (normE)

/-- The rows scaled by their root mean squares and the layer's gain. -/
def normV (x : FVec Ideal S8448x2048 .f32) (gain : FVec Ideal S4x2048 .f32) : FVec Ideal S8448x2048 .f32 :=
  mulf (mulf x (broadcastInDim S8448x2048 ![0, 1] bcast_S8448x1_S8448x2048_0_1 (Host.rsqrt (addf (Host.divf (broadcastInDim S8448x1 ![0] bcast_S8448_S8448x1_0 (Host.reduceAdd (mulf x x) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 (shapeCast _ (extractStridedSlice S1x2048 ![0, 0] gain slices_S4x2048_S1x2048_0_0) shapeCasts_S1x2048_S2048)))

/-- The whole product, its columns in the weights' order. -/
def productV (x : FVec Ideal S8448x2048 .f32) (gain : FVec Ideal S4x2048 .f32) (w : FVec Ideal S2x2048x5132 .f32) : FVec Ideal S8448x5132 .f32 :=
  Host.dotGeneral dot_S8448x2048_S2048x5132_S8448x5132_1_0_0_1_n_n none (normV x gain) (shapeCast _ (extractStridedSlice S1x2048x5132 ![0, 0, 0] w slices_S2x2048x5132_S1x2048x5132_0_0_0) shapeCasts_S1x2048x5132_S2048x5132)

/-- The product's columns in the output's order, filled up with zeros. -/
def orderedV (p : FVec Ideal S8448x5132 .f32) : FVec Ideal S8448x5376 .f32 :=
  concatenate S8448x5376 1 [⟨S8448x4608, extractStridedSlice S8448x4608 ![0, 0] p slices_S8448x5132_S8448x4608_0_0⟩,
    ⟨S8448x512, extractStridedSlice S8448x512 ![0, 4620] p slices_S8448x5132_S8448x512_0_4620⟩,
    ⟨S8448x12, extractStridedSlice S8448x12 ![0, 4608] p slices_S8448x5132_S8448x12_0_4608⟩,
    ⟨S8448x244, (broadcastInDim S8448x244 ![] bcast_S_S8448x244 (constant S_ .f32 0x00000000#32) : FVec Ideal S8448x244 .f32)⟩] concatenates_S8448x4608_S8448x512_S8448x12_S8448x244_S8448x5376_d1

/-- The gates' columns as rows, filled up with zeros. -/
def gateRowsV (p : FVec Ideal S8448x5132 .f32) : FVec Ideal S16x8448 .f32 :=
  concatenate S16x8448 0 [⟨S12x8448, (transpose S12x8448 [1, 0] (extractStridedSlice S8448x12 ![0, 4608] p slices_S8448x5132_S8448x12_0_4608) transposes_S8448x12_S12x8448_1_0 : FVec Ideal S12x8448 .f32)⟩,
    ⟨S4x8448, (broadcastInDim S4x8448 ![] bcast_S_S4x8448 (constant S_ .f32 0x00000000#32) : FVec Ideal S4x8448 .f32)⟩] concatenates_S12x8448_S4x8448_S16x8448_d0

theorem norm_row (x : FVec Ideal S8448x2048 .f32) (gain : FVec Ideal S4x2048 .f32) (a : Fin 8448) (k : Fin 2048) :
    normV x gain (ix2 a k) = normE (fun k => x (ix2 a k)) (fun k => gain (ix2 0 k)) k := by
  pointwise [normV]
  rfl

theorem product_row (x : FVec Ideal S8448x2048 .f32) (gain : FVec Ideal S4x2048 .f32) (w : FVec Ideal S2x2048x5132 .f32) (a : Fin 8448) (d : Fin 5132) :
    productV x gain w (ix2 a d) = ∑ k : Fin 2048, normE (fun k => x (ix2 a k)) (fun k => gain (ix2 0 k)) k * w (ix3 0 k d) := by
  pointwise [productV]
  simp only [norm_row]

theorem ordered_row (p : FVec Ideal S8448x5132 .f32) (a : Fin 8448) (e : Fin 5376) :
    orderedV p (ix2 a e) = if h : e.val < 5132 then p (ix2 a ⟨sourceOf e.val, sourceOf_lt h⟩) else 0 := by
  pointwise [orderedV]
  have he := e.isLt
  by_cases h : e.val < 5132
  · rw [dif_pos h]
    by_cases h1 : e.val < 4608
    · rw [dif_pos h1]
      exact congrArg (fun z => p (ix2 a z)) (Fin.ext (by simp only [sourceOf, if_pos h1]))
    · rw [dif_neg h1]
      by_cases h2 : e.val - 4608 < 512
      · rw [dif_pos h2]
        exact congrArg (fun z => p (ix2 a z)) (Fin.ext (by simp only [sourceOf, if_neg h1, if_pos (show e.val < 5120 by omega)]; omega))
      · rw [dif_neg h2, dif_pos (by omega)]
        exact congrArg (fun z => p (ix2 a z)) (Fin.ext (by simp only [sourceOf, if_neg h1, if_neg (show ¬e.val < 5120 by omega)]; omega))
  · rw [dif_neg h, dif_neg (by omega), dif_neg (by omega), dif_neg (by omega)]

theorem gate_row (p : FVec Ideal S8448x5132 .f32) (q : Fin 16) (a : Fin 8448) :
    gateRowsV p (ix2 q a) = if h : q.val < 12 then p (ix2 a ⟨4608 + q.val, by omega⟩) else 0 := by
  pointwise [gateRowsV]

/-- From the same arguments, the reference's product is the kernel's: a column of zeros gives a sum of zeros. -/
theorem products_agree (n : (ℓ : Loc Cert.GatesIdeal.nD Cert.GatesIdeal.τ Cert.GatesIdeal.sig) → Buf (Elt Ideal) ℓ) (c : Dev nD)
    (x : FVec Ideal S8448x2048 .f32) (gain : FVec Ideal S4x2048 .f32) (w : FVec Ideal S2x2048x5132 .f32)
    (h0 : x = argX n c) (h1 : gain = argGain n c) (h2 : w = argW n c) : orderedV (productV x gain w) = resultE n c := by
  funext i
  obtain ⟨a, e, rfl⟩ : ∃ (a : Fin 8448) (e : Fin 5376), i = ix2 a e := ⟨_, _, eq_ix2 i⟩
  rw [ordered_row, h0, h1, h2]
  show _ = ∑ k : Fin 2048, rowE n c a k * columnOf (argW n c) k e.val
  unfold columnOf
  by_cases h : e.val < 5132
  · simp only [dif_pos h]
    rw [product_row]
    rfl
  · simp only [dif_neg h, mul_zero, Finset.sum_const_zero]

theorem gates_agree (n : (ℓ : Loc Cert.GatesIdeal.nD Cert.GatesIdeal.τ Cert.GatesIdeal.sig) → Buf (Elt Ideal) ℓ) (c : Dev nD)
    (x : FVec Ideal S8448x2048 .f32) (gain : FVec Ideal S4x2048 .f32) (w : FVec Ideal S2x2048x5132 .f32)
    (h0 : x = argX n c) (h1 : gain = argGain n c) (h2 : w = argW n c) : gateRowsV (productV x gain w) = gatesE n c := by
  funext i
  obtain ⟨q, a, rfl⟩ : ∃ (q : Fin 16) (a : Fin 8448), i = ix2 q a := ⟨_, _, eq_ix2 i⟩
  rw [gate_row, h0, h1, h2]
  show _ = ∑ k : Fin 2048, gateOf (argW n c) q.val k * rowE n c a k
  unfold gateOf
  by_cases h : q.val < 12
  · simp only [dif_pos h]
    rw [product_row]
    exact Finset.sum_congr rfl fun k _ => mul_comm _ _
  · simp only [dif_neg h, zero_mul, Finset.sum_const_zero]

end

/-- The kernel's run, as translated: its arguments end as they began, and its counters at zero. -/
theorem frame_kernel : Cert.quiescent_Gates (hGates := Cert.Gates.Gen.facts) :=
  fun m g _ => Cert.Proof.GT.Gates.frame m g

/-- The same over exact arithmetic. -/
theorem frame_ideal : Cert.quiescent_GatesIdeal (hGatesIdeal := Cert.GatesIdeal.Gen.facts) :=
  fun m g _ => Cert.Proof.GT.GatesIdeal.frame m g

/-- The reference's run: its arguments end as they began, and it has no counter. -/
theorem frame_reference : Cert.quiescent_GatesReferenceIdeal (hGatesReferenceIdeal := Cert.GatesReferenceIdeal.Gen.facts) :=
  fun m g _ => (θ_run Cert.GatesReferenceIdeal.defs _ _).mono (fun r h => ⟨fun c => (h c).2.2, sem_eq_zero_of_no_sems (by decide) r.2⟩)
    (Cert.GatesReferenceIdeal.Value.run m g)

/-- The kernel's two results and the reference's are the same arrays, whatever arguments they share. -/
theorem same : Cert.algebraic_GatesIdeal_GatesReferenceIdeal (hGatesIdeal := Cert.GatesIdeal.Gen.facts) (hGatesReferenceIdeal := Cert.GatesReferenceIdeal.Gen.facts) :=
  fun m g m' g' _ he =>
    ⟨fun c => resultE m c, fun c => gatesE m c,
      (θ_run Cert.GatesIdeal.defs _ _).mono (fun r h c => ⟨(h c).1.trans (out_eq m c), (h c).2.1.trans (gates_eq m c), (h c).2.2⟩)
        (Cert.Proof.GT.GatesIdeal.run_arrays m g),
      (θ_run Cert.GatesReferenceIdeal.defs _ _).mono (fun r h c =>
        ⟨(h c).1.trans (products_agree m c _ _ _ (he c).1 (he c).2.1 (he c).2.2),
          (h c).2.1.trans (gates_agree m c _ _ _ (he c).1 (he c).2.1 (he c).2.2), (h c).2.2⟩)
        (Cert.GatesReferenceIdeal.Value.run m' g')⟩

end Cert.Proof.GT
-- ==== Proof.KV.WalkIdeal.lean ====
/-
  The body of the shared keys and values, over exact arithmetic: what it stores at a padding point and at a prompt point. A prompt point
  multiplies its rows with the two weight arrays, stores both products by heads and keeps both in bf16.
-/
module

public import proofs.«01_k».proof.Proof.Gen.SharedIdeal.Frame
public import proofs.«01_k».proof.Proof.Gen.SharedIdeal.Skeleton
public import proofs.«01_k».proof.Proof.Gen.SharedIdeal.Launch
public import proofs.«01_k».proof.Proof.Gen.SharedIdeal.Points
public import Idealize.ShloMosaic.Lib.Pipeline.FrameBody
public import Idealize.ShloMosaic.Lib.Pipeline.TableIdle
public import Idealize.ShloMosaic.Lib.Pipeline.Value
public import Idealize.ShloMosaic.Lib.Pointwise
public import Idealize.ShloMosaic.Lib.Claim
public import Idealize.ShloMosaic.Lib.Ring
public import Idealize.ShloMosaic.Lib.Tactic

@[expose] public section

set_option maxRecDepth 65536

noncomputable section

namespace Cert.Proof.KV.SharedIdeal

open Cert.SharedIdeal Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of the body -/

/-- The columns of a product by heads: head `h` takes 128 columns. -/
def headsOf (y : Vec F S256x1536 .f32) : Vec F S12x256x128 .f32 := fun i => y (ix2 ⟨(i 1).val, (i 1).isLt⟩ ⟨128 * (i 0).val + (i 2).val, by
  have h0 : (i 0).val < 12 := (i 0).isLt
  have h2 : (i 2).val < 128 := (i 2).isLt
  omega⟩)

/-- The same with the 256 rows as 16 sequences of 16. -/
def sampleOf (y : Vec F S256x1536 .f32) : Vec F S16x12x16x128 .f32 := fun i => y (ix2 ⟨16 * (i 0).val + (i 2).val, by
  have h0 : (i 0).val < 16 := (i 0).isLt
  have h2 : (i 2).val < 16 := (i 2).isLt
  omega⟩ ⟨128 * (i 1).val + (i 3).val, by
  have h1 : (i 1).val < 12 := (i 1).isLt
  have h3 : (i 3).val < 128 := (i 3).isLt
  omega⟩)

/-- Two blocks, one after the other. -/
def pairOf (p q : Vec F S1x256x1536 .bf16) : Vec F S2x256x1536 .bf16 := fun i =>
  if (i 0).val = 0 then p (ix3 0 ⟨(i 1).val, (i 1).isLt⟩ ⟨(i 2).val, (i 2).isLt⟩) else q (ix3 0 ⟨(i 1).val, (i 1).isLt⟩ ⟨(i 2).val, (i 2).isLt⟩)

theorem head_inb (h : ℕ) (hh : h < 12) : ∀ a, (![h, 0, 0] : Fin 3 → Nat) a + S1x256x128.size a ≤ S12x256x128.size a := fun a => by
  fin_cases a
  · show h + 1 ≤ 12; omega
  · show 0 + 256 ≤ 256; omega
  · show 0 + 128 ≤ 128; omega

theorem head_slices (h : ℕ) (hh : h < 12) : S256x1536.Slices ![0, 128 * h] S256x128 := ⟨rfl, fun a => by
  fin_cases a
  · show 0 + 256 ≤ 256; omega
  · show 128 * h + 128 ≤ 1536; omega⟩

/-- What is stored for head `h`. -/
def headPiece (y : Vec F S256x1536 .f32) (h : ℕ) (hh : h < 12) : View.Piece (Elt F) S12x256x128 .f32 :=
  ⟨Rect.unit ![h, 0, 0] S1x256x128.size (head_inb h hh), shapeCast S1x256x128 (extractStridedSlice S256x128 ![0, 128 * h] y (head_slices h hh)) shapeCasts_S256x128_S1x256x128⟩

def headPieces (y : Vec F S256x1536 .f32) : List (View.Piece (Elt F) S12x256x128 .f32) :=
  [headPiece y 11 (by decide), headPiece y 10 (by decide), headPiece y 9 (by decide), headPiece y 8 (by decide), headPiece y 7 (by decide), headPiece y 6 (by decide), headPiece y 5 (by decide), headPiece y 4 (by decide), headPiece y 3 (by decide), headPiece y 2 (by decide), headPiece y 1 (by decide), headPiece y 0 (by decide)]

theorem headPieces_all (y : Vec F S256x1536 .f32) (P : View.Piece (Elt F) S12x256x128 .f32 → Prop) (H : ∀ h hh, P (headPiece y h hh)) : ∀ p ∈ headPieces y, P p := by
  intro p hp
  simp only [headPieces, List.mem_cons, List.not_mem_nil, or_false] at hp
  rcases hp with rfl | rfl | rfl | rfl | rfl | rfl | rfl | rfl | rfl | rfl | rfl | rfl <;> exact H _ _

theorem headPiece_apply (y : Vec F S256x1536 .f32) (h : ℕ) (hh : h < 12) (z : (headPiece y h hh).1.shape.Idx) :
    (headPiece y h hh).2 z = headsOf y ((headPiece y h hh).1.emb z) := by
  obtain ⟨u, r, d, rfl⟩ : ∃ (u : Fin 1) (r : Fin 256) (d : Fin 128), z = ix3 u r d := ⟨_, _, _, eq_ix3 z⟩
  have e : (headPiece y h hh).2 (ix3 u r d) = y (ix2 r ⟨128 * h + d.val, by omega⟩) := by
    unfold headPiece
    pointwise []
  rw [e]
  unfold headsOf
  refine congrArg y (congrArg₂ ix2 (Fin.ext ?_) (Fin.ext ?_))
  · show r.val = 0 + 1 * r.val; omega
  · show 128 * h + d.val = 128 * (h + 1 * u.val) + (0 + 1 * d.val); omega

theorem heads_read {κ : Kind} {sp : Space} (v : View sig κ sp S12x256x128 .f32) (f : v.ty.Contents (Elt F)) (y : Vec F S256x1536 .f32)
    (L : List (View.Piece (Elt F) S12x256x128 .f32)) (hL : L = headPieces y) : v.read (Elt F) (v.writes (Elt F) f L) = headsOf y := by
  subst hL
  have hc : ∀ z, ∃ p ∈ headPieces y, z ∈ p.1.set := fun z => View.cover_of_tiledBy (headPieces y) ![1, 256, 128] (by sl_kernel_rfl) z
  rw [View.read_writes_eq_canon v f _ hc]
  exact funext fun z => View.canon_apply_of_pieces (headsOf y) (headPieces y) (headPieces_all y _ (headPiece_apply y)) z (hc z)

theorem sample_inb (b h : ℕ) (hb : b < 16) (hh : h < 12) : ∀ a, (![b, h, 0, 0] : Fin 4 → Nat) a + S1x1x16x128.size a ≤ S16x12x16x128.size a := fun a => by
  fin_cases a
  · show b + 1 ≤ 16; omega
  · show h + 1 ≤ 12; omega
  · show 0 + 16 ≤ 16; omega
  · show 0 + 128 ≤ 128; omega

theorem sample_slices (b h : ℕ) (hb : b < 16) (hh : h < 12) : S256x1536.Slices ![16 * b, 128 * h] S16x128 := ⟨rfl, fun a => by
  fin_cases a
  · show 16 * b + 16 ≤ 256; omega
  · show 128 * h + 128 ≤ 1536; omega⟩

/-- What is stored for head `h` of sequence `b`. -/
def samplePiece (y : Vec F S256x1536 .f32) (b h : ℕ) (hb : b < 16) (hh : h < 12) : View.Piece (Elt F) S16x12x16x128 .f32 :=
  ⟨Rect.unit ![b, h, 0, 0] S1x1x16x128.size (sample_inb b h hb hh),
    shapeCast S1x1x16x128 (extractStridedSlice S16x128 ![16 * b, 128 * h] y (sample_slices b h hb hh)) shapeCasts_S16x128_S1x1x16x128⟩

def sampleRow (y : Vec F S256x1536 .f32) (b : ℕ) (hb : b < 16) : List (View.Piece (Elt F) S16x12x16x128 .f32) :=
  [samplePiece y b 11 hb (by decide), samplePiece y b 10 hb (by decide), samplePiece y b 9 hb (by decide), samplePiece y b 8 hb (by decide), samplePiece y b 7 hb (by decide), samplePiece y b 6 hb (by decide), samplePiece y b 5 hb (by decide), samplePiece y b 4 hb (by decide), samplePiece y b 3 hb (by decide), samplePiece y b 2 hb (by decide), samplePiece y b 1 hb (by decide), samplePiece y b 0 hb (by decide)]

def samplePieces (y : Vec F S256x1536 .f32) : List (View.Piece (Elt F) S16x12x16x128 .f32) :=
  sampleRow y 15 (by decide) ++ (sampleRow y 14 (by decide) ++ (sampleRow y 13 (by decide) ++ (sampleRow y 12 (by decide) ++ (sampleRow y 11 (by decide) ++ (sampleRow y 10 (by decide) ++ (sampleRow y 9 (by decide) ++ (sampleRow y 8 (by decide) ++ (sampleRow y 7 (by decide) ++ (sampleRow y 6 (by decide) ++ (sampleRow y 5 (by decide) ++ (sampleRow y 4 (by decide) ++ (sampleRow y 3 (by decide) ++ (sampleRow y 2 (by decide) ++ (sampleRow y 1 (by decide) ++ (sampleRow y 0 (by decide))))))))))))))))

theorem sampleRow_all (y : Vec F S256x1536 .f32) (P : View.Piece (Elt F) S16x12x16x128 .f32 → Prop) (H : ∀ b h hb hh, P (samplePiece y b h hb hh)) (b : ℕ) (hb : b < 16) :
    ∀ p ∈ sampleRow y b hb, P p := by
  intro p hp
  simp only [sampleRow, List.mem_cons, List.not_mem_nil, or_false] at hp
  rcases hp with rfl | rfl | rfl | rfl | rfl | rfl | rfl | rfl | rfl | rfl | rfl | rfl <;> exact H _ _ _ _

theorem samplePieces_all (y : Vec F S256x1536 .f32) (P : View.Piece (Elt F) S16x12x16x128 .f32 → Prop) (H : ∀ b h hb hh, P (samplePiece y b h hb hh)) :
    ∀ p ∈ samplePieces y, P p := by
  intro p hp
  simp only [samplePieces, List.mem_append] at hp
  rcases hp with hp | hp | hp | hp | hp | hp | hp | hp | hp | hp | hp | hp | hp | hp | hp | hp <;> exact sampleRow_all y P H _ _ p hp

theorem samplePiece_apply (y : Vec F S256x1536 .f32) (b h : ℕ) (hb : b < 16) (hh : h < 12) (z : (samplePiece y b h hb hh).1.shape.Idx) :
    (samplePiece y b h hb hh).2 z = sampleOf y ((samplePiece y b h hb hh).1.emb z) := by
  obtain ⟨u, w, r, d, rfl⟩ : ∃ (u w : Fin 1) (r : Fin 16) (d : Fin 128), z = ix4 u w r d := ⟨_, _, _, _, eq_ix4 z⟩
  have e : (samplePiece y b h hb hh).2 (ix4 u w r d) = y (ix2 ⟨16 * b + r.val, by omega⟩ ⟨128 * h + d.val, by omega⟩) := by
    unfold samplePiece
    pointwise []
  rw [e]
  unfold sampleOf
  refine congrArg y (congrArg₂ ix2 (Fin.ext ?_) (Fin.ext ?_))
  · show 16 * b + r.val = 16 * (b + 1 * u.val) + (0 + 1 * r.val); omega
  · show 128 * h + d.val = 128 * (h + 1 * w.val) + (0 + 1 * d.val); omega

theorem sample_read {κ : Kind} {sp : Space} (v : View sig κ sp S16x12x16x128 .f32) (f : v.ty.Contents (Elt F)) (y : Vec F S256x1536 .f32)
    (L : List (View.Piece (Elt F) S16x12x16x128 .f32)) (hL : L = samplePieces y) : v.read (Elt F) (v.writes (Elt F) f L) = sampleOf y := by
  subst hL
  have hc : ∀ z, ∃ p ∈ samplePieces y, z ∈ p.1.set := fun z => View.cover_of_tiledBy (samplePieces y) ![1, 1, 16, 128] (by sl_kernel_rfl) z
  rw [View.read_writes_eq_canon v f _ hc]
  exact funext fun z => View.canon_apply_of_pieces (sampleOf y) (samplePieces y) (samplePieces_all y _ (samplePiece_apply y)) z (hc z)

/-- What is stored into the bf16 block. -/
def pairPieces (p q : Vec F S1x256x1536 .bf16) : List (View.Piece (Elt F) S2x256x1536 .bf16) :=
  [⟨Rect.unit ![1, 0, 0] S1x256x1536.size inb_S2x256x1536_S1x256x1536_1_0_0, q⟩, ⟨Rect.unit ![0, 0, 0] S1x256x1536.size inb_S2x256x1536_S1x256x1536_0_0_0, p⟩]

theorem pair_read {κ : Kind} {sp : Space} (v : View sig κ sp S2x256x1536 .bf16) (f : v.ty.Contents (Elt F)) (p q : Vec F S1x256x1536 .bf16)
    (L : List (View.Piece (Elt F) S2x256x1536 .bf16)) (hL : L = pairPieces p q) : v.read (Elt F) (v.writes (Elt F) f L) = pairOf p q := by
  subst hL
  have hc : ∀ z, ∃ r ∈ pairPieces p q, z ∈ r.1.set := fun z => View.cover_of_tiledBy (pairPieces p q) ![1, 256, 1536] (by sl_kernel_rfl) z
  rw [View.read_writes_eq_canon v f _ hc]
  refine funext fun z => View.canon_apply_of_pieces (pairOf p q) (pairPieces p q) (fun r hr => ?_) z (hc z)
  simp only [pairPieces, List.mem_cons, List.not_mem_nil, or_false] at hr
  rcases hr with rfl | rfl
  · intro z
    obtain ⟨u, r, d, rfl⟩ : ∃ (u : Fin 1) (r : Fin 256) (d : Fin 1536), z = ix3 u r d := ⟨_, _, _, eq_ix3 z⟩
    unfold pairOf
    rw [if_neg (by show ¬(1 + 1 * u.val = 0); omega)]
    refine congrArg q (congr (congrArg₂ ix3 (Subsingleton.elim _ _) (Fin.ext ?_)) (Fin.ext ?_))
    · show r.val = 0 + 1 * r.val; omega
    · show d.val = 0 + 1 * d.val; omega
  · intro z
    obtain ⟨u, r, d, rfl⟩ : ∃ (u : Fin 1) (r : Fin 256) (d : Fin 1536), z = ix3 u r d := ⟨_, _, _, eq_ix3 z⟩
    unfold pairOf
    rw [if_pos (by show 0 + 1 * u.val = 0; omega)]
    refine congrArg p (congr (congrArg₂ ix3 (Subsingleton.elim _ _) (Fin.ext ?_)) (Fin.ext ?_))
    · show r.val = 0 + 1 * r.val; omega
    · show d.val = 0 + 1 * d.val; omega

theorem start2 : (![0, 0] : Fin 2 → Nat) = fun _ => 0 := funext fun a => by fin_cases a <;> rfl
theorem start3 : (![0, 0, 0] : Fin 3 → Nat) = fun _ => 0 := funext fun a => by fin_cases a <;> rfl

/-- One store over a whole buffer leaves what it stored. -/
theorem read_one {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon v f _ (fun y => ⟨_, List.mem_singleton_self _, View.mem_set_unit_zero rfl inb y⟩), View.canon_unit_zero rfl]

/-- The two products of a block of rows, and what the bf16 block takes of them. -/
def keysOf (x0 : Vec F S256x2048 .f32) (x1 : Vec F S1x2048 .f32) (x2 : Vec F S2x2048x1536 .bf16) : Vec F S256x1536 .f32 :=
  k0_pay447 x0 x1 (View.ld x2 (Rect.unit (s := S2x2048x1536) ![0, 0, 0] S1x2048x1536.size inb_S2x2048x1536_S1x2048x1536_0_0_0))
def valuesOf (x0 : Vec F S256x2048 .f32) (x1 : Vec F S1x2048 .f32) (x2 : Vec F S2x2048x1536 .bf16) : Vec F S256x1536 .f32 :=
  k0_pay456 x0 x1 (View.ld x2 (Rect.unit (s := S2x2048x1536) ![1, 0, 0] S1x2048x1536.size inb_S2x2048x1536_S1x2048x1536_1_0_0))
def bothOf (x0 : Vec F S256x2048 .f32) (x1 : Vec F S1x2048 .f32) (x2 : Vec F S2x2048x1536 .bf16) : Vec F S2x256x1536 .bf16 :=
  pairOf (k0_pay448 x0 x1 (View.ld x2 (Rect.unit (s := S2x2048x1536) ![0, 0, 0] S1x2048x1536.size inb_S2x2048x1536_S1x2048x1536_0_0_0)))
    (k0_pay2 (k0_pay457 x0 x1 (View.ld x2 (Rect.unit (s := S2x2048x1536) ![1, 0, 0] S1x2048x1536.size inb_S2x2048x1536_S1x2048x1536_1_0_0))))

section

variable (c : Dev nD) (i : grid0.Coords) (a1 : Memref sig .tc .vmem S256x2048 .f32) (h1 : a1.IsWhole) (a2 : Memref sig .tc .vmem S1x2048 .f32) (h2 : a2.IsWhole)
  (a3 : Memref sig .tc .vmem S2x2048x1536 .bf16) (h3 : a3.IsWhole) (a4 : Memref sig .tc .vmem S12x256x128 .f32) (h4 : a4.IsWhole)
  (a5 : Memref sig .tc .vmem S12x256x128 .f32) (h5 : a5.IsWhole) (a6 : Memref sig .tc .vmem S16x12x16x128 .f32) (h6 : a6.IsWhole)
  (a7 : Memref sig .tc .vmem S16x12x16x128 .f32) (h7 : a7.IsWhole) (a8 : Memref sig .tc .vmem S2x256x1536 .bf16) (h8 : a8.IsWhole)
  (x0 : Vec F S256x2048 .f32) (x1 : Vec F S1x2048 .f32) (x2 : Vec F S2x2048x1536 .bf16)

set_option maxHeartbeats 2000000 in
/-- At a padding point the body only clears its bf16 block. -/
theorem run_pad (e1 : k0_cond1 i = 1#1) (e2 : ¬k0_cond2 i = 1#1) (E : Set ℕ) (K : PUnit → sProp 𝕄) :
    iprop((∃ d, owns (c : Thread nD τ) a8 fullShare d) ∗ (iprop(owns (c : Thread nD τ) a8 fullShare (k0_pay1 (F := F))) -∗ K ⟨⟩))
      ⊢ wp frame (wpE (defs₀ (F := F)) Variants.none c none) E (cc0_kv_proj i a1 h1 a2 h2 a3 h3 a4 h4 a5 h5 a6 h6 a7 h7 a8 h8) K := by
  simp only [cc0_kv_proj_eq_skeleton]; unfold cc0_kv_proj_skel
  unfold owns
  iintro ⟨⟨%d7, %f7, -, H7⟩, Hk⟩
  sl_exec (disch := first | sl_exact e1 | sl_exact e2)
  sl_step
  iapply Hk
  iexists _; isplitr
  swap; · iexact H7
  ipureintro
  sl_unfold_words
  rw [read_one _ _ start3]

set_option maxHeartbeats 20000000 in
/-- At a prompt point. -/
theorem run_prompt (e1 : ¬k0_cond1 i = 1#1) (e2 : k0_cond2 i = 1#1) (e3 : k0_cond3 i = 1#1) (e4 : ¬k0_cond4 i = 1#1) (e5 : k0_cond5 i = 1#1) (e6 : ¬k0_cond6 i = 1#1)
    (E : Set ℕ) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare (headsOf (keysOf x0 x1 x2)) ∗ owns (c : Thread nD τ) a5 fullShare (headsOf (valuesOf x0 x1 x2))
            ∗ owns (c : Thread nD τ) a8 fullShare (bothOf x0 x1 x2)) -∗ K ⟨⟩))
      ⊢ wp frame (wpE (defs₀ (F := F)) Variants.none c none) E (cc0_kv_proj i a1 h1 a2 h2 a3 h3 a4 h4 a5 h5 a6 h6 a7 h7 a8 h8) K := by
  simp only [cc0_kv_proj_eq_skeleton]; unfold cc0_kv_proj_skel
  unfold owns
  iintro ⟨⟨%f0, %hf0, H0⟩, ⟨%f1, %hf1, H1⟩, ⟨%f2, %hf2, H2⟩, ⟨%d3, %f3, -, H3⟩, ⟨%d4, %f4, -, H4⟩, ⟨%d7, %f7, -, H7⟩, Hk⟩
  obtain rfl := h1.eq_unread hf0; obtain rfl := h2.eq_unread hf1; obtain rfl := h3.eq_unread hf2
  sl_exec (disch := first | sl_exact e1 | sl_exact e2 | sl_exact e3 | sl_exact e4 | sl_exact e5 | sl_exact e6)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    refine (heads_read _ _ _ _ rfl).trans (congrArg headsOf ?_)
    sl_unfold_words
    unfold keysOf
    simp only [View.readAt_eq_ld, h1.read_unread, h2.read_unread, h3.read_unread, View.ld_unit_zero (S := S256x2048) start2, View.ld_unit_zero (S := S1x2048) start2]
  isplitl [H4]
  · iexists _; isplitr
    swap; · iexact H4
    ipureintro
    refine (heads_read _ _ _ _ rfl).trans (congrArg headsOf ?_)
    sl_unfold_words
    unfold valuesOf
    simp only [View.readAt_eq_ld, h1.read_unread, h2.read_unread, h3.read_unread, View.ld_unit_zero (S := S256x2048) start2, View.ld_unit_zero (S := S1x2048) start2]
  iexists _; isplitr
  swap; · iexact H7
  ipureintro
  refine (pair_read _ _ _ _ _ rfl).trans ?_
  sl_unfold_words
  unfold bothOf
  simp only [View.readAt_eq_ld, h1.read_unread, h2.read_unread, h3.read_unread, View.ld_unit_zero (S := S256x2048) start2, View.ld_unit_zero (S := S1x2048) start2]

end

end Cert.Proof.KV.SharedIdeal

end
-- ==== Proof.KV.LastIdeal.lean ====
/-
  The body of the shared keys and values, over exact arithmetic, at the last point: the rows are those of the samples, and both products
  are stored by sequence and head.
-/
module

public import proofs.«01_k».proof.Proof.Gen.SharedIdeal.Frame
public import proofs.«01_k».proof.Proof.Gen.SharedIdeal.Skeleton
public import proofs.«01_k».proof.Proof.Gen.SharedIdeal.Launch
public import proofs.«01_k».proof.Proof.Gen.SharedIdeal.Points
public import proofs.«01_k».proof.Proof.KV.WalkIdeal
public import Idealize.ShloMosaic.Lib.Pipeline.FrameBody
public import Idealize.ShloMosaic.Lib.Pipeline.TableIdle
public import Idealize.ShloMosaic.Lib.Pipeline.Value
public import Idealize.ShloMosaic.Lib.Pointwise
public import Idealize.ShloMosaic.Lib.Claim
public import Idealize.ShloMosaic.Lib.Ring
public import Idealize.ShloMosaic.Lib.Tactic

@[expose] public section

set_option maxRecDepth 65536

noncomputable section

namespace Cert.Proof.KV.SharedIdeal

open Cert.SharedIdeal Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (a1 : Memref sig .tc .vmem S256x2048 .f32) (h1 : a1.IsWhole) (a2 : Memref sig .tc .vmem S1x2048 .f32) (h2 : a2.IsWhole)
  (a3 : Memref sig .tc .vmem S2x2048x1536 .bf16) (h3 : a3.IsWhole) (a4 : Memref sig .tc .vmem S12x256x128 .f32) (h4 : a4.IsWhole)
  (a5 : Memref sig .tc .vmem S12x256x128 .f32) (h5 : a5.IsWhole) (a6 : Memref sig .tc .vmem S16x12x16x128 .f32) (h6 : a6.IsWhole)
  (a7 : Memref sig .tc .vmem S16x12x16x128 .f32) (h7 : a7.IsWhole) (a8 : Memref sig .tc .vmem S2x256x1536 .bf16) (h8 : a8.IsWhole)
  (x0 : Vec F S256x2048 .f32) (x1 : Vec F S1x2048 .f32) (x2 : Vec F S2x2048x1536 .bf16)

set_option maxHeartbeats 20000000 in
/-- At the last point. -/
theorem run_last (e1 : ¬k0_cond1 i = 1#1) (e2 : k0_cond2 i = 1#1) (e3 : ¬k0_cond3 i = 1#1) (e4 : k0_cond4 i = 1#1) (e5 : ¬k0_cond5 i = 1#1) (e6 : k0_cond6 i = 1#1)
    (E : Set ℕ) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a6 fullShare (sampleOf (keysOf x0 x1 x2)) ∗ owns (c : Thread nD τ) a7 fullShare (sampleOf (valuesOf x0 x1 x2))
            ∗ owns (c : Thread nD τ) a8 fullShare (bothOf x0 x1 x2)) -∗ K ⟨⟩))
      ⊢ wp frame (wpE (defs₀ (F := F)) Variants.none c none) E (cc0_kv_proj i a1 h1 a2 h2 a3 h3 a4 h4 a5 h5 a6 h6 a7 h7 a8 h8) K := by
  simp only [cc0_kv_proj_eq_skeleton]; unfold cc0_kv_proj_skel
  unfold owns
  iintro ⟨⟨%f0, %hf0, H0⟩, ⟨%f1, %hf1, H1⟩, ⟨%f2, %hf2, H2⟩, ⟨%d3, %f3, -, H3⟩, ⟨%d4, %f4, -, H4⟩, ⟨%d7, %f7, -, H7⟩, Hk⟩
  obtain rfl := h1.eq_unread hf0; obtain rfl := h2.eq_unread hf1; obtain rfl := h3.eq_unread hf2
  sl_exec (disch := first | sl_exact e1 | sl_exact e2 | sl_exact e3 | sl_exact e4 | sl_exact e5 | sl_exact e6)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    refine (sample_read _ _ _ _ rfl).trans (congrArg sampleOf ?_)
    sl_unfold_words
    unfold keysOf
    simp only [View.readAt_eq_ld, h1.read_unread, h2.read_unread, h3.read_unread, View.ld_unit_zero (S := S256x2048) start2, View.ld_unit_zero (S := S1x2048) start2]
  isplitl [H4]
  · iexists _; isplitr
    swap; · iexact H4
    ipureintro
    refine (sample_read _ _ _ _ rfl).trans (congrArg sampleOf ?_)
    sl_unfold_words
    unfold valuesOf
    simp only [View.readAt_eq_ld, h1.read_unread, h2.read_unread, h3.read_unread, View.ld_unit_zero (S := S256x2048) start2, View.ld_unit_zero (S := S1x2048) start2]
  iexists _; isplitr
  swap; · iexact H7
  ipureintro
  refine (pair_read _ _ _ _ _ rfl).trans ?_
  sl_unfold_words
  unfold bothOf
  simp only [View.readAt_eq_ld, h1.read_unread, h2.read_unread, h3.read_unread, View.ld_unit_zero (S := S256x2048) start2, View.ld_unit_zero (S := S1x2048) start2]

end

end Cert.Proof.KV.SharedIdeal

end
-- ==== Proof.KV.RunIdeal.lean ====
/-
  The run of the shared keys and values, over exact arithmetic: seven points that clear their bf16 blocks, thirty-two prompt points and one for the samples.
  The prompt's last block by heads stays in its buffer through the last point and is written back there.
-/
module

public import proofs.«01_k».proof.Proof.Gen.SharedIdeal.Frame
public import proofs.«01_k».proof.Proof.Gen.SharedIdeal.Skeleton
public import proofs.«01_k».proof.Proof.Gen.SharedIdeal.Launch
public import proofs.«01_k».proof.Proof.Gen.SharedIdeal.Points
public import proofs.«01_k».proof.Proof.KV.LastIdeal
public import Idealize.ShloMosaic.Lib.Pipeline.FrameBody
public import Idealize.ShloMosaic.Lib.Pipeline.TableIdle
public import Idealize.ShloMosaic.Lib.Pipeline.Value
public import Idealize.ShloMosaic.Lib.Pointwise
public import Idealize.ShloMosaic.Lib.Claim
public import Idealize.ShloMosaic.Lib.Ring
public import Idealize.ShloMosaic.Lib.Tactic

@[expose] public section

set_option maxRecDepth 65536

noncomputable section

namespace Cert.Proof.KV.SharedIdeal

open Cert.SharedIdeal Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are which -/

theorem conds_pad : ∀ t : Fin grid0.N, t.val < 7 → k0_cond1 (grid0.coords t) = 1#1 ∧ ¬k0_cond2 (grid0.coords t) = 1#1 := by decide +kernel
theorem conds_prompt : ∀ t : Fin grid0.N, ¬t.val < 7 → t.val < 39 → ¬k0_cond1 (grid0.coords t) = 1#1 ∧ k0_cond2 (grid0.coords t) = 1#1 ∧ k0_cond3 (grid0.coords t) = 1#1
    ∧ ¬k0_cond4 (grid0.coords t) = 1#1 ∧ k0_cond5 (grid0.coords t) = 1#1 ∧ ¬k0_cond6 (grid0.coords t) = 1#1 := by decide +kernel
theorem conds_last : ∀ t : Fin grid0.N, ¬t.val < 39 → ¬k0_cond1 (grid0.coords t) = 1#1 ∧ k0_cond2 (grid0.coords t) = 1#1 ∧ ¬k0_cond3 (grid0.coords t) = 1#1
    ∧ k0_cond4 (grid0.coords t) = 1#1 ∧ ¬k0_cond5 (grid0.coords t) = 1#1 ∧ k0_cond6 (grid0.coords t) = 1#1 := by decide +kernel

theorem idle_pad_3 : ∀ t : Fin cfg0.N, t.val < 7 → idle0 3 (grid0.coords t) = true := by decide +kernel
theorem idle_prompt_3 : ∀ t : Fin cfg0.N, ¬t.val < 7 → t.val < 39 → idle0 3 (grid0.coords t) = false := by decide +kernel
theorem idle_last_3 : ∀ t : Fin cfg0.N, ¬t.val < 39 → idle0 3 (grid0.coords t) = true := by decide +kernel
theorem flush_pad_3 : ∀ t : Fin cfg0.N, t.val < 7 → (cfg0.win 3).flush t = false := by decide +kernel
theorem flush_last_3 : ∀ t : Fin cfg0.N, ¬t.val < 39 → (cfg0.win 3).flush t = true := by decide +kernel
theorem idle_pad_4 : ∀ t : Fin cfg0.N, t.val < 7 → idle0 4 (grid0.coords t) = true := by decide +kernel
theorem idle_prompt_4 : ∀ t : Fin cfg0.N, ¬t.val < 7 → t.val < 39 → idle0 4 (grid0.coords t) = false := by decide +kernel
theorem idle_last_4 : ∀ t : Fin cfg0.N, ¬t.val < 39 → idle0 4 (grid0.coords t) = true := by decide +kernel
theorem flush_pad_4 : ∀ t : Fin cfg0.N, t.val < 7 → (cfg0.win 4).flush t = false := by decide +kernel
theorem flush_last_4 : ∀ t : Fin cfg0.N, ¬t.val < 39 → (cfg0.win 4).flush t = true := by decide +kernel
theorem idle_early_5 : ∀ t : Fin cfg0.N, t.val < 39 → idle0 5 (grid0.coords t) = true := by decide +kernel
theorem idle_last_5 : ∀ t : Fin cfg0.N, ¬t.val < 39 → idle0 5 (grid0.coords t) = false := by decide +kernel
theorem flush_early_5 : ∀ t : Fin cfg0.N, t.val < 39 → (cfg0.win 5).flush t = false := by decide +kernel
theorem idle_early_6 : ∀ t : Fin cfg0.N, t.val < 39 → idle0 6 (grid0.coords t) = true := by decide +kernel
theorem idle_last_6 : ∀ t : Fin cfg0.N, ¬t.val < 39 → idle0 6 (grid0.coords t) = false := by decide +kernel
theorem flush_early_6 : ∀ t : Fin cfg0.N, t.val < 39 → (cfg0.win 6).flush t = false := by decide +kernel
theorem idle_never_7 : ∀ t : Fin cfg0.N, idle0 7 (grid0.coords t) = false := by decide +kernel

/-! ## What the points leave -/

/-- The prompt point whose blocks the buffers by heads hold at `t`. -/
def promptOf (t : Fin cfg0.N) : Fin cfg0.N := ⟨min t.val 38, Nat.lt_of_le_of_lt (Nat.min_le_left _ _) t.isLt⟩

theorem promptOf_self (t : Fin cfg0.N) (h : t.val < 39) : promptOf t = t := Fin.ext (by simp only [promptOf]; omega)

def keysAt (c : Dev nD) (t : Fin cfg0.N) : Vec F S256x1536 .f32 := keysOf (iblk m c 0 t : Vec F S256x2048 .f32) (iblk m c 1 t : Vec F S1x2048 .f32) (iblk m c 2 t : Vec F S2x2048x1536 .bf16)
def valuesAt (c : Dev nD) (t : Fin cfg0.N) : Vec F S256x1536 .f32 := valuesOf (iblk m c 0 t : Vec F S256x2048 .f32) (iblk m c 1 t : Vec F S1x2048 .f32) (iblk m c 2 t : Vec F S2x2048x1536 .bf16)
def bothAt (c : Dev nD) (t : Fin cfg0.N) : Vec F S2x256x1536 .bf16 := if t.val < 7 then k0_pay1 else bothOf (iblk m c 0 t : Vec F S256x2048 .f32) (iblk m c 1 t : Vec F S1x2048 .f32) (iblk m c 2 t : Vec F S2x2048x1536 .bf16)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => headsOf (keysAt m c (promptOf t))
    | ⟨4, _⟩ => headsOf (valuesAt m c (promptOf t))
    | ⟨5, _⟩ => sampleOf (keysAt m c t)
    | ⟨6, _⟩ => sampleOf (valuesAt m c t)
    | ⟨7, _⟩ => bothAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = headsOf (keysAt m c (promptOf t)) := by dsimp only [dats]
theorem after_4 (c : Dev nD) (t : Fin cfg0.N) : (dats m 0 c).after 4 t = headsOf (valuesAt m c (promptOf t)) := by dsimp only [dats]
theorem after_5 (c : Dev nD) (t : Fin cfg0.N) : (dats m 0 c).after 5 t = sampleOf (keysAt m c t) := by dsimp only [dats]
theorem after_6 (c : Dev nD) (t : Fin cfg0.N) : (dats m 0 c).after 6 t = sampleOf (valuesAt m c t) := by dsimp only [dats]
theorem after_7 (c : Dev nD) (t : Fin cfg0.N) : (dats m 0 c).after 7 t = bothAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The buffer of the keys by heads holds nothing of use at every point but the last. -/
theorem fresh_3 : ∀ n, n ≤ cfg0.N → cfg0.fresh 3 n = !decide (n = 39) :=
  Cfg.fresh_tab cfg0 3 (fun n => !decide (n = 39)) rfl (by decide +kernel)

/-- At the last point it holds the last prompt block. -/
theorem before_3 (c : Dev nD) (t : Fin cfg0.N) (h : ¬t.val < 39) (d) : (dats m 0 c).before 3 t d = headsOf (keysAt m c (promptOf t)) := by
  have hN : t.val < 40 := t.isLt
  have e : ∀ s : Fin cfg0.N, s.val = 39 → ∀ hs, promptOf ⟨s.val - 1, hs⟩ = promptOf s := fun s h9 hs => Fin.ext (by simp only [promptOf]; omega)
  rw [(dats m 0 c).before_out_traj 3 rfl (fun _ _ => rfl) (fun t hz hi hf => by
      rw [after_3, after_3]
      have h9 : t.val = 39 := by
        rw [fresh_3 _ (Nat.le_of_lt t.isLt)] at hf
        simpa using hf
      rw [e t h9]) t.val t rfl d, fresh_3 _ (Nat.le_of_lt t.isLt), if_neg (by have : t.val = 39 := by omega
                                                                              simp [this]), after_3, e t (by omega)]

/-- The buffer of the values by heads holds nothing of use at every point but the last. -/
theorem fresh_4 : ∀ n, n ≤ cfg0.N → cfg0.fresh 4 n = !decide (n = 39) :=
  Cfg.fresh_tab cfg0 4 (fun n => !decide (n = 39)) rfl (by decide +kernel)

/-- At the last point it holds the last prompt block. -/
theorem before_4 (c : Dev nD) (t : Fin cfg0.N) (h : ¬t.val < 39) (d) : (dats m 0 c).before 4 t d = headsOf (valuesAt m c (promptOf t)) := by
  have hN : t.val < 40 := t.isLt
  have e : ∀ s : Fin cfg0.N, s.val = 39 → ∀ hs, promptOf ⟨s.val - 1, hs⟩ = promptOf s := fun s h9 hs => Fin.ext (by simp only [promptOf]; omega)
  rw [(dats m 0 c).before_out_traj 4 rfl (fun _ _ => rfl) (fun t hz hi hf => by
      rw [after_4, after_4]
      have h9 : t.val = 39 := by
        rw [fresh_4 _ (Nat.le_of_lt t.isLt)] at hf
        simpa using hf
      rw [e t h9]) t.val t rfl d, fresh_4 _ (Nat.le_of_lt t.isLt), if_neg (by have : t.val = 39 := by omega
                                                                              simp [this]), after_4, e t (by omega)]

/-! ## The body at a point -/

abbrev at0 (t : Fin cfg0.N) : Memref sig .tc .vmem S256x2048 .f32 := win0_0.stage (cfg0.slots t 0)
abbrev at1 (t : Fin cfg0.N) : Memref sig .tc .vmem S1x2048 .f32 := win0_1.stage (cfg0.slots t 1)
abbrev at2 (t : Fin cfg0.N) : Memref sig .tc .vmem S2x2048x1536 .bf16 := win0_2.stage (cfg0.slots t 2)
abbrev at3 (t : Fin cfg0.N) : Memref sig .tc .vmem S12x256x128 .f32 := win0_3.stage (cfg0.slots t 3)
abbrev at4 (t : Fin cfg0.N) : Memref sig .tc .vmem S12x256x128 .f32 := win0_4.stage (cfg0.slots t 4)
abbrev at5 (t : Fin cfg0.N) : Memref sig .tc .vmem S16x12x16x128 .f32 := win0_5.stage (cfg0.slots t 5)
abbrev at6 (t : Fin cfg0.N) : Memref sig .tc .vmem S16x12x16x128 .f32 := win0_6.stage (cfg0.slots t 6)
abbrev at7 (t : Fin cfg0.N) : Memref sig .tc .vmem S2x256x1536 .bf16 := win0_7.stage (cfg0.slots t 7)

def bodyPre (c : Dev nD) (t : Fin cfg0.N) : sProp 𝕄 :=
  iprop((dats m 0 c).Φ t.castSucc ∗ (dats m 0 c).owesAt () t.castSucc
    ∗ (∃ d, owns (c : Thread nD τ) (at0 t) fullShare ((dats m 0 c).before 0 t d))
    ∗ (∃ d, owns (c : Thread nD τ) (at1 t) fullShare ((dats m 0 c).before 1 t d))
    ∗ (∃ d, owns (c : Thread nD τ) (at2 t) fullShare ((dats m 0 c).before 2 t d))
    ∗ (∃ d, owns (c : Thread nD τ) (at3 t) fullShare ((dats m 0 c).before 3 t d))
    ∗ (∃ d, owns (c : Thread nD τ) (at4 t) fullShare ((dats m 0 c).before 4 t d))
    ∗ (∃ d, owns (c : Thread nD τ) (at5 t) fullShare ((dats m 0 c).before 5 t d))
    ∗ (∃ d, owns (c : Thread nD τ) (at6 t) fullShare ((dats m 0 c).before 6 t d))
    ∗ (∃ d, owns (c : Thread nD τ) (at7 t) fullShare ((dats m 0 c).before 7 t d)))

/-- After a padding point. -/
def padPost (c : Dev nD) (t : Fin cfg0.N) : sProp 𝕄 :=
  iprop((dats m 0 c).Φ t.succ ∗ (dats m 0 c).owesAt () t.succ
    ∗ owns (c : Thread nD τ) (at0 t) fullShare ((dats m 0 c).after 0 t)
    ∗ owns (c : Thread nD τ) (at1 t) fullShare ((dats m 0 c).after 1 t)
    ∗ owns (c : Thread nD τ) (at2 t) fullShare ((dats m 0 c).after 2 t)
    ∗ (∃ d, owns (c : Thread nD τ) (at3 t) fullShare ((dats m 0 c).before 3 t d))
    ∗ (∃ d, owns (c : Thread nD τ) (at4 t) fullShare ((dats m 0 c).before 4 t d))
    ∗ (∃ d, owns (c : Thread nD τ) (at5 t) fullShare ((dats m 0 c).before 5 t d))
    ∗ (∃ d, owns (c : Thread nD τ) (at6 t) fullShare ((dats m 0 c).before 6 t d))
    ∗ owns (c : Thread nD τ) (at7 t) fullShare ((dats m 0 c).after 7 t))

/-- After a prompt point. -/
def promptPost (c : Dev nD) (t : Fin cfg0.N) : sProp 𝕄 :=
  iprop((dats m 0 c).Φ t.succ ∗ (dats m 0 c).owesAt () t.succ
    ∗ owns (c : Thread nD τ) (at0 t) fullShare ((dats m 0 c).after 0 t)
    ∗ owns (c : Thread nD τ) (at1 t) fullShare ((dats m 0 c).after 1 t)
    ∗ owns (c : Thread nD τ) (at2 t) fullShare ((dats m 0 c).after 2 t)
    ∗ owns (c : Thread nD τ) (at3 t) fullShare ((dats m 0 c).after 3 t)
    ∗ owns (c : Thread nD τ) (at4 t) fullShare ((dats m 0 c).after 4 t)
    ∗ (∃ d, owns (c : Thread nD τ) (at5 t) fullShare ((dats m 0 c).before 5 t d))
    ∗ (∃ d, owns (c : Thread nD τ) (at6 t) fullShare ((dats m 0 c).before 6 t d))
    ∗ owns (c : Thread nD τ) (at7 t) fullShare ((dats m 0 c).after 7 t))

/-- After the last point. -/
def lastPost (c : Dev nD) (t : Fin cfg0.N) : sProp 𝕄 :=
  iprop((dats m 0 c).Φ t.succ ∗ (dats m 0 c).owesAt () t.succ
    ∗ owns (c : Thread nD τ) (at0 t) fullShare ((dats m 0 c).after 0 t)
    ∗ owns (c : Thread nD τ) (at1 t) fullShare ((dats m 0 c).after 1 t)
    ∗ owns (c : Thread nD τ) (at2 t) fullShare ((dats m 0 c).after 2 t)
    ∗ owns (c : Thread nD τ) (at3 t) fullShare ((dats m 0 c).after 3 t)
    ∗ owns (c : Thread nD τ) (at4 t) fullShare ((dats m 0 c).after 4 t)
    ∗ owns (c : Thread nD τ) (at5 t) fullShare ((dats m 0 c).after 5 t)
    ∗ owns (c : Thread nD τ) (at6 t) fullShare ((dats m 0 c).after 6 t)
    ∗ owns (c : Thread nD τ) (at7 t) fullShare ((dats m 0 c).after 7 t))

set_option maxHeartbeats 2000000 in
theorem sound_pad (c : Dev nD) (t : Fin cfg0.N) (h : t.val < 7) :
    bodyPre m c t ⊢ wp frame (wpE (defs₀ (F := F)) Variants.none c none) Set.univ (bodyAt0 t) (fun _ => padPost m c t) := by
  unfold bodyPre padPost bodyAt0
  simp only [before_0, before_1, before_2]
  rw [show (dats m 0 c).owesAt () t.succ = (dats m 0 c).owesAt () t.castSucc from rfl, show (dats m 0 c).Φ t.succ = (dats m 0 c).Φ t.castSucc from rfl, after_0, after_1, after_2, after_7, show bothAt m c t = k0_pay1 from if_pos h]
  iintro ⟨HP, Ho, ⟨%d0, H0⟩, ⟨%d1, H1⟩, ⟨%d2, H2⟩, H3, H4, H5, H6, H7⟩
  iapply (run_pad c (grid0.coords t) _ _ _ _ _ _ _ _ _ _ _ _ _ _ _ _ (conds_pad t h).1 (conds_pad t h).2 Set.univ _)
  isplitl [H7]; · icases H7 with ⟨%d7, H7⟩; iexists _; iexact H7
  iintro H7
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 2000000 in
theorem sound_prompt (c : Dev nD) (t : Fin cfg0.N) (h0 : ¬t.val < 7) (h : t.val < 39) :
    bodyPre m c t ⊢ wp frame (wpE (defs₀ (F := F)) Variants.none c none) Set.univ (bodyAt0 t) (fun _ => promptPost m c t) := by
  unfold bodyPre promptPost bodyAt0
  simp only [before_0, before_1, before_2]
  rw [show (dats m 0 c).owesAt () t.succ = (dats m 0 c).owesAt () t.castSucc from rfl, show (dats m 0 c).Φ t.succ = (dats m 0 c).Φ t.castSucc from rfl, after_0, after_1, after_2, after_3, after_4, after_7, promptOf_self t h, show bothAt m c t = bothOf (iblk m c 0 t : Vec F S256x2048 .f32) (iblk m c 1 t : Vec F S1x2048 .f32) (iblk m c 2 t : Vec F S2x2048x1536 .bf16) from if_neg h0]
  iintro ⟨HP, Ho, ⟨%d0, H0⟩, ⟨%d1, H1⟩, ⟨%d2, H2⟩, H3, H4, H5, H6, H7⟩
  iapply (run_prompt c (grid0.coords t) _ _ _ _ _ _ _ _ _ _ _ _ _ _ _ _ (iblk m c 0 t : Vec F S256x2048 .f32) (iblk m c 1 t : Vec F S1x2048 .f32) (iblk m c 2 t : Vec F S2x2048x1536 .bf16) (conds_prompt t h0 h).1 (conds_prompt t h0 h).2.1 (conds_prompt t h0 h).2.2.1 (conds_prompt t h0 h).2.2.2.1 (conds_prompt t h0 h).2.2.2.2.1 (conds_prompt t h0 h).2.2.2.2.2 Set.univ _)
  isplitl [H0]; · iexact H0
  isplitl [H1]; · iexact H1
  isplitl [H2]; · iexact H2
  isplitl [H3]; · icases H3 with ⟨%d3, H3⟩; iexists _; iexact H3
  isplitl [H4]; · icases H4 with ⟨%d4, H4⟩; iexists _; iexact H4
  isplitl [H7]; · icases H7 with ⟨%d7, H7⟩; iexists _; iexact H7
  iintro ⟨H0, H1, H2, H3, H4, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 2000000 in
theorem sound_last (c : Dev nD) (t : Fin cfg0.N) (h : ¬t.val < 39) :
    bodyPre m c t ⊢ wp frame (wpE (defs₀ (F := F)) Variants.none c none) Set.univ (bodyAt0 t) (fun _ => lastPost m c t) := by
  unfold bodyPre lastPost bodyAt0
  simp only [before_0, before_1, before_2, before_3 m c t h, before_4 m c t h]
  rw [show (dats m 0 c).owesAt () t.succ = (dats m 0 c).owesAt () t.castSucc from rfl, show (dats m 0 c).Φ t.succ = (dats m 0 c).Φ t.castSucc from rfl, after_0, after_1, after_2, after_3, after_4, after_5, after_6, after_7, show bothAt m c t = bothOf (iblk m c 0 t : Vec F S256x2048 .f32) (iblk m c 1 t : Vec F S1x2048 .f32) (iblk m c 2 t : Vec F S2x2048x1536 .bf16) from if_neg (by omega)]
  iintro ⟨HP, Ho, ⟨%d0, H0⟩, ⟨%d1, H1⟩, ⟨%d2, H2⟩, ⟨%d3, H3⟩, ⟨%d4, H4⟩, H5, H6, H7⟩
  iapply (run_last c (grid0.coords t) _ _ _ _ _ _ _ _ _ _ _ _ _ _ _ _ (iblk m c 0 t : Vec F S256x2048 .f32) (iblk m c 1 t : Vec F S1x2048 .f32) (iblk m c 2 t : Vec F S2x2048x1536 .bf16) (conds_last t h).1 (conds_last t h).2.1 (conds_last t h).2.2.1 (conds_last t h).2.2.2.1 (conds_last t h).2.2.2.2.1 (conds_last t h).2.2.2.2.2 Set.univ _)
  isplitl [H0]; · iexact H0
  isplitl [H1]; · iexact H1
  isplitl [H2]; · iexact H2
  isplitl [H5]; · icases H5 with ⟨%d5, H5⟩; iexists _; iexact H5
  isplitl [H6]; · icases H6 with ⟨%d6, H6⟩; iexists _; iexact H6
  isplitl [H7]; · icases H7 with ⟨%d7, H7⟩; iexists _; iexact H7
  iintro ⟨H0, H1, H2, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  by_cases h0 : t.val < 7
  · refine triple_restated (sound_pad m c t h0) rfl .rfl fun _ => ?_
    unfold padPost
    have h : t.val < 39 := by omega
    simp only [idle_pad_3 t h0, idle_pad_4 t h0, idle_early_5 t h, idle_early_6 t h, idle_never_7 t, flush_pad_3 t h0, flush_pad_4 t h0, flush_early_5 t h, flush_early_6 t h]
    exact Idealize.SL.BI.Entails.refl _
  · by_cases h : t.val < 39
    · refine triple_restated (sound_prompt m c t h0 h) rfl .rfl fun _ => ?_
      unfold promptPost
      simp only [idle_prompt_3 t h0 h, idle_prompt_4 t h0 h, idle_early_5 t h, idle_early_6 t h, idle_never_7 t, flush_early_5 t h, flush_early_6 t h]
      exact Idealize.SL.BI.Entails.refl _
    · refine triple_restated (sound_last m c t h) rfl .rfl fun _ => ?_
      unfold lastPost
      simp only [idle_last_3 t h, idle_last_4 t h, idle_last_5 t h, idle_last_6 t h, idle_never_7 t, flush_last_3 t h, flush_last_4 t h]
      exact Idealize.SL.BI.Entails.refl _

theorem entry (c : Dev nD) : Pipeline.ΦA spec0 c ⊢ (dats m 0 c).Φ 0 := Idealize.SL.BI.Entails.refl _

theorem exit (c : Dev nD) : (dats m 0 c).Φ (Fin.last cfg0.N) ⊢ Pipeline.ΦA spec0 c := Idealize.SL.BI.Entails.refl _

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := entry m) (hout := exit m)

theorem run_main : θ_run defs (onTc (τ := τ) (main (F := F))) (s₀ m ρ) (Pipeline.FramePost cfgs (dats m) 0 (V m)) :=
  (θ_run defs _ _).mono (fun _ h => h.1) (run_quiet m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The same, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiet m ρ))

/-- The run to the five arrays. -/
theorem run_arrays : θ_run defs (onTc (τ := τ) (main (F := F))) ⟨m, fun _ => 0, ρ⟩ (fun r => ∀ c : Dev nD,
      r.2.mem ((c.tc : Thread nD τ).loc main_v5_0) = (dats m 0 c).arrAt 3 cfg0.N
      ∧ r.2.mem ((c.tc : Thread nD τ).loc main_v5_1) = (dats m 0 c).arrAt 4 cfg0.N
      ∧ r.2.mem ((c.tc : Thread nD τ).loc main_v5_2) = (dats m 0 c).arrAt 5 cfg0.N
      ∧ r.2.mem ((c.tc : Thread nD τ).loc main_v5_3) = (dats m 0 c).arrAt 6 cfg0.N
      ∧ r.2.mem ((c.tc : Thread nD τ).loc main_v5_4) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 3, (h.1 c).1 4, (h.1 c).1 5, (h.1 c).1 6, (h.1 c).1 7, h.2 c⟩) (θ_run_and (run_main m ρ) (unchanged m ρ))

end Cert.Proof.KV.SharedIdeal

end
-- ==== Proof.KV.Call.lean ====
/-
  The shared keys and values: what the gain's and the stacked weights' host arrays hold, each point's blocks, and the five arrays
  after the run, entry by entry.
-/
module

public import proofs.«01_k».proof.Proof.KV.RunIdeal
public import proofs.«01_k».proof.Proof.FFN.Maths
public import Idealize.ShloMosaic.Lib.Pointwise
public import Idealize.ShloMosaic.Lib.IdealHost
public import Idealize.ShloMosaic.Lib.KernelVsHost
public import Idealize.ShloMosaic.Lib.Pipeline.ValueKit

@[expose] public section

set_option maxRecDepth 16384

noncomputable section

namespace Cert.Proof.KV

open Cert.SharedIdeal Cert.SharedIdeal.Gen
open Idealize.ShloMosaic Idealize.ShloMosaic.TcCoe Idealize.ShloMosaic.Tactic
open Cert.Proof.FFN (normE)
open Cert.Proof.KV.SharedIdeal

/-! ## The mathematics -/

/-- Row `a`, normalised, times column `e` of a weight array. -/
def entryE (X : Vec Ideal S8448x2048 .f32) (G : Vec Ideal S2048 .f32) (W : Vec Ideal S2048x1536 .f32) (a : Fin 8448) (e : Fin 1536) : EReal :=
  ∑ k : Fin 2048, normE (fun k => X (ix2 a k)) (fun k => G (ix1 k)) k * W (ix2 k e)

/-- The prompt's rows by heads. -/
def promptE (X : Vec Ideal S8448x2048 .f32) (G : Vec Ideal S2048 .f32) (W : Vec Ideal S2048x1536 .f32) : Vec Ideal S12x8192x128 .f32 := fun i =>
  entryE X G W ⟨(i 1).val, Nat.lt_of_lt_of_le (show (i 1).val < 8192 from (i 1).isLt) (by decide)⟩ ⟨128 * (i 0).val + (i 2).val, by
    have h0 : (i 0).val < 12 := (i 0).isLt
    have h2 : (i 2).val < 128 := (i 2).isLt
    omega⟩

/-- The samples' rows by sequence and head. -/
def sampleE (X : Vec Ideal S8448x2048 .f32) (G : Vec Ideal S2048 .f32) (W : Vec Ideal S2048x1536 .f32) : Vec Ideal S16x12x16x128 .f32 := fun i =>
  entryE X G W ⟨8192 + (16 * (i 0).val + (i 2).val), by
    have h0 : (i 0).val < 16 := (i 0).isLt
    have h2 : (i 2).val < 16 := (i 2).isLt
    omega⟩ ⟨128 * (i 1).val + (i 3).val, by
    have h1 : (i 1).val < 12 := (i 1).isLt
    have h3 : (i 3).val < 128 := (i 3).isLt
    omega⟩

/-- Keys and values of every row, below 1792 rows of zeros. -/
def bothE (X : Vec Ideal S8448x2048 .f32) (G : Vec Ideal S2048 .f32) (K W : Vec Ideal S2048x1536 .f32) : Vec Ideal S2x10240x1536 .bf16 := fun i =>
  if (i 1).val < 1792 then 0 else entryE X G (if (i 0).val = 0 then K else W) ⟨(i 1).val - 1792, by
    have h1 : (i 1).val < 10240 := (i 1).isLt
    omega⟩ ⟨(i 2).val, (i 2).isLt⟩

/-! ## A point's arithmetic -/

theorem rows_apply (x : Vec Ideal S256x2048 .f32) (g : Vec Ideal S1x2048 .f32) (r : Fin 256) (k : Fin 2048) :
    k0_pay446 x g (ix2 r k) = normE (fun k => x (ix2 r k)) (fun k => g (ix2 0 k)) k := by
  pointwise [k0_pay446]
  rfl

theorem keys_through (x : Vec Ideal S256x2048 .f32) (g : Vec Ideal S1x2048 .f32) (w : Vec Ideal S1x2048x1536 .bf16) (r : Fin 256) (e : Fin 1536) :
    k0_pay447 x g w (ix2 r e) = ∑ k : Fin 2048, normE (fun k => x (ix2 r k)) (fun k => g (ix2 0 k)) k * w (ix3 0 k e) := by
  pointwise [k0_pay447]
  simp only [rows_apply]

theorem values_through (x : Vec Ideal S256x2048 .f32) (g : Vec Ideal S1x2048 .f32) (w : Vec Ideal S1x2048x1536 .bf16) (r : Fin 256) (e : Fin 1536) :
    k0_pay456 x g w (ix2 r e) = ∑ k : Fin 2048, normE (fun k => x (ix2 r k)) (fun k => g (ix2 0 k)) k * w (ix3 0 k e) := by
  pointwise [k0_pay456]
  simp only [rows_apply]

theorem keys_kept (x : Vec Ideal S256x2048 .f32) (g : Vec Ideal S1x2048 .f32) (w : Vec Ideal S1x2048x1536 .bf16) (r : Fin 256) (e : Fin 1536) :
    k0_pay448 x g w (ix3 0 r e) = k0_pay447 x g w (ix2 r e) := by
  pointwise [k0_pay448]

theorem values_kept (x : Vec Ideal S256x2048 .f32) (g : Vec Ideal S1x2048 .f32) (w : Vec Ideal S1x2048x1536 .bf16) (r : Fin 256) (e : Fin 1536) :
    k0_pay2 (k0_pay457 x g w) (ix3 0 r e) = k0_pay456 x g w (ix2 r e) := by
  pointwise [k0_pay2, k0_pay457]

theorem first_half (w : Vec Ideal S2x2048x1536 .bf16) (k : Fin 2048) (e : Fin 1536) :
    View.ld w (Rect.unit (s := S2x2048x1536) ![0, 0, 0] S1x2048x1536.size inb_S2x2048x1536_S1x2048x1536_0_0_0) (ix3 0 k e) = w (ix3 0 k e) :=
  View.ld_unit_apply_of w _ _ _ _ _ fun a => by
    match a with
    | 0 => rfl
    | 1 => show k.val = 0 + k.val; omega
    | 2 => show e.val = 0 + e.val; omega

theorem second_half (w : Vec Ideal S2x2048x1536 .bf16) (k : Fin 2048) (e : Fin 1536) :
    View.ld w (Rect.unit (s := S2x2048x1536) ![1, 0, 0] S1x2048x1536.size inb_S2x2048x1536_S1x2048x1536_1_0_0) (ix3 0 k e) = w (ix3 1 k e) :=
  View.ld_unit_apply_of w _ _ _ _ _ fun a => by
    match a with
    | 0 => rfl
    | 1 => show k.val = 0 + k.val; omega
    | 2 => show e.val = 0 + e.val; omega

/-! ## The host's arrays and the blocks -/

section

variable (m : (ℓ : Loc nD τ sig) → Buf (Elt Ideal) ℓ) (c : Dev nD)

/-- The rows, the gain and the two weight arrays. -/
abbrev argX : Vec Ideal S8448x2048 .f32 := m ((c : Thread nD τ).loc main_arg0)
abbrev argGain : Vec Ideal S2048 .f32 := m ((c : Thread nD τ).loc main_arg1)
abbrev argK : Vec Ideal S2048x1536 .f32 := m ((c : Thread nD τ).loc main_arg2)
abbrev argV : Vec Ideal S2048x1536 .f32 := m ((c : Thread nD τ).loc main_arg3)

theorem V_gain (k : Fin 2048) : (V m c main_v0 : Vec Ideal S1x2048 .f32) (ix2 0 k) = argGain m c (ix1 k) := by
  have h : (V m c main_v0 : Vec Ideal S1x2048 .f32) = shapeCast S1x2048 (argGain m c) shapeCasts_S2048_S1x2048 := by
    unfold_abbrev_sides
    after_results
    rfl
  rw [h]
  pointwise []

/-- The two weight arrays, one after the other. -/
def stacked (k v : FVec Ideal S2048x1536 .f32) : FVec Ideal S2x2048x1536 .f32 :=
  concatenate S2x2048x1536 0 [⟨S1x2048x1536, broadcastInDim S1x2048x1536 ![1, 2] bcast_S2048x1536_S1x2048x1536_1_2 k⟩,
    ⟨S1x2048x1536, broadcastInDim S1x2048x1536 ![1, 2] bcast_S2048x1536_S1x2048x1536_1_2 v⟩] concatenates_S1x2048x1536_S1x2048x1536_S2x2048x1536_d0

theorem V_weights : (V m c main_v4 : Vec Ideal S2x2048x1536 .bf16) = (truncf .bf16 (stacked (argK m c) (argV m c)) bitsLt_bf16_f32 : FVec Ideal S2x2048x1536 .bf16) := by
  unfold_abbrev_sides
  after_results
  rfl

theorem stacked_first (k v : FVec Ideal S2048x1536 .f32) (a : Fin 2048) (e : Fin 1536) : stacked k v (ix3 0 a e) = k (ix2 a e) := by
  pointwise [stacked]

theorem stacked_second (k v : FVec Ideal S2048x1536 .f32) (a : Fin 2048) (e : Fin 1536) : stacked k v (ix3 1 a e) = v (ix2 a e) := by
  pointwise [stacked]

theorem index0 : ∀ t : Fin grid0.N, win0_0.index t (0 : Fin 2) = t.val - 7 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 3) = 0 ∧ win0_2.index t (1 : Fin 3) = 0 ∧ win0_2.index t (2 : Fin 3) = 0 := by decide +kernel
theorem index3 : ∀ t : Fin grid0.N, win0_3.index t (0 : Fin 3) = 0 ∧ win0_3.index t (1 : Fin 3) = min t.val 38 - 7 ∧ win0_3.index t (2 : Fin 3) = 0 := by decide +kernel
theorem index4 : ∀ t : Fin grid0.N, win0_4.index t (0 : Fin 3) = 0 ∧ win0_4.index t (1 : Fin 3) = min t.val 38 - 7 ∧ win0_4.index t (2 : Fin 3) = 0 := by decide +kernel
theorem index5 : ∀ t : Fin grid0.N, win0_5.index t (0 : Fin 4) = 0 ∧ win0_5.index t (1 : Fin 4) = 0 ∧ win0_5.index t (2 : Fin 4) = 0 ∧ win0_5.index t (3 : Fin 4) = 0 := by decide +kernel
theorem index6 : ∀ t : Fin grid0.N, win0_6.index t (0 : Fin 4) = 0 ∧ win0_6.index t (1 : Fin 4) = 0 ∧ win0_6.index t (2 : Fin 4) = 0 ∧ win0_6.index t (3 : Fin 4) = 0 := by decide +kernel
theorem index7 : ∀ t : Fin grid0.N, win0_7.index t (0 : Fin 3) = 0 ∧ win0_7.index t (1 : Fin 3) = t.val ∧ win0_7.index t (2 : Fin 3) = 0 := by decide +kernel

theorem points_lt (t : Fin cfg0.N) : t.val < 40 := lt_of_lt_of_eq t.isLt N_0

theorem blockX (t : Fin cfg0.N) (r : Fin 256) (k : Fin 2048) (hr : 256 * (t.val - 7) + r.val < 8448) :
    (iblk m c 0 t : Vec Ideal S256x2048 .f32) (ix2 r k) = argX m c (ix2 ⟨256 * (t.val - 7) + r.val, hr⟩ k) := by
  obtain ⟨e0, e1⟩ := index0 t
  refine Eq.trans ?_ (congrFun (V_main_arg0 m c) _)
  refine congrArg (V m c main_arg0 : Vec Ideal S8448x2048 .f32) ?_
  funext a; apply Fin.ext
  match a with
  | 0 => show win0_0.index t (0 : Fin 2) * 256 + 1 * r.val = 256 * (t.val - 7) + r.val; rw [e0]; omega
  | 1 => show win0_0.index t (1 : Fin 2) * 2048 + 1 * k.val = k.val; rw [e1]; omega

theorem blockGain (t : Fin cfg0.N) (k : Fin 2048) : (iblk m c 1 t : Vec Ideal S1x2048 .f32) (ix2 0 k) = argGain m c (ix1 k) := by
  obtain ⟨e0, e1⟩ := index1 t
  refine Eq.trans ?_ (V_gain m c k)
  refine congrArg (V m c main_v0 : Vec Ideal S1x2048 .f32) ?_
  funext a; apply Fin.ext
  match a with
  | 0 => show win0_1.index t (0 : Fin 2) * 1 + 1 * 0 = 0; rw [e0]
  | 1 => show win0_1.index t (1 : Fin 2) * 2048 + 1 * k.val = k.val; rw [e1]; omega

theorem blockW (t : Fin cfg0.N) (j : Fin 2) (k : Fin 2048) (e : Fin 1536) :
    (iblk m c 2 t : Vec Ideal S2x2048x1536 .bf16) (ix3 j k e) = stacked (argK m c) (argV m c) (ix3 j k e) := by
  obtain ⟨e0, e1, e2⟩ := index2 t
  refine Eq.trans ?_ (congrFun (V_weights m c) (ix3 j k e))
  refine congrArg (V m c main_v4 : Vec Ideal S2x2048x1536 .bf16) ?_
  funext a; apply Fin.ext
  match a with
  | 0 => show win0_2.index t (0 : Fin 3) * 2 + 1 * j.val = j.val; rw [e0]; omega
  | 1 => show win0_2.index t (1 : Fin 3) * 2048 + 1 * k.val = k.val; rw [e1]; omega
  | 2 => show win0_2.index t (2 : Fin 3) * 1536 + 1 * e.val = e.val; rw [e2]; omega

/-! ## What a point computes -/

theorem keys_point (t : Fin cfg0.N) (r : Fin 256) (e : Fin 1536) (hr : 256 * (t.val - 7) + r.val < 8448) :
    keysAt m c t (ix2 r e) = entryE (argX m c) (argGain m c) (argK m c) ⟨256 * (t.val - 7) + r.val, hr⟩ e := by
  unfold keysAt keysOf entryE
  rw [keys_through]
  refine Finset.sum_congr rfl fun k _ => congrArg₂ (· * ·) ?_ ?_
  · simp only [blockX m c t r _ hr, blockGain]
  · exact (first_half _ k e).trans ((blockW m c t 0 k e).trans (stacked_first _ _ k e))

theorem values_point (t : Fin cfg0.N) (r : Fin 256) (e : Fin 1536) (hr : 256 * (t.val - 7) + r.val < 8448) :
    valuesAt m c t (ix2 r e) = entryE (argX m c) (argGain m c) (argV m c) ⟨256 * (t.val - 7) + r.val, hr⟩ e := by
  unfold valuesAt valuesOf entryE
  rw [values_through]
  refine Finset.sum_congr rfl fun k _ => congrArg₂ (· * ·) ?_ ?_
  · simp only [blockX m c t r _ hr, blockGain]
  · exact (second_half _ k e).trans ((blockW m c t 1 k e).trans (stacked_second _ _ k e))

theorem prompt_fits (t : Fin cfg0.N) (r : Fin 256) : 256 * ((promptOf t).val - 7) + r.val < 8448 := by
  show 256 * (min t.val 38 - 7) + r.val < 8448
  omega

theorem keys_prompt (t : Fin cfg0.N) (y : S12x256x128.Idx) :
    headsOf (keysAt m c (promptOf t)) y = promptE (argX m c) (argGain m c) (argK m c) ((win0_3.blk t).view.emb y) := by
  have ht := points_lt t
  obtain ⟨h, r, d, rfl⟩ : ∃ (h : Fin 12) (r : Fin 256) (d : Fin 128), y = ix3 h r d := ⟨_, _, _, eq_ix3 y⟩
  obtain ⟨e0, e1, e2⟩ := index3 t
  refine (keys_point m c (promptOf t) r ⟨128 * h.val + d.val, by omega⟩ (prompt_fits t r)).trans ?_
  unfold promptE
  refine congrArg₂ (entryE (argX m c) (argGain m c) (argK m c)) (Fin.ext ?_) (Fin.ext ?_)
  · show 256 * (min t.val 38 - 7) + r.val = win0_3.index t (1 : Fin 3) * 256 + 1 * r.val
    rw [e1]; omega
  · show 128 * h.val + d.val = 128 * (win0_3.index t (0 : Fin 3) * 12 + 1 * h.val) + (win0_3.index t (2 : Fin 3) * 128 + 1 * d.val)
    rw [e0, e2]; omega

theorem keys_sample (t : Fin cfg0.N) (h9 : t.val = 39) (y : S16x12x16x128.Idx) :
    sampleOf (keysAt m c t) y = sampleE (argX m c) (argGain m c) (argK m c) ((win0_5.blk t).view.emb y) := by
  obtain ⟨b, h, r, d, rfl⟩ : ∃ (b : Fin 16) (h : Fin 12) (r : Fin 16) (d : Fin 128), y = ix4 b h r d := ⟨_, _, _, _, eq_ix4 y⟩
  obtain ⟨e0, e1, e2, e3⟩ := index5 t
  refine (keys_point m c t ⟨16 * b.val + r.val, by omega⟩ ⟨128 * h.val + d.val, by omega⟩ (by dsimp only; omega)).trans ?_
  unfold sampleE
  refine congrArg₂ (entryE (argX m c) (argGain m c) (argK m c)) (Fin.ext ?_) (Fin.ext ?_)
  · show 256 * (t.val - 7) + (16 * b.val + r.val) = 8192 + (16 * (win0_5.index t (0 : Fin 4) * 16 + 1 * b.val) + (win0_5.index t (2 : Fin 4) * 16 + 1 * r.val))
    rw [e0, e2]; omega
  · show 128 * h.val + d.val = 128 * (win0_5.index t (1 : Fin 4) * 12 + 1 * h.val) + (win0_5.index t (3 : Fin 4) * 128 + 1 * d.val)
    rw [e1, e3]; omega

theorem values_prompt (t : Fin cfg0.N) (y : S12x256x128.Idx) :
    headsOf (valuesAt m c (promptOf t)) y = promptE (argX m c) (argGain m c) (argV m c) ((win0_4.blk t).view.emb y) := by
  have ht := points_lt t
  obtain ⟨h, r, d, rfl⟩ : ∃ (h : Fin 12) (r : Fin 256) (d : Fin 128), y = ix3 h r d := ⟨_, _, _, eq_ix3 y⟩
  obtain ⟨e0, e1, e2⟩ := index4 t
  refine (values_point m c (promptOf t) r ⟨128 * h.val + d.val, by omega⟩ (prompt_fits t r)).trans ?_
  unfold promptE
  refine congrArg₂ (entryE (argX m c) (argGain m c) (argV m c)) (Fin.ext ?_) (Fin.ext ?_)
  · show 256 * (min t.val 38 - 7) + r.val = win0_4.index t (1 : Fin 3) * 256 + 1 * r.val
    rw [e1]; omega
  · show 128 * h.val + d.val = 128 * (win0_4.index t (0 : Fin 3) * 12 + 1 * h.val) + (win0_4.index t (2 : Fin 3) * 128 + 1 * d.val)
    rw [e0, e2]; omega

theorem values_sample (t : Fin cfg0.N) (h9 : t.val = 39) (y : S16x12x16x128.Idx) :
    sampleOf (valuesAt m c t) y = sampleE (argX m c) (argGain m c) (argV m c) ((win0_6.blk t).view.emb y) := by
  obtain ⟨b, h, r, d, rfl⟩ : ∃ (b : Fin 16) (h : Fin 12) (r : Fin 16) (d : Fin 128), y = ix4 b h r d := ⟨_, _, _, _, eq_ix4 y⟩
  obtain ⟨e0, e1, e2, e3⟩ := index6 t
  refine (values_point m c t ⟨16 * b.val + r.val, by omega⟩ ⟨128 * h.val + d.val, by omega⟩ (by dsimp only; omega)).trans ?_
  unfold sampleE
  refine congrArg₂ (entryE (argX m c) (argGain m c) (argV m c)) (Fin.ext ?_) (Fin.ext ?_)
  · show 256 * (t.val - 7) + (16 * b.val + r.val) = 8192 + (16 * (win0_6.index t (0 : Fin 4) * 16 + 1 * b.val) + (win0_6.index t (2 : Fin 4) * 16 + 1 * r.val))
    rw [e0, e2]; omega
  · show 128 * h.val + d.val = 128 * (win0_6.index t (1 : Fin 4) * 12 + 1 * h.val) + (win0_6.index t (3 : Fin 4) * 128 + 1 * d.val)
    rw [e1, e3]; omega

theorem both_point (t : Fin cfg0.N) (y : S2x256x1536.Idx) : bothAt m c t y = bothE (argX m c) (argGain m c) (argK m c) (argV m c) ((win0_7.blk t).view.emb y) := by
  have ht := points_lt t
  obtain ⟨j, r, e, rfl⟩ : ∃ (j : Fin 2) (r : Fin 256) (e : Fin 1536), y = ix3 j r e := ⟨_, _, _, eq_ix3 y⟩
  obtain ⟨e0, e1, e2⟩ := index7 t
  have g0 : ((win0_7.blk t).view.emb (ix3 j r e) (0 : Fin 3)).val = j.val := by
    show win0_7.index t (0 : Fin 3) * 2 + 1 * j.val = j.val; rw [e0]; omega
  have g1 : ((win0_7.blk t).view.emb (ix3 j r e) (1 : Fin 3)).val = 256 * t.val + r.val := by
    show win0_7.index t (1 : Fin 3) * 256 + 1 * r.val = 256 * t.val + r.val; rw [e1]; omega
  have g2 : ((win0_7.blk t).view.emb (ix3 j r e) (2 : Fin 3)).val = e.val := by
    show win0_7.index t (2 : Fin 3) * 1536 + 1 * e.val = e.val; rw [e2]; omega
  unfold bothAt bothE
  by_cases h : t.val < 7
  · rw [if_pos h, if_pos (by rw [g1]; omega)]
    pointwise [k0_pay1]
  · rw [if_neg h, if_neg (by rw [g1]; omega)]
    have hr : 256 * (t.val - 7) + r.val < 8448 := by omega
    unfold bothOf pairOf
    by_cases hj : j.val = 0
    · refine (if_pos hj).trans ?_
      rw [if_pos (by rw [g0]; exact hj)]
      refine ((keys_kept _ _ _ r e).trans (keys_point m c t r e hr)).trans (congrArg₂ (entryE (argX m c) (argGain m c) (argK m c)) (Fin.ext ?_) (Fin.ext ?_))
      · show 256 * (t.val - 7) + r.val = win0_7.index t (1 : Fin 3) * 256 + 1 * r.val - 1792
        rw [e1]; omega
      · exact g2.symm
    · refine (if_neg hj).trans ?_
      rw [if_neg (by rw [g0]; exact hj)]
      refine ((values_kept _ _ _ r e).trans (values_point m c t r e hr)).trans (congrArg₂ (entryE (argX m c) (argGain m c) (argV m c)) (Fin.ext ?_) (Fin.ext ?_))
      · show 256 * (t.val - 7) + r.val = win0_7.index t (1 : Fin 3) * 256 + 1 * r.val - 1792
        rw [e1]; omega
      · exact g2.symm

theorem covers3 : win0_3.Covers := by decide +kernel
theorem covers4 : win0_4.Covers := by decide +kernel
theorem covers5 : win0_5.Covers := by decide +kernel
theorem covers6 : win0_6.Covers := by decide +kernel
theorem covers7 : win0_7.Covers := by decide +kernel

theorem last_5 : ∀ t : Fin cfg0.N, (cfg0.win 5).flush t = true → t.val = 39 := by decide +kernel
theorem last_6 : ∀ t : Fin cfg0.N, (cfg0.win 6).flush t = true → t.val = 39 := by decide +kernel

theorem prompt_keys_eq : (dats m 0 c).arrAt 3 cfg0.N = promptE (argX m c) (argGain m c) (argK m c) :=
  (dats m 0 c).arrAt_eq_of_covers 3 _ covers3 fun t _ y => (congrFun (after_3 m c t) _).trans (keys_prompt m c t y)

theorem prompt_values_eq : (dats m 0 c).arrAt 4 cfg0.N = promptE (argX m c) (argGain m c) (argV m c) :=
  (dats m 0 c).arrAt_eq_of_covers 4 _ covers4 fun t _ y => (congrFun (after_4 m c t) _).trans (values_prompt m c t y)

theorem sample_keys_eq : (dats m 0 c).arrAt 5 cfg0.N = sampleE (argX m c) (argGain m c) (argK m c) :=
  (dats m 0 c).arrAt_eq_of_covers 5 _ covers5 fun t hf y => (congrFun (after_5 m c t) _).trans (keys_sample m c t (last_5 t hf) y)

theorem sample_values_eq : (dats m 0 c).arrAt 6 cfg0.N = sampleE (argX m c) (argGain m c) (argV m c) :=
  (dats m 0 c).arrAt_eq_of_covers 6 _ covers6 fun t hf y => (congrFun (after_6 m c t) _).trans (values_sample m c t (last_6 t hf) y)

theorem both_eq : (dats m 0 c).arrAt 7 cfg0.N = bothE (argX m c) (argGain m c) (argK m c) (argV m c) :=
  (dats m 0 c).arrAt_eq_of_covers 7 _ covers7 fun t _ y => (congrFun (after_7 m c t) _).trans (both_point m c t y)

end

end Cert.Proof.KV
-- ==== Proof.KV.Claims.lean ====
/-
  The reference of the shared keys and values, entry by entry, and the call's claims.
-/
module

public import proofs.«01_k».proof.Defs
public import proofs.«01_k».proof.Proof.Gen.SharedReferenceIdeal.Run
public import proofs.«01_k».proof.Proof.KV.RunBits
public import proofs.«01_k».proof.Proof.KV.Call
public import Idealize.ShloMosaic.Lib.IdealHost
public import Idealize.ShloMosaic.Adequacy
public import Idealize.ShloMosaic.Init

@[expose] public section

set_option maxRecDepth 16384

noncomputable section

namespace Cert.Proof.KV

open Idealize.ShloMosaic Idealize.ShloMosaic.TcCoe Idealize.ShloMosaic.Tactic Idealize.SL.Sem

section

open Cert.SharedReferenceIdeal Cert.SharedReferenceIdeal.Gen
open Cert.Proof.FFN (normE)

/-- The prompt's rows and the samples', each scaled by its root mean square and the gain. -/
def normP (x : FVec Ideal S8448x2048 .f32) (gain : FVec Ideal S2048 .f32) : FVec Ideal S1x8192x2048 .f32 :=
  mulf (mulf (shapeCast S1x8192x2048 (extractStridedSlice S8192x2048 ![0, 0] x slices_S8448x2048_S8192x2048_0_0) shapeCasts_S8192x2048_S1x8192x2048) (broadcastInDim S1x8192x2048 ![0, 1, 2] bcast_S1x8192x1_S1x8192x2048_0_1_2 (Host.rsqrt (addf (Host.divf (broadcastInDim S1x8192x1 ![0, 1] bcast_S1x8192_S1x8192x1_0_1 (Host.reduceAdd (mulf (shapeCast S1x8192x2048 (extractStridedSlice S8192x2048 ![0, 0] x slices_S8448x2048_S8192x2048_0_0) shapeCasts_S8192x2048_S1x8192x2048) (shapeCast S1x8192x2048 (extractStridedSlice S8192x2048 ![0, 0] x slices_S8448x2048_S8192x2048_0_0) shapeCasts_S8192x2048_S1x8192x2048)) (constant S_ .f32 0x00000000#32) reducesTo_S1x8192x2048_S1x8192_d2 h_S_)) (broadcastInDim S1x8192x1 ![] bcast_S_S1x8192x1 (constant S_ .f32 0x45000000#32))) (broadcastInDim S1x8192x1 ![] bcast_S_S1x8192x1 (constant S_ .f32 0x358637BD#32)))))) (broadcastInDim S1x8192x2048 ![0, 1, 2] bcast_S1x1x2048_S1x8192x2048_0_1_2 (broadcastInDim S1x1x2048 ![2] bcast_S2048_S1x1x2048_2 gain))
def normS (x : FVec Ideal S8448x2048 .f32) (gain : FVec Ideal S2048 .f32) : FVec Ideal S16x16x2048 .f32 :=
  mulf (mulf (shapeCast S16x16x2048 (extractStridedSlice S256x2048 ![8192, 0] x slices_S8448x2048_S256x2048_8192_0) shapeCasts_S256x2048_S16x16x2048) (broadcastInDim S16x16x2048 ![0, 1, 2] bcast_S16x16x1_S16x16x2048_0_1_2 (Host.rsqrt (addf (Host.divf (broadcastInDim S16x16x1 ![0, 1] bcast_S16x16_S16x16x1_0_1 (Host.reduceAdd (mulf (shapeCast S16x16x2048 (extractStridedSlice S256x2048 ![8192, 0] x slices_S8448x2048_S256x2048_8192_0) shapeCasts_S256x2048_S16x16x2048) (shapeCast S16x16x2048 (extractStridedSlice S256x2048 ![8192, 0] x slices_S8448x2048_S256x2048_8192_0) shapeCasts_S256x2048_S16x16x2048)) (constant S_ .f32 0x00000000#32) reducesTo_S16x16x2048_S16x16_d2 h_S_)) (broadcastInDim S16x16x1 ![] bcast_S_S16x16x1 (constant S_ .f32 0x45000000#32))) (broadcastInDim S16x16x1 ![] bcast_S_S16x16x1 (constant S_ .f32 0x358637BD#32)))))) (broadcastInDim S16x16x2048 ![0, 1, 2] bcast_S1x1x2048_S16x16x2048_0_1_2 (broadcastInDim S1x1x2048 ![2] bcast_S2048_S1x1x2048_2 gain))

/-- Their products with a weight array. -/
def productP (x : FVec Ideal S8448x2048 .f32) (gain : FVec Ideal S2048 .f32) (w : FVec Ideal S2048x1536 .f32) : FVec Ideal S1x8192x1536 .f32 :=
  Host.dotGeneral dot_S1x8192x2048_S2048x1536_S1x8192x1536_2_0_01_1_n_n none (normP x gain) w
def productS (x : FVec Ideal S8448x2048 .f32) (gain : FVec Ideal S2048 .f32) (w : FVec Ideal S2048x1536 .f32) : FVec Ideal S16x16x1536 .f32 :=
  Host.dotGeneral dot_S16x16x2048_S2048x1536_S16x16x1536_2_0_01_1_n_n none (normS x gain) w

/-- The prompt's product by heads. -/
def headsV (p : FVec Ideal S1x8192x1536 .f32) : FVec Ideal S12x8192x128 .f32 :=
  transpose S12x8192x128 [1, 0, 2] (shapeCast S8192x12x128 (shapeCast S1x8192x12x128 p shapeCasts_S1x8192x1536_S1x8192x12x128) shapeCasts_S1x8192x12x128_S8192x12x128) transposes_S8192x12x128_S12x8192x128_1_0_2

/-- The samples' product by sequence and head. -/
def sampleV (p : FVec Ideal S16x16x1536 .f32) : FVec Ideal S16x12x16x128 .f32 :=
  transpose S16x12x16x128 [0, 2, 1, 3] (shapeCast S16x16x12x128 p shapeCasts_S16x16x1536_S16x16x12x128) transposes_S16x16x12x128_S16x12x16x128_0_2_1_3

/-- Zeros, the prompt's rows and the samples'. -/
def rowsV (p : FVec Ideal S1x8192x1536 .f32) (s : FVec Ideal S16x16x1536 .f32) : FVec Ideal S10240x1536 .f32 :=
  concatenate S10240x1536 0 [⟨S1792x1536, (broadcastInDim S1792x1536 ![] bcast_S_S1792x1536 (constant S_ .f32 0x00000000#32) : FVec Ideal S1792x1536 .f32)⟩,
    ⟨S8192x1536, (shapeCast S8192x1536 (shapeCast S1x8192x12x128 p shapeCasts_S1x8192x1536_S1x8192x12x128) shapeCasts_S1x8192x12x128_S8192x1536 : FVec Ideal S8192x1536 .f32)⟩,
    ⟨S256x1536, (shapeCast S256x1536 (shapeCast S16x16x12x128 s shapeCasts_S16x16x1536_S16x16x12x128) shapeCasts_S16x16x12x128_S256x1536 : FVec Ideal S256x1536 .f32)⟩]
    concatenates_S1792x1536_S8192x1536_S256x1536_S10240x1536_d0

/-- Both of two such arrays, in bf16. -/
def bothV (k v : FVec Ideal S10240x1536 .f32) : FVec Ideal S2x10240x1536 .bf16 :=
  truncf .bf16 (concatenate S2x10240x1536 0 [⟨S1x10240x1536, broadcastInDim S1x10240x1536 ![1, 2] bcast_S10240x1536_S1x10240x1536_1_2 k⟩,
    ⟨S1x10240x1536, broadcastInDim S1x10240x1536 ![1, 2] bcast_S10240x1536_S1x10240x1536_1_2 v⟩] concatenates_S1x10240x1536_S1x10240x1536_S2x10240x1536_d0 : FVec Ideal S2x10240x1536 .f32) bitsLt_bf16_f32

theorem normP_row (x : FVec Ideal S8448x2048 .f32) (gain : FVec Ideal S2048 .f32) (a : Fin 8192) (k : Fin 2048) :
    normP x gain (ix3 0 a k) = normE (fun k => x (ix2 ⟨a.val, by omega⟩ k)) (fun k => gain (ix1 k)) k := by
  pointwise [normP]
  rfl

theorem normS_row (x : FVec Ideal S8448x2048 .f32) (gain : FVec Ideal S2048 .f32) (b r : Fin 16) (k : Fin 2048) :
    normS x gain (ix3 b r k) = normE (fun k => x (ix2 ⟨8192 + (16 * b.val + r.val), by omega⟩ k)) (fun k => gain (ix1 k)) k := by
  rw [show (⟨8192 + (16 * b.val + r.val), by omega⟩ : Fin 8448) = ⟨8192 + (b.val * 16 + r.val), by omega⟩ from Fin.ext (by dsimp only; omega)]
  pointwise [normS]
  rfl

theorem productP_entry (x : FVec Ideal S8448x2048 .f32) (gain : FVec Ideal S2048 .f32) (w : FVec Ideal S2048x1536 .f32) (a : Fin 8192) (e : Fin 1536) :
    productP x gain w (ix3 0 a e) = entryE x gain w ⟨a.val, by omega⟩ e := by
  pointwise [productP]
  simp only [normP_row]
  rfl

theorem productS_entry (x : FVec Ideal S8448x2048 .f32) (gain : FVec Ideal S2048 .f32) (w : FVec Ideal S2048x1536 .f32) (b r : Fin 16) (e : Fin 1536) :
    productS x gain w (ix3 b r e) = entryE x gain w ⟨8192 + (16 * b.val + r.val), by omega⟩ e := by
  pointwise [productS]
  simp only [normS_row]
  rfl

theorem headsV_apply (p : FVec Ideal S1x8192x1536 .f32) (h : Fin 12) (a : Fin 8192) (d : Fin 128) :
    headsV p (ix3 h a d) = p (ix3 0 a ⟨128 * h.val + d.val, by omega⟩) := by
  pointwise [headsV]
  exact congrArg (fun z => p (ix3 0 a z)) (Fin.ext (by dsimp only; omega))

theorem sampleV_apply (p : FVec Ideal S16x16x1536 .f32) (b : Fin 16) (h : Fin 12) (r : Fin 16) (d : Fin 128) :
    sampleV p (ix4 b h r d) = p (ix3 b r ⟨128 * h.val + d.val, by omega⟩) := by
  pointwise [sampleV]
  exact congrArg (fun z => p (ix3 b r z)) (Fin.ext (by dsimp only; omega))

theorem rowsV_apply (p : FVec Ideal S1x8192x1536 .f32) (s : FVec Ideal S16x16x1536 .f32) (a : Fin 10240) (e : Fin 1536) :
    rowsV p s (ix2 a e) = if h : a.val < 1792 then 0 else if h2 : a.val - 1792 < 8192 then p (ix3 0 ⟨a.val - 1792, h2⟩ e)
      else s (ix3 ⟨(a.val - 1792 - 8192) / 16, by omega⟩ ⟨(a.val - 1792 - 8192) % 16, by omega⟩ e) := by
  pointwise [rowsV]

theorem bothV_first (k v : FVec Ideal S10240x1536 .f32) (a : Fin 10240) (e : Fin 1536) : bothV k v (ix3 0 a e) = k (ix2 a e) := by
  pointwise [bothV]

theorem bothV_second (k v : FVec Ideal S10240x1536 .f32) (a : Fin 10240) (e : Fin 1536) : bothV k v (ix3 1 a e) = v (ix2 a e) := by
  pointwise [bothV]

theorem rows_entry (x : FVec Ideal S8448x2048 .f32) (gain : FVec Ideal S2048 .f32) (w : FVec Ideal S2048x1536 .f32) (a : Fin 10240) (e : Fin 1536) :
    rowsV (productP x gain w) (productS x gain w) (ix2 a e) = if a.val < 1792 then 0 else entryE x gain w ⟨a.val - 1792, by omega⟩ e := by
  rw [rowsV_apply]
  by_cases h : a.val < 1792
  · rw [dif_pos h, if_pos h]
  · rw [dif_neg h, if_neg h]
    by_cases h2 : a.val - 1792 < 8192
    · rw [dif_pos h2, productP_entry]
    · rw [dif_neg h2, productS_entry]
      exact congrArg (fun z => entryE x gain w z e) (Fin.ext (by dsimp only; omega))

/-! ## The reference's arrays are the kernel's -/

theorem prompt_same (x : FVec Ideal S8448x2048 .f32) (gain : FVec Ideal S2048 .f32) (w : FVec Ideal S2048x1536 .f32) : headsV (productP x gain w) = promptE x gain w := by
  funext i
  obtain ⟨h, a, d, rfl⟩ : ∃ (h : Fin 12) (a : Fin 8192) (d : Fin 128), i = ix3 h a d := ⟨_, _, _, eq_ix3 i⟩
  rw [headsV_apply, productP_entry]
  rfl

theorem sample_same (x : FVec Ideal S8448x2048 .f32) (gain : FVec Ideal S2048 .f32) (w : FVec Ideal S2048x1536 .f32) : sampleV (productS x gain w) = sampleE x gain w := by
  funext i
  obtain ⟨b, h, r, d, rfl⟩ : ∃ (b : Fin 16) (h : Fin 12) (r : Fin 16) (d : Fin 128), i = ix4 b h r d := ⟨_, _, _, _, eq_ix4 i⟩
  rw [sampleV_apply, productS_entry]
  rfl

theorem both_same (x : FVec Ideal S8448x2048 .f32) (gain : FVec Ideal S2048 .f32) (k v : FVec Ideal S2048x1536 .f32) :
    bothV (rowsV (productP x gain k) (productS x gain k)) (rowsV (productP x gain v) (productS x gain v)) = bothE x gain k v := by
  funext i
  obtain ⟨j, a, e, rfl⟩ : ∃ (j : Fin 2) (a : Fin 10240) (e : Fin 1536), i = ix3 j a e := ⟨_, _, _, eq_ix3 i⟩
  obtain rfl | rfl : j = 0 ∨ j = 1 := by omega
  · exact (bothV_first _ _ a e).trans (rows_entry x gain k a e)
  · exact (bothV_second _ _ a e).trans (rows_entry x gain v a e)

end

/-- The kernel's run, as translated: its arguments end as they began, and its counters at zero. -/
theorem frame_kernel : Cert.quiescent_Shared (hShared := Cert.Shared.Gen.facts) :=
  fun m g _ => Cert.Proof.KV.Shared.frame m g

/-- The same over exact arithmetic. -/
theorem frame_ideal : Cert.quiescent_SharedIdeal (hSharedIdeal := Cert.SharedIdeal.Gen.facts) :=
  fun m g _ => Cert.Proof.KV.SharedIdeal.frame m g

/-- The reference's run: its arguments end as they began, and it has no counter. -/
theorem frame_reference : Cert.quiescent_SharedReferenceIdeal (hSharedReferenceIdeal := Cert.SharedReferenceIdeal.Gen.facts) :=
  fun m g _ => (θ_run Cert.SharedReferenceIdeal.defs _ _).mono (fun r h => ⟨fun c => (h c).2.2.2.2.2, sem_eq_zero_of_no_sems (by decide) r.2⟩)
    (Cert.SharedReferenceIdeal.Value.run m g)

/-- The kernel's five results and the reference's are the same arrays, whatever arguments they share. -/
theorem same : Cert.algebraic_SharedIdeal_SharedReferenceIdeal (hSharedIdeal := Cert.SharedIdeal.Gen.facts) (hSharedReferenceIdeal := Cert.SharedReferenceIdeal.Gen.facts) :=
  fun m g m' g' _ he =>
    ⟨fun c => promptE (argX m c) (argGain m c) (argK m c), fun c => promptE (argX m c) (argGain m c) (argV m c),
      fun c => sampleE (argX m c) (argGain m c) (argK m c), fun c => sampleE (argX m c) (argGain m c) (argV m c),
      fun c => bothE (argX m c) (argGain m c) (argK m c) (argV m c),
      (θ_run Cert.SharedIdeal.defs _ _).mono (fun r h c => ⟨(h c).1.trans (prompt_keys_eq m c), (h c).2.1.trans (prompt_values_eq m c),
          (h c).2.2.1.trans (sample_keys_eq m c), (h c).2.2.2.1.trans (sample_values_eq m c), (h c).2.2.2.2.1.trans (both_eq m c), (h c).2.2.2.2.2⟩)
        (Cert.Proof.KV.SharedIdeal.run_arrays m g),
      (θ_run Cert.SharedReferenceIdeal.defs _ _).mono (fun r h c => by
          obtain ⟨h0, h1, h2, h3⟩ := he c
          obtain ⟨r0, r1, r2, r3, r4, ra⟩ := h c
          refine ⟨r0.trans ?_, r1.trans ?_, r2.trans ?_, r3.trans ?_, r4.trans ?_, ra⟩
          · rw [h0, h1, h2]; exact prompt_same (argX m c) (argGain m c) (argK m c)
          · rw [h0, h1, h3]; exact prompt_same (argX m c) (argGain m c) (argV m c)
          · rw [h0, h1, h2]; exact sample_same (argX m c) (argGain m c) (argK m c)
          · rw [h0, h1, h3]; exact sample_same (argX m c) (argGain m c) (argV m c)
          · unfold Cert.SharedReferenceIdeal.Value.res_main_v81
            rw [h0, h1, h2, h3]
            exact both_same (argX m c) (argGain m c) (argK m c) (argV m c))
        (Cert.SharedReferenceIdeal.Value.run m' g')⟩

end Cert.Proof.KV
-- ==== Proof.lean ====
/-
  The certificate's claims: each program ends on every memory with its arguments as they were and every counter at zero; the
  one constant of the idealized attention is the named one, and the other calls are idealized as they are; and the results of each
  idealized call are its reference's, for the attention on every finite memory and for the others on every memory.
-/
module

public import proofs.«01_k».proof.Defs
public import proofs.«01_k».proof.Proof.SBI.Run
public import proofs.«01_k».proof.Proof.SBK.Run
public import proofs.«01_k».proof.Proof.Gen.ReferenceIdeal.Run
public import proofs.«01_k».proof.Proof.SBI.Finite
public import proofs.«01_k».proof.Proof.Gen.Ffn.Frame
public import proofs.«01_k».proof.Proof.Gen.FfnIdeal.Value
public import proofs.«01_k».proof.Proof.Gen.FfnReferenceIdeal.Run
public import proofs.«01_k».proof.Proof.Gen.Memory.Frame
public import proofs.«01_k».proof.Proof.Gen.MemoryIdeal.Value
public import proofs.«01_k».proof.Proof.Gen.MemoryReferenceIdeal.Run
public import proofs.«01_k».proof.Proof.Gen.FfnHead.Frame
public import proofs.«01_k».proof.Proof.Gen.FfnHeadIdeal.Value
public import proofs.«01_k».proof.Proof.Gen.FfnHeadReferenceIdeal.Run
public import proofs.«01_k».proof.Proof.Gen.Out.Frame
public import proofs.«01_k».proof.Proof.Gen.OutIdeal.Value
public import proofs.«01_k».proof.Proof.Gen.OutReferenceIdeal.Run
public import proofs.«01_k».proof.Proof.Gen.Proj.Frame
public import proofs.«01_k».proof.Proof.Gen.ProjIdeal.Value
public import proofs.«01_k».proof.Proof.Gen.ProjReferenceIdeal.Run
public import proofs.«01_k».proof.Proof.GT.RunBits
public import proofs.«01_k».proof.Proof.GT.RunIdeal
public import proofs.«01_k».proof.Proof.Gen.GatesReferenceIdeal.Run
public import proofs.«01_k».proof.Proof.FFN.Claims
public import proofs.«01_k».proof.Proof.MEM.Claims
public import proofs.«01_k».proof.Proof.HD.Claims
public import proofs.«01_k».proof.Proof.OUT.Claims
public import proofs.«01_k».proof.Proof.PRJ.Claims
public import proofs.«01_k».proof.Proof.GT.Claims
public import proofs.«01_k».proof.Proof.KV.RunBits
public import proofs.«01_k».proof.Proof.KV.RunIdeal
public import proofs.«01_k».proof.Proof.Gen.SharedReferenceIdeal.Run
public import proofs.«01_k».proof.Proof.KV.Claims
public import Idealize.ShloMosaic.Adequacy
public import Idealize.ShloMosaic.Init

@[expose] public section

noncomputable section

namespace Cert.Proof

open Idealize.ShloMosaic Idealize.SL.Sem

/-- The reference's run: its arguments end as they began, and it has no counter. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.1, (h c).2.2⟩, sem_eq_zero_of_no_sems (by decide) r.2⟩)
    (Cert.ReferenceIdeal.Value.run m g)

/-- The kernel's result and the reference's are the same array, whatever finite arguments they share. -/
theorem same : Cert.algebraic_KernelIdeal_ReferenceIdeal_pre_finite (hKernelIdeal := Cert.KernelIdeal.Gen.facts) (hReferenceIdeal := Cert.ReferenceIdeal.Gen.facts) (hPre_finite := Cert.Pre_finite.Gen.facts) :=
  fun m g m' g' hp he =>
    have hr : ∀ c, SBI.Real0 m c ∧ SBI.Real1 m c := fun c => SBI.reals_of_pre _ _ (hp c)
    ⟨fun c => SBI.attended m c, SBI.run_value m g hr,
      (θ_run Cert.ReferenceIdeal.defs _ _).mono (fun r h c => ⟨(h c).1.trans (SBI.same_result m m' c (hr c).1 (hr c).2 (he c).1 (he c).2), (h c).2⟩)
        (Cert.ReferenceIdeal.Value.run m' g')⟩

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Memory.Gen.facts, Cert.MemoryIdeal.Gen.facts, Cert.MemoryReferenceIdeal.Gen.facts,
  Cert.FfnHead.Gen.facts, Cert.FfnHeadIdeal.Gen.facts, Cert.FfnHeadReferenceIdeal.Gen.facts,
  Cert.Out.Gen.facts, Cert.OutIdeal.Gen.facts, Cert.OutReferenceIdeal.Gen.facts,
  Cert.Proj.Gen.facts, Cert.ProjIdeal.Gen.facts, Cert.ProjReferenceIdeal.Gen.facts,
  Cert.Gates.Gen.facts, Cert.GatesIdeal.Gen.facts, Cert.GatesReferenceIdeal.Gen.facts,
  Cert.Shared.Gen.facts, Cert.SharedIdeal.Gen.facts, Cert.SharedReferenceIdeal.Gen.facts,
  Cert.Pre_finite.Gen.facts,
  fun m g _ => SBK.frame_claim m g, fun m g _ => SBI.frame_claim m g, fun m g _ => SBI.frame_claim m g, fun m g _ => frame_reference m g, fun m g _ => frame_reference m g,
  fun m g _ => Cert.Ffn.Gen.frame m g, fun m g _ => Cert.FfnIdeal.Gen.frame m g, FFN.frame_reference,
  fun m g _ => Cert.Memory.Gen.frame m g, fun m g _ => Cert.MemoryIdeal.Gen.frame m g, MEM.frame_reference,
  fun m g _ => Cert.FfnHead.Gen.frame m g, fun m g _ => Cert.FfnHeadIdeal.Gen.frame m g, HD.frame_reference,
  fun m g _ => Cert.Out.Gen.frame m g, fun m g _ => Cert.OutIdeal.Gen.frame m g, OUT.frame_reference,
  fun m g _ => Cert.Proj.Gen.frame m g, fun m g _ => Cert.ProjIdeal.Gen.frame m g, PRJ.frame_reference,
  GT.frame_kernel, GT.frame_ideal, GT.frame_reference,
  KV.frame_kernel, KV.frame_ideal, KV.frame_reference,
  IdealRules.named_const.statement Cert.KernelIdeal.κ "weight_zero_below" .f32 0xC2D00000#32 ⊥ rfl, same,
  trivial, FFN.same, trivial, MEM.same, trivial, HD.same, trivial, OUT.same, trivial, PRJ.same, trivial, GT.same, trivial, KV.same⟩

end Cert.Proof

end
